-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Dispatch [hPre_routed : Cert.Pre_routed.Facts] (m : (ℓ : Loc Cert.Dispatch.nD Cert.Dispatch.τ Cert.Dispatch.sig) → Buf (Elt Bits) ℓ) : Prop :=
  ∀ c : Dev Cert.Dispatch.nD,
    (Cert.Pre_routed.fn (F := Bits) (m ((c.tc : Thread Cert.Dispatch.nD Cert.Dispatch.τ).loc Cert.Dispatch.main_arg0)) (m ((c.tc : Thread Cert.Dispatch.nD Cert.Dispatch.τ).loc Cert.Dispatch.main_arg1)) (m ((c.tc : Thread Cert.Dispatch.nD Cert.Dispatch.τ).loc Cert.Dispatch.main_arg2)) (m ((c.tc : Thread Cert.Dispatch.nD Cert.Dispatch.τ).loc Cert.Dispatch.main_arg3))) = (fun _ => 1#1)

def Pre_DispatchIdeal [hPre_routed : Cert.Pre_routed.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_routed.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2)) (m ((c.tc : Thread Cert.DispatchIdeal.nD Cert.DispatchIdeal.τ).loc Cert.DispatchIdeal.main_arg3))) = (fun _ => 1#1)

def Pre_DispatchReferenceIdeal (m : (ℓ : Loc Cert.DispatchReferenceIdeal.nD Cert.DispatchReferenceIdeal.τ Cert.DispatchReferenceIdeal.sig) → Buf (Elt Ideal) ℓ) : Prop :=
  True

def Pre_DispatchReferenceIdeal_routed [hPre_routed : Cert.Pre_routed.Facts] (m : (ℓ : Loc Cert.DispatchReferenceIdeal.nD Cert.DispatchReferenceIdeal.τ Cert.DispatchReferenceIdeal.sig) → Buf (Elt Ideal) ℓ) : Prop :=
  ∀ c : Dev Cert.DispatchReferenceIdeal.nD,
    (Cert.Pre_routed.fn (F := Ideal) (m ((c.tc : Thread Cert.DispatchReferenceIdeal.nD Cert.DispatchReferenceIdeal.τ).loc Cert.DispatchReferenceIdeal.main_arg0)) (m ((c.tc : Thread Cert.DispatchReferenceIdeal.nD Cert.DispatchReferenceIdeal.τ).loc Cert.DispatchReferenceIdeal.main_arg1)) (m ((c.tc : Thread Cert.DispatchReferenceIdeal.nD Cert.DispatchReferenceIdeal.τ).loc Cert.DispatchReferenceIdeal.main_arg2)) (m ((c.tc : Thread Cert.DispatchReferenceIdeal.nD Cert.DispatchReferenceIdeal.τ).loc Cert.DispatchReferenceIdeal.main_arg3))) = (fun _ => 1#1)

def Pre_Expert [hPre_experts_in_range : Cert.Pre_experts_in_range.Facts] (m : (ℓ : Loc Cert.Expert.nD Cert.Expert.τ Cert.Expert.sig) → Buf (Elt Bits) ℓ) : Prop :=
  ∀ c : Dev Cert.Expert.nD,
    (Cert.Pre_experts_in_range.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4))) = (fun _ => 1#1)

def Pre_ExpertIdeal [hPre_experts_in_range : Cert.Pre_experts_in_range.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_experts_in_range.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4))) = (fun _ => 1#1)

def Pre_ExpertReferenceIdeal (m : (ℓ : Loc Cert.ExpertReferenceIdeal.nD Cert.ExpertReferenceIdeal.τ Cert.ExpertReferenceIdeal.sig) → Buf (Elt Ideal) ℓ) : Prop :=
  True

def Pre_ExpertReferenceIdeal_experts_in_range [hPre_experts_in_range : Cert.Pre_experts_in_range.Facts] (m : (ℓ : Loc Cert.ExpertReferenceIdeal.nD Cert.ExpertReferenceIdeal.τ Cert.ExpertReferenceIdeal.sig) → Buf (Elt Ideal) ℓ) : Prop :=
  ∀ c : Dev Cert.ExpertReferenceIdeal.nD,
    (Cert.Pre_experts_in_range.fn (F := Ideal) (m ((c.tc : Thread Cert.ExpertReferenceIdeal.nD Cert.ExpertReferenceIdeal.τ).loc Cert.ExpertReferenceIdeal.main_arg0)) (m ((c.tc : Thread Cert.ExpertReferenceIdeal.nD Cert.ExpertReferenceIdeal.τ).loc Cert.ExpertReferenceIdeal.main_arg1)) (m ((c.tc : Thread Cert.ExpertReferenceIdeal.nD Cert.ExpertReferenceIdeal.τ).loc Cert.ExpertReferenceIdeal.main_arg2)) (m ((c.tc : Thread Cert.ExpertReferenceIdeal.nD Cert.ExpertReferenceIdeal.τ).loc Cert.ExpertReferenceIdeal.main_arg3)) (m ((c.tc : Thread Cert.ExpertReferenceIdeal.nD Cert.ExpertReferenceIdeal.τ).loc Cert.ExpertReferenceIdeal.main_arg4))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Dispatch [hDispatch : Cert.Dispatch.Facts] [hPre_routed : Cert.Pre_routed.Facts] : Prop :=
  ∀ (m : (ℓ : Loc Cert.Dispatch.nD Cert.Dispatch.τ Cert.Dispatch.sig) → Buf (Elt Bits) ℓ) (g : Dev Cert.Dispatch.nD → PrngReg), Pre_Dispatch m →
    θ_run (Cert.Dispatch.defs (F := Bits)) (Cert.Dispatch.threads (F := Bits)) ⟨m, fun _ => 0, g⟩ (fun r => (∀ c : Dev Cert.Dispatch.nD,
      r.2.mem ((c.tc : Thread Cert.Dispatch.nD Cert.Dispatch.τ).loc Cert.Dispatch.main_arg0) = m ((c.tc : Thread Cert.Dispatch.nD Cert.Dispatch.τ).loc Cert.Dispatch.main_arg0)
      ∧ r.2.mem ((c.tc : Thread Cert.Dispatch.nD Cert.Dispatch.τ).loc Cert.Dispatch.main_arg1) = m ((c.tc : Thread Cert.Dispatch.nD Cert.Dispatch.τ).loc Cert.Dispatch.main_arg1)
      ∧ r.2.mem ((c.tc : Thread Cert.Dispatch.nD Cert.Dispatch.τ).loc Cert.Dispatch.main_arg2) = m ((c.tc : Thread Cert.Dispatch.nD Cert.Dispatch.τ).loc Cert.Dispatch.main_arg2)
      ∧ r.2.mem ((c.tc : Thread Cert.Dispatch.nD Cert.Dispatch.τ).loc Cert.Dispatch.main_arg3) = m ((c.tc : Thread Cert.Dispatch.nD Cert.Dispatch.τ).loc Cert.Dispatch.main_arg3))
      ∧ r.2.sem = fun _ => 0)

def quiescent_DispatchIdeal [hDispatchIdeal : Cert.DispatchIdeal.Facts] [hPre_routed : Cert.Pre_routed.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (Cert.DispatchIdeal.threads (F := Ideal)) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
      ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ r.2.sem = fun _ => 0)

def quiescent_DispatchReferenceIdeal [hDispatchReferenceIdeal : Cert.DispatchReferenceIdeal.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2)
      ∧ r.2.mem ((c.tc : Thread Cert.DispatchReferenceIdeal.nD Cert.DispatchReferenceIdeal.τ).loc Cert.DispatchReferenceIdeal.main_arg3) = m ((c.tc : Thread Cert.DispatchReferenceIdeal.nD Cert.DispatchReferenceIdeal.τ).loc Cert.DispatchReferenceIdeal.main_arg3))
      ∧ r.2.sem = fun _ => 0)

def quiescent_DispatchReferenceIdeal_pre_routed [hDispatchReferenceIdeal : Cert.DispatchReferenceIdeal.Facts] [hPre_routed : Cert.Pre_routed.Facts] : Prop :=
  ∀ (m : (ℓ : Loc Cert.DispatchReferenceIdeal.nD Cert.DispatchReferenceIdeal.τ Cert.DispatchReferenceIdeal.sig) → Buf (Elt Ideal) ℓ) (g : Dev Cert.DispatchReferenceIdeal.nD → PrngReg), Pre_DispatchReferenceIdeal_routed m →
    θ_run (Cert.DispatchReferenceIdeal.defs (F := Ideal)) (onTc (τ := Cert.DispatchReferenceIdeal.τ) (Cert.DispatchReferenceIdeal.main (F := Ideal))) ⟨m, fun _ => 0, g⟩ (fun r => (∀ c : Dev Cert.DispatchReferenceIdeal.nD,
      r.2.mem ((c.tc : Thread Cert.DispatchReferenceIdeal.nD Cert.DispatchReferenceIdeal.τ).loc Cert.DispatchReferenceIdeal.main_arg0) = m ((c.tc : Thread Cert.DispatchReferenceIdeal.nD Cert.DispatchReferenceIdeal.τ).loc Cert.DispatchReferenceIdeal.main_arg0)
      ∧ r.2.mem ((c.tc : Thread Cert.DispatchReferenceIdeal.nD Cert.DispatchReferenceIdeal.τ).loc Cert.DispatchReferenceIdeal.main_arg1) = m ((c.tc : Thread Cert.DispatchReferenceIdeal.nD Cert.DispatchReferenceIdeal.τ).loc Cert.DispatchReferenceIdeal.main_arg1)
      ∧ r.2.mem ((c.tc : Thread Cert.DispatchReferenceIdeal.nD Cert.DispatchReferenceIdeal.τ).loc Cert.DispatchReferenceIdeal.main_arg2) = m ((c.tc : Thread Cert.DispatchReferenceIdeal.nD Cert.DispatchReferenceIdeal.τ).loc Cert.DispatchReferenceIdeal.main_arg2)
      ∧ r.2.mem ((c.tc : Thread Cert.DispatchReferenceIdeal.nD Cert.DispatchReferenceIdeal.τ).loc Cert.DispatchReferenceIdeal.main_arg3) = m ((c.tc : Thread Cert.DispatchReferenceIdeal.nD Cert.DispatchReferenceIdeal.τ).loc Cert.DispatchReferenceIdeal.main_arg3))
      ∧ r.2.sem = fun _ => 0)

def quiescent_Expert [hExpert : Cert.Expert.Facts] [hPre_experts_in_range : Cert.Pre_experts_in_range.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4))
      ∧ r.2.sem = fun _ => 0)

def quiescent_ExpertIdeal [hExpertIdeal : Cert.ExpertIdeal.Facts] [hPre_experts_in_range : Cert.Pre_experts_in_range.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ r.2.sem = fun _ => 0)

def quiescent_ExpertReferenceIdeal [hExpertReferenceIdeal : Cert.ExpertReferenceIdeal.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def quiescent_ExpertReferenceIdeal_pre_experts_in_range [hExpertReferenceIdeal : Cert.ExpertReferenceIdeal.Facts] [hPre_experts_in_range : Cert.Pre_experts_in_range.Facts] : Prop :=
  ∀ (m : (ℓ : Loc Cert.ExpertReferenceIdeal.nD Cert.ExpertReferenceIdeal.τ Cert.ExpertReferenceIdeal.sig) → Buf (Elt Ideal) ℓ) (g : Dev Cert.ExpertReferenceIdeal.nD → PrngReg), Pre_ExpertReferenceIdeal_experts_in_range m →
    θ_run (Cert.ExpertReferenceIdeal.defs (F := Ideal)) (onTc (τ := Cert.ExpertReferenceIdeal.τ) (Cert.ExpertReferenceIdeal.main (F := Ideal))) ⟨m, fun _ => 0, g⟩ (fun r => (∀ c : Dev Cert.ExpertReferenceIdeal.nD,
      r.2.mem ((c.tc : Thread Cert.ExpertReferenceIdeal.nD Cert.ExpertReferenceIdeal.τ).loc Cert.ExpertReferenceIdeal.main_arg0) = m ((c.tc : Thread Cert.ExpertReferenceIdeal.nD Cert.ExpertReferenceIdeal.τ).loc Cert.ExpertReferenceIdeal.main_arg0)
      ∧ r.2.mem ((c.tc : Thread Cert.ExpertReferenceIdeal.nD Cert.ExpertReferenceIdeal.τ).loc Cert.ExpertReferenceIdeal.main_arg1) = m ((c.tc : Thread Cert.ExpertReferenceIdeal.nD Cert.ExpertReferenceIdeal.τ).loc Cert.ExpertReferenceIdeal.main_arg1)
      ∧ r.2.mem ((c.tc : Thread Cert.ExpertReferenceIdeal.nD Cert.ExpertReferenceIdeal.τ).loc Cert.ExpertReferenceIdeal.main_arg2) = m ((c.tc : Thread Cert.ExpertReferenceIdeal.nD Cert.ExpertReferenceIdeal.τ).loc Cert.ExpertReferenceIdeal.main_arg2)
      ∧ r.2.mem ((c.tc : Thread Cert.ExpertReferenceIdeal.nD Cert.ExpertReferenceIdeal.τ).loc Cert.ExpertReferenceIdeal.main_arg3) = m ((c.tc : Thread Cert.ExpertReferenceIdeal.nD Cert.ExpertReferenceIdeal.τ).loc Cert.ExpertReferenceIdeal.main_arg3)
      ∧ r.2.mem ((c.tc : Thread Cert.ExpertReferenceIdeal.nD Cert.ExpertReferenceIdeal.τ).loc Cert.ExpertReferenceIdeal.main_arg4) = m ((c.tc : Thread Cert.ExpertReferenceIdeal.nD Cert.ExpertReferenceIdeal.τ).loc Cert.ExpertReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Dispatch_DispatchIdeal : Prop :=
  True

def algebraic_DispatchIdeal_DispatchReferenceIdeal [hDispatchIdeal : Cert.DispatchIdeal.Facts] [hDispatchReferenceIdeal : Cert.DispatchReferenceIdeal.Facts] [hPre_routed : Cert.Pre_routed.Facts] : Prop :=
  ∀ (m : (ℓ : Loc Cert.DispatchIdeal.nD Cert.DispatchIdeal.τ Cert.DispatchIdeal.sig) → Buf (Elt Ideal) ℓ) (g : Dev Cert.DispatchIdeal.nD → PrngReg)
    (m' : (ℓ : Loc Cert.DispatchReferenceIdeal.nD Cert.DispatchReferenceIdeal.τ Cert.DispatchReferenceIdeal.sig) → Buf (Elt Ideal) ℓ) (g' : Dev Cert.DispatchReferenceIdeal.nD → PrngReg), Pre_DispatchIdeal m →
    (∀ c : Dev Cert.DispatchIdeal.nD,
      m' ((c.tc : Thread Cert.DispatchReferenceIdeal.nD Cert.DispatchReferenceIdeal.τ).loc Cert.DispatchReferenceIdeal.main_arg0) = m ((c.tc : Thread Cert.DispatchIdeal.nD Cert.DispatchIdeal.τ).loc Cert.DispatchIdeal.main_arg0)
      ∧ m' ((c.tc : Thread Cert.DispatchReferenceIdeal.nD Cert.DispatchReferenceIdeal.τ).loc Cert.DispatchReferenceIdeal.main_arg1) = m ((c.tc : Thread Cert.DispatchIdeal.nD Cert.DispatchIdeal.τ).loc Cert.DispatchIdeal.main_arg1)
      ∧ m' ((c.tc : Thread Cert.DispatchReferenceIdeal.nD Cert.DispatchReferenceIdeal.τ).loc Cert.DispatchReferenceIdeal.main_arg2) = m ((c.tc : Thread Cert.DispatchIdeal.nD Cert.DispatchIdeal.τ).loc Cert.DispatchIdeal.main_arg2)
      ∧ m' ((c.tc : Thread Cert.DispatchReferenceIdeal.nD Cert.DispatchReferenceIdeal.τ).loc Cert.DispatchReferenceIdeal.main_arg3) = m ((c.tc : Thread Cert.DispatchIdeal.nD Cert.DispatchIdeal.τ).loc Cert.DispatchIdeal.main_arg3)) →
    ∃ (v0 : (c : Dev Cert.DispatchIdeal.nD) → Buf (Elt Ideal) ((c.tc : Thread Cert.DispatchIdeal.nD Cert.DispatchIdeal.τ).loc Cert.DispatchIdeal.main_v0_0)) (v1 : (c : Dev Cert.DispatchIdeal.nD) → Buf (Elt Ideal) ((c.tc : Thread Cert.DispatchIdeal.nD Cert.DispatchIdeal.τ).loc Cert.DispatchIdeal.main_v7)),
      θ_run (Cert.DispatchIdeal.defs (F := Ideal)) (Cert.DispatchIdeal.threads (F := Ideal)) ⟨m, fun _ => 0, g⟩ (fun r => ∀ c : Dev Cert.DispatchIdeal.nD,
          r.2.mem ((c.tc : Thread Cert.DispatchIdeal.nD Cert.DispatchIdeal.τ).loc Cert.DispatchIdeal.main_v0_0) = v0 c
          ∧ r.2.mem ((c.tc : Thread Cert.DispatchIdeal.nD Cert.DispatchIdeal.τ).loc Cert.DispatchIdeal.main_v7) = v1 c
          ∧ r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2)
          ∧ r.2.mem ((c.tc : Thread Cert.DispatchIdeal.nD Cert.DispatchIdeal.τ).loc Cert.DispatchIdeal.main_arg3) = m ((c.tc : Thread Cert.DispatchIdeal.nD Cert.DispatchIdeal.τ).loc Cert.DispatchIdeal.main_arg3))
      ∧ θ_run (Cert.DispatchReferenceIdeal.defs (F := Ideal)) (onTc (τ := Cert.DispatchReferenceIdeal.τ) (Cert.DispatchReferenceIdeal.main (F := Ideal))) ⟨m', fun _ => 0, g'⟩ (fun r => ∀ c : Dev Cert.DispatchReferenceIdeal.nD,
          r.2.mem ((c.tc : Thread Cert.DispatchReferenceIdeal.nD Cert.DispatchReferenceIdeal.τ).loc Cert.DispatchReferenceIdeal.main_v21) = v0 c
          ∧ r.2.mem ((c.tc : Thread Cert.DispatchReferenceIdeal.nD Cert.DispatchReferenceIdeal.τ).loc Cert.DispatchReferenceIdeal.main_v23) = v1 c
          ∧ r.2.mem ((c.tc : Thread Cert.DispatchReferenceIdeal.nD Cert.DispatchReferenceIdeal.τ).loc Cert.DispatchReferenceIdeal.main_arg0) = m' ((c.tc : Thread Cert.DispatchReferenceIdeal.nD Cert.DispatchReferenceIdeal.τ).loc Cert.DispatchReferenceIdeal.main_arg0)
          ∧ r.2.mem ((c.tc : Thread Cert.DispatchReferenceIdeal.nD Cert.DispatchReferenceIdeal.τ).loc Cert.DispatchReferenceIdeal.main_arg1) = m' ((c.tc : Thread Cert.DispatchReferenceIdeal.nD Cert.DispatchReferenceIdeal.τ).loc Cert.DispatchReferenceIdeal.main_arg1)
          ∧ r.2.mem ((c.tc : Thread Cert.DispatchReferenceIdeal.nD Cert.DispatchReferenceIdeal.τ).loc Cert.DispatchReferenceIdeal.main_arg2) = m' ((c.tc : Thread Cert.DispatchReferenceIdeal.nD Cert.DispatchReferenceIdeal.τ).loc Cert.DispatchReferenceIdeal.main_arg2)
          ∧ r.2.mem ((c.tc : Thread Cert.DispatchReferenceIdeal.nD Cert.DispatchReferenceIdeal.τ).loc Cert.DispatchReferenceIdeal.main_arg3) = m' ((c.tc : Thread Cert.DispatchReferenceIdeal.nD Cert.DispatchReferenceIdeal.τ).loc Cert.DispatchReferenceIdeal.main_arg3))

def preserves_Expert_ExpertIdeal : Prop :=
  True

def algebraic_ExpertIdeal_ExpertReferenceIdeal [hExpertIdeal : Cert.ExpertIdeal.Facts] [hExpertReferenceIdeal : Cert.ExpertReferenceIdeal.Facts] [hPre_experts_in_range : Cert.Pre_experts_in_range.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertReferenceIdeal.nD Cert.ExpertReferenceIdeal.τ Cert.ExpertReferenceIdeal.sig) → Buf (Elt Ideal) ℓ) (g' : Dev Cert.ExpertReferenceIdeal.nD → PrngReg), Pre_ExpertIdeal m →
    (∀ c : Dev Cert.ExpertIdeal.nD,
      m' ((c.tc : Thread Cert.ExpertReferenceIdeal.nD Cert.ExpertReferenceIdeal.τ).loc Cert.ExpertReferenceIdeal.main_arg0) = m ((c.tc : Thread Cert.ExpertIdeal.nD Cert.ExpertIdeal.τ).loc Cert.ExpertIdeal.main_arg0)
      ∧ m' ((c.tc : Thread Cert.ExpertReferenceIdeal.nD Cert.ExpertReferenceIdeal.τ).loc Cert.ExpertReferenceIdeal.main_arg1) = m ((c.tc : Thread Cert.ExpertIdeal.nD Cert.ExpertIdeal.τ).loc Cert.ExpertIdeal.main_arg1)
      ∧ m' ((c.tc : Thread Cert.ExpertReferenceIdeal.nD Cert.ExpertReferenceIdeal.τ).loc Cert.ExpertReferenceIdeal.main_arg2) = m ((c.tc : Thread Cert.ExpertIdeal.nD Cert.ExpertIdeal.τ).loc Cert.ExpertIdeal.main_arg2)
      ∧ m' ((c.tc : Thread Cert.ExpertReferenceIdeal.nD Cert.ExpertReferenceIdeal.τ).loc Cert.ExpertReferenceIdeal.main_arg3) = m ((c.tc : Thread Cert.ExpertIdeal.nD Cert.ExpertIdeal.τ).loc Cert.ExpertIdeal.main_arg3)
      ∧ m' ((c.tc : Thread Cert.ExpertReferenceIdeal.nD Cert.ExpertReferenceIdeal.τ).loc Cert.ExpertReferenceIdeal.main_arg4) = m ((c.tc : Thread Cert.ExpertIdeal.nD Cert.ExpertIdeal.τ).loc Cert.ExpertIdeal.main_arg4)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v0) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4))
      ∧ θ_run (Cert.ExpertReferenceIdeal.defs (F := Ideal)) (onTc (τ := Cert.ExpertReferenceIdeal.τ) (Cert.ExpertReferenceIdeal.main (F := Ideal))) ⟨m', fun _ => 0, g'⟩ (fun r => ∀ c : Dev Cert.ExpertReferenceIdeal.nD,
          r.2.mem ((c.tc : Thread Cert.ExpertReferenceIdeal.nD Cert.ExpertReferenceIdeal.τ).loc Cert.ExpertReferenceIdeal.main_v27) = v0 c
          ∧ r.2.mem ((c.tc : Thread Cert.ExpertReferenceIdeal.nD Cert.ExpertReferenceIdeal.τ).loc Cert.ExpertReferenceIdeal.main_arg0) = m' ((c.tc : Thread Cert.ExpertReferenceIdeal.nD Cert.ExpertReferenceIdeal.τ).loc Cert.ExpertReferenceIdeal.main_arg0)
          ∧ r.2.mem ((c.tc : Thread Cert.ExpertReferenceIdeal.nD Cert.ExpertReferenceIdeal.τ).loc Cert.ExpertReferenceIdeal.main_arg1) = m' ((c.tc : Thread Cert.ExpertReferenceIdeal.nD Cert.ExpertReferenceIdeal.τ).loc Cert.ExpertReferenceIdeal.main_arg1)
          ∧ r.2.mem ((c.tc : Thread Cert.ExpertReferenceIdeal.nD Cert.ExpertReferenceIdeal.τ).loc Cert.ExpertReferenceIdeal.main_arg2) = m' ((c.tc : Thread Cert.ExpertReferenceIdeal.nD Cert.ExpertReferenceIdeal.τ).loc Cert.ExpertReferenceIdeal.main_arg2)
          ∧ r.2.mem ((c.tc : Thread Cert.ExpertReferenceIdeal.nD Cert.ExpertReferenceIdeal.τ).loc Cert.ExpertReferenceIdeal.main_arg3) = m' ((c.tc : Thread Cert.ExpertReferenceIdeal.nD Cert.ExpertReferenceIdeal.τ).loc Cert.ExpertReferenceIdeal.main_arg3)
          ∧ r.2.mem ((c.tc : Thread Cert.ExpertReferenceIdeal.nD Cert.ExpertReferenceIdeal.τ).loc Cert.ExpertReferenceIdeal.main_arg4) = m' ((c.tc : Thread Cert.ExpertReferenceIdeal.nD Cert.ExpertReferenceIdeal.τ).loc Cert.ExpertReferenceIdeal.main_arg4))

def preserves_Router_RouterIdeal : Prop :=
  IdealRules.named_const.Statement Cert.RouterIdeal.κ "mask" .f32 0xF149F2CA#32 ⊥

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v12_0)) (v1 : (c : Dev Cert.RouterIdeal.nD) → Buf (Elt Ideal) ((c.tc : Thread Cert.RouterIdeal.nD Cert.RouterIdeal.τ).loc Cert.RouterIdeal.main_v12_1)) (v2 : (c : Dev Cert.RouterIdeal.nD) → Buf (Elt Ideal) ((c.tc : Thread Cert.RouterIdeal.nD Cert.RouterIdeal.τ).loc Cert.RouterIdeal.main_v12_2)) (v3 : (c : Dev Cert.RouterIdeal.nD) → Buf (Elt Ideal) ((c.tc : Thread Cert.RouterIdeal.nD Cert.RouterIdeal.τ).loc Cert.RouterIdeal.main_v12_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v12_0) = v0 c
          ∧ r.2.mem ((c.tc : Thread Cert.RouterIdeal.nD Cert.RouterIdeal.τ).loc Cert.RouterIdeal.main_v12_1) = v1 c
          ∧ r.2.mem ((c.tc : Thread Cert.RouterIdeal.nD Cert.RouterIdeal.τ).loc Cert.RouterIdeal.main_v12_2) = v2 c
          ∧ r.2.mem ((c.tc : Thread Cert.RouterIdeal.nD Cert.RouterIdeal.τ).loc Cert.RouterIdeal.main_v12_3) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_indices) = v0 c
          ∧ r.2.mem ((c.tc : Thread Cert.RouterReferenceIdeal.nD Cert.RouterReferenceIdeal.τ).loc Cert.RouterReferenceIdeal.main_values) = v1 c
          ∧ r.2.mem ((c.tc : Thread Cert.RouterReferenceIdeal.nD Cert.RouterReferenceIdeal.τ).loc Cert.RouterReferenceIdeal.main_v20) = v2 c
          ∧ r.2.mem ((c.tc : Thread Cert.RouterReferenceIdeal.nD Cert.RouterReferenceIdeal.τ).loc Cert.RouterReferenceIdeal.main_v50) = v3 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def Claim : Prop :=
  ∃ (hKernel : Cert.Kernel.Facts) (hKernelIdeal : Cert.KernelIdeal.Facts) (hReferenceIdeal : Cert.ReferenceIdeal.Facts) (hDispatch : Cert.Dispatch.Facts) (hDispatchIdeal : Cert.DispatchIdeal.Facts) (hDispatchReferenceIdeal : Cert.DispatchReferenceIdeal.Facts) (hExpert : Cert.Expert.Facts) (hExpertIdeal : Cert.ExpertIdeal.Facts) (hExpertReferenceIdeal : Cert.ExpertReferenceIdeal.Facts) (hRouter : Cert.Router.Facts) (hRouterIdeal : Cert.RouterIdeal.Facts) (hRouterReferenceIdeal : Cert.RouterReferenceIdeal.Facts) (hPre_pos_in_rows : Cert.Pre_pos_in_rows.Facts) (hPre_routed : Cert.Pre_routed.Facts) (hPre_experts_in_range : Cert.Pre_experts_in_range.Facts) (hPre_finite : Cert.Pre_finite.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Dispatch (hDispatch := hDispatch) (hPre_routed := hPre_routed)
    ∧ quiescent_DispatchIdeal (hDispatchIdeal := hDispatchIdeal) (hPre_routed := hPre_routed)
    ∧ quiescent_DispatchReferenceIdeal (hDispatchReferenceIdeal := hDispatchReferenceIdeal)
    ∧ quiescent_DispatchReferenceIdeal_pre_routed (hDispatchReferenceIdeal := hDispatchReferenceIdeal) (hPre_routed := hPre_routed)
    ∧ quiescent_Expert (hExpert := hExpert) (hPre_experts_in_range := hPre_experts_in_range)
    ∧ quiescent_ExpertIdeal (hExpertIdeal := hExpertIdeal) (hPre_experts_in_range := hPre_experts_in_range)
    ∧ quiescent_ExpertReferenceIdeal (hExpertReferenceIdeal := hExpertReferenceIdeal)
    ∧ quiescent_ExpertReferenceIdeal_pre_experts_in_range (hExpertReferenceIdeal := hExpertReferenceIdeal) (hPre_experts_in_range := hPre_experts_in_range)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ preserves_Kernel_KernelIdeal
    ∧ algebraic_KernelIdeal_ReferenceIdeal (hKernelIdeal := hKernelIdeal) (hReferenceIdeal := hReferenceIdeal) (hPre_pos_in_rows := hPre_pos_in_rows)
    ∧ preserves_Dispatch_DispatchIdeal
    ∧ algebraic_DispatchIdeal_DispatchReferenceIdeal (hDispatchIdeal := hDispatchIdeal) (hDispatchReferenceIdeal := hDispatchReferenceIdeal) (hPre_routed := hPre_routed)
    ∧ preserves_Expert_ExpertIdeal
    ∧ algebraic_ExpertIdeal_ExpertReferenceIdeal (hExpertIdeal := hExpertIdeal) (hExpertReferenceIdeal := hExpertReferenceIdeal) (hPre_experts_in_range := hPre_experts_in_range)
    ∧ preserves_Router_RouterIdeal
    ∧ algebraic_RouterIdeal_RouterReferenceIdeal_pre_finite (hRouterIdeal := hRouterIdeal) (hRouterReferenceIdeal := hRouterReferenceIdeal) (hPre_finite := hPre_finite)
-- ==== Pre_experts_in_range.lean ====
abbrev S6144x1024 : Shape := ⟨2, ![6144, 1024]⟩
abbrev S8x1024x1024 : Shape := ⟨3, ![8, 1024, 1024]⟩
abbrev S24 : Shape := ⟨1, ![24]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : FVec F S6144x1024 .f32) (main_arg1 : FVec F S8x1024x1024 .f32) (main_arg2 : FVec F S8x1024x1024 .f32) (main_arg3 : FVec F S8x1024x1024 .f32) (main_arg4 : IVec S24 32) : IVec S_ 1 :=
  let main_c : IVec S_ 32 := constantI S_ 32 0#32
  let main_v0 : IVec S24 32 := broadcastInDim S24 ![] bcast_S_S24 main_c
  let main_v1 : IVec S24 1 := cmpi .sge main_arg4 main_v0
  let main_c_0 : IVec S_ 32 := constantI S_ 32 8#32
  let main_v2 : IVec S24 32 := broadcastInDim S24 ![] bcast_S_S24 main_c_0
  let main_v3 : IVec S24 1 := cmpi .slt main_arg4 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  main_v5
-- ==== Pre_finite.lean ====
abbrev S2048x1024 : Shape := ⟨2, ![2048, 1024]⟩
abbrev S8x1024 : Shape := ⟨2, ![8, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_

variable [Facts]

def fn {F : FTy → Type} [FloatOps F] (main_arg0 : FVec F S2048x1024 .f32) (main_arg1 : FVec F S8x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  main_v8
-- ==== Pre_pos_in_rows.lean ====
abbrev S6144x1024 : Shape := ⟨2, ![6144, 1024]⟩
abbrev S4096 : Shape := ⟨1, ![4096]⟩
abbrev S2048x2 : Shape := ⟨2, ![2048, 2]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S6144x1024 .f32) (main_arg1 : IVec S4096 32) (main_arg2 : FVec F S2048x2 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 6144#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_routed.lean ====
abbrev S4096 : Shape := ⟨1, ![4096]⟩
abbrev S32x16 : Shape := ⟨2, ![32, 16]⟩
abbrev S16 : Shape := ⟨1, ![16]⟩
abbrev S2048x1024 : Shape := ⟨2, ![2048, 1024]⟩
abbrev S4096x1 : Shape := ⟨2, ![4096, 1]⟩
abbrev S8 : Shape := ⟨1, ![8]⟩
abbrev S1x8 : Shape := ⟨2, ![1, 8]⟩
abbrev S4096x8 : Shape := ⟨2, ![4096, 8]⟩
abbrev S_ : Shape := ⟨0, ![]⟩
abbrev S32x8 : Shape := ⟨2, ![32, 8]⟩
abbrev S32x128x8 : Shape := ⟨3, ![32, 128, 8]⟩
abbrev S7 : Shape := ⟨1, ![7]⟩

class Facts : Prop where
  bcast_S4096_S4096x1_0 : S4096.BroadcastsInDim S4096x1 (![0] : Fin 1 → Fin S4096x1.rank)
  bcast_S8_S1x8_1 : S8.BroadcastsInDim S1x8 (![1] : Fin 1 → Fin S1x8.rank)
  bcast_S4096x1_S4096x8_0_1 : S4096x1.BroadcastsInDim S4096x8 (![0, 1] : Fin 2 → Fin S4096x8.rank)
  bcast_S1x8_S4096x8_0_1 : S1x8.BroadcastsInDim S4096x8 (![0, 1] : Fin 2 → Fin S4096x8.rank)
  natLt_1_32 : 1 < 32
  reducesTo_S4096x8_S8_d0 : S4096x8.ReducesTo [0] S8
  h_S_ : 0 < S_.numel
  slices_S16_S8_0 : S16.Slices ![0] S8
  bcast_S_S4096 : S_.BroadcastsInDim S4096 (![] : Fin 0 → Fin S4096.rank)
  reducesTo_S4096_S_d0 : S4096.ReducesTo [0] S_
  slices_S32x16_S32x8_0_0 : S32x16.Slices ![0, 0] S32x8
  shapeCasts_S4096x8_S32x128x8 : S4096x8.ShapeCasts S32x128x8
  reducesTo_S32x128x8_S32x8_d1 : S32x128x8.ReducesTo [1] S32x8
  reducesTo_S32x8_S_d0_1 : S32x8.ReducesTo [0, 1] S_
  bcast_S_S8 : S_.BroadcastsInDim S8 (![] : Fin 0 → Fin S8.rank)
  reducesTo_S8_S_d0 : S8.ReducesTo [0] S_
  slices_S8_S7_0 : S8.Slices ![0] S7
  slices_S8_S7_1 : S8.Slices ![1] S7
  reducesTo_S7_S_d0 : S7.ReducesTo [0] S_

variable [Facts]

def fn_part1 {F : FTy → Type} [FloatOps F] (main_v7 : IVec S8 32) (main_v8 : IVec S8 32) (main_v14 : IVec S_ 1) (main_v18 : IVec S32x8 1) : IVec S_ 1 :=
  let main_c_4 : IVec S_ 1 := constantI S_ 1 1#1
  let main_v19 : IVec S_ 1 := (fun x v => Host.reduce IntOp.andi x v reducesTo_S32x8_S_d0_1 h_S_) main_v18 main_c_4
  let main_v20 : IVec S_ 1 := andi main_v14 main_v19
  let main_c_5 : IVec S_ 32 := constantI S_ 32 0#32
  let main_v21 : IVec S8 32 := broadcastInDim S8 ![] bcast_S_S8 main_c_5
  let main_v22 : IVec S8 1 := cmpi .sge main_v8 main_v21
  let main_c_6 : IVec S_ 32 := constantI S_ 32 6144#32
  let main_v23 : IVec S8 32 := broadcastInDim S8 ![] bcast_S_S8 main_c_6
  let main_v24 : IVec S8 32 := subi main_v23 main_v7
  let main_v25 : IVec S8 1 := cmpi .sle main_v8 main_v24
  let main_v26 : IVec S8 1 := andi main_v22 main_v25
  let main_c_7 : IVec S_ 1 := constantI S_ 1 1#1
  let main_v27 : IVec S_ 1 := (fun x v => Host.reduce IntOp.andi x v reducesTo_S8_S_d0 h_S_) main_v26 main_c_7
  let main_v28 : IVec S_ 1 := andi main_v20 main_v27
  let main_v29 : IVec S7 32 := (extractStridedSlice S7 ![0] · slices_S8_S7_0) main_v8
  let main_v30 : IVec S7 32 := (extractStridedSlice S7 ![0] · slices_S8_S7_0) main_v7
  let main_v31 : IVec S7 32 := addi main_v29 main_v30
  let main_v32 : IVec S7 32 := (extractStridedSlice S7 ![1] · slices_S8_S7_1) main_v8
  let main_v33 : IVec S7 1 := cmpi .sle main_v31 main_v32
  let main_c_8 : IVec S_ 1 := constantI S_ 1 1#1
  let main_v34 : IVec S_ 1 := (fun x v => Host.reduce IntOp.andi x v reducesTo_S7_S_d0 h_S_) main_v33 main_c_8
  let main_v35 : IVec S_ 1 := andi main_v28 main_v34
  main_v35

def fn {F : FTy → Type} [FloatOps F] (main_arg0 : IVec S4096 32) (main_arg1 : IVec S32x16 32) (main_arg2 : IVec S16 32) (main_arg3 : FVec F S2048x1024 .f32) : IVec S_ 1 :=
  let main_v0 : IVec S4096x1 32 := broadcastInDim S4096x1 ![0] bcast_S4096_S4096x1_0 main_arg0
  let main_v1 : IVec S8 32 := iotaInDim S8 32 0
  let main_v2 : IVec S1x8 32 := broadcastInDim S1x8 ![1] bcast_S8_S1x8_1 main_v1
  let main_v3 : IVec S4096x8 32 := broadcastInDim S4096x8 ![0, 1] bcast_S4096x1_S4096x8_0_1 main_v0
  let main_v4 : IVec S4096x8 32 := broadcastInDim S4096x8 ![0, 1] bcast_S1x8_S4096x8_0_1 main_v2
  let main_v5 : IVec S4096x8 1 := cmpi .eq main_v3 main_v4
  let main_v6 : IVec S4096x8 32 := (extui 32 · natLt_1_32) main_v5
  let main_c : IVec S_ 32 := constantI S_ 32 0#32
  let main_v7 : IVec S8 32 := (fun x v => Host.reduce IntOp.addi x v reducesTo_S4096x8_S8_d0 h_S_) main_v6 main_c
  let main_v8 : IVec S8 32 := (extractStridedSlice S8 ![0] · slices_S16_S8_0) main_arg2
  let main_c_0 : IVec S_ 32 := constantI S_ 32 0#32
  let main_v9 : IVec S4096 32 := broadcastInDim S4096 ![] bcast_S_S4096 main_c_0
  let main_v10 : IVec S4096 1 := cmpi .sge main_arg0 main_v9
  let main_c_1 : IVec S_ 32 := constantI S_ 32 8#32
  let main_v11 : IVec S4096 32 := broadcastInDim S4096 ![] bcast_S_S4096 main_c_1
  let main_v12 : IVec S4096 1 := cmpi .slt main_arg0 main_v11
  let main_v13 : IVec S4096 1 := andi main_v10 main_v12
  let main_c_2 : IVec S_ 1 := constantI S_ 1 1#1
  let main_v14 : IVec S_ 1 := (fun x v => Host.reduce IntOp.andi x v reducesTo_S4096_S_d0 h_S_) main_v13 main_c_2
  let main_v15 : IVec S32x8 32 := (extractStridedSlice S32x8 ![0, 0] · slices_S32x16_S32x8_0_0) main_arg1
  let main_v16 : IVec S32x128x8 32 := shapeCast S32x128x8 main_v6 shapeCasts_S4096x8_S32x128x8
  let main_c_3 : IVec S_ 32 := constantI S_ 32 0#32
  let main_v17 : IVec S32x8 32 := (fun x v => Host.reduce IntOp.addi x v reducesTo_S32x128x8_S32x8_d1 h_S_) main_v16 main_c_3
  let main_v18 : IVec S32x8 1 := cmpi .eq main_v15 main_v17
  fn_part1 (F := F) main_v7 main_v8 main_v14 main_v18
-- ==== Kernel.lean ====
abbrev S6144x1024 : Shape := ⟨2, ![6144, 1024]⟩
abbrev S4096 : Shape := ⟨1, ![4096]⟩
abbrev S2048x2 : Shape := ⟨2, ![2048, 2]⟩
abbrev S2048x1024 : Shape := ⟨2, ![2048, 1024]⟩
abbrev S4x32 : Shape := ⟨2, ![4, 32]⟩
abbrev S32 : Shape := ⟨1, ![32]⟩
abbrev S32x1024 : Shape := ⟨2, ![32, 1024]⟩
abbrev S16x1024 : Shape := ⟨2, ![16, 1024]⟩
abbrev S_ : Shape := ⟨0, ![]⟩
abbrev S1x32 : Shape := ⟨2, ![1, 32]⟩
abbrev S32x128 : Shape := ⟨2, ![32, 128]⟩
abbrev S6144x128 : Shape := ⟨2, ![6144, 128]⟩
abbrev S16 : Shape := ⟨1, ![16]⟩
abbrev S1 : Shape := ⟨1, ![1]⟩
abbrev S1x16 : Shape := ⟨2, ![1, 16]⟩

abbrev nBuf : Table → Nat
  | .hbm => 5
  | .local .scVector .vmem => 4
  | _ => 0

abbrev bufTy : (tb : Table) → Fin (nBuf tb) → BufTy
  | .hbm, ⟨0, _⟩ => ⟨S6144x1024, .f32⟩
  | .hbm, ⟨1, _⟩ => ⟨S4096, .i32⟩
  | .hbm, ⟨2, _⟩ => ⟨S2048x2, .f32⟩
  | .hbm, ⟨3, _⟩ => ⟨S4096, .f32⟩
  | .hbm, ⟨4, _⟩ => ⟨S2048x1024, .f32⟩
  | .local .scVector .vmem, ⟨0, _⟩ => ⟨S4x32, .i32⟩
  | .local .scVector .vmem, ⟨1, _⟩ => ⟨S32, .f32⟩
  | .local .scVector .vmem, ⟨2, _⟩ => ⟨S32x1024, .f32⟩
  | .local .scVector .vmem, ⟨3, _⟩ => ⟨S16x1024, .f32⟩
  | _, _ => ⟨S6144x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  ![v3.toNat]
@[reducible] def k0_t1_loop : Scf.Loop 32 :=
  let c0_i32_4 : BitVec 32 := 0#32
  let c8_i32 : BitVec 32 := 8#32
  let v6 : BitVec 32 := Scalar.addi c0_i32_4 c8_i32
  let c1_i32 : BitVec 32 := 1#32
  ⟨c0_i32_4, v6, c1_i32⟩
def k0_mult1 (k0_t1 : Fin k0_t1_loop.trips) : BitVec 32 :=
  let c0_i32_4 : BitVec 32 := 0#32
  let c1_i32 : BitVec 32 := 1#32
  let arg11 : BitVec 32 := Scf.iv c0_i32_4 c1_i32 k0_t1
  let c128_i32_364 : BitVec 32 := 128#32
  let v426 : BitVec 32 := Scalar.muli arg11 c128_i32_364
  v426
def k0_off2 (k0_t1 : Fin k0_t1_loop.trips) : Fin 2 → Nat :=
  let c0_i32_366 : BitVec 32 := 0#32
  let c0_i32_4 : BitVec 32 := 0#32
  let c1_i32 : BitVec 32 := 1#32
  let arg11 : BitVec 32 := Scf.iv c0_i32_4 c1_i32 k0_t1
  let c128_i32_364 : BitVec 32 := 128#32
  let v426 : BitVec 32 := Scalar.muli arg11 c128_i32_364
  let v427 : BitVec 32 := v426
  ![0, v427.toNat]
def k0_off3 (k0_t1 : Fin k0_t1_loop.trips) : Fin 2 → Nat :=
  let c0_i32_368 : BitVec 32 := 0#32
  let c0_i32_4 : BitVec 32 := 0#32
  let c1_i32 : BitVec 32 := 1#32
  let arg11 : BitVec 32 := Scf.iv c0_i32_4 c1_i32 k0_t1
  let c128_i32_364 : BitVec 32 := 128#32
  let v426 : BitVec 32 := Scalar.muli arg11 c128_i32_364
  let v427 : BitVec 32 := v426
  ![0, v427.toNat]
@[reducible] def k0_t2_loop : Scf.Loop 32 :=
  let c0_i32_7 : BitVec 32 := 0#32
  let c64_i32 : BitVec 32 := 64#32
  let v14 : BitVec 32 := Scalar.addi c0_i32_7 c64_i32
  let c1_i32_8 : BitVec 32 := 1#32
  ⟨c0_i32_7, v14, c1_i32_8⟩
def k0_off4 (k0_t2 : Fin k0_t2_loop.trips) : Fin 2 → Nat :=
  let c0_i32_365 : BitVec 32 := 0#32
  let v427 : Index := Scalar.indexCast c0_i32_365
  let c0_i32_7 : BitVec 32 := 0#32
  let c1_i32_8 : BitVec 32 := 1#32
  let arg11 : BitVec 32 := Scf.iv c0_i32_7 c1_i32_8 k0_t2
  let c16_i32_364 : BitVec 32 := 16#32
  let v426 : BitVec 32 := Scalar.muli arg11 c16_i32_364
  let v428 : Index := Scalar.indexCast v426
  ![0, v428.toNat]
def k0_off5 (k0_t2 : Fin k0_t2_loop.trips) : Fin 2 → Nat :=
  let c1_i32_366 : BitVec 32 := 1#32
  let v430 : Index := Scalar.indexCast c1_i32_366
  let c0_i32_7 : BitVec 32 := 0#32
  let c1_i32_8 : BitVec 32 := 1#32
  let arg11 : BitVec 32 := Scf.iv c0_i32_7 c1_i32_8 k0_t2
  let c16_i32_364 : BitVec 32 := 16#32
  let v426 : BitVec 32 := Scalar.muli arg11 c16_i32_364
  let v431 : Index := Scalar.indexCast v426
  ![1, v431.toNat]
def k0_off6 (k0_t2 : Fin k0_t2_loop.trips) : Fin 2 → Nat :=
  let c0_i32_367 : BitVec 32 := 0#32
  let v438 : Index := Scalar.indexCast c0_i32_367
  let c0_i32_7 : BitVec 32 := 0#32
  let c1_i32_8 : BitVec 32 := 1#32
  let arg11 : BitVec 32 := Scf.iv c0_i32_7 c1_i32_8 k0_t2
  let c16_i32_364 : BitVec 32 := 16#32
  let v426 : BitVec 32 := Scalar.muli arg11 c16_i32_364
  let v439 : Index := Scalar.indexCast v426
  ![0, v439.toNat]
@[reducible] def k0_t3_loop : Scf.Loop 32 :=
  let c0_i32_11 : BitVec 32 := 0#32
  let c64_i32_12 : BitVec 32 := 64#32
  let v20 : BitVec 32 := Scalar.addi c0_i32_11 c64_i32_12
  let c1_i32_13 : BitVec 32 := 1#32
  ⟨c0_i32_11, v20, c1_i32_13⟩
def k0_off7 (k0_t3 : Fin k0_t3_loop.trips) : Fin 2 → Nat :=
  let c2_i32_365 : BitVec 32 := 2#32
  let v427 : Index := Scalar.indexCast c2_i32_365
  let c0_i32_11 : BitVec 32 := 0#32
  let c1_i32_13 : BitVec 32 := 1#32
  let arg11 : BitVec 32 := Scf.iv c0_i32_11 c1_i32_13 k0_t3
  let c16_i32_364 : BitVec 32 := 16#32
  let v426 : BitVec 32 := Scalar.muli arg11 c16_i32_364
  let v428 : Index := Scalar.indexCast v426
  ![2, v428.toNat]
def k0_off8 (k0_t3 : Fin k0_t3_loop.trips) : Fin 2 → Nat :=
  let c3_i32_366 : BitVec 32 := 3#32
  let v430 : Index := Scalar.indexCast c3_i32_366
  let c0_i32_11 : BitVec 32 := 0#32
  let c1_i32_13 : BitVec 32 := 1#32
  let arg11 : BitVec 32 := Scf.iv c0_i32_11 c1_i32_13 k0_t3
  let c16_i32_364 : BitVec 32 := 16#32
  let v426 : BitVec 32 := Scalar.muli arg11 c16_i32_364
  let v431 : Index := Scalar.indexCast v426
  ![3, v431.toNat]
def k0_off9 (k0_t3 : Fin k0_t3_loop.trips) : Fin 2 → Nat :=
  let c1_i32_367 : BitVec 32 := 1#32
  let v438 : Index := Scalar.indexCast c1_i32_367
  let c0_i32_11 : BitVec 32 := 0#32
  let c1_i32_13 : BitVec 32 := 1#32
  let arg11 : BitVec 32 := Scf.iv c0_i32_11 c1_i32_13 k0_t3
  let c16_i32_364 : BitVec 32 := 16#32
  let v426 : BitVec 32 := Scalar.muli arg11 c16_i32_364
  let v439 : Index := Scalar.indexCast v426
  ![1, v439.toNat]
@[reducible] def k0_t4_loop : Scf.Loop 32 :=
  let c0_i32_16 : BitVec 32 := 0#32
  let c64_i32_17 : BitVec 32 := 64#32
  let v26 : BitVec 32 := Scalar.addi c0_i32_16 c64_i32_17
  let c1_i32_18 : BitVec 32 := 1#32
  ⟨c0_i32_16, v26, c1_i32_18⟩
def k0_off10 (k0_t4 : Fin k0_t4_loop.trips) : Fin 2 → Nat :=
  let c4_i32 : BitVec 32 := 4#32
  let v427 : Index := Scalar.indexCast c4_i32
  let c0_i32_16 : BitVec 32 := 0#32
  let c1_i32_18 : BitVec 32 := 1#32
  let arg11 : BitVec 32 := Scf.iv c0_i32_16 c1_i32_18 k0_t4
  let c16_i32_364 : BitVec 32 := 16#32
  let v426 : BitVec 32 := Scalar.muli arg11 c16_i32_364
  let v428 : Index := Scalar.indexCast v426
  ![4, v428.toNat]
def k0_off11 (k0_t4 : Fin k0_t4_loop.trips) : Fin 2 → Nat :=
  let c5_i32 : BitVec 32 := 5#32
  let v430 : Index := Scalar.indexCast c5_i32
  let c0_i32_16 : BitVec 32 := 0#32
  let c1_i32_18 : BitVec 32 := 1#32
  let arg11 : BitVec 32 := Scf.iv c0_i32_16 c1_i32_18 k0_t4
  let c16_i32_364 : BitVec 32 := 16#32
  let v426 : BitVec 32 := Scalar.muli arg11 c16_i32_364
  let v431 : Index := Scalar.indexCast v426
  ![5, v431.toNat]
def k0_off12 (k0_t4 : Fin k0_t4_loop.trips) : Fin 2 → Nat :=
  let c2_i32_365 : BitVec 32 := 2#32
  let v438 : Index := Scalar.indexCast c2_i32_365
  let c0_i32_16 : BitVec 32 := 0#32
  let c1_i32_18 : BitVec 32 := 1#32
  let arg11 : BitVec 32 := Scf.iv c0_i32_16 c1_i32_18 k0_t4
  let c16_i32_364 : BitVec 32 := 16#32
  let v426 : BitVec 32 := Scalar.muli arg11 c16_i32_364
  let v439 : Index := Scalar.indexCast v426
  ![2, v439.toNat]
@[reducible] def k0_t5_loop : Scf.Loop 32 :=
  let c0_i32_21 : BitVec 32 := 0#32
  let c64_i32_22 : BitVec 32 := 64#32
  let v32 : BitVec 32 := Scalar.addi c0_i32_21 c64_i32_22
  let c1_i32_23 : BitVec 32 := 1#32
  ⟨c0_i32_21, v32, c1_i32_23⟩
def k0_off13 (k0_t5 : Fin k0_t5_loop.trips) : Fin 2 → Nat :=
  let c6_i32 : BitVec 32 := 6#32
  let v427 : Index := Scalar.indexCast c6_i32
  let c0_i32_21 : BitVec 32 := 0#32
  let c1_i32_23 : BitVec 32 := 1#32
  let arg11 : BitVec 32 := Scf.iv c0_i32_21 c1_i32_23 k0_t5
  let c16_i32_364 : BitVec 32 := 16#32
  let v426 : BitVec 32 := Scalar.muli arg11 c16_i32_364
  let v428 : Index := Scalar.indexCast v426
  ![6, v428.toNat]
def k0_off14 (k0_t5 : Fin k0_t5_loop.trips) : Fin 2 → Nat :=
  let c7_i32 : BitVec 32 := 7#32
  let v430 : Index := Scalar.indexCast c7_i32
  let c0_i32_21 : BitVec 32 := 0#32
  let c1_i32_23 : BitVec 32 := 1#32
  let arg11 : BitVec 32 := Scf.iv c0_i32_21 c1_i32_23 k0_t5
  let c16_i32_364 : BitVec 32 := 16#32
  let v426 : BitVec 32 := Scalar.muli arg11 c16_i32_364
  let v431 : Index := Scalar.indexCast v426
  ![7, v431.toNat]
def k0_off15 (k0_t5 : Fin k0_t5_loop.trips) : Fin 2 → Nat :=
  let c3_i32_365 : BitVec 32 := 3#32
  let v438 : Index := Scalar.indexCast c3_i32_365
  let c0_i32_21 : BitVec 32 := 0#32
  let c1_i32_23 : BitVec 32 := 1#32
  let arg11 : BitVec 32 := Scf.iv c0_i32_21 c1_i32_23 k0_t5
  let c16_i32_364 : BitVec 32 := 16#32
  let v426 : BitVec 32 := Scalar.muli arg11 c16_i32_364
  let v439 : Index := Scalar.indexCast v426
  ![3, v439.toNat]
@[reducible] def k0_t6_loop : Scf.Loop 32 :=
  let c0_i32_26 : BitVec 32 := 0#32
  let c64_i32_27 : BitVec 32 := 64#32
  let v38 : BitVec 32 := Scalar.addi c0_i32_26 c64_i32_27
  let c1_i32_28 : BitVec 32 := 1#32
  ⟨c0_i32_26, v38, c1_i32_28⟩
def k0_off16 (k0_t6 : Fin k0_t6_loop.trips) : Fin 2 → Nat :=
  let c8_i32_365 : BitVec 32 := 8#32
  let v427 : Index := Scalar.indexCast c8_i32_365
  let c0_i32_26 : BitVec 32 := 0#32
  let c1_i32_28 : BitVec 32 := 1#32
  let arg11 : BitVec 32 := Scf.iv c0_i32_26 c1_i32_28 k0_t6
  let c16_i32_364 : BitVec 32 := 16#32
  let v426 : BitVec 32 := Scalar.muli arg11 c16_i32_364
  let v428 : Index := Scalar.indexCast v426
  ![8, v428.toNat]
def k0_off17 (k0_t6 : Fin k0_t6_loop.trips) : Fin 2 → Nat :=
  let c9_i32 : BitVec 32 := 9#32
  let v430 : Index := Scalar.indexCast c9_i32
  let c0_i32_26 : BitVec 32 := 0#32
  let c1_i32_28 : BitVec 32 := 1#32
  let arg11 : BitVec 32 := Scf.iv c0_i32_26 c1_i32_28 k0_t6
  let c16_i32_364 : BitVec 32 := 16#32
  let v426 : BitVec 32 := Scalar.muli arg11 c16_i32_364
  let v431 : Index := Scalar.indexCast v426
  ![9, v431.toNat]
def k0_off18 (k0_t6 : Fin k0_t6_loop.trips) : Fin 2 → Nat :=
  let c4_i32 : BitVec 32 := 4#32
  let v438 : Index := Scalar.indexCast c4_i32
  let c0_i32_26 : BitVec 32 := 0#32
  let c1_i32_28 : BitVec 32 := 1#32
  let arg11 : BitVec 32 := Scf.iv c0_i32_26 c1_i32_28 k0_t6
  let c16_i32_364 : BitVec 32 := 16#32
  let v426 : BitVec 32 := Scalar.muli arg11 c16_i32_364
  let v439 : Index := Scalar.indexCast v426
  ![4, v439.toNat]
@[reducible] def k0_t7_loop : Scf.Loop 32 :=
  let c0_i32_31 : BitVec 32 := 0#32
  let c64_i32_32 : BitVec 32 := 64#32
  let v44 : BitVec 32 := Scalar.addi c0_i32_31 c64_i32_32
  let c1_i32_33 : BitVec 32 := 1#32
  ⟨c0_i32_31, v44, c1_i32_33⟩
def k0_off19 (k0_t7 : Fin k0_t7_loop.trips) : Fin 2 → Nat :=
  let c10_i32 : BitVec 32 := 10#32
  let v427 : Index := Scalar.indexCast c10_i32
  let c0_i32_31 : BitVec 32 := 0#32
  let c1_i32_33 : BitVec 32 := 1#32
  let arg11 : BitVec 32 := Scf.iv c0_i32_31 c1_i32_33 k0_t7
  let c16_i32_364 : BitVec 32 := 16#32
  let v426 : BitVec 32 := Scalar.muli arg11 c16_i32_364
  let v428 : Index := Scalar.indexCast v426
  ![10, v428.toNat]
def k0_off20 (k0_t7 : Fin k0_t7_loop.trips) : Fin 2 → Nat :=
  let c11_i32 : BitVec 32 := 11#32
  let v430 : Index := Scalar.indexCast c11_i32
  let c0_i32_31 : BitVec 32 := 0#32
  let c1_i32_33 : BitVec 32 := 1#32
  let arg11 : BitVec 32 := Scf.iv c0_i32_31 c1_i32_33 k0_t7
  let c16_i32_364 : BitVec 32 := 16#32
  let v426 : BitVec 32 := Scalar.muli arg11 c16_i32_364
  let v431 : Index := Scalar.indexCast v426
  ![11, v431.toNat]
def k0_off21 (k0_t7 : Fin k0_t7_loop.trips) : Fin 2 → Nat :=
  let c5_i32 : BitVec 32 := 5#32
  let v438 : Index := Scalar.indexCast c5_i32
  let c0_i32_31 : BitVec 32 := 0#32
  let c1_i32_33 : BitVec 32 := 1#32
  let arg11 : BitVec 32 := Scf.iv c0_i32_31 c1_i32_33 k0_t7
  let c16_i32_364 : BitVec 32 := 16#32
  let v426 : BitVec 32 := Scalar.muli arg11 c16_i32_364
  let v439 : Index := Scalar.indexCast v426
  ![5, v439.toNat]
@[reducible] def k0_t8_loop : Scf.Loop 32 :=
  let c0_i32_36 : BitVec 32 := 0#32
  let c64_i32_37 : BitVec 32 := 64#32
  let v50 : BitVec 32 := Scalar.addi c0_i32_36 c64_i32_37
  let c1_i32_38 : BitVec 32 := 1#32
  ⟨c0_i32_36, v50, c1_i32_38⟩
def k0_off22 (k0_t8 : Fin k0_t8_loop.trips) : Fin 2 → Nat :=
  let c12_i32 : BitVec 32 := 12#32
  let v427 : Index := Scalar.indexCast c12_i32
  let c0_i32_36 : BitVec 32 := 0#32
  let c1_i32_38 : BitVec 32 := 1#32
  let arg11 : BitVec 32 := Scf.iv c0_i32_36 c1_i32_38 k0_t8
  let c16_i32_364 : BitVec 32 := 16#32
  let v426 : BitVec 32 := Scalar.muli arg11 c16_i32_364
  let v428 : Index := Scalar.indexCast v426
  ![12, v428.toNat]
def k0_off23 (k0_t8 : Fin k0_t8_loop.trips) : Fin 2 → Nat :=
  let c13_i32 : BitVec 32 := 13#32
  let v430 : Index := Scalar.indexCast c13_i32
  let c0_i32_36 : BitVec 32 := 0#32
  let c1_i32_38 : BitVec 32 := 1#32
  let arg11 : BitVec 32 := Scf.iv c0_i32_36 c1_i32_38 k0_t8
  let c16_i32_364 : BitVec 32 := 16#32
  let v426 : BitVec 32 := Scalar.muli arg11 c16_i32_364
  let v431 : Index := Scalar.indexCast v426
  ![13, v431.toNat]
def k0_off24 (k0_t8 : Fin k0_t8_loop.trips) : Fin 2 → Nat :=
  let c6_i32 : BitVec 32 := 6#32
  let v438 : Index := Scalar.indexCast c6_i32
  let c0_i32_36 : BitVec 32 := 0#32
  let c1_i32_38 : BitVec 32 := 1#32
  let arg11 : BitVec 32 := Scf.iv c0_i32_36 c1_i32_38 k0_t8
  let c16_i32_364 : BitVec 32 := 16#32
  let v426 : BitVec 32 := Scalar.muli arg11 c16_i32_364
  let v439 : Index := Scalar.indexCast v426
  ![6, v439.toNat]
@[reducible] def k0_t9_loop : Scf.Loop 32 :=
  let c0_i32_41 : BitVec 32 := 0#32
  let c64_i32_42 : BitVec 32 := 64#32
  let v56 : BitVec 32 := Scalar.addi c0_i32_41 c64_i32_42
  let c1_i32_43 : BitVec 32 := 1#32
  ⟨c0_i32_41, v56, c1_i32_43⟩
def k0_off25 (k0_t9 : Fin k0_t9_loop.trips) : Fin 2 → Nat :=
  let c14_i32 : BitVec 32 := 14#32
  let v427 : Index := Scalar.indexCast c14_i32
  let c0_i32_41 : BitVec 32 := 0#32
  let c1_i32_43 : BitVec 32 := 1#32
  let arg11 : BitVec 32 := Scf.iv c0_i32_41 c1_i32_43 k0_t9
  let c16_i32_364 : BitVec 32 := 16#32
  let v426 : BitVec 32 := Scalar.muli arg11 c16_i32_364
  let v428 : Index := Scalar.indexCast v426
  ![14, v428.toNat]
def k0_off26 (k0_t9 : Fin k0_t9_loop.trips) : Fin 2 → Nat :=
  let c15_i32 : BitVec 32 := 15#32
  let v430 : Index := Scalar.indexCast c15_i32
  let c0_i32_41 : BitVec 32 := 0#32
  let c1_i32_43 : BitVec 32 := 1#32
  let arg11 : BitVec 32 := Scf.iv c0_i32_41 c1_i32_43 k0_t9
  let c16_i32_364 : BitVec 32 := 16#32
  let v426 : BitVec 32 := Scalar.muli arg11 c16_i32_364
  let v431 : Index := Scalar.indexCast v426
  ![15, v431.toNat]
def k0_off27 (k0_t9 : Fin k0_t9_loop.trips) : Fin 2 → Nat :=
  let c7_i32 : BitVec 32 := 7#32
  let v438 : Index := Scalar.indexCast c7_i32
  let c0_i32_41 : BitVec 32 := 0#32
  let c1_i32_43 : BitVec 32 := 1#32
  let arg11 : BitVec 32 := Scf.iv c0_i32_41 c1_i32_43 k0_t9
  let c16_i32_364 : BitVec 32 := 16#32
  let v426 : BitVec 32 := Scalar.muli arg11 c16_i32_364
  let v439 : Index := Scalar.indexCast v426
  ![7, v439.toNat]
@[reducible] def k0_t10_loop : Scf.Loop 32 :=
  let c0_i32_46 : BitVec 32 := 0#32
  let c64_i32_47 : BitVec 32 := 64#32
  let v62 : BitVec 32 := Scalar.addi c0_i32_46 c64_i32_47
  let c1_i32_48 : BitVec 32 := 1#32
  ⟨c0_i32_46, v62, c1_i32_48⟩
def k0_off28 (k0_t10 : Fin k0_t10_loop.trips) : Fin 2 → Nat :=
  let c16_i32_365 : BitVec 32 := 16#32
  let v427 : Index := Scalar.indexCast c16_i32_365
  let c0_i32_46 : BitVec 32 := 0#32
  let c1_i32_48 : BitVec 32 := 1#32
  let arg11 : BitVec 32 := Scf.iv c0_i32_46 c1_i32_48 k0_t10
  let c16_i32_364 : BitVec 32 := 16#32
  let v426 : BitVec 32 := Scalar.muli arg11 c16_i32_364
  let v428 : Index := Scalar.indexCast v426
  ![16, v428.toNat]
def k0_off29 (k0_t10 : Fin k0_t10_loop.trips) : Fin 2 → Nat :=
  let c17_i32 : BitVec 32 := 17#32
  let v430 : Index := Scalar.indexCast c17_i32
  let c0_i32_46 : BitVec 32 := 0#32
  let c1_i32_48 : BitVec 32 := 1#32
  let arg11 : BitVec 32 := Scf.iv c0_i32_46 c1_i32_48 k0_t10
  let c16_i32_364 : BitVec 32 := 16#32
  let v426 : BitVec 32 := Scalar.muli arg11 c16_i32_364
  let v431 : Index := Scalar.indexCast v426
  ![17, v431.toNat]
def k0_off30 (k0_t10 : Fin k0_t10_loop.trips) : Fin 2 → Nat :=
  let c8_i32_366 : BitVec 32 := 8#32
  let v438 : Index := Scalar.indexCast c8_i32_366
  let c0_i32_46 : BitVec 32 := 0#32
  let c1_i32_48 : BitVec 32 := 1#32
  let arg11 : BitVec 32 := Scf.iv c0_i32_46 c1_i32_48 k0_t10
  let c16_i32_364 : BitVec 32 := 16#32
  let v426 : BitVec 32 := Scalar.muli arg11 c16_i32_364
  let v439 : Index := Scalar.indexCast v426
  ![8, v439.toNat]
@[reducible] def k0_t11_loop : Scf.Loop 32 :=
  let c0_i32_51 : BitVec 32 := 0#32
  let c64_i32_52 : BitVec 32 := 64#32
  let v68 : BitVec 32 := Scalar.addi c0_i32_51 c64_i32_52
  let c1_i32_53 : BitVec 32 := 1#32
  ⟨c0_i32_51, v68, c1_i32_53⟩
def k0_off31 (k0_t11 : Fin k0_t11_loop.trips) : Fin 2 → Nat :=
  let c18_i32 : BitVec 32 := 18#32
  let v427 : Index := Scalar.indexCast c18_i32
  let c0_i32_51 : BitVec 32 := 0#32
  let c1_i32_53 : BitVec 32 := 1#32
  let arg11 : BitVec 32 := Scf.iv c0_i32_51 c1_i32_53 k0_t11
  let c16_i32_364 : BitVec 32 := 16#32
  let v426 : BitVec 32 := Scalar.muli arg11 c16_i32_364
  let v428 : Index := Scalar.indexCast v426
  ![18, v428.toNat]
def k0_off32 (k0_t11 : Fin k0_t11_loop.trips) : Fin 2 → Nat :=
  let c19_i32 : BitVec 32 := 19#32
  let v430 : Index := Scalar.indexCast c19_i32
  let c0_i32_51 : BitVec 32 := 0#32
  let c1_i32_53 : BitVec 32 := 1#32
  let arg11 : BitVec 32 := Scf.iv c0_i32_51 c1_i32_53 k0_t11
  let c16_i32_364 : BitVec 32 := 16#32
  let v426 : BitVec 32 := Scalar.muli arg11 c16_i32_364
  let v431 : Index := Scalar.indexCast v426
  ![19, v431.toNat]
def k0_off33 (k0_t11 : Fin k0_t11_loop.trips) : Fin 2 → Nat :=
  let c9_i32 : BitVec 32 := 9#32
  let v438 : Index := Scalar.indexCast c9_i32
  let c0_i32_51 : BitVec 32 := 0#32
  let c1_i32_53 : BitVec 32 := 1#32
  let arg11 : BitVec 32 := Scf.iv c0_i32_51 c1_i32_53 k0_t11
  let c16_i32_364 : BitVec 32 := 16#32
  let v426 : BitVec 32 := Scalar.muli arg11 c16_i32_364
  let v439 : Index := Scalar.indexCast v426
  ![9, v439.toNat]
@[reducible] def k0_t12_loop : Scf.Loop 32 :=
  let c0_i32_56 : BitVec 32 := 0#32
  let c64_i32_57 : BitVec 32 := 64#32
  let v74 : BitVec 32 := Scalar.addi c0_i32_56 c64_i32_57
  let c1_i32_58 : BitVec 32 := 1#32
  ⟨c0_i32_56, v74, c1_i32_58⟩
def k0_off34 (k0_t12 : Fin k0_t12_loop.trips) : Fin 2 → Nat :=
  let c20_i32 : BitVec 32 := 20#32
  let v427 : Index := Scalar.indexCast c20_i32
  let c0_i32_56 : BitVec 32 := 0#32
  let c1_i32_58 : BitVec 32 := 1#32
  let arg11 : BitVec 32 := Scf.iv c0_i32_56 c1_i32_58 k0_t12
  let c16_i32_364 : BitVec 32 := 16#32
  let v426 : BitVec 32 := Scalar.muli arg11 c16_i32_364
  let v428 : Index := Scalar.indexCast v426
  ![20, v428.toNat]
def k0_off35 (k0_t12 : Fin k0_t12_loop.trips) : Fin 2 → Nat :=
  let c21_i32 : BitVec 32 := 21#32
  let v430 : Index := Scalar.indexCast c21_i32
  let c0_i32_56 : BitVec 32 := 0#32
  let c1_i32_58 : BitVec 32 := 1#32
  let arg11 : BitVec 32 := Scf.iv c0_i32_56 c1_i32_58 k0_t12
  let c16_i32_364 : BitVec 32 := 16#32
  let v426 : BitVec 32 := Scalar.muli arg11 c16_i32_364
  let v431 : Index := Scalar.indexCast v426
  ![21, v431.toNat]
def k0_off36 (k0_t12 : Fin k0_t12_loop.trips) : Fin 2 → Nat :=
  let c10_i32 : BitVec 32 := 10#32
  let v438 : Index := Scalar.indexCast c10_i32
  let c0_i32_56 : BitVec 32 := 0#32
  let c1_i32_58 : BitVec 32 := 1#32
  let arg11 : BitVec 32 := Scf.iv c0_i32_56 c1_i32_58 k0_t12
  let c16_i32_364 : BitVec 32 := 16#32
  let v426 : BitVec 32 := Scalar.muli arg11 c16_i32_364
  let v439 : Index := Scalar.indexCast v426
  ![10, v439.toNat]
@[reducible] def k0_t13_loop : Scf.Loop 32 :=
  let c0_i32_61 : BitVec 32 := 0#32
  let c64_i32_62 : BitVec 32 := 64#32
  let v80 : BitVec 32 := Scalar.addi c0_i32_61 c64_i32_62
  let c1_i32_63 : BitVec 32 := 1#32
  ⟨c0_i32_61, v80, c1_i32_63⟩
def k0_off37 (k0_t13 : Fin k0_t13_loop.trips) : Fin 2 → Nat :=
  let c22_i32 : BitVec 32 := 22#32
  let v427 : Index := Scalar.indexCast c22_i32
  let c0_i32_61 : BitVec 32 := 0#32
  let c1_i32_63 : BitVec 32 := 1#32
  let arg11 : BitVec 32 := Scf.iv c0_i32_61 c1_i32_63 k0_t13
  let c16_i32_364 : BitVec 32 := 16#32
  let v426 : BitVec 32 := Scalar.muli arg11 c16_i32_364
  let v428 : Index := Scalar.indexCast v426
  ![22, v428.toNat]
def k0_off38 (k0_t13 : Fin k0_t13_loop.trips) : Fin 2 → Nat :=
  let c23_i32 : BitVec 32 := 23#32
  let v430 : Index := Scalar.indexCast c23_i32
  let c0_i32_61 : BitVec 32 := 0#32
  let c1_i32_63 : BitVec 32 := 1#32
  let arg11 : BitVec 32 := Scf.iv c0_i32_61 c1_i32_63 k0_t13
  let c16_i32_364 : BitVec 32 := 16#32
  let v426 : BitVec 32 := Scalar.muli arg11 c16_i32_364
  let v431 : Index := Scalar.indexCast v426
  ![23, v431.toNat]
def k0_off39 (k0_t13 : Fin k0_t13_loop.trips) : Fin 2 → Nat :=
  let c11_i32 : BitVec 32 := 11#32
  let v438 : Index := Scalar.indexCast c11_i32
  let c0_i32_61 : BitVec 32 := 0#32
  let c1_i32_63 : BitVec 32 := 1#32
  let arg11 : BitVec 32 := Scf.iv c0_i32_61 c1_i32_63 k0_t13
  let c16_i32_364 : BitVec 32 := 16#32
  let v426 : BitVec 32 := Scalar.muli arg11 c16_i32_364
  let v439 : Index := Scalar.indexCast v426
  ![11, v439.toNat]
@[reducible] def k0_t14_loop : Scf.Loop 32 :=
  let c0_i32_66 : BitVec 32 := 0#32
  let c64_i32_67 : BitVec 32 := 64#32
  let v86 : BitVec 32 := Scalar.addi c0_i32_66 c64_i32_67
  let c1_i32_68 : BitVec 32 := 1#32
  ⟨c0_i32_66, v86, c1_i32_68⟩
def k0_off40 (k0_t14 : Fin k0_t14_loop.trips) : Fin 2 → Nat :=
  let c24_i32 : BitVec 32 := 24#32
  let v427 : Index := Scalar.indexCast c24_i32
  let c0_i32_66 : BitVec 32 := 0#32
  let c1_i32_68 : BitVec 32 := 1#32
  let arg11 : BitVec 32 := Scf.iv c0_i32_66 c1_i32_68 k0_t14
  let c16_i32_364 : BitVec 32 := 16#32
  let v426 : BitVec 32 := Scalar.muli arg11 c16_i32_364
  let v428 : Index := Scalar.indexCast v426
  ![24, v428.toNat]
def k0_off41 (k0_t14 : Fin k0_t14_loop.trips) : Fin 2 → Nat :=
  let c25_i32 : BitVec 32 := 25#32
  let v430 : Index := Scalar.indexCast c25_i32
  let c0_i32_66 : BitVec 32 := 0#32
  let c1_i32_68 : BitVec 32 := 1#32
  let arg11 : BitVec 32 := Scf.iv c0_i32_66 c1_i32_68 k0_t14
  let c16_i32_364 : BitVec 32 := 16#32
  let v426 : BitVec 32 := Scalar.muli arg11 c16_i32_364
  let v431 : Index := Scalar.indexCast v426
  ![25, v431.toNat]
def k0_off42 (k0_t14 : Fin k0_t14_loop.trips) : Fin 2 → Nat :=
  let c12_i32 : BitVec 32 := 12#32
  let v438 : Index := Scalar.indexCast c12_i32
  let c0_i32_66 : BitVec 32 := 0#32
  let c1_i32_68 : BitVec 32 := 1#32
  let arg11 : BitVec 32 := Scf.iv c0_i32_66 c1_i32_68 k0_t14
  let c16_i32_364 : BitVec 32 := 16#32
  let v426 : BitVec 32 := Scalar.muli arg11 c16_i32_364
  let v439 : Index := Scalar.indexCast v426
  ![12, v439.toNat]
@[reducible] def k0_t15_loop : Scf.Loop 32 :=
  let c0_i32_71 : BitVec 32 := 0#32
  let c64_i32_72 : BitVec 32 := 64#32
  let v92 : BitVec 32 := Scalar.addi c0_i32_71 c64_i32_72
  let c1_i32_73 : BitVec 32 := 1#32
  ⟨c0_i32_71, v92, c1_i32_73⟩
def k0_off43 (k0_t15 : Fin k0_t15_loop.trips) : Fin 2 → Nat :=
  let c26_i32 : BitVec 32 := 26#32
  let v427 : Index := Scalar.indexCast c26_i32
  let c0_i32_71 : BitVec 32 := 0#32
  let c1_i32_73 : BitVec 32 := 1#32
  let arg11 : BitVec 32 := Scf.iv c0_i32_71 c1_i32_73 k0_t15
  let c16_i32_364 : BitVec 32 := 16#32
  let v426 : BitVec 32 := Scalar.muli arg11 c16_i32_364
  let v428 : Index := Scalar.indexCast v426
  ![26, v428.toNat]
def k0_off44 (k0_t15 : Fin k0_t15_loop.trips) : Fin 2 → Nat :=
  let c27_i32 : BitVec 32 := 27#32
  let v430 : Index := Scalar.indexCast c27_i32
  let c0_i32_71 : BitVec 32 := 0#32
  let c1_i32_73 : BitVec 32 := 1#32
  let arg11 : BitVec 32 := Scf.iv c0_i32_71 c1_i32_73 k0_t15
  let c16_i32_364 : BitVec 32 := 16#32
  let v426 : BitVec 32 := Scalar.muli arg11 c16_i32_364
  let v431 : Index := Scalar.indexCast v426
  ![27, v431.toNat]
def k0_off45 (k0_t15 : Fin k0_t15_loop.trips) : Fin 2 → Nat :=
  let c13_i32 : BitVec 32 := 13#32
  let v438 : Index := Scalar.indexCast c13_i32
  let c0_i32_71 : BitVec 32 := 0#32
  let c1_i32_73 : BitVec 32 := 1#32
  let arg11 : BitVec 32 := Scf.iv c0_i32_71 c1_i32_73 k0_t15
  let c16_i32_364 : BitVec 32 := 16#32
  let v426 : BitVec 32 := Scalar.muli arg11 c16_i32_364
  let v439 : Index := Scalar.indexCast v426
  ![13, v439.toNat]
@[reducible] def k0_t16_loop : Scf.Loop 32 :=
  let c0_i32_76 : BitVec 32 := 0#32
  let c64_i32_77 : BitVec 32 := 64#32
  let v98 : BitVec 32 := Scalar.addi c0_i32_76 c64_i32_77
  let c1_i32_78 : BitVec 32 := 1#32
  ⟨c0_i32_76, v98, c1_i32_78⟩
def k0_off46 (k0_t16 : Fin k0_t16_loop.trips) : Fin 2 → Nat :=
  let c28_i32 : BitVec 32 := 28#32
  let v427 : Index := Scalar.indexCast c28_i32
  let c0_i32_76 : BitVec 32 := 0#32
  let c1_i32_78 : BitVec 32 := 1#32
  let arg11 : BitVec 32 := Scf.iv c0_i32_76 c1_i32_78 k0_t16
  let c16_i32_364 : BitVec 32 := 16#32
  let v426 : BitVec 32 := Scalar.muli arg11 c16_i32_364
  let v428 : Index := Scalar.indexCast v426
  ![28, v428.toNat]
def k0_off47 (k0_t16 : Fin k0_t16_loop.trips) : Fin 2 → Nat :=
  let c29_i32 : BitVec 32 := 29#32
  let v430 : Index := Scalar.indexCast c29_i32
  let c0_i32_76 : BitVec 32 := 0#32
  let c1_i32_78 : BitVec 32 := 1#32
  let arg11 : BitVec 32 := Scf.iv c0_i32_76 c1_i32_78 k0_t16
  let c16_i32_364 : BitVec 32 := 16#32
  let v426 : BitVec 32 := Scalar.muli arg11 c16_i32_364
  let v431 : Index := Scalar.indexCast v426
  ![29, v431.toNat]
def k0_off48 (k0_t16 : Fin k0_t16_loop.trips) : Fin 2 → Nat :=
  let c14_i32 : BitVec 32 := 14#32
  let v438 : Index := Scalar.indexCast c14_i32
  let c0_i32_76 : BitVec 32 := 0#32
  let c1_i32_78 : BitVec 32 := 1#32
  let arg11 : BitVec 32 := Scf.iv c0_i32_76 c1_i32_78 k0_t16
  let c16_i32_364 : BitVec 32 := 16#32
  let v426 : BitVec 32 := Scalar.muli arg11 c16_i32_364
  let v439 : Index := Scalar.indexCast v426
  ![14, v439.toNat]
@[reducible] def k0_t17_loop : Scf.Loop 32 :=
  let c0_i32_81 : BitVec 32 := 0#32
  let c64_i32_82 : BitVec 32 := 64#32
  let v104 : BitVec 32 := Scalar.addi c0_i32_81 c64_i32_82
  let c1_i32_83 : BitVec 32 := 1#32
  ⟨c0_i32_81, v104, c1_i32_83⟩
def k0_off49 (k0_t17 : Fin k0_t17_loop.trips) : Fin 2 → Nat :=
  let c30_i32 : BitVec 32 := 30#32
  let v427 : Index := Scalar.indexCast c30_i32
  let c0_i32_81 : BitVec 32 := 0#32
  let c1_i32_83 : BitVec 32 := 1#32
  let arg11 : BitVec 32 := Scf.iv c0_i32_81 c1_i32_83 k0_t17
  let c16_i32_364 : BitVec 32 := 16#32
  let v426 : BitVec 32 := Scalar.muli arg11 c16_i32_364
  let v428 : Index := Scalar.indexCast v426
  ![30, v428.toNat]
def k0_off50 (k0_t17 : Fin k0_t17_loop.trips) : Fin 2 → Nat :=
  let c31_i32 : BitVec 32 := 31#32
  let v430 : Index := Scalar.indexCast c31_i32
  let c0_i32_81 : BitVec 32 := 0#32
  let c1_i32_83 : BitVec 32 := 1#32
  let arg11 : BitVec 32 := Scf.iv c0_i32_81 c1_i32_83 k0_t17
  let c16_i32_364 : BitVec 32 := 16#32
  let v426 : BitVec 32 := Scalar.muli arg11 c16_i32_364
  let v431 : Index := Scalar.indexCast v426
  ![31, v431.toNat]
def k0_off51 (k0_t17 : Fin k0_t17_loop.trips) : Fin 2 → Nat :=
  let c15_i32 : BitVec 32 := 15#32
  let v438 : Index := Scalar.indexCast c15_i32
  let c0_i32_81 : BitVec 32 := 0#32
  let c1_i32_83 : BitVec 32 := 1#32
  let arg11 : BitVec 32 := Scf.iv c0_i32_81 c1_i32_83 k0_t17
  let c16_i32_364 : BitVec 32 := 16#32
  let v426 : BitVec 32 := Scalar.muli arg11 c16_i32_364
  let v439 : Index := Scalar.indexCast v426
  ![15, v439.toNat]
def k0_off52 (i : grid0.Coords) (c0_i32_86 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_85 : BitVec 32 := 64#32
  let v106 : BitVec 32 := Scalar.muli v1 c64_i32_85
  let v107 : BitVec 32 := Scalar.addi v106 c0_i32_86
  let c0_i32_364_r2 : BitVec 32 := 0#32
  ![v107.toNat, 0]
@[reducible] def k0_t18_loop : Scf.Loop 32 :=
  let c0_i32_92 : BitVec 32 := 0#32
  let c8_i32_93 : BitVec 32 := 8#32
  let v112 : BitVec 32 := Scalar.addi c0_i32_92 c8_i32_93
  let c1_i32_94 : BitVec 32 := 1#32
  ⟨c0_i32_92, v112, c1_i32_94⟩
def k0_mult2 (k0_t18 : Fin k0_t18_loop.trips) : BitVec 32 :=
  let c0_i32_92 : BitVec 32 := 0#32
  let c1_i32_94 : BitVec 32 := 1#32
  let arg11 : BitVec 32 := Scf.iv c0_i32_92 c1_i32_94 k0_t18
  let c128_i32_364 : BitVec 32 := 128#32
  let v426 : BitVec 32 := Scalar.muli arg11 c128_i32_364
  v426
def k0_off53 (k0_t18 : Fin k0_t18_loop.trips) : Fin 2 → Nat :=
  let c0_i32_366 : BitVec 32 := 0#32
  let c0_i32_92 : BitVec 32 := 0#32
  let c1_i32_94 : BitVec 32 := 1#32
  let arg11 : BitVec 32 := Scf.iv c0_i32_92 c1_i32_94 k0_t18
  let c128_i32_364 : BitVec 32 := 128#32
  let v426 : BitVec 32 := Scalar.muli arg11 c128_i32_364
  let v427 : BitVec 32 := v426
  ![0, v427.toNat]
def k0_off54 (k0_t18 : Fin k0_t18_loop.trips) : Fin 2 → Nat :=
  let c0_i32_368 : BitVec 32 := 0#32
  let c0_i32_92 : BitVec 32 := 0#32
  let c1_i32_94 : BitVec 32 := 1#32
  let arg11 : BitVec 32 := Scf.iv c0_i32_92 c1_i32_94 k0_t18
  let c128_i32_364 : BitVec 32 := 128#32
  let v426 : BitVec 32 := Scalar.muli arg11 c128_i32_364
  let v427 : BitVec 32 := v426
  ![0, v427.toNat]
@[reducible] def k0_t19_loop : Scf.Loop 32 :=
  let c0_i32_99 : BitVec 32 := 0#32
  let c64_i32_100 : BitVec 32 := 64#32
  let v120 : BitVec 32 := Scalar.addi c0_i32_99 c64_i32_100
  let c1_i32_101 : BitVec 32 := 1#32
  ⟨c0_i32_99, v120, c1_i32_101⟩
def k0_off55 (k0_t19 : Fin k0_t19_loop.trips) : Fin 2 → Nat :=
  let c0_i32_365 : BitVec 32 := 0#32
  let v427 : Index := Scalar.indexCast c0_i32_365
  let c0_i32_99 : BitVec 32 := 0#32
  let c1_i32_101 : BitVec 32 := 1#32
  let arg11 : BitVec 32 := Scf.iv c0_i32_99 c1_i32_101 k0_t19
  let c16_i32_364 : BitVec 32 := 16#32
  let v426 : BitVec 32 := Scalar.muli arg11 c16_i32_364
  let v428 : Index := Scalar.indexCast v426
  ![0, v428.toNat]
def k0_off56 (k0_t19 : Fin k0_t19_loop.trips) : Fin 2 → Nat :=
  let c1_i32_366 : BitVec 32 := 1#32
  let v430 : Index := Scalar.indexCast c1_i32_366
  let c0_i32_99 : BitVec 32 := 0#32
  let c1_i32_101 : BitVec 32 := 1#32
  let arg11 : BitVec 32 := Scf.iv c0_i32_99 c1_i32_101 k0_t19
  let c16_i32_364 : BitVec 32 := 16#32
  let v426 : BitVec 32 := Scalar.muli arg11 c16_i32_364
  let v431 : Index := Scalar.indexCast v426
  ![1, v431.toNat]
def k0_off57 (k0_t19 : Fin k0_t19_loop.trips) : Fin 2 → Nat :=
  let c0_i32_367 : BitVec 32 := 0#32
  let v438 : Index := Scalar.indexCast c0_i32_367
  let c0_i32_99 : BitVec 32 := 0#32
  let c1_i32_101 : BitVec 32 := 1#32
  let arg11 : BitVec 32 := Scf.iv c0_i32_99 c1_i32_101 k0_t19
  let c16_i32_364 : BitVec 32 := 16#32
  let v426 : BitVec 32 := Scalar.muli arg11 c16_i32_364
  let v439 : Index := Scalar.indexCast v426
  ![0, v439.toNat]
@[reducible] def k0_t20_loop : Scf.Loop 32 :=
  let c0_i32_104 : BitVec 32 := 0#32
  let c64_i32_105 : BitVec 32 := 64#32
  let v126 : BitVec 32 := Scalar.addi c0_i32_104 c64_i32_105
  let c1_i32_106 : BitVec 32 := 1#32
  ⟨c0_i32_104, v126, c1_i32_106⟩
def k0_off58 (k0_t20 : Fin k0_t20_loop.trips) : Fin 2 → Nat :=
  let c2_i32_365 : BitVec 32 := 2#32
  let v427 : Index := Scalar.indexCast c2_i32_365
  let c0_i32_104 : BitVec 32 := 0#32
  let c1_i32_106 : BitVec 32 := 1#32
  let arg11 : BitVec 32 := Scf.iv c0_i32_104 c1_i32_106 k0_t20
  let c16_i32_364 : BitVec 32 := 16#32
  let v426 : BitVec 32 := Scalar.muli arg11 c16_i32_364
  let v428 : Index := Scalar.indexCast v426
  ![2, v428.toNat]
def k0_off59 (k0_t20 : Fin k0_t20_loop.trips) : Fin 2 → Nat :=
  let c3_i32_366 : BitVec 32 := 3#32
  let v430 : Index := Scalar.indexCast c3_i32_366
  let c0_i32_104 : BitVec 32 := 0#32
  let c1_i32_106 : BitVec 32 := 1#32
  let arg11 : BitVec 32 := Scf.iv c0_i32_104 c1_i32_106 k0_t20
  let c16_i32_364 : BitVec 32 := 16#32
  let v426 : BitVec 32 := Scalar.muli arg11 c16_i32_364
  let v431 : Index := Scalar.indexCast v426
  ![3, v431.toNat]
def k0_off60 (k0_t20 : Fin k0_t20_loop.trips) : Fin 2 → Nat :=
  let c1_i32_367 : BitVec 32 := 1#32
  let v438 : Index := Scalar.indexCast c1_i32_367
  let c0_i32_104 : BitVec 32 := 0#32
  let c1_i32_106 : BitVec 32 := 1#32
  let arg11 : BitVec 32 := Scf.iv c0_i32_104 c1_i32_106 k0_t20
  let c16_i32_364 : BitVec 32 := 16#32
  let v426 : BitVec 32 := Scalar.muli arg11 c16_i32_364
  let v439 : Index := Scalar.indexCast v426
  ![1, v439.toNat]
@[reducible] def k0_t21_loop : Scf.Loop 32 :=
  let c0_i32_109 : BitVec 32 := 0#32
  let c64_i32_110 : BitVec 32 := 64#32
  let v132 : BitVec 32 := Scalar.addi c0_i32_109 c64_i32_110
  let c1_i32_111 : BitVec 32 := 1#32
  ⟨c0_i32_109, v132, c1_i32_111⟩
def k0_off61 (k0_t21 : Fin k0_t21_loop.trips) : Fin 2 → Nat :=
  let c4_i32 : BitVec 32 := 4#32
  let v427 : Index := Scalar.indexCast c4_i32
  let c0_i32_109 : BitVec 32 := 0#32
  let c1_i32_111 : BitVec 32 := 1#32
  let arg11 : BitVec 32 := Scf.iv c0_i32_109 c1_i32_111 k0_t21
  let c16_i32_364 : BitVec 32 := 16#32
  let v426 : BitVec 32 := Scalar.muli arg11 c16_i32_364
  let v428 : Index := Scalar.indexCast v426
  ![4, v428.toNat]
def k0_off62 (k0_t21 : Fin k0_t21_loop.trips) : Fin 2 → Nat :=
  let c5_i32 : BitVec 32 := 5#32
  let v430 : Index := Scalar.indexCast c5_i32
  let c0_i32_109 : BitVec 32 := 0#32
  let c1_i32_111 : BitVec 32 := 1#32
  let arg11 : BitVec 32 := Scf.iv c0_i32_109 c1_i32_111 k0_t21
  let c16_i32_364 : BitVec 32 := 16#32
  let v426 : BitVec 32 := Scalar.muli arg11 c16_i32_364
  let v431 : Index := Scalar.indexCast v426
  ![5, v431.toNat]
def k0_off63 (k0_t21 : Fin k0_t21_loop.trips) : Fin 2 → Nat :=
  let c2_i32_365 : BitVec 32 := 2#32
  let v438 : Index := Scalar.indexCast c2_i32_365
  let c0_i32_109 : BitVec 32 := 0#32
  let c1_i32_111 : BitVec 32 := 1#32
  let arg11 : BitVec 32 := Scf.iv c0_i32_109 c1_i32_111 k0_t21
  let c16_i32_364 : BitVec 32 := 16#32
  let v426 : BitVec 32 := Scalar.muli arg11 c16_i32_364
  let v439 : Index := Scalar.indexCast v426
  ![2, v439.toNat]
@[reducible] def k0_t22_loop : Scf.Loop 32 :=
  let c0_i32_114 : BitVec 32 := 0#32
  let c64_i32_115 : BitVec 32 := 64#32
  let v138 : BitVec 32 := Scalar.addi c0_i32_114 c64_i32_115
  let c1_i32_116 : BitVec 32 := 1#32
  ⟨c0_i32_114, v138, c1_i32_116⟩
def k0_off64 (k0_t22 : Fin k0_t22_loop.trips) : Fin 2 → Nat :=
  let c6_i32 : BitVec 32 := 6#32
  let v427 : Index := Scalar.indexCast c6_i32
  let c0_i32_114 : BitVec 32 := 0#32
  let c1_i32_116 : BitVec 32 := 1#32
  let arg11 : BitVec 32 := Scf.iv c0_i32_114 c1_i32_116 k0_t22
  let c16_i32_364 : BitVec 32 := 16#32
  let v426 : BitVec 32 := Scalar.muli arg11 c16_i32_364
  let v428 : Index := Scalar.indexCast v426
  ![6, v428.toNat]
def k0_off65 (k0_t22 : Fin k0_t22_loop.trips) : Fin 2 → Nat :=
  let c7_i32 : BitVec 32 := 7#32
  let v430 : Index := Scalar.indexCast c7_i32
  let c0_i32_114 : BitVec 32 := 0#32
  let c1_i32_116 : BitVec 32 := 1#32
  let arg11 : BitVec 32 := Scf.iv c0_i32_114 c1_i32_116 k0_t22
  let c16_i32_364 : BitVec 32 := 16#32
  let v426 : BitVec 32 := Scalar.muli arg11 c16_i32_364
  let v431 : Index := Scalar.indexCast v426
  ![7, v431.toNat]
def k0_off66 (k0_t22 : Fin k0_t22_loop.trips) : Fin 2 → Nat :=
  let c3_i32_365 : BitVec 32 := 3#32
  let v438 : Index := Scalar.indexCast c3_i32_365
  let c0_i32_114 : BitVec 32 := 0#32
  let c1_i32_116 : BitVec 32 := 1#32
  let arg11 : BitVec 32 := Scf.iv c0_i32_114 c1_i32_116 k0_t22
  let c16_i32_364 : BitVec 32 := 16#32
  let v426 : BitVec 32 := Scalar.muli arg11 c16_i32_364
  let v439 : Index := Scalar.indexCast v426
  ![3, v439.toNat]
@[reducible] def k0_t23_loop : Scf.Loop 32 :=
  let c0_i32_119 : BitVec 32 := 0#32
  let c64_i32_120 : BitVec 32 := 64#32
  let v144 : BitVec 32 := Scalar.addi c0_i32_119 c64_i32_120
  let c1_i32_121 : BitVec 32 := 1#32
  ⟨c0_i32_119, v144, c1_i32_121⟩
def k0_off67 (k0_t23 : Fin k0_t23_loop.trips) : Fin 2 → Nat :=
  let c8_i32_365 : BitVec 32 := 8#32
  let v427 : Index := Scalar.indexCast c8_i32_365
  let c0_i32_119 : BitVec 32 := 0#32
  let c1_i32_121 : BitVec 32 := 1#32
  let arg11 : BitVec 32 := Scf.iv c0_i32_119 c1_i32_121 k0_t23
  let c16_i32_364 : BitVec 32 := 16#32
  let v426 : BitVec 32 := Scalar.muli arg11 c16_i32_364
  let v428 : Index := Scalar.indexCast v426
  ![8, v428.toNat]
def k0_off68 (k0_t23 : Fin k0_t23_loop.trips) : Fin 2 → Nat :=
  let c9_i32 : BitVec 32 := 9#32
  let v430 : Index := Scalar.indexCast c9_i32
  let c0_i32_119 : BitVec 32 := 0#32
  let c1_i32_121 : BitVec 32 := 1#32
  let arg11 : BitVec 32 := Scf.iv c0_i32_119 c1_i32_121 k0_t23
  let c16_i32_364 : BitVec 32 := 16#32
  let v426 : BitVec 32 := Scalar.muli arg11 c16_i32_364
  let v431 : Index := Scalar.indexCast v426
  ![9, v431.toNat]
def k0_off69 (k0_t23 : Fin k0_t23_loop.trips) : Fin 2 → Nat :=
  let c4_i32 : BitVec 32 := 4#32
  let v438 : Index := Scalar.indexCast c4_i32
  let c0_i32_119 : BitVec 32 := 0#32
  let c1_i32_121 : BitVec 32 := 1#32
  let arg11 : BitVec 32 := Scf.iv c0_i32_119 c1_i32_121 k0_t23
  let c16_i32_364 : BitVec 32 := 16#32
  let v426 : BitVec 32 := Scalar.muli arg11 c16_i32_364
  let v439 : Index := Scalar.indexCast v426
  ![4, v439.toNat]
@[reducible] def k0_t24_loop : Scf.Loop 32 :=
  let c0_i32_124 : BitVec 32 := 0#32
  let c64_i32_125 : BitVec 32 := 64#32
  let v150 : BitVec 32 := Scalar.addi c0_i32_124 c64_i32_125
  let c1_i32_126 : BitVec 32 := 1#32
  ⟨c0_i32_124, v150, c1_i32_126⟩
def k0_off70 (k0_t24 : Fin k0_t24_loop.trips) : Fin 2 → Nat :=
  let c10_i32 : BitVec 32 := 10#32
  let v427 : Index := Scalar.indexCast c10_i32
  let c0_i32_124 : BitVec 32 := 0#32
  let c1_i32_126 : BitVec 32 := 1#32
  let arg11 : BitVec 32 := Scf.iv c0_i32_124 c1_i32_126 k0_t24
  let c16_i32_364 : BitVec 32 := 16#32
  let v426 : BitVec 32 := Scalar.muli arg11 c16_i32_364
  let v428 : Index := Scalar.indexCast v426
  ![10, v428.toNat]
def k0_off71 (k0_t24 : Fin k0_t24_loop.trips) : Fin 2 → Nat :=
  let c11_i32 : BitVec 32 := 11#32
  let v430 : Index := Scalar.indexCast c11_i32
  let c0_i32_124 : BitVec 32 := 0#32
  let c1_i32_126 : BitVec 32 := 1#32
  let arg11 : BitVec 32 := Scf.iv c0_i32_124 c1_i32_126 k0_t24
  let c16_i32_364 : BitVec 32 := 16#32
  let v426 : BitVec 32 := Scalar.muli arg11 c16_i32_364
  let v431 : Index := Scalar.indexCast v426
  ![11, v431.toNat]
def k0_off72 (k0_t24 : Fin k0_t24_loop.trips) : Fin 2 → Nat :=
  let c5_i32 : BitVec 32 := 5#32
  let v438 : Index := Scalar.indexCast c5_i32
  let c0_i32_124 : BitVec 32 := 0#32
  let c1_i32_126 : BitVec 32 := 1#32
  let arg11 : BitVec 32 := Scf.iv c0_i32_124 c1_i32_126 k0_t24
  let c16_i32_364 : BitVec 32 := 16#32
  let v426 : BitVec 32 := Scalar.muli arg11 c16_i32_364
  let v439 : Index := Scalar.indexCast v426
  ![5, v439.toNat]
@[reducible] def k0_t25_loop : Scf.Loop 32 :=
  let c0_i32_129 : BitVec 32 := 0#32
  let c64_i32_130 : BitVec 32 := 64#32
  let v156 : BitVec 32 := Scalar.addi c0_i32_129 c64_i32_130
  let c1_i32_131 : BitVec 32 := 1#32
  ⟨c0_i32_129, v156, c1_i32_131⟩
def k0_off73 (k0_t25 : Fin k0_t25_loop.trips) : Fin 2 → Nat :=
  let c12_i32 : BitVec 32 := 12#32
  let v427 : Index := Scalar.indexCast c12_i32
  let c0_i32_129 : BitVec 32 := 0#32
  let c1_i32_131 : BitVec 32 := 1#32
  let arg11 : BitVec 32 := Scf.iv c0_i32_129 c1_i32_131 k0_t25
  let c16_i32_364 : BitVec 32 := 16#32
  let v426 : BitVec 32 := Scalar.muli arg11 c16_i32_364
  let v428 : Index := Scalar.indexCast v426
  ![12, v428.toNat]
def k0_off74 (k0_t25 : Fin k0_t25_loop.trips) : Fin 2 → Nat :=
  let c13_i32 : BitVec 32 := 13#32
  let v430 : Index := Scalar.indexCast c13_i32
  let c0_i32_129 : BitVec 32 := 0#32
  let c1_i32_131 : BitVec 32 := 1#32
  let arg11 : BitVec 32 := Scf.iv c0_i32_129 c1_i32_131 k0_t25
  let c16_i32_364 : BitVec 32 := 16#32
  let v426 : BitVec 32 := Scalar.muli arg11 c16_i32_364
  let v431 : Index := Scalar.indexCast v426
  ![13, v431.toNat]
def k0_off75 (k0_t25 : Fin k0_t25_loop.trips) : Fin 2 → Nat :=
  let c6_i32 : BitVec 32 := 6#32
  let v438 : Index := Scalar.indexCast c6_i32
  let c0_i32_129 : BitVec 32 := 0#32
  let c1_i32_131 : BitVec 32 := 1#32
  let arg11 : BitVec 32 := Scf.iv c0_i32_129 c1_i32_131 k0_t25
  let c16_i32_364 : BitVec 32 := 16#32
  let v426 : BitVec 32 := Scalar.muli arg11 c16_i32_364
  let v439 : Index := Scalar.indexCast v426
  ![6, v439.toNat]
@[reducible] def k0_t26_loop : Scf.Loop 32 :=
  let c0_i32_134 : BitVec 32 := 0#32
  let c64_i32_135 : BitVec 32 := 64#32
  let v162 : BitVec 32 := Scalar.addi c0_i32_134 c64_i32_135
  let c1_i32_136 : BitVec 32 := 1#32
  ⟨c0_i32_134, v162, c1_i32_136⟩
def k0_off76 (k0_t26 : Fin k0_t26_loop.trips) : Fin 2 → Nat :=
  let c14_i32 : BitVec 32 := 14#32
  let v427 : Index := Scalar.indexCast c14_i32
  let c0_i32_134 : BitVec 32 := 0#32
  let c1_i32_136 : BitVec 32 := 1#32
  let arg11 : BitVec 32 := Scf.iv c0_i32_134 c1_i32_136 k0_t26
  let c16_i32_364 : BitVec 32 := 16#32
  let v426 : BitVec 32 := Scalar.muli arg11 c16_i32_364
  let v428 : Index := Scalar.indexCast v426
  ![14, v428.toNat]
def k0_off77 (k0_t26 : Fin k0_t26_loop.trips) : Fin 2 → Nat :=
  let c15_i32 : BitVec 32 := 15#32
  let v430 : Index := Scalar.indexCast c15_i32
  let c0_i32_134 : BitVec 32 := 0#32
  let c1_i32_136 : BitVec 32 := 1#32
  let arg11 : BitVec 32 := Scf.iv c0_i32_134 c1_i32_136 k0_t26
  let c16_i32_364 : BitVec 32 := 16#32
  let v426 : BitVec 32 := Scalar.muli arg11 c16_i32_364
  let v431 : Index := Scalar.indexCast v426
  ![15, v431.toNat]
def k0_off78 (k0_t26 : Fin k0_t26_loop.trips) : Fin 2 → Nat :=
  let c7_i32 : BitVec 32 := 7#32
  let v438 : Index := Scalar.indexCast c7_i32
  let c0_i32_134 : BitVec 32 := 0#32
  let c1_i32_136 : BitVec 32 := 1#32
  let arg11 : BitVec 32 := Scf.iv c0_i32_134 c1_i32_136 k0_t26
  let c16_i32_364 : BitVec 32 := 16#32
  let v426 : BitVec 32 := Scalar.muli arg11 c16_i32_364
  let v439 : Index := Scalar.indexCast v426
  ![7, v439.toNat]
@[reducible] def k0_t27_loop : Scf.Loop 32 :=
  let c0_i32_139 : BitVec 32 := 0#32
  let c64_i32_140 : BitVec 32 := 64#32
  let v168 : BitVec 32 := Scalar.addi c0_i32_139 c64_i32_140
  let c1_i32_141 : BitVec 32 := 1#32
  ⟨c0_i32_139, v168, c1_i32_141⟩
def k0_off79 (k0_t27 : Fin k0_t27_loop.trips) : Fin 2 → Nat :=
  let c16_i32_365 : BitVec 32 := 16#32
  let v427 : Index := Scalar.indexCast c16_i32_365
  let c0_i32_139 : BitVec 32 := 0#32
  let c1_i32_141 : BitVec 32 := 1#32
  let arg11 : BitVec 32 := Scf.iv c0_i32_139 c1_i32_141 k0_t27
  let c16_i32_364 : BitVec 32 := 16#32
  let v426 : BitVec 32 := Scalar.muli arg11 c16_i32_364
  let v428 : Index := Scalar.indexCast v426
  ![16, v428.toNat]
def k0_off80 (k0_t27 : Fin k0_t27_loop.trips) : Fin 2 → Nat :=
  let c17_i32 : BitVec 32 := 17#32
  let v430 : Index := Scalar.indexCast c17_i32
  let c0_i32_139 : BitVec 32 := 0#32
  let c1_i32_141 : BitVec 32 := 1#32
  let arg11 : BitVec 32 := Scf.iv c0_i32_139 c1_i32_141 k0_t27
  let c16_i32_364 : BitVec 32 := 16#32
  let v426 : BitVec 32 := Scalar.muli arg11 c16_i32_364
  let v431 : Index := Scalar.indexCast v426
  ![17, v431.toNat]
def k0_off81 (k0_t27 : Fin k0_t27_loop.trips) : Fin 2 → Nat :=
  let c8_i32_366 : BitVec 32 := 8#32
  let v438 : Index := Scalar.indexCast c8_i32_366
  let c0_i32_139 : BitVec 32 := 0#32
  let c1_i32_141 : BitVec 32 := 1#32
  let arg11 : BitVec 32 := Scf.iv c0_i32_139 c1_i32_141 k0_t27
  let c16_i32_364 : BitVec 32 := 16#32
  let v426 : BitVec 32 := Scalar.muli arg11 c16_i32_364
  let v439 : Index := Scalar.indexCast v426
  ![8, v439.toNat]
@[reducible] def k0_t28_loop : Scf.Loop 32 :=
  let c0_i32_144 : BitVec 32 := 0#32
  let c64_i32_145 : BitVec 32 := 64#32
  let v174 : BitVec 32 := Scalar.addi c0_i32_144 c64_i32_145
  let c1_i32_146 : BitVec 32 := 1#32
  ⟨c0_i32_144, v174, c1_i32_146⟩
def k0_off82 (k0_t28 : Fin k0_t28_loop.trips) : Fin 2 → Nat :=
  let c18_i32 : BitVec 32 := 18#32
  let v427 : Index := Scalar.indexCast c18_i32
  let c0_i32_144 : BitVec 32 := 0#32
  let c1_i32_146 : BitVec 32 := 1#32
  let arg11 : BitVec 32 := Scf.iv c0_i32_144 c1_i32_146 k0_t28
  let c16_i32_364 : BitVec 32 := 16#32
  let v426 : BitVec 32 := Scalar.muli arg11 c16_i32_364
  let v428 : Index := Scalar.indexCast v426
  ![18, v428.toNat]
def k0_off83 (k0_t28 : Fin k0_t28_loop.trips) : Fin 2 → Nat :=
  let c19_i32 : BitVec 32 := 19#32
  let v430 : Index := Scalar.indexCast c19_i32
  let c0_i32_144 : BitVec 32 := 0#32
  let c1_i32_146 : BitVec 32 := 1#32
  let arg11 : BitVec 32 := Scf.iv c0_i32_144 c1_i32_146 k0_t28
  let c16_i32_364 : BitVec 32 := 16#32
  let v426 : BitVec 32 := Scalar.muli arg11 c16_i32_364
  let v431 : Index := Scalar.indexCast v426
  ![19, v431.toNat]
def k0_off84 (k0_t28 : Fin k0_t28_loop.trips) : Fin 2 → Nat :=
  let c9_i32 : BitVec 32 := 9#32
  let v438 : Index := Scalar.indexCast c9_i32
  let c0_i32_144 : BitVec 32 := 0#32
  let c1_i32_146 : BitVec 32 := 1#32
  let arg11 : BitVec 32 := Scf.iv c0_i32_144 c1_i32_146 k0_t28
  let c16_i32_364 : BitVec 32 := 16#32
  let v426 : BitVec 32 := Scalar.muli arg11 c16_i32_364
  let v439 : Index := Scalar.indexCast v426
  ![9, v439.toNat]
@[reducible] def k0_t29_loop : Scf.Loop 32 :=
  let c0_i32_149 : BitVec 32 := 0#32
  let c64_i32_150 : BitVec 32 := 64#32
  let v180 : BitVec 32 := Scalar.addi c0_i32_149 c64_i32_150
  let c1_i32_151 : BitVec 32 := 1#32
  ⟨c0_i32_149, v180, c1_i32_151⟩
def k0_off85 (k0_t29 : Fin k0_t29_loop.trips) : Fin 2 → Nat :=
  let c20_i32 : BitVec 32 := 20#32
  let v427 : Index := Scalar.indexCast c20_i32
  let c0_i32_149 : BitVec 32 := 0#32
  let c1_i32_151 : BitVec 32 := 1#32
  let arg11 : BitVec 32 := Scf.iv c0_i32_149 c1_i32_151 k0_t29
  let c16_i32_364 : BitVec 32 := 16#32
  let v426 : BitVec 32 := Scalar.muli arg11 c16_i32_364
  let v428 : Index := Scalar.indexCast v426
  ![20, v428.toNat]
def k0_off86 (k0_t29 : Fin k0_t29_loop.trips) : Fin 2 → Nat :=
  let c21_i32 : BitVec 32 := 21#32
  let v430 : Index := Scalar.indexCast c21_i32
  let c0_i32_149 : BitVec 32 := 0#32
  let c1_i32_151 : BitVec 32 := 1#32
  let arg11 : BitVec 32 := Scf.iv c0_i32_149 c1_i32_151 k0_t29
  let c16_i32_364 : BitVec 32 := 16#32
  let v426 : BitVec 32 := Scalar.muli arg11 c16_i32_364
  let v431 : Index := Scalar.indexCast v426
  ![21, v431.toNat]
def k0_off87 (k0_t29 : Fin k0_t29_loop.trips) : Fin 2 → Nat :=
  let c10_i32 : BitVec 32 := 10#32
  let v438 : Index := Scalar.indexCast c10_i32
  let c0_i32_149 : BitVec 32 := 0#32
  let c1_i32_151 : BitVec 32 := 1#32
  let arg11 : BitVec 32 := Scf.iv c0_i32_149 c1_i32_151 k0_t29
  let c16_i32_364 : BitVec 32 := 16#32
  let v426 : BitVec 32 := Scalar.muli arg11 c16_i32_364
  let v439 : Index := Scalar.indexCast v426
  ![10, v439.toNat]
@[reducible] def k0_t30_loop : Scf.Loop 32 :=
  let c0_i32_154 : BitVec 32 := 0#32
  let c64_i32_155 : BitVec 32 := 64#32
  let v186 : BitVec 32 := Scalar.addi c0_i32_154 c64_i32_155
  let c1_i32_156 : BitVec 32 := 1#32
  ⟨c0_i32_154, v186, c1_i32_156⟩
def k0_off88 (k0_t30 : Fin k0_t30_loop.trips) : Fin 2 → Nat :=
  let c22_i32 : BitVec 32 := 22#32
  let v427 : Index := Scalar.indexCast c22_i32
  let c0_i32_154 : BitVec 32 := 0#32
  let c1_i32_156 : BitVec 32 := 1#32
  let arg11 : BitVec 32 := Scf.iv c0_i32_154 c1_i32_156 k0_t30
  let c16_i32_364 : BitVec 32 := 16#32
  let v426 : BitVec 32 := Scalar.muli arg11 c16_i32_364
  let v428 : Index := Scalar.indexCast v426
  ![22, v428.toNat]
def k0_off89 (k0_t30 : Fin k0_t30_loop.trips) : Fin 2 → Nat :=
  let c23_i32 : BitVec 32 := 23#32
  let v430 : Index := Scalar.indexCast c23_i32
  let c0_i32_154 : BitVec 32 := 0#32
  let c1_i32_156 : BitVec 32 := 1#32
  let arg11 : BitVec 32 := Scf.iv c0_i32_154 c1_i32_156 k0_t30
  let c16_i32_364 : BitVec 32 := 16#32
  let v426 : BitVec 32 := Scalar.muli arg11 c16_i32_364
  let v431 : Index := Scalar.indexCast v426
  ![23, v431.toNat]
def k0_off90 (k0_t30 : Fin k0_t30_loop.trips) : Fin 2 → Nat :=
  let c11_i32 : BitVec 32 := 11#32
  let v438 : Index := Scalar.indexCast c11_i32
  let c0_i32_154 : BitVec 32 := 0#32
  let c1_i32_156 : BitVec 32 := 1#32
  let arg11 : BitVec 32 := Scf.iv c0_i32_154 c1_i32_156 k0_t30
  let c16_i32_364 : BitVec 32 := 16#32
  let v426 : BitVec 32 := Scalar.muli arg11 c16_i32_364
  let v439 : Index := Scalar.indexCast v426
  ![11, v439.toNat]
@[reducible] def k0_t31_loop : Scf.Loop 32 :=
  let c0_i32_159 : BitVec 32 := 0#32
  let c64_i32_160 : BitVec 32 := 64#32
  let v192 : BitVec 32 := Scalar.addi c0_i32_159 c64_i32_160
  let c1_i32_161 : BitVec 32 := 1#32
  ⟨c0_i32_159, v192, c1_i32_161⟩
def k0_off91 (k0_t31 : Fin k0_t31_loop.trips) : Fin 2 → Nat :=
  let c24_i32 : BitVec 32 := 24#32
  let v427 : Index := Scalar.indexCast c24_i32
  let c0_i32_159 : BitVec 32 := 0#32
  let c1_i32_161 : BitVec 32 := 1#32
  let arg11 : BitVec 32 := Scf.iv c0_i32_159 c1_i32_161 k0_t31
  let c16_i32_364 : BitVec 32 := 16#32
  let v426 : BitVec 32 := Scalar.muli arg11 c16_i32_364
  let v428 : Index := Scalar.indexCast v426
  ![24, v428.toNat]
def k0_off92 (k0_t31 : Fin k0_t31_loop.trips) : Fin 2 → Nat :=
  let c25_i32 : BitVec 32 := 25#32
  let v430 : Index := Scalar.indexCast c25_i32
  let c0_i32_159 : BitVec 32 := 0#32
  let c1_i32_161 : BitVec 32 := 1#32
  let arg11 : BitVec 32 := Scf.iv c0_i32_159 c1_i32_161 k0_t31
  let c16_i32_364 : BitVec 32 := 16#32
  let v426 : BitVec 32 := Scalar.muli arg11 c16_i32_364
  let v431 : Index := Scalar.indexCast v426
  ![25, v431.toNat]
def k0_off93 (k0_t31 : Fin k0_t31_loop.trips) : Fin 2 → Nat :=
  let c12_i32 : BitVec 32 := 12#32
  let v438 : Index := Scalar.indexCast c12_i32
  let c0_i32_159 : BitVec 32 := 0#32
  let c1_i32_161 : BitVec 32 := 1#32
  let arg11 : BitVec 32 := Scf.iv c0_i32_159 c1_i32_161 k0_t31
  let c16_i32_364 : BitVec 32 := 16#32
  let v426 : BitVec 32 := Scalar.muli arg11 c16_i32_364
  let v439 : Index := Scalar.indexCast v426
  ![12, v439.toNat]
@[reducible] def k0_t32_loop : Scf.Loop 32 :=
  let c0_i32_164 : BitVec 32 := 0#32
  let c64_i32_165 : BitVec 32 := 64#32
  let v198 : BitVec 32 := Scalar.addi c0_i32_164 c64_i32_165
  let c1_i32_166 : BitVec 32 := 1#32
  ⟨c0_i32_164, v198, c1_i32_166⟩
def k0_off94 (k0_t32 : Fin k0_t32_loop.trips) : Fin 2 → Nat :=
  let c26_i32 : BitVec 32 := 26#32
  let v427 : Index := Scalar.indexCast c26_i32
  let c0_i32_164 : BitVec 32 := 0#32
  let c1_i32_166 : BitVec 32 := 1#32
  let arg11 : BitVec 32 := Scf.iv c0_i32_164 c1_i32_166 k0_t32
  let c16_i32_364 : BitVec 32 := 16#32
  let v426 : BitVec 32 := Scalar.muli arg11 c16_i32_364
  let v428 : Index := Scalar.indexCast v426
  ![26, v428.toNat]
def k0_off95 (k0_t32 : Fin k0_t32_loop.trips) : Fin 2 → Nat :=
  let c27_i32 : BitVec 32 := 27#32
  let v430 : Index := Scalar.indexCast c27_i32
  let c0_i32_164 : BitVec 32 := 0#32
  let c1_i32_166 : BitVec 32 := 1#32
  let arg11 : BitVec 32 := Scf.iv c0_i32_164 c1_i32_166 k0_t32
  let c16_i32_364 : BitVec 32 := 16#32
  let v426 : BitVec 32 := Scalar.muli arg11 c16_i32_364
  let v431 : Index := Scalar.indexCast v426
  ![27, v431.toNat]
def k0_off96 (k0_t32 : Fin k0_t32_loop.trips) : Fin 2 → Nat :=
  let c13_i32 : BitVec 32 := 13#32
  let v438 : Index := Scalar.indexCast c13_i32
  let c0_i32_164 : BitVec 32 := 0#32
  let c1_i32_166 : BitVec 32 := 1#32
  let arg11 : BitVec 32 := Scf.iv c0_i32_164 c1_i32_166 k0_t32
  let c16_i32_364 : BitVec 32 := 16#32
  let v426 : BitVec 32 := Scalar.muli arg11 c16_i32_364
  let v439 : Index := Scalar.indexCast v426
  ![13, v439.toNat]
@[reducible] def k0_t33_loop : Scf.Loop 32 :=
  let c0_i32_169 : BitVec 32 := 0#32
  let c64_i32_170 : BitVec 32 := 64#32
  let v204 : BitVec 32 := Scalar.addi c0_i32_169 c64_i32_170
  let c1_i32_171 : BitVec 32 := 1#32
  ⟨c0_i32_169, v204, c1_i32_171⟩
def k0_off97 (k0_t33 : Fin k0_t33_loop.trips) : Fin 2 → Nat :=
  let c28_i32 : BitVec 32 := 28#32
  let v427 : Index := Scalar.indexCast c28_i32
  let c0_i32_169 : BitVec 32 := 0#32
  let c1_i32_171 : BitVec 32 := 1#32
  let arg11 : BitVec 32 := Scf.iv c0_i32_169 c1_i32_171 k0_t33
  let c16_i32_364 : BitVec 32 := 16#32
  let v426 : BitVec 32 := Scalar.muli arg11 c16_i32_364
  let v428 : Index := Scalar.indexCast v426
  ![28, v428.toNat]
def k0_off98 (k0_t33 : Fin k0_t33_loop.trips) : Fin 2 → Nat :=
  let c29_i32 : BitVec 32 := 29#32
  let v430 : Index := Scalar.indexCast c29_i32
  let c0_i32_169 : BitVec 32 := 0#32
  let c1_i32_171 : BitVec 32 := 1#32
  let arg11 : BitVec 32 := Scf.iv c0_i32_169 c1_i32_171 k0_t33
  let c16_i32_364 : BitVec 32 := 16#32
  let v426 : BitVec 32 := Scalar.muli arg11 c16_i32_364
  let v431 : Index := Scalar.indexCast v426
  ![29, v431.toNat]
def k0_off99 (k0_t33 : Fin k0_t33_loop.trips) : Fin 2 → Nat :=
  let c14_i32 : BitVec 32 := 14#32
  let v438 : Index := Scalar.indexCast c14_i32
  let c0_i32_169 : BitVec 32 := 0#32
  let c1_i32_171 : BitVec 32 := 1#32
  let arg11 : BitVec 32 := Scf.iv c0_i32_169 c1_i32_171 k0_t33
  let c16_i32_364 : BitVec 32 := 16#32
  let v426 : BitVec 32 := Scalar.muli arg11 c16_i32_364
  let v439 : Index := Scalar.indexCast v426
  ![14, v439.toNat]
@[reducible] def k0_t34_loop : Scf.Loop 32 :=
  let c0_i32_174 : BitVec 32 := 0#32
  let c64_i32_175 : BitVec 32 := 64#32
  let v210 : BitVec 32 := Scalar.addi c0_i32_174 c64_i32_175
  let c1_i32_176 : BitVec 32 := 1#32
  ⟨c0_i32_174, v210, c1_i32_176⟩
def k0_off100 (k0_t34 : Fin k0_t34_loop.trips) : Fin 2 → Nat :=
  let c30_i32 : BitVec 32 := 30#32
  let v427 : Index := Scalar.indexCast c30_i32
  let c0_i32_174 : BitVec 32 := 0#32
  let c1_i32_176 : BitVec 32 := 1#32
  let arg11 : BitVec 32 := Scf.iv c0_i32_174 c1_i32_176 k0_t34
  let c16_i32_364 : BitVec 32 := 16#32
  let v426 : BitVec 32 := Scalar.muli arg11 c16_i32_364
  let v428 : Index := Scalar.indexCast v426
  ![30, v428.toNat]
def k0_off101 (k0_t34 : Fin k0_t34_loop.trips) : Fin 2 → Nat :=
  let c31_i32 : BitVec 32 := 31#32
  let v430 : Index := Scalar.indexCast c31_i32
  let c0_i32_174 : BitVec 32 := 0#32
  let c1_i32_176 : BitVec 32 := 1#32
  let arg11 : BitVec 32 := Scf.iv c0_i32_174 c1_i32_176 k0_t34
  let c16_i32_364 : BitVec 32 := 16#32
  let v426 : BitVec 32 := Scalar.muli arg11 c16_i32_364
  let v431 : Index := Scalar.indexCast v426
  ![31, v431.toNat]
def k0_off102 (k0_t34 : Fin k0_t34_loop.trips) : Fin 2 → Nat :=
  let c15_i32 : BitVec 32 := 15#32
  let v438 : Index := Scalar.indexCast c15_i32
  let c0_i32_174 : BitVec 32 := 0#32
  let c1_i32_176 : BitVec 32 := 1#32
  let arg11 : BitVec 32 := Scf.iv c0_i32_174 c1_i32_176 k0_t34
  let c16_i32_364 : BitVec 32 := 16#32
  let v426 : BitVec 32 := Scalar.muli arg11 c16_i32_364
  let v439 : Index := Scalar.indexCast v426
  ![15, v439.toNat]
@[reducible] def k0_t35_loop : Scf.Loop 32 :=
  let c0_i32_185 : BitVec 32 := 0#32
  let c8_i32_186 : BitVec 32 := 8#32
  let v218 : BitVec 32 := Scalar.addi c0_i32_185 c8_i32_186
  let c1_i32_187 : BitVec 32 := 1#32
  ⟨c0_i32_185, v218, c1_i32_187⟩
def k0_mult3 (k0_t35 : Fin k0_t35_loop.trips) : BitVec 32 :=
  let c0_i32_185 : BitVec 32 := 0#32
  let c1_i32_187 : BitVec 32 := 1#32
  let arg11 : BitVec 32 := Scf.iv c0_i32_185 c1_i32_187 k0_t35
  let c128_i32_364 : BitVec 32 := 128#32
  let v426 : BitVec 32 := Scalar.muli arg11 c128_i32_364
  v426
def k0_off103 (k0_t35 : Fin k0_t35_loop.trips) : Fin 2 → Nat :=
  let c0_i32_366 : BitVec 32 := 0#32
  let c0_i32_185 : BitVec 32 := 0#32
  let c1_i32_187 : BitVec 32 := 1#32
  let arg11 : BitVec 32 := Scf.iv c0_i32_185 c1_i32_187 k0_t35
  let c128_i32_364 : BitVec 32 := 128#32
  let v426 : BitVec 32 := Scalar.muli arg11 c128_i32_364
  let v427 : BitVec 32 := v426
  ![0, v427.toNat]
def k0_off104 (k0_t35 : Fin k0_t35_loop.trips) : Fin 2 → Nat :=
  let c0_i32_368 : BitVec 32 := 0#32
  let c0_i32_185 : BitVec 32 := 0#32
  let c1_i32_187 : BitVec 32 := 1#32
  let arg11 : BitVec 32 := Scf.iv c0_i32_185 c1_i32_187 k0_t35
  let c128_i32_364 : BitVec 32 := 128#32
  let v426 : BitVec 32 := Scalar.muli arg11 c128_i32_364
  let v427 : BitVec 32 := v426
  ![0, v427.toNat]
@[reducible] def k0_t36_loop : Scf.Loop 32 :=
  let c0_i32_192 : BitVec 32 := 0#32
  let c64_i32_193 : BitVec 32 := 64#32
  let v226 : BitVec 32 := Scalar.addi c0_i32_192 c64_i32_193
  let c1_i32_194 : BitVec 32 := 1#32
  ⟨c0_i32_192, v226, c1_i32_194⟩
def k0_off105 (k0_t36 : Fin k0_t36_loop.trips) : Fin 2 → Nat :=
  let c0_i32_365 : BitVec 32 := 0#32
  let v427 : Index := Scalar.indexCast c0_i32_365
  let c0_i32_192 : BitVec 32 := 0#32
  let c1_i32_194 : BitVec 32 := 1#32
  let arg11 : BitVec 32 := Scf.iv c0_i32_192 c1_i32_194 k0_t36
  let c16_i32_364 : BitVec 32 := 16#32
  let v426 : BitVec 32 := Scalar.muli arg11 c16_i32_364
  let v428 : Index := Scalar.indexCast v426
  ![0, v428.toNat]
def k0_off106 (k0_t36 : Fin k0_t36_loop.trips) : Fin 2 → Nat :=
  let c1_i32_366 : BitVec 32 := 1#32
  let v430 : Index := Scalar.indexCast c1_i32_366
  let c0_i32_192 : BitVec 32 := 0#32
  let c1_i32_194 : BitVec 32 := 1#32
  let arg11 : BitVec 32 := Scf.iv c0_i32_192 c1_i32_194 k0_t36
  let c16_i32_364 : BitVec 32 := 16#32
  let v426 : BitVec 32 := Scalar.muli arg11 c16_i32_364
  let v431 : Index := Scalar.indexCast v426
  ![1, v431.toNat]
def k0_off107 (k0_t36 : Fin k0_t36_loop.trips) : Fin 2 → Nat :=
  let c0_i32_367 : BitVec 32 := 0#32
  let v438 : Index := Scalar.indexCast c0_i32_367
  let c0_i32_192 : BitVec 32 := 0#32
  let c1_i32_194 : BitVec 32 := 1#32
  let arg11 : BitVec 32 := Scf.iv c0_i32_192 c1_i32_194 k0_t36
  let c16_i32_364 : BitVec 32 := 16#32
  let v426 : BitVec 32 := Scalar.muli arg11 c16_i32_364
  let v439 : Index := Scalar.indexCast v426
  ![0, v439.toNat]
@[reducible] def k0_t37_loop : Scf.Loop 32 :=
  let c0_i32_197 : BitVec 32 := 0#32
  let c64_i32_198 : BitVec 32 := 64#32
  let v232 : BitVec 32 := Scalar.addi c0_i32_197 c64_i32_198
  let c1_i32_199 : BitVec 32 := 1#32
  ⟨c0_i32_197, v232, c1_i32_199⟩
def k0_off108 (k0_t37 : Fin k0_t37_loop.trips) : Fin 2 → Nat :=
  let c2_i32_365 : BitVec 32 := 2#32
  let v427 : Index := Scalar.indexCast c2_i32_365
  let c0_i32_197 : BitVec 32 := 0#32
  let c1_i32_199 : BitVec 32 := 1#32
  let arg11 : BitVec 32 := Scf.iv c0_i32_197 c1_i32_199 k0_t37
  let c16_i32_364 : BitVec 32 := 16#32
  let v426 : BitVec 32 := Scalar.muli arg11 c16_i32_364
  let v428 : Index := Scalar.indexCast v426
  ![2, v428.toNat]
def k0_off109 (k0_t37 : Fin k0_t37_loop.trips) : Fin 2 → Nat :=
  let c3_i32_366 : BitVec 32 := 3#32
  let v430 : Index := Scalar.indexCast c3_i32_366
  let c0_i32_197 : BitVec 32 := 0#32
  let c1_i32_199 : BitVec 32 := 1#32
  let arg11 : BitVec 32 := Scf.iv c0_i32_197 c1_i32_199 k0_t37
  let c16_i32_364 : BitVec 32 := 16#32
  let v426 : BitVec 32 := Scalar.muli arg11 c16_i32_364
  let v431 : Index := Scalar.indexCast v426
  ![3, v431.toNat]
def k0_off110 (k0_t37 : Fin k0_t37_loop.trips) : Fin 2 → Nat :=
  let c1_i32_367 : BitVec 32 := 1#32
  let v438 : Index := Scalar.indexCast c1_i32_367
  let c0_i32_197 : BitVec 32 := 0#32
  let c1_i32_199 : BitVec 32 := 1#32
  let arg11 : BitVec 32 := Scf.iv c0_i32_197 c1_i32_199 k0_t37
  let c16_i32_364 : BitVec 32 := 16#32
  let v426 : BitVec 32 := Scalar.muli arg11 c16_i32_364
  let v439 : Index := Scalar.indexCast v426
  ![1, v439.toNat]
@[reducible] def k0_t38_loop : Scf.Loop 32 :=
  let c0_i32_202 : BitVec 32 := 0#32
  let c64_i32_203 : BitVec 32 := 64#32
  let v238 : BitVec 32 := Scalar.addi c0_i32_202 c64_i32_203
  let c1_i32_204 : BitVec 32 := 1#32
  ⟨c0_i32_202, v238, c1_i32_204⟩
def k0_off111 (k0_t38 : Fin k0_t38_loop.trips) : Fin 2 → Nat :=
  let c4_i32 : BitVec 32 := 4#32
  let v427 : Index := Scalar.indexCast c4_i32
  let c0_i32_202 : BitVec 32 := 0#32
  let c1_i32_204 : BitVec 32 := 1#32
  let arg11 : BitVec 32 := Scf.iv c0_i32_202 c1_i32_204 k0_t38
  let c16_i32_364 : BitVec 32 := 16#32
  let v426 : BitVec 32 := Scalar.muli arg11 c16_i32_364
  let v428 : Index := Scalar.indexCast v426
  ![4, v428.toNat]
def k0_off112 (k0_t38 : Fin k0_t38_loop.trips) : Fin 2 → Nat :=
  let c5_i32 : BitVec 32 := 5#32
  let v430 : Index := Scalar.indexCast c5_i32
  let c0_i32_202 : BitVec 32 := 0#32
  let c1_i32_204 : BitVec 32 := 1#32
  let arg11 : BitVec 32 := Scf.iv c0_i32_202 c1_i32_204 k0_t38
  let c16_i32_364 : BitVec 32 := 16#32
  let v426 : BitVec 32 := Scalar.muli arg11 c16_i32_364
  let v431 : Index := Scalar.indexCast v426
  ![5, v431.toNat]
def k0_off113 (k0_t38 : Fin k0_t38_loop.trips) : Fin 2 → Nat :=
  let c2_i32_365 : BitVec 32 := 2#32
  let v438 : Index := Scalar.indexCast c2_i32_365
  let c0_i32_202 : BitVec 32 := 0#32
  let c1_i32_204 : BitVec 32 := 1#32
  let arg11 : BitVec 32 := Scf.iv c0_i32_202 c1_i32_204 k0_t38
  let c16_i32_364 : BitVec 32 := 16#32
  let v426 : BitVec 32 := Scalar.muli arg11 c16_i32_364
  let v439 : Index := Scalar.indexCast v426
  ![2, v439.toNat]
@[reducible] def k0_t39_loop : Scf.Loop 32 :=
  let c0_i32_207 : BitVec 32 := 0#32
  let c64_i32_208 : BitVec 32 := 64#32
  let v244 : BitVec 32 := Scalar.addi c0_i32_207 c64_i32_208
  let c1_i32_209 : BitVec 32 := 1#32
  ⟨c0_i32_207, v244, c1_i32_209⟩
def k0_off114 (k0_t39 : Fin k0_t39_loop.trips) : Fin 2 → Nat :=
  let c6_i32 : BitVec 32 := 6#32
  let v427 : Index := Scalar.indexCast c6_i32
  let c0_i32_207 : BitVec 32 := 0#32
  let c1_i32_209 : BitVec 32 := 1#32
  let arg11 : BitVec 32 := Scf.iv c0_i32_207 c1_i32_209 k0_t39
  let c16_i32_364 : BitVec 32 := 16#32
  let v426 : BitVec 32 := Scalar.muli arg11 c16_i32_364
  let v428 : Index := Scalar.indexCast v426
  ![6, v428.toNat]
def k0_off115 (k0_t39 : Fin k0_t39_loop.trips) : Fin 2 → Nat :=
  let c7_i32 : BitVec 32 := 7#32
  let v430 : Index := Scalar.indexCast c7_i32
  let c0_i32_207 : BitVec 32 := 0#32
  let c1_i32_209 : BitVec 32 := 1#32
  let arg11 : BitVec 32 := Scf.iv c0_i32_207 c1_i32_209 k0_t39
  let c16_i32_364 : BitVec 32 := 16#32
  let v426 : BitVec 32 := Scalar.muli arg11 c16_i32_364
  let v431 : Index := Scalar.indexCast v426
  ![7, v431.toNat]
def k0_off116 (k0_t39 : Fin k0_t39_loop.trips) : Fin 2 → Nat :=
  let c3_i32_365 : BitVec 32 := 3#32
  let v438 : Index := Scalar.indexCast c3_i32_365
  let c0_i32_207 : BitVec 32 := 0#32
  let c1_i32_209 : BitVec 32 := 1#32
  let arg11 : BitVec 32 := Scf.iv c0_i32_207 c1_i32_209 k0_t39
  let c16_i32_364 : BitVec 32 := 16#32
  let v426 : BitVec 32 := Scalar.muli arg11 c16_i32_364
  let v439 : Index := Scalar.indexCast v426
  ![3, v439.toNat]
@[reducible] def k0_t40_loop : Scf.Loop 32 :=
  let c0_i32_212 : BitVec 32 := 0#32
  let c64_i32_213 : BitVec 32 := 64#32
  let v250 : BitVec 32 := Scalar.addi c0_i32_212 c64_i32_213
  let c1_i32_214 : BitVec 32 := 1#32
  ⟨c0_i32_212, v250, c1_i32_214⟩
def k0_off117 (k0_t40 : Fin k0_t40_loop.trips) : Fin 2 → Nat :=
  let c8_i32_365 : BitVec 32 := 8#32
  let v427 : Index := Scalar.indexCast c8_i32_365
  let c0_i32_212 : BitVec 32 := 0#32
  let c1_i32_214 : BitVec 32 := 1#32
  let arg11 : BitVec 32 := Scf.iv c0_i32_212 c1_i32_214 k0_t40
  let c16_i32_364 : BitVec 32 := 16#32
  let v426 : BitVec 32 := Scalar.muli arg11 c16_i32_364
  let v428 : Index := Scalar.indexCast v426
  ![8, v428.toNat]
def k0_off118 (k0_t40 : Fin k0_t40_loop.trips) : Fin 2 → Nat :=
  let c9_i32 : BitVec 32 := 9#32
  let v430 : Index := Scalar.indexCast c9_i32
  let c0_i32_212 : BitVec 32 := 0#32
  let c1_i32_214 : BitVec 32 := 1#32
  let arg11 : BitVec 32 := Scf.iv c0_i32_212 c1_i32_214 k0_t40
  let c16_i32_364 : BitVec 32 := 16#32
  let v426 : BitVec 32 := Scalar.muli arg11 c16_i32_364
  let v431 : Index := Scalar.indexCast v426
  ![9, v431.toNat]
def k0_off119 (k0_t40 : Fin k0_t40_loop.trips) : Fin 2 → Nat :=
  let c4_i32 : BitVec 32 := 4#32
  let v438 : Index := Scalar.indexCast c4_i32
  let c0_i32_212 : BitVec 32 := 0#32
  let c1_i32_214 : BitVec 32 := 1#32
  let arg11 : BitVec 32 := Scf.iv c0_i32_212 c1_i32_214 k0_t40
  let c16_i32_364 : BitVec 32 := 16#32
  let v426 : BitVec 32 := Scalar.muli arg11 c16_i32_364
  let v439 : Index := Scalar.indexCast v426
  ![4, v439.toNat]
@[reducible] def k0_t41_loop : Scf.Loop 32 :=
  let c0_i32_217 : BitVec 32 := 0#32
  let c64_i32_218 : BitVec 32 := 64#32
  let v256 : BitVec 32 := Scalar.addi c0_i32_217 c64_i32_218
  let c1_i32_219 : BitVec 32 := 1#32
  ⟨c0_i32_217, v256, c1_i32_219⟩
def k0_off120 (k0_t41 : Fin k0_t41_loop.trips) : Fin 2 → Nat :=
  let c10_i32 : BitVec 32 := 10#32
  let v427 : Index := Scalar.indexCast c10_i32
  let c0_i32_217 : BitVec 32 := 0#32
  let c1_i32_219 : BitVec 32 := 1#32
  let arg11 : BitVec 32 := Scf.iv c0_i32_217 c1_i32_219 k0_t41
  let c16_i32_364 : BitVec 32 := 16#32
  let v426 : BitVec 32 := Scalar.muli arg11 c16_i32_364
  let v428 : Index := Scalar.indexCast v426
  ![10, v428.toNat]
def k0_off121 (k0_t41 : Fin k0_t41_loop.trips) : Fin 2 → Nat :=
  let c11_i32 : BitVec 32 := 11#32
  let v430 : Index := Scalar.indexCast c11_i32
  let c0_i32_217 : BitVec 32 := 0#32
  let c1_i32_219 : BitVec 32 := 1#32
  let arg11 : BitVec 32 := Scf.iv c0_i32_217 c1_i32_219 k0_t41
  let c16_i32_364 : BitVec 32 := 16#32
  let v426 : BitVec 32 := Scalar.muli arg11 c16_i32_364
  let v431 : Index := Scalar.indexCast v426
  ![11, v431.toNat]
def k0_off122 (k0_t41 : Fin k0_t41_loop.trips) : Fin 2 → Nat :=
  let c5_i32 : BitVec 32 := 5#32
  let v438 : Index := Scalar.indexCast c5_i32
  let c0_i32_217 : BitVec 32 := 0#32
  let c1_i32_219 : BitVec 32 := 1#32
  let arg11 : BitVec 32 := Scf.iv c0_i32_217 c1_i32_219 k0_t41
  let c16_i32_364 : BitVec 32 := 16#32
  let v426 : BitVec 32 := Scalar.muli arg11 c16_i32_364
  let v439 : Index := Scalar.indexCast v426
  ![5, v439.toNat]
@[reducible] def k0_t42_loop : Scf.Loop 32 :=
  let c0_i32_222 : BitVec 32 := 0#32
  let c64_i32_223 : BitVec 32 := 64#32
  let v262 : BitVec 32 := Scalar.addi c0_i32_222 c64_i32_223
  let c1_i32_224 : BitVec 32 := 1#32
  ⟨c0_i32_222, v262, c1_i32_224⟩
def k0_off123 (k0_t42 : Fin k0_t42_loop.trips) : Fin 2 → Nat :=
  let c12_i32 : BitVec 32 := 12#32
  let v427 : Index := Scalar.indexCast c12_i32
  let c0_i32_222 : BitVec 32 := 0#32
  let c1_i32_224 : BitVec 32 := 1#32
  let arg11 : BitVec 32 := Scf.iv c0_i32_222 c1_i32_224 k0_t42
  let c16_i32_364 : BitVec 32 := 16#32
  let v426 : BitVec 32 := Scalar.muli arg11 c16_i32_364
  let v428 : Index := Scalar.indexCast v426
  ![12, v428.toNat]
def k0_off124 (k0_t42 : Fin k0_t42_loop.trips) : Fin 2 → Nat :=
  let c13_i32 : BitVec 32 := 13#32
  let v430 : Index := Scalar.indexCast c13_i32
  let c0_i32_222 : BitVec 32 := 0#32
  let c1_i32_224 : BitVec 32 := 1#32
  let arg11 : BitVec 32 := Scf.iv c0_i32_222 c1_i32_224 k0_t42
  let c16_i32_364 : BitVec 32 := 16#32
  let v426 : BitVec 32 := Scalar.muli arg11 c16_i32_364
  let v431 : Index := Scalar.indexCast v426
  ![13, v431.toNat]
def k0_off125 (k0_t42 : Fin k0_t42_loop.trips) : Fin 2 → Nat :=
  let c6_i32 : BitVec 32 := 6#32
  let v438 : Index := Scalar.indexCast c6_i32
  let c0_i32_222 : BitVec 32 := 0#32
  let c1_i32_224 : BitVec 32 := 1#32
  let arg11 : BitVec 32 := Scf.iv c0_i32_222 c1_i32_224 k0_t42
  let c16_i32_364 : BitVec 32 := 16#32
  let v426 : BitVec 32 := Scalar.muli arg11 c16_i32_364
  let v439 : Index := Scalar.indexCast v426
  ![6, v439.toNat]
@[reducible] def k0_t43_loop : Scf.Loop 32 :=
  let c0_i32_227 : BitVec 32 := 0#32
  let c64_i32_228 : BitVec 32 := 64#32
  let v268 : BitVec 32 := Scalar.addi c0_i32_227 c64_i32_228
  let c1_i32_229 : BitVec 32 := 1#32
  ⟨c0_i32_227, v268, c1_i32_229⟩
def k0_off126 (k0_t43 : Fin k0_t43_loop.trips) : Fin 2 → Nat :=
  let c14_i32 : BitVec 32 := 14#32
  let v427 : Index := Scalar.indexCast c14_i32
  let c0_i32_227 : BitVec 32 := 0#32
  let c1_i32_229 : BitVec 32 := 1#32
  let arg11 : BitVec 32 := Scf.iv c0_i32_227 c1_i32_229 k0_t43
  let c16_i32_364 : BitVec 32 := 16#32
  let v426 : BitVec 32 := Scalar.muli arg11 c16_i32_364
  let v428 : Index := Scalar.indexCast v426
  ![14, v428.toNat]
def k0_off127 (k0_t43 : Fin k0_t43_loop.trips) : Fin 2 → Nat :=
  let c15_i32 : BitVec 32 := 15#32
  let v430 : Index := Scalar.indexCast c15_i32
  let c0_i32_227 : BitVec 32 := 0#32
  let c1_i32_229 : BitVec 32 := 1#32
  let arg11 : BitVec 32 := Scf.iv c0_i32_227 c1_i32_229 k0_t43
  let c16_i32_364 : BitVec 32 := 16#32
  let v426 : BitVec 32 := Scalar.muli arg11 c16_i32_364
  let v431 : Index := Scalar.indexCast v426
  ![15, v431.toNat]
def k0_off128 (k0_t43 : Fin k0_t43_loop.trips) : Fin 2 → Nat :=
  let c7_i32 : BitVec 32 := 7#32
  let v438 : Index := Scalar.indexCast c7_i32
  let c0_i32_227 : BitVec 32 := 0#32
  let c1_i32_229 : BitVec 32 := 1#32
  let arg11 : BitVec 32 := Scf.iv c0_i32_227 c1_i32_229 k0_t43
  let c16_i32_364 : BitVec 32 := 16#32
  let v426 : BitVec 32 := Scalar.muli arg11 c16_i32_364
  let v439 : Index := Scalar.indexCast v426
  ![7, v439.toNat]
@[reducible] def k0_t44_loop : Scf.Loop 32 :=
  let c0_i32_232 : BitVec 32 := 0#32
  let c64_i32_233 : BitVec 32 := 64#32
  let v274 : BitVec 32 := Scalar.addi c0_i32_232 c64_i32_233
  let c1_i32_234 : BitVec 32 := 1#32
  ⟨c0_i32_232, v274, c1_i32_234⟩
def k0_off129 (k0_t44 : Fin k0_t44_loop.trips) : Fin 2 → Nat :=
  let c16_i32_365 : BitVec 32 := 16#32
  let v427 : Index := Scalar.indexCast c16_i32_365
  let c0_i32_232 : BitVec 32 := 0#32
  let c1_i32_234 : BitVec 32 := 1#32
  let arg11 : BitVec 32 := Scf.iv c0_i32_232 c1_i32_234 k0_t44
  let c16_i32_364 : BitVec 32 := 16#32
  let v426 : BitVec 32 := Scalar.muli arg11 c16_i32_364
  let v428 : Index := Scalar.indexCast v426
  ![16, v428.toNat]
def k0_off130 (k0_t44 : Fin k0_t44_loop.trips) : Fin 2 → Nat :=
  let c17_i32 : BitVec 32 := 17#32
  let v430 : Index := Scalar.indexCast c17_i32
  let c0_i32_232 : BitVec 32 := 0#32
  let c1_i32_234 : BitVec 32 := 1#32
  let arg11 : BitVec 32 := Scf.iv c0_i32_232 c1_i32_234 k0_t44
  let c16_i32_364 : BitVec 32 := 16#32
  let v426 : BitVec 32 := Scalar.muli arg11 c16_i32_364
  let v431 : Index := Scalar.indexCast v426
  ![17, v431.toNat]
def k0_off131 (k0_t44 : Fin k0_t44_loop.trips) : Fin 2 → Nat :=
  let c8_i32_366 : BitVec 32 := 8#32
  let v438 : Index := Scalar.indexCast c8_i32_366
  let c0_i32_232 : BitVec 32 := 0#32
  let c1_i32_234 : BitVec 32 := 1#32
  let arg11 : BitVec 32 := Scf.iv c0_i32_232 c1_i32_234 k0_t44
  let c16_i32_364 : BitVec 32 := 16#32
  let v426 : BitVec 32 := Scalar.muli arg11 c16_i32_364
  let v439 : Index := Scalar.indexCast v426
  ![8, v439.toNat]
@[reducible] def k0_t45_loop : Scf.Loop 32 :=
  let c0_i32_237 : BitVec 32 := 0#32
  let c64_i32_238 : BitVec 32 := 64#32
  let v280 : BitVec 32 := Scalar.addi c0_i32_237 c64_i32_238
  let c1_i32_239 : BitVec 32 := 1#32
  ⟨c0_i32_237, v280, c1_i32_239⟩
def k0_off132 (k0_t45 : Fin k0_t45_loop.trips) : Fin 2 → Nat :=
  let c18_i32 : BitVec 32 := 18#32
  let v427 : Index := Scalar.indexCast c18_i32
  let c0_i32_237 : BitVec 32 := 0#32
  let c1_i32_239 : BitVec 32 := 1#32
  let arg11 : BitVec 32 := Scf.iv c0_i32_237 c1_i32_239 k0_t45
  let c16_i32_364 : BitVec 32 := 16#32
  let v426 : BitVec 32 := Scalar.muli arg11 c16_i32_364
  let v428 : Index := Scalar.indexCast v426
  ![18, v428.toNat]
def k0_off133 (k0_t45 : Fin k0_t45_loop.trips) : Fin 2 → Nat :=
  let c19_i32 : BitVec 32 := 19#32
  let v430 : Index := Scalar.indexCast c19_i32
  let c0_i32_237 : BitVec 32 := 0#32
  let c1_i32_239 : BitVec 32 := 1#32
  let arg11 : BitVec 32 := Scf.iv c0_i32_237 c1_i32_239 k0_t45
  let c16_i32_364 : BitVec 32 := 16#32
  let v426 : BitVec 32 := Scalar.muli arg11 c16_i32_364
  let v431 : Index := Scalar.indexCast v426
  ![19, v431.toNat]
def k0_off134 (k0_t45 : Fin k0_t45_loop.trips) : Fin 2 → Nat :=
  let c9_i32 : BitVec 32 := 9#32
  let v438 : Index := Scalar.indexCast c9_i32
  let c0_i32_237 : BitVec 32 := 0#32
  let c1_i32_239 : BitVec 32 := 1#32
  let arg11 : BitVec 32 := Scf.iv c0_i32_237 c1_i32_239 k0_t45
  let c16_i32_364 : BitVec 32 := 16#32
  let v426 : BitVec 32 := Scalar.muli arg11 c16_i32_364
  let v439 : Index := Scalar.indexCast v426
  ![9, v439.toNat]
@[reducible] def k0_t46_loop : Scf.Loop 32 :=
  let c0_i32_242 : BitVec 32 := 0#32
  let c64_i32_243 : BitVec 32 := 64#32
  let v286 : BitVec 32 := Scalar.addi c0_i32_242 c64_i32_243
  let c1_i32_244 : BitVec 32 := 1#32
  ⟨c0_i32_242, v286, c1_i32_244⟩
def k0_off135 (k0_t46 : Fin k0_t46_loop.trips) : Fin 2 → Nat :=
  let c20_i32 : BitVec 32 := 20#32
  let v427 : Index := Scalar.indexCast c20_i32
  let c0_i32_242 : BitVec 32 := 0#32
  let c1_i32_244 : BitVec 32 := 1#32
  let arg11 : BitVec 32 := Scf.iv c0_i32_242 c1_i32_244 k0_t46
  let c16_i32_364 : BitVec 32 := 16#32
  let v426 : BitVec 32 := Scalar.muli arg11 c16_i32_364
  let v428 : Index := Scalar.indexCast v426
  ![20, v428.toNat]
def k0_off136 (k0_t46 : Fin k0_t46_loop.trips) : Fin 2 → Nat :=
  let c21_i32 : BitVec 32 := 21#32
  let v430 : Index := Scalar.indexCast c21_i32
  let c0_i32_242 : BitVec 32 := 0#32
  let c1_i32_244 : BitVec 32 := 1#32
  let arg11 : BitVec 32 := Scf.iv c0_i32_242 c1_i32_244 k0_t46
  let c16_i32_364 : BitVec 32 := 16#32
  let v426 : BitVec 32 := Scalar.muli arg11 c16_i32_364
  let v431 : Index := Scalar.indexCast v426
  ![21, v431.toNat]
def k0_off137 (k0_t46 : Fin k0_t46_loop.trips) : Fin 2 → Nat :=
  let c10_i32 : BitVec 32 := 10#32
  let v438 : Index := Scalar.indexCast c10_i32
  let c0_i32_242 : BitVec 32 := 0#32
  let c1_i32_244 : BitVec 32 := 1#32
  let arg11 : BitVec 32 := Scf.iv c0_i32_242 c1_i32_244 k0_t46
  let c16_i32_364 : BitVec 32 := 16#32
  let v426 : BitVec 32 := Scalar.muli arg11 c16_i32_364
  let v439 : Index := Scalar.indexCast v426
  ![10, v439.toNat]
@[reducible] def k0_t47_loop : Scf.Loop 32 :=
  let c0_i32_247 : BitVec 32 := 0#32
  let c64_i32_248 : BitVec 32 := 64#32
  let v292 : BitVec 32 := Scalar.addi c0_i32_247 c64_i32_248
  let c1_i32_249 : BitVec 32 := 1#32
  ⟨c0_i32_247, v292, c1_i32_249⟩
def k0_off138 (k0_t47 : Fin k0_t47_loop.trips) : Fin 2 → Nat :=
  let c22_i32 : BitVec 32 := 22#32
  let v427 : Index := Scalar.indexCast c22_i32
  let c0_i32_247 : BitVec 32 := 0#32
  let c1_i32_249 : BitVec 32 := 1#32
  let arg11 : BitVec 32 := Scf.iv c0_i32_247 c1_i32_249 k0_t47
  let c16_i32_364 : BitVec 32 := 16#32
  let v426 : BitVec 32 := Scalar.muli arg11 c16_i32_364
  let v428 : Index := Scalar.indexCast v426
  ![22, v428.toNat]
def k0_off139 (k0_t47 : Fin k0_t47_loop.trips) : Fin 2 → Nat :=
  let c23_i32 : BitVec 32 := 23#32
  let v430 : Index := Scalar.indexCast c23_i32
  let c0_i32_247 : BitVec 32 := 0#32
  let c1_i32_249 : BitVec 32 := 1#32
  let arg11 : BitVec 32 := Scf.iv c0_i32_247 c1_i32_249 k0_t47
  let c16_i32_364 : BitVec 32 := 16#32
  let v426 : BitVec 32 := Scalar.muli arg11 c16_i32_364
  let v431 : Index := Scalar.indexCast v426
  ![23, v431.toNat]
def k0_off140 (k0_t47 : Fin k0_t47_loop.trips) : Fin 2 → Nat :=
  let c11_i32 : BitVec 32 := 11#32
  let v438 : Index := Scalar.indexCast c11_i32
  let c0_i32_247 : BitVec 32 := 0#32
  let c1_i32_249 : BitVec 32 := 1#32
  let arg11 : BitVec 32 := Scf.iv c0_i32_247 c1_i32_249 k0_t47
  let c16_i32_364 : BitVec 32 := 16#32
  let v426 : BitVec 32 := Scalar.muli arg11 c16_i32_364
  let v439 : Index := Scalar.indexCast v426
  ![11, v439.toNat]
@[reducible] def k0_t48_loop : Scf.Loop 32 :=
  let c0_i32_252 : BitVec 32 := 0#32
  let c64_i32_253 : BitVec 32 := 64#32
  let v298 : BitVec 32 := Scalar.addi c0_i32_252 c64_i32_253
  let c1_i32_254 : BitVec 32 := 1#32
  ⟨c0_i32_252, v298, c1_i32_254⟩
def k0_off141 (k0_t48 : Fin k0_t48_loop.trips) : Fin 2 → Nat :=
  let c24_i32 : BitVec 32 := 24#32
  let v427 : Index := Scalar.indexCast c24_i32
  let c0_i32_252 : BitVec 32 := 0#32
  let c1_i32_254 : BitVec 32 := 1#32
  let arg11 : BitVec 32 := Scf.iv c0_i32_252 c1_i32_254 k0_t48
  let c16_i32_364 : BitVec 32 := 16#32
  let v426 : BitVec 32 := Scalar.muli arg11 c16_i32_364
  let v428 : Index := Scalar.indexCast v426
  ![24, v428.toNat]
def k0_off142 (k0_t48 : Fin k0_t48_loop.trips) : Fin 2 → Nat :=
  let c25_i32 : BitVec 32 := 25#32
  let v430 : Index := Scalar.indexCast c25_i32
  let c0_i32_252 : BitVec 32 := 0#32
  let c1_i32_254 : BitVec 32 := 1#32
  let arg11 : BitVec 32 := Scf.iv c0_i32_252 c1_i32_254 k0_t48
  let c16_i32_364 : BitVec 32 := 16#32
  let v426 : BitVec 32 := Scalar.muli arg11 c16_i32_364
  let v431 : Index := Scalar.indexCast v426
  ![25, v431.toNat]
def k0_off143 (k0_t48 : Fin k0_t48_loop.trips) : Fin 2 → Nat :=
  let c12_i32 : BitVec 32 := 12#32
  let v438 : Index := Scalar.indexCast c12_i32
  let c0_i32_252 : BitVec 32 := 0#32
  let c1_i32_254 : BitVec 32 := 1#32
  let arg11 : BitVec 32 := Scf.iv c0_i32_252 c1_i32_254 k0_t48
  let c16_i32_364 : BitVec 32 := 16#32
  let v426 : BitVec 32 := Scalar.muli arg11 c16_i32_364
  let v439 : Index := Scalar.indexCast v426
  ![12, v439.toNat]
@[reducible] def k0_t49_loop : Scf.Loop 32 :=
  let c0_i32_257 : BitVec 32 := 0#32
  let c64_i32_258 : BitVec 32 := 64#32
  let v304 : BitVec 32 := Scalar.addi c0_i32_257 c64_i32_258
  let c1_i32_259 : BitVec 32 := 1#32
  ⟨c0_i32_257, v304, c1_i32_259⟩
def k0_off144 (k0_t49 : Fin k0_t49_loop.trips) : Fin 2 → Nat :=
  let c26_i32 : BitVec 32 := 26#32
  let v427 : Index := Scalar.indexCast c26_i32
  let c0_i32_257 : BitVec 32 := 0#32
  let c1_i32_259 : BitVec 32 := 1#32
  let arg11 : BitVec 32 := Scf.iv c0_i32_257 c1_i32_259 k0_t49
  let c16_i32_364 : BitVec 32 := 16#32
  let v426 : BitVec 32 := Scalar.muli arg11 c16_i32_364
  let v428 : Index := Scalar.indexCast v426
  ![26, v428.toNat]
def k0_off145 (k0_t49 : Fin k0_t49_loop.trips) : Fin 2 → Nat :=
  let c27_i32 : BitVec 32 := 27#32
  let v430 : Index := Scalar.indexCast c27_i32
  let c0_i32_257 : BitVec 32 := 0#32
  let c1_i32_259 : BitVec 32 := 1#32
  let arg11 : BitVec 32 := Scf.iv c0_i32_257 c1_i32_259 k0_t49
  let c16_i32_364 : BitVec 32 := 16#32
  let v426 : BitVec 32 := Scalar.muli arg11 c16_i32_364
  let v431 : Index := Scalar.indexCast v426
  ![27, v431.toNat]
def k0_off146 (k0_t49 : Fin k0_t49_loop.trips) : Fin 2 → Nat :=
  let c13_i32 : BitVec 32 := 13#32
  let v438 : Index := Scalar.indexCast c13_i32
  let c0_i32_257 : BitVec 32 := 0#32
  let c1_i32_259 : BitVec 32 := 1#32
  let arg11 : BitVec 32 := Scf.iv c0_i32_257 c1_i32_259 k0_t49
  let c16_i32_364 : BitVec 32 := 16#32
  let v426 : BitVec 32 := Scalar.muli arg11 c16_i32_364
  let v439 : Index := Scalar.indexCast v426
  ![13, v439.toNat]
@[reducible] def k0_t50_loop : Scf.Loop 32 :=
  let c0_i32_262 : BitVec 32 := 0#32
  let c64_i32_263 : BitVec 32 := 64#32
  let v310 : BitVec 32 := Scalar.addi c0_i32_262 c64_i32_263
  let c1_i32_264 : BitVec 32 := 1#32
  ⟨c0_i32_262, v310, c1_i32_264⟩
def k0_off147 (k0_t50 : Fin k0_t50_loop.trips) : Fin 2 → Nat :=
  let c28_i32 : BitVec 32 := 28#32
  let v427 : Index := Scalar.indexCast c28_i32
  let c0_i32_262 : BitVec 32 := 0#32
  let c1_i32_264 : BitVec 32 := 1#32
  let arg11 : BitVec 32 := Scf.iv c0_i32_262 c1_i32_264 k0_t50
  let c16_i32_364 : BitVec 32 := 16#32
  let v426 : BitVec 32 := Scalar.muli arg11 c16_i32_364
  let v428 : Index := Scalar.indexCast v426
  ![28, v428.toNat]
def k0_off148 (k0_t50 : Fin k0_t50_loop.trips) : Fin 2 → Nat :=
  let c29_i32 : BitVec 32 := 29#32
  let v430 : Index := Scalar.indexCast c29_i32
  let c0_i32_262 : BitVec 32 := 0#32
  let c1_i32_264 : BitVec 32 := 1#32
  let arg11 : BitVec 32 := Scf.iv c0_i32_262 c1_i32_264 k0_t50
  let c16_i32_364 : BitVec 32 := 16#32
  let v426 : BitVec 32 := Scalar.muli arg11 c16_i32_364
  let v431 : Index := Scalar.indexCast v426
  ![29, v431.toNat]
def k0_off149 (k0_t50 : Fin k0_t50_loop.trips) : Fin 2 → Nat :=
  let c14_i32 : BitVec 32 := 14#32
  let v438 : Index := Scalar.indexCast c14_i32
  let c0_i32_262 : BitVec 32 := 0#32
  let c1_i32_264 : BitVec 32 := 1#32
  let arg11 : BitVec 32 := Scf.iv c0_i32_262 c1_i32_264 k0_t50
  let c16_i32_364 : BitVec 32 := 16#32
  let v426 : BitVec 32 := Scalar.muli arg11 c16_i32_364
  let v439 : Index := Scalar.indexCast v426
  ![14, v439.toNat]
@[reducible] def k0_t51_loop : Scf.Loop 32 :=
  let c0_i32_267 : BitVec 32 := 0#32
  let c64_i32_268 : BitVec 32 := 64#32
  let v316 : BitVec 32 := Scalar.addi c0_i32_267 c64_i32_268
  let c1_i32_269 : BitVec 32 := 1#32
  ⟨c0_i32_267, v316, c1_i32_269⟩
def k0_off150 (k0_t51 : Fin k0_t51_loop.trips) : Fin 2 → Nat :=
  let c30_i32 : BitVec 32 := 30#32
  let v427 : Index := Scalar.indexCast c30_i32
  let c0_i32_267 : BitVec 32 := 0#32
  let c1_i32_269 : BitVec 32 := 1#32
  let arg11 : BitVec 32 := Scf.iv c0_i32_267 c1_i32_269 k0_t51
  let c16_i32_364 : BitVec 32 := 16#32
  let v426 : BitVec 32 := Scalar.muli arg11 c16_i32_364
  let v428 : Index := Scalar.indexCast v426
  ![30, v428.toNat]
def k0_off151 (k0_t51 : Fin k0_t51_loop.trips) : Fin 2 → Nat :=
  let c31_i32 : BitVec 32 := 31#32
  let v430 : Index := Scalar.indexCast c31_i32
  let c0_i32_267 : BitVec 32 := 0#32
  let c1_i32_269 : BitVec 32 := 1#32
  let arg11 : BitVec 32 := Scf.iv c0_i32_267 c1_i32_269 k0_t51
  let c16_i32_364 : BitVec 32 := 16#32
  let v426 : BitVec 32 := Scalar.muli arg11 c16_i32_364
  let v431 : Index := Scalar.indexCast v426
  ![31, v431.toNat]
def k0_off152 (k0_t51 : Fin k0_t51_loop.trips) : Fin 2 → Nat :=
  let c15_i32 : BitVec 32 := 15#32
  let v438 : Index := Scalar.indexCast c15_i32
  let c0_i32_267 : BitVec 32 := 0#32
  let c1_i32_269 : BitVec 32 := 1#32
  let arg11 : BitVec 32 := Scf.iv c0_i32_267 c1_i32_269 k0_t51
  let c16_i32_364 : BitVec 32 := 16#32
  let v426 : BitVec 32 := Scalar.muli arg11 c16_i32_364
  let v439 : Index := Scalar.indexCast v426
  ![15, v439.toNat]
@[reducible] def k0_t52_loop : Scf.Loop 32 :=
  let c0_i32_277 : BitVec 32 := 0#32
  let c8_i32_278 : BitVec 32 := 8#32
  let v324 : BitVec 32 := Scalar.addi c0_i32_277 c8_i32_278
  let c1_i32_279 : BitVec 32 := 1#32
  ⟨c0_i32_277, v324, c1_i32_279⟩
def k0_mult4 (k0_t52 : Fin k0_t52_loop.trips) : BitVec 32 :=
  let c0_i32_277 : BitVec 32 := 0#32
  let c1_i32_279 : BitVec 32 := 1#32
  let arg11 : BitVec 32 := Scf.iv c0_i32_277 c1_i32_279 k0_t52
  let c128_i32_364 : BitVec 32 := 128#32
  let v426 : BitVec 32 := Scalar.muli arg11 c128_i32_364
  v426
def k0_off153 (k0_t52 : Fin k0_t52_loop.trips) : Fin 2 → Nat :=
  let c0_i32_366 : BitVec 32 := 0#32
  let c0_i32_277 : BitVec 32 := 0#32
  let c1_i32_279 : BitVec 32 := 1#32
  let arg11 : BitVec 32 := Scf.iv c0_i32_277 c1_i32_279 k0_t52
  let c128_i32_364 : BitVec 32 := 128#32
  let v426 : BitVec 32 := Scalar.muli arg11 c128_i32_364
  let v427 : BitVec 32 := v426
  ![0, v427.toNat]
def k0_off154 (k0_t52 : Fin k0_t52_loop.trips) : Fin 2 → Nat :=
  let c0_i32_368 : BitVec 32 := 0#32
  let c0_i32_277 : BitVec 32 := 0#32
  let c1_i32_279 : BitVec 32 := 1#32
  let arg11 : BitVec 32 := Scf.iv c0_i32_277 c1_i32_279 k0_t52
  let c128_i32_364 : BitVec 32 := 128#32
  let v426 : BitVec 32 := Scalar.muli arg11 c128_i32_364
  let v427 : BitVec 32 := v426
  ![0, v427.toNat]
@[reducible] def k0_t53_loop : Scf.Loop 32 :=
  let c0_i32_284 : BitVec 32 := 0#32
  let c64_i32_285 : BitVec 32 := 64#32
  let v332 : BitVec 32 := Scalar.addi c0_i32_284 c64_i32_285
  let c1_i32_286 : BitVec 32 := 1#32
  ⟨c0_i32_284, v332, c1_i32_286⟩
def k0_off155 (k0_t53 : Fin k0_t53_loop.trips) : Fin 2 → Nat :=
  let c0_i32_365 : BitVec 32 := 0#32
  let v427 : Index := Scalar.indexCast c0_i32_365
  let c0_i32_284 : BitVec 32 := 0#32
  let c1_i32_286 : BitVec 32 := 1#32
  let arg11 : BitVec 32 := Scf.iv c0_i32_284 c1_i32_286 k0_t53
  let c16_i32_364 : BitVec 32 := 16#32
  let v426 : BitVec 32 := Scalar.muli arg11 c16_i32_364
  let v428 : Index := Scalar.indexCast v426
  ![0, v428.toNat]
def k0_off156 (k0_t53 : Fin k0_t53_loop.trips) : Fin 2 → Nat :=
  let c1_i32_366 : BitVec 32 := 1#32
  let v430 : Index := Scalar.indexCast c1_i32_366
  let c0_i32_284 : BitVec 32 := 0#32
  let c1_i32_286 : BitVec 32 := 1#32
  let arg11 : BitVec 32 := Scf.iv c0_i32_284 c1_i32_286 k0_t53
  let c16_i32_364 : BitVec 32 := 16#32
  let v426 : BitVec 32 := Scalar.muli arg11 c16_i32_364
  let v431 : Index := Scalar.indexCast v426
  ![1, v431.toNat]
def k0_off157 (k0_t53 : Fin k0_t53_loop.trips) : Fin 2 → Nat :=
  let c0_i32_367 : BitVec 32 := 0#32
  let v438 : Index := Scalar.indexCast c0_i32_367
  let c0_i32_284 : BitVec 32 := 0#32
  let c1_i32_286 : BitVec 32 := 1#32
  let arg11 : BitVec 32 := Scf.iv c0_i32_284 c1_i32_286 k0_t53
  let c16_i32_364 : BitVec 32 := 16#32
  let v426 : BitVec 32 := Scalar.muli arg11 c16_i32_364
  let v439 : Index := Scalar.indexCast v426
  ![0, v439.toNat]
@[reducible] def k0_t54_loop : Scf.Loop 32 :=
  let c0_i32_289 : BitVec 32 := 0#32
  let c64_i32_290 : BitVec 32 := 64#32
  let v338 : BitVec 32 := Scalar.addi c0_i32_289 c64_i32_290
  let c1_i32_291 : BitVec 32 := 1#32
  ⟨c0_i32_289, v338, c1_i32_291⟩
def k0_off158 (k0_t54 : Fin k0_t54_loop.trips) : Fin 2 → Nat :=
  let c2_i32_365 : BitVec 32 := 2#32
  let v427 : Index := Scalar.indexCast c2_i32_365
  let c0_i32_289 : BitVec 32 := 0#32
  let c1_i32_291 : BitVec 32 := 1#32
  let arg11 : BitVec 32 := Scf.iv c0_i32_289 c1_i32_291 k0_t54
  let c16_i32_364 : BitVec 32 := 16#32
  let v426 : BitVec 32 := Scalar.muli arg11 c16_i32_364
  let v428 : Index := Scalar.indexCast v426
  ![2, v428.toNat]
def k0_off159 (k0_t54 : Fin k0_t54_loop.trips) : Fin 2 → Nat :=
  let c3_i32_366 : BitVec 32 := 3#32
  let v430 : Index := Scalar.indexCast c3_i32_366
  let c0_i32_289 : BitVec 32 := 0#32
  let c1_i32_291 : BitVec 32 := 1#32
  let arg11 : BitVec 32 := Scf.iv c0_i32_289 c1_i32_291 k0_t54
  let c16_i32_364 : BitVec 32 := 16#32
  let v426 : BitVec 32 := Scalar.muli arg11 c16_i32_364
  let v431 : Index := Scalar.indexCast v426
  ![3, v431.toNat]
def k0_off160 (k0_t54 : Fin k0_t54_loop.trips) : Fin 2 → Nat :=
  let c1_i32_367 : BitVec 32 := 1#32
  let v438 : Index := Scalar.indexCast c1_i32_367
  let c0_i32_289 : BitVec 32 := 0#32
  let c1_i32_291 : BitVec 32 := 1#32
  let arg11 : BitVec 32 := Scf.iv c0_i32_289 c1_i32_291 k0_t54
  let c16_i32_364 : BitVec 32 := 16#32
  let v426 : BitVec 32 := Scalar.muli arg11 c16_i32_364
  let v439 : Index := Scalar.indexCast v426
  ![1, v439.toNat]
@[reducible] def k0_t55_loop : Scf.Loop 32 :=
  let c0_i32_294 : BitVec 32 := 0#32
  let c64_i32_295 : BitVec 32 := 64#32
  let v344 : BitVec 32 := Scalar.addi c0_i32_294 c64_i32_295
  let c1_i32_296 : BitVec 32 := 1#32
  ⟨c0_i32_294, v344, c1_i32_296⟩
def k0_off161 (k0_t55 : Fin k0_t55_loop.trips) : Fin 2 → Nat :=
  let c4_i32 : BitVec 32 := 4#32
  let v427 : Index := Scalar.indexCast c4_i32
  let c0_i32_294 : BitVec 32 := 0#32
  let c1_i32_296 : BitVec 32 := 1#32
  let arg11 : BitVec 32 := Scf.iv c0_i32_294 c1_i32_296 k0_t55
  let c16_i32_364 : BitVec 32 := 16#32
  let v426 : BitVec 32 := Scalar.muli arg11 c16_i32_364
  let v428 : Index := Scalar.indexCast v426
  ![4, v428.toNat]
def k0_off162 (k0_t55 : Fin k0_t55_loop.trips) : Fin 2 → Nat :=
  let c5_i32 : BitVec 32 := 5#32
  let v430 : Index := Scalar.indexCast c5_i32
  let c0_i32_294 : BitVec 32 := 0#32
  let c1_i32_296 : BitVec 32 := 1#32
  let arg11 : BitVec 32 := Scf.iv c0_i32_294 c1_i32_296 k0_t55
  let c16_i32_364 : BitVec 32 := 16#32
  let v426 : BitVec 32 := Scalar.muli arg11 c16_i32_364
  let v431 : Index := Scalar.indexCast v426
  ![5, v431.toNat]
def k0_off163 (k0_t55 : Fin k0_t55_loop.trips) : Fin 2 → Nat :=
  let c2_i32_365 : BitVec 32 := 2#32
  let v438 : Index := Scalar.indexCast c2_i32_365
  let c0_i32_294 : BitVec 32 := 0#32
  let c1_i32_296 : BitVec 32 := 1#32
  let arg11 : BitVec 32 := Scf.iv c0_i32_294 c1_i32_296 k0_t55
  let c16_i32_364 : BitVec 32 := 16#32
  let v426 : BitVec 32 := Scalar.muli arg11 c16_i32_364
  let v439 : Index := Scalar.indexCast v426
  ![2, v439.toNat]
@[reducible] def k0_t56_loop : Scf.Loop 32 :=
  let c0_i32_299 : BitVec 32 := 0#32
  let c64_i32_300 : BitVec 32 := 64#32
  let v350 : BitVec 32 := Scalar.addi c0_i32_299 c64_i32_300
  let c1_i32_301 : BitVec 32 := 1#32
  ⟨c0_i32_299, v350, c1_i32_301⟩
def k0_off164 (k0_t56 : Fin k0_t56_loop.trips) : Fin 2 → Nat :=
  let c6_i32 : BitVec 32 := 6#32
  let v427 : Index := Scalar.indexCast c6_i32
  let c0_i32_299 : BitVec 32 := 0#32
  let c1_i32_301 : BitVec 32 := 1#32
  let arg11 : BitVec 32 := Scf.iv c0_i32_299 c1_i32_301 k0_t56
  let c16_i32_364 : BitVec 32 := 16#32
  let v426 : BitVec 32 := Scalar.muli arg11 c16_i32_364
  let v428 : Index := Scalar.indexCast v426
  ![6, v428.toNat]
def k0_off165 (k0_t56 : Fin k0_t56_loop.trips) : Fin 2 → Nat :=
  let c7_i32 : BitVec 32 := 7#32
  let v430 : Index := Scalar.indexCast c7_i32
  let c0_i32_299 : BitVec 32 := 0#32
  let c1_i32_301 : BitVec 32 := 1#32
  let arg11 : BitVec 32 := Scf.iv c0_i32_299 c1_i32_301 k0_t56
  let c16_i32_364 : BitVec 32 := 16#32
  let v426 : BitVec 32 := Scalar.muli arg11 c16_i32_364
  let v431 : Index := Scalar.indexCast v426
  ![7, v431.toNat]
def k0_off166 (k0_t56 : Fin k0_t56_loop.trips) : Fin 2 → Nat :=
  let c3_i32_365 : BitVec 32 := 3#32
  let v438 : Index := Scalar.indexCast c3_i32_365
  let c0_i32_299 : BitVec 32 := 0#32
  let c1_i32_301 : BitVec 32 := 1#32
  let arg11 : BitVec 32 := Scf.iv c0_i32_299 c1_i32_301 k0_t56
  let c16_i32_364 : BitVec 32 := 16#32
  let v426 : BitVec 32 := Scalar.muli arg11 c16_i32_364
  let v439 : Index := Scalar.indexCast v426
  ![3, v439.toNat]
@[reducible] def k0_t57_loop : Scf.Loop 32 :=
  let c0_i32_304 : BitVec 32 := 0#32
  let c64_i32_305 : BitVec 32 := 64#32
  let v356 : BitVec 32 := Scalar.addi c0_i32_304 c64_i32_305
  let c1_i32_306 : BitVec 32 := 1#32
  ⟨c0_i32_304, v356, c1_i32_306⟩
def k0_off167 (k0_t57 : Fin k0_t57_loop.trips) : Fin 2 → Nat :=
  let c8_i32_365 : BitVec 32 := 8#32
  let v427 : Index := Scalar.indexCast c8_i32_365
  let c0_i32_304 : BitVec 32 := 0#32
  let c1_i32_306 : BitVec 32 := 1#32
  let arg11 : BitVec 32 := Scf.iv c0_i32_304 c1_i32_306 k0_t57
  let c16_i32_364 : BitVec 32 := 16#32
  let v426 : BitVec 32 := Scalar.muli arg11 c16_i32_364
  let v428 : Index := Scalar.indexCast v426
  ![8, v428.toNat]
def k0_off168 (k0_t57 : Fin k0_t57_loop.trips) : Fin 2 → Nat :=
  let c9_i32 : BitVec 32 := 9#32
  let v430 : Index := Scalar.indexCast c9_i32
  let c0_i32_304 : BitVec 32 := 0#32
  let c1_i32_306 : BitVec 32 := 1#32
  let arg11 : BitVec 32 := Scf.iv c0_i32_304 c1_i32_306 k0_t57
  let c16_i32_364 : BitVec 32 := 16#32
  let v426 : BitVec 32 := Scalar.muli arg11 c16_i32_364
  let v431 : Index := Scalar.indexCast v426
  ![9, v431.toNat]
def k0_off169 (k0_t57 : Fin k0_t57_loop.trips) : Fin 2 → Nat :=
  let c4_i32 : BitVec 32 := 4#32
  let v438 : Index := Scalar.indexCast c4_i32
  let c0_i32_304 : BitVec 32 := 0#32
  let c1_i32_306 : BitVec 32 := 1#32
  let arg11 : BitVec 32 := Scf.iv c0_i32_304 c1_i32_306 k0_t57
  let c16_i32_364 : BitVec 32 := 16#32
  let v426 : BitVec 32 := Scalar.muli arg11 c16_i32_364
  let v439 : Index := Scalar.indexCast v426
  ![4, v439.toNat]
@[reducible] def k0_t58_loop : Scf.Loop 32 :=
  let c0_i32_309 : BitVec 32 := 0#32
  let c64_i32_310 : BitVec 32 := 64#32
  let v362 : BitVec 32 := Scalar.addi c0_i32_309 c64_i32_310
  let c1_i32_311 : BitVec 32 := 1#32
  ⟨c0_i32_309, v362, c1_i32_311⟩
def k0_off170 (k0_t58 : Fin k0_t58_loop.trips) : Fin 2 → Nat :=
  let c10_i32 : BitVec 32 := 10#32
  let v427 : Index := Scalar.indexCast c10_i32
  let c0_i32_309 : BitVec 32 := 0#32
  let c1_i32_311 : BitVec 32 := 1#32
  let arg11 : BitVec 32 := Scf.iv c0_i32_309 c1_i32_311 k0_t58
  let c16_i32_364 : BitVec 32 := 16#32
  let v426 : BitVec 32 := Scalar.muli arg11 c16_i32_364
  let v428 : Index := Scalar.indexCast v426
  ![10, v428.toNat]
def k0_off171 (k0_t58 : Fin k0_t58_loop.trips) : Fin 2 → Nat :=
  let c11_i32 : BitVec 32 := 11#32
  let v430 : Index := Scalar.indexCast c11_i32
  let c0_i32_309 : BitVec 32 := 0#32
  let c1_i32_311 : BitVec 32 := 1#32
  let arg11 : BitVec 32 := Scf.iv c0_i32_309 c1_i32_311 k0_t58
  let c16_i32_364 : BitVec 32 := 16#32
  let v426 : BitVec 32 := Scalar.muli arg11 c16_i32_364
  let v431 : Index := Scalar.indexCast v426
  ![11, v431.toNat]
def k0_off172 (k0_t58 : Fin k0_t58_loop.trips) : Fin 2 → Nat :=
  let c5_i32 : BitVec 32 := 5#32
  let v438 : Index := Scalar.indexCast c5_i32
  let c0_i32_309 : BitVec 32 := 0#32
  let c1_i32_311 : BitVec 32 := 1#32
  let arg11 : BitVec 32 := Scf.iv c0_i32_309 c1_i32_311 k0_t58
  let c16_i32_364 : BitVec 32 := 16#32
  let v426 : BitVec 32 := Scalar.muli arg11 c16_i32_364
  let v439 : Index := Scalar.indexCast v426
  ![5, v439.toNat]
@[reducible] def k0_t59_loop : Scf.Loop 32 :=
  let c0_i32_314 : BitVec 32 := 0#32
  let c64_i32_315 : BitVec 32 := 64#32
  let v368 : BitVec 32 := Scalar.addi c0_i32_314 c64_i32_315
  let c1_i32_316 : BitVec 32 := 1#32
  ⟨c0_i32_314, v368, c1_i32_316⟩
def k0_off173 (k0_t59 : Fin k0_t59_loop.trips) : Fin 2 → Nat :=
  let c12_i32 : BitVec 32 := 12#32
  let v427 : Index := Scalar.indexCast c12_i32
  let c0_i32_314 : BitVec 32 := 0#32
  let c1_i32_316 : BitVec 32 := 1#32
  let arg11 : BitVec 32 := Scf.iv c0_i32_314 c1_i32_316 k0_t59
  let c16_i32_364 : BitVec 32 := 16#32
  let v426 : BitVec 32 := Scalar.muli arg11 c16_i32_364
  let v428 : Index := Scalar.indexCast v426
  ![12, v428.toNat]
def k0_off174 (k0_t59 : Fin k0_t59_loop.trips) : Fin 2 → Nat :=
  let c13_i32 : BitVec 32 := 13#32
  let v430 : Index := Scalar.indexCast c13_i32
  let c0_i32_314 : BitVec 32 := 0#32
  let c1_i32_316 : BitVec 32 := 1#32
  let arg11 : BitVec 32 := Scf.iv c0_i32_314 c1_i32_316 k0_t59
  let c16_i32_364 : BitVec 32 := 16#32
  let v426 : BitVec 32 := Scalar.muli arg11 c16_i32_364
  let v431 : Index := Scalar.indexCast v426
  ![13, v431.toNat]
def k0_off175 (k0_t59 : Fin k0_t59_loop.trips) : Fin 2 → Nat :=
  let c6_i32 : BitVec 32 := 6#32
  let v438 : Index := Scalar.indexCast c6_i32
  let c0_i32_314 : BitVec 32 := 0#32
  let c1_i32_316 : BitVec 32 := 1#32
  let arg11 : BitVec 32 := Scf.iv c0_i32_314 c1_i32_316 k0_t59
  let c16_i32_364 : BitVec 32 := 16#32
  let v426 : BitVec 32 := Scalar.muli arg11 c16_i32_364
  let v439 : Index := Scalar.indexCast v426
  ![6, v439.toNat]
@[reducible] def k0_t60_loop : Scf.Loop 32 :=
  let c0_i32_319 : BitVec 32 := 0#32
  let c64_i32_320 : BitVec 32 := 64#32
  let v374 : BitVec 32 := Scalar.addi c0_i32_319 c64_i32_320
  let c1_i32_321 : BitVec 32 := 1#32
  ⟨c0_i32_319, v374, c1_i32_321⟩
def k0_off176 (k0_t60 : Fin k0_t60_loop.trips) : Fin 2 → Nat :=
  let c14_i32 : BitVec 32 := 14#32
  let v427 : Index := Scalar.indexCast c14_i32
  let c0_i32_319 : BitVec 32 := 0#32
  let c1_i32_321 : BitVec 32 := 1#32
  let arg11 : BitVec 32 := Scf.iv c0_i32_319 c1_i32_321 k0_t60
  let c16_i32_364 : BitVec 32 := 16#32
  let v426 : BitVec 32 := Scalar.muli arg11 c16_i32_364
  let v428 : Index := Scalar.indexCast v426
  ![14, v428.toNat]
def k0_off177 (k0_t60 : Fin k0_t60_loop.trips) : Fin 2 → Nat :=
  let c15_i32 : BitVec 32 := 15#32
  let v430 : Index := Scalar.indexCast c15_i32
  let c0_i32_319 : BitVec 32 := 0#32
  let c1_i32_321 : BitVec 32 := 1#32
  let arg11 : BitVec 32 := Scf.iv c0_i32_319 c1_i32_321 k0_t60
  let c16_i32_364 : BitVec 32 := 16#32
  let v426 : BitVec 32 := Scalar.muli arg11 c16_i32_364
  let v431 : Index := Scalar.indexCast v426
  ![15, v431.toNat]
def k0_off178 (k0_t60 : Fin k0_t60_loop.trips) : Fin 2 → Nat :=
  let c7_i32 : BitVec 32 := 7#32
  let v438 : Index := Scalar.indexCast c7_i32
  let c0_i32_319 : BitVec 32 := 0#32
  let c1_i32_321 : BitVec 32 := 1#32
  let arg11 : BitVec 32 := Scf.iv c0_i32_319 c1_i32_321 k0_t60
  let c16_i32_364 : BitVec 32 := 16#32
  let v426 : BitVec 32 := Scalar.muli arg11 c16_i32_364
  let v439 : Index := Scalar.indexCast v426
  ![7, v439.toNat]
@[reducible] def k0_t61_loop : Scf.Loop 32 :=
  let c0_i32_324 : BitVec 32 := 0#32
  let c64_i32_325 : BitVec 32 := 64#32
  let v380 : BitVec 32 := Scalar.addi c0_i32_324 c64_i32_325
  let c1_i32_326 : BitVec 32 := 1#32
  ⟨c0_i32_324, v380, c1_i32_326⟩
def k0_off179 (k0_t61 : Fin k0_t61_loop.trips) : Fin 2 → Nat :=
  let c16_i32_365 : BitVec 32 := 16#32
  let v427 : Index := Scalar.indexCast c16_i32_365
  let c0_i32_324 : BitVec 32 := 0#32
  let c1_i32_326 : BitVec 32 := 1#32
  let arg11 : BitVec 32 := Scf.iv c0_i32_324 c1_i32_326 k0_t61
  let c16_i32_364 : BitVec 32 := 16#32
  let v426 : BitVec 32 := Scalar.muli arg11 c16_i32_364
  let v428 : Index := Scalar.indexCast v426
  ![16, v428.toNat]
def k0_off180 (k0_t61 : Fin k0_t61_loop.trips) : Fin 2 → Nat :=
  let c17_i32 : BitVec 32 := 17#32
  let v430 : Index := Scalar.indexCast c17_i32
  let c0_i32_324 : BitVec 32 := 0#32
  let c1_i32_326 : BitVec 32 := 1#32
  let arg11 : BitVec 32 := Scf.iv c0_i32_324 c1_i32_326 k0_t61
  let c16_i32_364 : BitVec 32 := 16#32
  let v426 : BitVec 32 := Scalar.muli arg11 c16_i32_364
  let v431 : Index := Scalar.indexCast v426
  ![17, v431.toNat]
def k0_off181 (k0_t61 : Fin k0_t61_loop.trips) : Fin 2 → Nat :=
  let c8_i32_366 : BitVec 32 := 8#32
  let v438 : Index := Scalar.indexCast c8_i32_366
  let c0_i32_324 : BitVec 32 := 0#32
  let c1_i32_326 : BitVec 32 := 1#32
  let arg11 : BitVec 32 := Scf.iv c0_i32_324 c1_i32_326 k0_t61
  let c16_i32_364 : BitVec 32 := 16#32
  let v426 : BitVec 32 := Scalar.muli arg11 c16_i32_364
  let v439 : Index := Scalar.indexCast v426
  ![8, v439.toNat]
@[reducible] def k0_t62_loop : Scf.Loop 32 :=
  let c0_i32_329 : BitVec 32 := 0#32
  let c64_i32_330 : BitVec 32 := 64#32
  let v386 : BitVec 32 := Scalar.addi c0_i32_329 c64_i32_330
  let c1_i32_331 : BitVec 32 := 1#32
  ⟨c0_i32_329, v386, c1_i32_331⟩
def k0_off182 (k0_t62 : Fin k0_t62_loop.trips) : Fin 2 → Nat :=
  let c18_i32 : BitVec 32 := 18#32
  let v427 : Index := Scalar.indexCast c18_i32
  let c0_i32_329 : BitVec 32 := 0#32
  let c1_i32_331 : BitVec 32 := 1#32
  let arg11 : BitVec 32 := Scf.iv c0_i32_329 c1_i32_331 k0_t62
  let c16_i32_364 : BitVec 32 := 16#32
  let v426 : BitVec 32 := Scalar.muli arg11 c16_i32_364
  let v428 : Index := Scalar.indexCast v426
  ![18, v428.toNat]
def k0_off183 (k0_t62 : Fin k0_t62_loop.trips) : Fin 2 → Nat :=
  let c19_i32 : BitVec 32 := 19#32
  let v430 : Index := Scalar.indexCast c19_i32
  let c0_i32_329 : BitVec 32 := 0#32
  let c1_i32_331 : BitVec 32 := 1#32
  let arg11 : BitVec 32 := Scf.iv c0_i32_329 c1_i32_331 k0_t62
  let c16_i32_364 : BitVec 32 := 16#32
  let v426 : BitVec 32 := Scalar.muli arg11 c16_i32_364
  let v431 : Index := Scalar.indexCast v426
  ![19, v431.toNat]
def k0_off184 (k0_t62 : Fin k0_t62_loop.trips) : Fin 2 → Nat :=
  let c9_i32 : BitVec 32 := 9#32
  let v438 : Index := Scalar.indexCast c9_i32
  let c0_i32_329 : BitVec 32 := 0#32
  let c1_i32_331 : BitVec 32 := 1#32
  let arg11 : BitVec 32 := Scf.iv c0_i32_329 c1_i32_331 k0_t62
  let c16_i32_364 : BitVec 32 := 16#32
  let v426 : BitVec 32 := Scalar.muli arg11 c16_i32_364
  let v439 : Index := Scalar.indexCast v426
  ![9, v439.toNat]
@[reducible] def k0_t63_loop : Scf.Loop 32 :=
  let c0_i32_334 : BitVec 32 := 0#32
  let c64_i32_335 : BitVec 32 := 64#32
  let v392 : BitVec 32 := Scalar.addi c0_i32_334 c64_i32_335
  let c1_i32_336 : BitVec 32 := 1#32
  ⟨c0_i32_334, v392, c1_i32_336⟩
def k0_off185 (k0_t63 : Fin k0_t63_loop.trips) : Fin 2 → Nat :=
  let c20_i32 : BitVec 32 := 20#32
  let v427 : Index := Scalar.indexCast c20_i32
  let c0_i32_334 : BitVec 32 := 0#32
  let c1_i32_336 : BitVec 32 := 1#32
  let arg11 : BitVec 32 := Scf.iv c0_i32_334 c1_i32_336 k0_t63
  let c16_i32_364 : BitVec 32 := 16#32
  let v426 : BitVec 32 := Scalar.muli arg11 c16_i32_364
  let v428 : Index := Scalar.indexCast v426
  ![20, v428.toNat]
def k0_off186 (k0_t63 : Fin k0_t63_loop.trips) : Fin 2 → Nat :=
  let c21_i32 : BitVec 32 := 21#32
  let v430 : Index := Scalar.indexCast c21_i32
  let c0_i32_334 : BitVec 32 := 0#32
  let c1_i32_336 : BitVec 32 := 1#32
  let arg11 : BitVec 32 := Scf.iv c0_i32_334 c1_i32_336 k0_t63
  let c16_i32_364 : BitVec 32 := 16#32
  let v426 : BitVec 32 := Scalar.muli arg11 c16_i32_364
  let v431 : Index := Scalar.indexCast v426
  ![21, v431.toNat]
def k0_off187 (k0_t63 : Fin k0_t63_loop.trips) : Fin 2 → Nat :=
  let c10_i32 : BitVec 32 := 10#32
  let v438 : Index := Scalar.indexCast c10_i32
  let c0_i32_334 : BitVec 32 := 0#32
  let c1_i32_336 : BitVec 32 := 1#32
  let arg11 : BitVec 32 := Scf.iv c0_i32_334 c1_i32_336 k0_t63
  let c16_i32_364 : BitVec 32 := 16#32
  let v426 : BitVec 32 := Scalar.muli arg11 c16_i32_364
  let v439 : Index := Scalar.indexCast v426
  ![10, v439.toNat]
@[reducible] def k0_t64_loop : Scf.Loop 32 :=
  let c0_i32_339 : BitVec 32 := 0#32
  let c64_i32_340 : BitVec 32 := 64#32
  let v398 : BitVec 32 := Scalar.addi c0_i32_339 c64_i32_340
  let c1_i32_341 : BitVec 32 := 1#32
  ⟨c0_i32_339, v398, c1_i32_341⟩
def k0_off188 (k0_t64 : Fin k0_t64_loop.trips) : Fin 2 → Nat :=
  let c22_i32 : BitVec 32 := 22#32
  let v427 : Index := Scalar.indexCast c22_i32
  let c0_i32_339 : BitVec 32 := 0#32
  let c1_i32_341 : BitVec 32 := 1#32
  let arg11 : BitVec 32 := Scf.iv c0_i32_339 c1_i32_341 k0_t64
  let c16_i32_364 : BitVec 32 := 16#32
  let v426 : BitVec 32 := Scalar.muli arg11 c16_i32_364
  let v428 : Index := Scalar.indexCast v426
  ![22, v428.toNat]
def k0_off189 (k0_t64 : Fin k0_t64_loop.trips) : Fin 2 → Nat :=
  let c23_i32 : BitVec 32 := 23#32
  let v430 : Index := Scalar.indexCast c23_i32
  let c0_i32_339 : BitVec 32 := 0#32
  let c1_i32_341 : BitVec 32 := 1#32
  let arg11 : BitVec 32 := Scf.iv c0_i32_339 c1_i32_341 k0_t64
  let c16_i32_364 : BitVec 32 := 16#32
  let v426 : BitVec 32 := Scalar.muli arg11 c16_i32_364
  let v431 : Index := Scalar.indexCast v426
  ![23, v431.toNat]
def k0_off190 (k0_t64 : Fin k0_t64_loop.trips) : Fin 2 → Nat :=
  let c11_i32 : BitVec 32 := 11#32
  let v438 : Index := Scalar.indexCast c11_i32
  let c0_i32_339 : BitVec 32 := 0#32
  let c1_i32_341 : BitVec 32 := 1#32
  let arg11 : BitVec 32 := Scf.iv c0_i32_339 c1_i32_341 k0_t64
  let c16_i32_364 : BitVec 32 := 16#32
  let v426 : BitVec 32 := Scalar.muli arg11 c16_i32_364
  let v439 : Index := Scalar.indexCast v426
  ![11, v439.toNat]
@[reducible] def k0_t65_loop : Scf.Loop 32 :=
  let c0_i32_344 : BitVec 32 := 0#32
  let c64_i32_345 : BitVec 32 := 64#32
  let v404 : BitVec 32 := Scalar.addi c0_i32_344 c64_i32_345
  let c1_i32_346 : BitVec 32 := 1#32
  ⟨c0_i32_344, v404, c1_i32_346⟩
def k0_off191 (k0_t65 : Fin k0_t65_loop.trips) : Fin 2 → Nat :=
  let c24_i32 : BitVec 32 := 24#32
  let v427 : Index := Scalar.indexCast c24_i32
  let c0_i32_344 : BitVec 32 := 0#32
  let c1_i32_346 : BitVec 32 := 1#32
  let arg11 : BitVec 32 := Scf.iv c0_i32_344 c1_i32_346 k0_t65
  let c16_i32_364 : BitVec 32 := 16#32
  let v426 : BitVec 32 := Scalar.muli arg11 c16_i32_364
  let v428 : Index := Scalar.indexCast v426
  ![24, v428.toNat]
def k0_off192 (k0_t65 : Fin k0_t65_loop.trips) : Fin 2 → Nat :=
  let c25_i32 : BitVec 32 := 25#32
  let v430 : Index := Scalar.indexCast c25_i32
  let c0_i32_344 : BitVec 32 := 0#32
  let c1_i32_346 : BitVec 32 := 1#32
  let arg11 : BitVec 32 := Scf.iv c0_i32_344 c1_i32_346 k0_t65
  let c16_i32_364 : BitVec 32 := 16#32
  let v426 : BitVec 32 := Scalar.muli arg11 c16_i32_364
  let v431 : Index := Scalar.indexCast v426
  ![25, v431.toNat]
def k0_off193 (k0_t65 : Fin k0_t65_loop.trips) : Fin 2 → Nat :=
  let c12_i32 : BitVec 32 := 12#32
  let v438 : Index := Scalar.indexCast c12_i32
  let c0_i32_344 : BitVec 32 := 0#32
  let c1_i32_346 : BitVec 32 := 1#32
  let arg11 : BitVec 32 := Scf.iv c0_i32_344 c1_i32_346 k0_t65
  let c16_i32_364 : BitVec 32 := 16#32
  let v426 : BitVec 32 := Scalar.muli arg11 c16_i32_364
  let v439 : Index := Scalar.indexCast v426
  ![12, v439.toNat]
@[reducible] def k0_t66_loop : Scf.Loop 32 :=
  let c0_i32_349 : BitVec 32 := 0#32
  let c64_i32_350 : BitVec 32 := 64#32
  let v410 : BitVec 32 := Scalar.addi c0_i32_349 c64_i32_350
  let c1_i32_351 : BitVec 32 := 1#32
  ⟨c0_i32_349, v410, c1_i32_351⟩
def k0_off194 (k0_t66 : Fin k0_t66_loop.trips) : Fin 2 → Nat :=
  let c26_i32 : BitVec 32 := 26#32
  let v427 : Index := Scalar.indexCast c26_i32
  let c0_i32_349 : BitVec 32 := 0#32
  let c1_i32_351 : BitVec 32 := 1#32
  let arg11 : BitVec 32 := Scf.iv c0_i32_349 c1_i32_351 k0_t66
  let c16_i32_364 : BitVec 32 := 16#32
  let v426 : BitVec 32 := Scalar.muli arg11 c16_i32_364
  let v428 : Index := Scalar.indexCast v426
  ![26, v428.toNat]
def k0_off195 (k0_t66 : Fin k0_t66_loop.trips) : Fin 2 → Nat :=
  let c27_i32 : BitVec 32 := 27#32
  let v430 : Index := Scalar.indexCast c27_i32
  let c0_i32_349 : BitVec 32 := 0#32
  let c1_i32_351 : BitVec 32 := 1#32
  let arg11 : BitVec 32 := Scf.iv c0_i32_349 c1_i32_351 k0_t66
  let c16_i32_364 : BitVec 32 := 16#32
  let v426 : BitVec 32 := Scalar.muli arg11 c16_i32_364
  let v431 : Index := Scalar.indexCast v426
  ![27, v431.toNat]
def k0_off196 (k0_t66 : Fin k0_t66_loop.trips) : Fin 2 → Nat :=
  let c13_i32 : BitVec 32 := 13#32
  let v438 : Index := Scalar.indexCast c13_i32
  let c0_i32_349 : BitVec 32 := 0#32
  let c1_i32_351 : BitVec 32 := 1#32
  let arg11 : BitVec 32 := Scf.iv c0_i32_349 c1_i32_351 k0_t66
  let c16_i32_364 : BitVec 32 := 16#32
  let v426 : BitVec 32 := Scalar.muli arg11 c16_i32_364
  let v439 : Index := Scalar.indexCast v426
  ![13, v439.toNat]
@[reducible] def k0_t67_loop : Scf.Loop 32 :=
  let c0_i32_354 : BitVec 32 := 0#32
  let c64_i32_355 : BitVec 32 := 64#32
  let v416 : BitVec 32 := Scalar.addi c0_i32_354 c64_i32_355
  let c1_i32_356 : BitVec 32 := 1#32
  ⟨c0_i32_354, v416, c1_i32_356⟩
def k0_off197 (k0_t67 : Fin k0_t67_loop.trips) : Fin 2 → Nat :=
  let c28_i32 : BitVec 32 := 28#32
  let v427 : Index := Scalar.indexCast c28_i32
  let c0_i32_354 : BitVec 32 := 0#32
  let c1_i32_356 : BitVec 32 := 1#32
  let arg11 : BitVec 32 := Scf.iv c0_i32_354 c1_i32_356 k0_t67
  let c16_i32_364 : BitVec 32 := 16#32
  let v426 : BitVec 32 := Scalar.muli arg11 c16_i32_364
  let v428 : Index := Scalar.indexCast v426
  ![28, v428.toNat]
def k0_off198 (k0_t67 : Fin k0_t67_loop.trips) : Fin 2 → Nat :=
  let c29_i32 : BitVec 32 := 29#32
  let v430 : Index := Scalar.indexCast c29_i32
  let c0_i32_354 : BitVec 32 := 0#32
  let c1_i32_356 : BitVec 32 := 1#32
  let arg11 : BitVec 32 := Scf.iv c0_i32_354 c1_i32_356 k0_t67
  let c16_i32_364 : BitVec 32 := 16#32
  let v426 : BitVec 32 := Scalar.muli arg11 c16_i32_364
  let v431 : Index := Scalar.indexCast v426
  ![29, v431.toNat]
def k0_off199 (k0_t67 : Fin k0_t67_loop.trips) : Fin 2 → Nat :=
  let c14_i32 : BitVec 32 := 14#32
  let v438 : Index := Scalar.indexCast c14_i32
  let c0_i32_354 : BitVec 32 := 0#32
  let c1_i32_356 : BitVec 32 := 1#32
  let arg11 : BitVec 32 := Scf.iv c0_i32_354 c1_i32_356 k0_t67
  let c16_i32_364 : BitVec 32 := 16#32
  let v426 : BitVec 32 := Scalar.muli arg11 c16_i32_364
  let v439 : Index := Scalar.indexCast v426
  ![14, v439.toNat]
@[reducible] def k0_t68_loop : Scf.Loop 32 :=
  let c0_i32_359 : BitVec 32 := 0#32
  let c64_i32_360 : BitVec 32 := 64#32
  let v422 : BitVec 32 := Scalar.addi c0_i32_359 c64_i32_360
  let c1_i32_361 : BitVec 32 := 1#32
  ⟨c0_i32_359, v422, c1_i32_361⟩
def k0_off200 (k0_t68 : Fin k0_t68_loop.trips) : Fin 2 → Nat :=
  let c30_i32 : BitVec 32 := 30#32
  let v427 : Index := Scalar.indexCast c30_i32
  let c0_i32_359 : BitVec 32 := 0#32
  let c1_i32_361 : BitVec 32 := 1#32
  let arg11 : BitVec 32 := Scf.iv c0_i32_359 c1_i32_361 k0_t68
  let c16_i32_364 : BitVec 32 := 16#32
  let v426 : BitVec 32 := Scalar.muli arg11 c16_i32_364
  let v428 : Index := Scalar.indexCast v426
  ![30, v428.toNat]
def k0_off201 (k0_t68 : Fin k0_t68_loop.trips) : Fin 2 → Nat :=
  let c31_i32 : BitVec 32 := 31#32
  let v430 : Index := Scalar.indexCast c31_i32
  let c0_i32_359 : BitVec 32 := 0#32
  let c1_i32_361 : BitVec 32 := 1#32
  let arg11 : BitVec 32 := Scf.iv c0_i32_359 c1_i32_361 k0_t68
  let c16_i32_364 : BitVec 32 := 16#32
  let v426 : BitVec 32 := Scalar.muli arg11 c16_i32_364
  let v431 : Index := Scalar.indexCast v426
  ![31, v431.toNat]
def k0_off202 (k0_t68 : Fin k0_t68_loop.trips) : Fin 2 → Nat :=
  let c15_i32 : BitVec 32 := 15#32
  let v438 : Index := Scalar.indexCast c15_i32
  let c0_i32_359 : BitVec 32 := 0#32
  let c1_i32_361 : BitVec 32 := 1#32
  let arg11 : BitVec 32 := Scf.iv c0_i32_359 c1_i32_361 k0_t68
  let c16_i32_364 : BitVec 32 := 16#32
  let v426 : BitVec 32 := Scalar.muli arg11 c16_i32_364
  let v439 : Index := Scalar.indexCast v426
  ![15, v439.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S6144x1024 : Shape := ⟨2, ![6144, 1024]⟩
abbrev S4096 : Shape := ⟨1, ![4096]⟩
abbrev S2048x2 : Shape := ⟨2, ![2048, 2]⟩
abbrev S_ : Shape := ⟨0, ![]⟩
abbrev S2048x2x1 : Shape := ⟨3, ![2048, 2, 1]⟩
abbrev S2048x2x1024 : Shape := ⟨3, ![2048, 2, 1024]⟩
abbrev S2048x1024 : Shape := ⟨2, ![2048, 1024]⟩

abbrev nBuf : Space → Nat
  | .hbm => 18
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S4096, .i32⟩
  | .hbm, ⟨2, _⟩ => ⟨S2048x2, .f32⟩
  | .hbm, ⟨3, _⟩ => ⟨S2048x2, .i32⟩
  | .hbm, ⟨4, _⟩ => ⟨S_, .i32⟩
  | .hbm, ⟨5, _⟩ => ⟨S2048x2, .i32⟩
  | .hbm, ⟨6, _⟩ => ⟨S2048x2, .i1⟩
  | .hbm, ⟨7, _⟩ => ⟨S_, .i32⟩
  | .hbm, ⟨8, _⟩ => ⟨S2048x2, .i32⟩
  | .hbm, ⟨9, _⟩ => ⟨S2048x2, .i32⟩
  | .hbm, ⟨10, _⟩ => ⟨S2048x2, .i32⟩
  | .hbm, ⟨11, _⟩ => ⟨S2048x2x1, .i32⟩
  | .hbm, ⟨12, _⟩ => ⟨S2048x2x1024, .f32⟩
  | .hbm, ⟨13, _⟩ => ⟨S2048x2x1, .f32⟩
  | .hbm, ⟨14, _⟩ => ⟨S2048x2x1024, .f32⟩
  | .hbm, ⟨15, _⟩ => ⟨S2048x2x1024, .f32⟩
  | .hbm, ⟨16, _⟩ => ⟨S_, .f32⟩
  | .hbm, ⟨17, _⟩ => ⟨S2048x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Dispatch.lean ====
abbrev S4096 : Shape := ⟨1, ![4096]⟩
abbrev S32x16 : Shape := ⟨2, ![32, 16]⟩
abbrev S16 : Shape := ⟨1, ![16]⟩
abbrev S2048x1024 : Shape := ⟨2, ![2048, 1024]⟩
abbrev S6144x1024 : Shape := ⟨2, ![6144, 1024]⟩
abbrev S128 : Shape := ⟨1, ![128]⟩
abbrev S4x32 : Shape := ⟨2, ![4, 32]⟩
abbrev S32x1024 : Shape := ⟨2, ![32, 1024]⟩
abbrev S_ : Shape := ⟨0, ![]⟩
abbrev S1x16 : Shape := ⟨2, ![1, 16]⟩
abbrev S1 : Shape := ⟨1, ![1]⟩
abbrev S1x32 : Shape := ⟨2, ![1, 32]⟩
abbrev S32 : Shape := ⟨1, ![32]⟩
abbrev S32x128 : Shape := ⟨2, ![32, 128]⟩
abbrev S2048x128 : Shape := ⟨2, ![2048, 128]⟩
abbrev S6144x128 : Shape := ⟨2, ![6144, 128]⟩
abbrev S4096x1 : Shape := ⟨2, ![4096, 1]⟩
abbrev S4096x1024 : Shape := ⟨2, ![4096, 1024]⟩

abbrev nBuf : Table → Nat
  | .hbm => 15
  | .local .scVector .vmem => 6
  | _ => 0

abbrev bufTy : (tb : Table) → Fin (nBuf tb) → BufTy
  | .hbm, ⟨0, _⟩ => ⟨S4096, .i32⟩
  | .hbm, ⟨1, _⟩ => ⟨S32x16, .i32⟩
  | .hbm, ⟨2, _⟩ => ⟨S16, .i32⟩
  | .hbm, ⟨3, _⟩ => ⟨S2048x1024, .f32⟩
  | .hbm, ⟨4, _⟩ => ⟨S4096, .i32⟩
  | .hbm, ⟨5, _⟩ => ⟨S6144x1024, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x1024, .f32⟩
  | .local .scVector .vmem, ⟨0, _⟩ => ⟨S32x16, .i32⟩
  | .local .scVector .vmem, ⟨1, _⟩ => ⟨S16, .i32⟩
  | .local .scVector .vmem, ⟨2, _⟩ => ⟨S128, .i32⟩
  | .local .scVector .vmem, ⟨3, _⟩ => ⟨S4x32, .i32⟩
  | .local .scVector .vmem, ⟨4, _⟩ => ⟨S4x32, .i32⟩
  | .local .scVector .vmem, ⟨5, _⟩ => ⟨S32x1024, .f32⟩
  | _, _ => ⟨S4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) (c0_i32_253 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_252 : BitVec 32 := 128#32
  let v618 : BitVec 32 := Scalar.muli v1 c128_i32_252
  let v619 : BitVec 32 := Scalar.addi v618 c0_i32_253
  ![v619.toNat]
@[reducible] def k0_t1_loop : Scf.Loop 32 :=
  let c0_i32_256 : BitVec 32 := 0#32
  let c8_i32_257 : BitVec 32 := 8#32
  let v620 : BitVec 32 := Scalar.addi c0_i32_256 c8_i32_257
  let c1_i32_258 : BitVec 32 := 1#32
  ⟨c0_i32_256, v620, c1_i32_258⟩
def k0_mult1 (k0_t1 : Fin k0_t1_loop.trips) : BitVec 32 :=
  let c0_i32_256 : BitVec 32 := 0#32
  let c1_i32_258 : BitVec 32 := 1#32
  let arg15 : BitVec 32 := Scf.iv c0_i32_256 c1_i32_258 k0_t1
  let c128_i32_664 : BitVec 32 := 128#32
  let v1806 : BitVec 32 := Scalar.muli arg15 c128_i32_664
  v1806
def k0_off3 (k0_t1 : Fin k0_t1_loop.trips) : Fin 2 → Nat :=
  let c0_i32_666 : BitVec 32 := 0#32
  let c0_i32_256 : BitVec 32 := 0#32
  let c1_i32_258 : BitVec 32 := 1#32
  let arg15 : BitVec 32 := Scf.iv c0_i32_256 c1_i32_258 k0_t1
  let c128_i32_664 : BitVec 32 := 128#32
  let v1806 : BitVec 32 := Scalar.muli arg15 c128_i32_664
  let v1807 : BitVec 32 := v1806
  ![0, v1807.toNat]
def k0_off4 (k0_t1 : Fin k0_t1_loop.trips) : Fin 2 → Nat :=
  let c0_i32_668 : BitVec 32 := 0#32
  let c0_i32_256 : BitVec 32 := 0#32
  let c1_i32_258 : BitVec 32 := 1#32
  let arg15 : BitVec 32 := Scf.iv c0_i32_256 c1_i32_258 k0_t1
  let c128_i32_664 : BitVec 32 := 128#32
  let v1806 : BitVec 32 := Scalar.muli arg15 c128_i32_664
  let v1807 : BitVec 32 := v1806
  ![0, v1807.toNat]
@[reducible] def k0_t2_loop : Scf.Loop 32 :=
  let c0_i32_261 : BitVec 32 := 0#32
  let c8_i32_262 : BitVec 32 := 8#32
  let v622 : BitVec 32 := Scalar.addi c0_i32_261 c8_i32_262
  let c1_i32_263 : BitVec 32 := 1#32
  ⟨c0_i32_261, v622, c1_i32_263⟩
def k0_mult2 (k0_t2 : Fin k0_t2_loop.trips) : BitVec 32 :=
  let c0_i32_261 : BitVec 32 := 0#32
  let c1_i32_263 : BitVec 32 := 1#32
  let arg15 : BitVec 32 := Scf.iv c0_i32_261 c1_i32_263 k0_t2
  let c128_i32_664 : BitVec 32 := 128#32
  let v1806 : BitVec 32 := Scalar.muli arg15 c128_i32_664
  v1806
def k0_off5 (k0_t2 : Fin k0_t2_loop.trips) : Fin 2 → Nat :=
  let c0_i32_666 : BitVec 32 := 0#32
  let c0_i32_261 : BitVec 32 := 0#32
  let c1_i32_263 : BitVec 32 := 1#32
  let arg15 : BitVec 32 := Scf.iv c0_i32_261 c1_i32_263 k0_t2
  let c128_i32_664 : BitVec 32 := 128#32
  let v1806 : BitVec 32 := Scalar.muli arg15 c128_i32_664
  let v1807 : BitVec 32 := v1806
  ![0, v1807.toNat]
def k0_off6 (k0_t2 : Fin k0_t2_loop.trips) : Fin 2 → Nat :=
  let c0_i32_668 : BitVec 32 := 0#32
  let c0_i32_261 : BitVec 32 := 0#32
  let c1_i32_263 : BitVec 32 := 1#32
  let arg15 : BitVec 32 := Scf.iv c0_i32_261 c1_i32_263 k0_t2
  let c128_i32_664 : BitVec 32 := 128#32
  let v1806 : BitVec 32 := Scalar.muli arg15 c128_i32_664
  let v1807 : BitVec 32 := v1806
  ![0, v1807.toNat]
@[reducible] def k0_t3_loop : Scf.Loop 32 :=
  let c0_i32_389 : BitVec 32 := 0#32
  let c8_i32_390 : BitVec 32 := 8#32
  let v1014 : BitVec 32 := Scalar.addi c0_i32_389 c8_i32_390
  let c1_i32_391 : BitVec 32 := 1#32
  ⟨c0_i32_389, v1014, c1_i32_391⟩
def k0_mult3 (k0_t3 : Fin k0_t3_loop.trips) : BitVec 32 :=
  let c0_i32_389 : BitVec 32 := 0#32
  let c1_i32_391 : BitVec 32 := 1#32
  let arg15 : BitVec 32 := Scf.iv c0_i32_389 c1_i32_391 k0_t3
  let c128_i32_664 : BitVec 32 := 128#32
  let v1806 : BitVec 32 := Scalar.muli arg15 c128_i32_664
  v1806
def k0_off7 (k0_t3 : Fin k0_t3_loop.trips) : Fin 2 → Nat :=
  let c0_i32_666 : BitVec 32 := 0#32
  let c0_i32_389 : BitVec 32 := 0#32
  let c1_i32_391 : BitVec 32 := 1#32
  let arg15 : BitVec 32 := Scf.iv c0_i32_389 c1_i32_391 k0_t3
  let c128_i32_664 : BitVec 32 := 128#32
  let v1806 : BitVec 32 := Scalar.muli arg15 c128_i32_664
  let v1807 : BitVec 32 := v1806
  ![0, v1807.toNat]
def k0_off8 (k0_t3 : Fin k0_t3_loop.trips) : Fin 2 → Nat :=
  let c0_i32_668 : BitVec 32 := 0#32
  let c0_i32_389 : BitVec 32 := 0#32
  let c1_i32_391 : BitVec 32 := 1#32
  let arg15 : BitVec 32 := Scf.iv c0_i32_389 c1_i32_391 k0_t3
  let c128_i32_664 : BitVec 32 := 128#32
  let v1806 : BitVec 32 := Scalar.muli arg15 c128_i32_664
  let v1807 : BitVec 32 := v1806
  ![0, v1807.toNat]
@[reducible] def k0_t4_loop : Scf.Loop 32 :=
  let c0_i32_394 : BitVec 32 := 0#32
  let c8_i32_395 : BitVec 32 := 8#32
  let v1016 : BitVec 32 := Scalar.addi c0_i32_394 c8_i32_395
  let c1_i32_396 : BitVec 32 := 1#32
  ⟨c0_i32_394, v1016, c1_i32_396⟩
def k0_mult4 (k0_t4 : Fin k0_t4_loop.trips) : BitVec 32 :=
  let c0_i32_394 : BitVec 32 := 0#32
  let c1_i32_396 : BitVec 32 := 1#32
  let arg15 : BitVec 32 := Scf.iv c0_i32_394 c1_i32_396 k0_t4
  let c128_i32_664 : BitVec 32 := 128#32
  let v1806 : BitVec 32 := Scalar.muli arg15 c128_i32_664
  v1806
def k0_off9 (k0_t4 : Fin k0_t4_loop.trips) : Fin 2 → Nat :=
  let c0_i32_666 : BitVec 32 := 0#32
  let c0_i32_394 : BitVec 32 := 0#32
  let c1_i32_396 : BitVec 32 := 1#32
  let arg15 : BitVec 32 := Scf.iv c0_i32_394 c1_i32_396 k0_t4
  let c128_i32_664 : BitVec 32 := 128#32
  let v1806 : BitVec 32 := Scalar.muli arg15 c128_i32_664
  let v1807 : BitVec 32 := v1806
  ![0, v1807.toNat]
def k0_off10 (k0_t4 : Fin k0_t4_loop.trips) : Fin 2 → Nat :=
  let c0_i32_668 : BitVec 32 := 0#32
  let c0_i32_394 : BitVec 32 := 0#32
  let c1_i32_396 : BitVec 32 := 1#32
  let arg15 : BitVec 32 := Scf.iv c0_i32_394 c1_i32_396 k0_t4
  let c128_i32_664 : BitVec 32 := 128#32
  let v1806 : BitVec 32 := Scalar.muli arg15 c128_i32_664
  let v1807 : BitVec 32 := v1806
  ![0, v1807.toNat]
@[reducible] def k0_t5_loop : Scf.Loop 32 :=
  let c0_i32_522 : BitVec 32 := 0#32
  let c8_i32_523 : BitVec 32 := 8#32
  let v1408 : BitVec 32 := Scalar.addi c0_i32_522 c8_i32_523
  let c1_i32_524 : BitVec 32 := 1#32
  ⟨c0_i32_522, v1408, c1_i32_524⟩
def k0_mult5 (k0_t5 : Fin k0_t5_loop.trips) : BitVec 32 :=
  let c0_i32_522 : BitVec 32 := 0#32
  let c1_i32_524 : BitVec 32 := 1#32
  let arg15 : BitVec 32 := Scf.iv c0_i32_522 c1_i32_524 k0_t5
  let c128_i32_664 : BitVec 32 := 128#32
  let v1806 : BitVec 32 := Scalar.muli arg15 c128_i32_664
  v1806
def k0_off11 (k0_t5 : Fin k0_t5_loop.trips) : Fin 2 → Nat :=
  let c0_i32_666 : BitVec 32 := 0#32
  let c0_i32_522 : BitVec 32 := 0#32
  let c1_i32_524 : BitVec 32 := 1#32
  let arg15 : BitVec 32 := Scf.iv c0_i32_522 c1_i32_524 k0_t5
  let c128_i32_664 : BitVec 32 := 128#32
  let v1806 : BitVec 32 := Scalar.muli arg15 c128_i32_664
  let v1807 : BitVec 32 := v1806
  ![0, v1807.toNat]
def k0_off12 (k0_t5 : Fin k0_t5_loop.trips) : Fin 2 → Nat :=
  let c0_i32_668 : BitVec 32 := 0#32
  let c0_i32_522 : BitVec 32 := 0#32
  let c1_i32_524 : BitVec 32 := 1#32
  let arg15 : BitVec 32 := Scf.iv c0_i32_522 c1_i32_524 k0_t5
  let c128_i32_664 : BitVec 32 := 128#32
  let v1806 : BitVec 32 := Scalar.muli arg15 c128_i32_664
  let v1807 : BitVec 32 := v1806
  ![0, v1807.toNat]
@[reducible] def k0_t6_loop : Scf.Loop 32 :=
  let c0_i32_527 : BitVec 32 := 0#32
  let c8_i32_528 : BitVec 32 := 8#32
  let v1410 : BitVec 32 := Scalar.addi c0_i32_527 c8_i32_528
  let c1_i32_529 : BitVec 32 := 1#32
  ⟨c0_i32_527, v1410, c1_i32_529⟩
def k0_mult6 (k0_t6 : Fin k0_t6_loop.trips) : BitVec 32 :=
  let c0_i32_527 : BitVec 32 := 0#32
  let c1_i32_529 : BitVec 32 := 1#32
  let arg15 : BitVec 32 := Scf.iv c0_i32_527 c1_i32_529 k0_t6
  let c128_i32_664 : BitVec 32 := 128#32
  let v1806 : BitVec 32 := Scalar.muli arg15 c128_i32_664
  v1806
def k0_off13 (k0_t6 : Fin k0_t6_loop.trips) : Fin 2 → Nat :=
  let c0_i32_666 : BitVec 32 := 0#32
  let c0_i32_527 : BitVec 32 := 0#32
  let c1_i32_529 : BitVec 32 := 1#32
  let arg15 : BitVec 32 := Scf.iv c0_i32_527 c1_i32_529 k0_t6
  let c128_i32_664 : BitVec 32 := 128#32
  let v1806 : BitVec 32 := Scalar.muli arg15 c128_i32_664
  let v1807 : BitVec 32 := v1806
  ![0, v1807.toNat]
def k0_off14 (k0_t6 : Fin k0_t6_loop.trips) : Fin 2 → Nat :=
  let c0_i32_668 : BitVec 32 := 0#32
  let c0_i32_527 : BitVec 32 := 0#32
  let c1_i32_529 : BitVec 32 := 1#32
  let arg15 : BitVec 32 := Scf.iv c0_i32_527 c1_i32_529 k0_t6
  let c128_i32_664 : BitVec 32 := 128#32
  let v1806 : BitVec 32 := Scalar.muli arg15 c128_i32_664
  let v1807 : BitVec 32 := v1806
  ![0, v1807.toNat]
@[reducible] def k0_t7_loop : Scf.Loop 32 :=
  let c0_i32_655 : BitVec 32 := 0#32
  let c8_i32_656 : BitVec 32 := 8#32
  let v1802 : BitVec 32 := Scalar.addi c0_i32_655 c8_i32_656
  let c1_i32_657 : BitVec 32 := 1#32
  ⟨c0_i32_655, v1802, c1_i32_657⟩
def k0_mult7 (k0_t7 : Fin k0_t7_loop.trips) : BitVec 32 :=
  let c0_i32_655 : BitVec 32 := 0#32
  let c1_i32_657 : BitVec 32 := 1#32
  let arg15 : BitVec 32 := Scf.iv c0_i32_655 c1_i32_657 k0_t7
  let c128_i32_664 : BitVec 32 := 128#32
  let v1806 : BitVec 32 := Scalar.muli arg15 c128_i32_664
  v1806
def k0_off15 (k0_t7 : Fin k0_t7_loop.trips) : Fin 2 → Nat :=
  let c0_i32_666 : BitVec 32 := 0#32
  let c0_i32_655 : BitVec 32 := 0#32
  let c1_i32_657 : BitVec 32 := 1#32
  let arg15 : BitVec 32 := Scf.iv c0_i32_655 c1_i32_657 k0_t7
  let c128_i32_664 : BitVec 32 := 128#32
  let v1806 : BitVec 32 := Scalar.muli arg15 c128_i32_664
  let v1807 : BitVec 32 := v1806
  ![0, v1807.toNat]
def k0_off16 (k0_t7 : Fin k0_t7_loop.trips) : Fin 2 → Nat :=
  let c0_i32_668 : BitVec 32 := 0#32
  let c0_i32_655 : BitVec 32 := 0#32
  let c1_i32_657 : BitVec 32 := 1#32
  let arg15 : BitVec 32 := Scf.iv c0_i32_655 c1_i32_657 k0_t7
  let c128_i32_664 : BitVec 32 := 128#32
  let v1806 : BitVec 32 := Scalar.muli arg15 c128_i32_664
  let v1807 : BitVec 32 := v1806
  ![0, v1807.toNat]
@[reducible] def k0_t8_loop : Scf.Loop 32 :=
  let c0_i32_660 : BitVec 32 := 0#32
  let c8_i32_661 : BitVec 32 := 8#32
  let v1804 : BitVec 32 := Scalar.addi c0_i32_660 c8_i32_661
  let c1_i32_662 : BitVec 32 := 1#32
  ⟨c0_i32_660, v1804, c1_i32_662⟩
def k0_mult8 (k0_t8 : Fin k0_t8_loop.trips) : BitVec 32 :=
  let c0_i32_660 : BitVec 32 := 0#32
  let c1_i32_662 : BitVec 32 := 1#32
  let arg15 : BitVec 32 := Scf.iv c0_i32_660 c1_i32_662 k0_t8
  let c128_i32_664 : BitVec 32 := 128#32
  let v1806 : BitVec 32 := Scalar.muli arg15 c128_i32_664
  v1806
def k0_off17 (k0_t8 : Fin k0_t8_loop.trips) : Fin 2 → Nat :=
  let c0_i32_666 : BitVec 32 := 0#32
  let c0_i32_660 : BitVec 32 := 0#32
  let c1_i32_662 : BitVec 32 := 1#32
  let arg15 : BitVec 32 := Scf.iv c0_i32_660 c1_i32_662 k0_t8
  let c128_i32_664 : BitVec 32 := 128#32
  let v1806 : BitVec 32 := Scalar.muli arg15 c128_i32_664
  let v1807 : BitVec 32 := v1806
  ![0, v1807.toNat]
def k0_off18 (k0_t8 : Fin k0_t8_loop.trips) : Fin 2 → Nat :=
  let c0_i32_668 : BitVec 32 := 0#32
  let c0_i32_660 : BitVec 32 := 0#32
  let c1_i32_662 : BitVec 32 := 1#32
  let arg15 : BitVec 32 := Scf.iv c0_i32_660 c1_i32_662 k0_t8
  let c128_i32_664 : BitVec 32 := 128#32
  let v1806 : BitVec 32 := Scalar.muli arg15 c128_i32_664
  let v1807 : BitVec 32 := v1806
  ![0, v1807.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== DispatchReferenceIdeal.lean ====
abbrev S4096 : Shape := ⟨1, ![4096]⟩
abbrev S32x16 : Shape := ⟨2, ![32, 16]⟩
abbrev S16 : Shape := ⟨1, ![16]⟩
abbrev S2048x1024 : Shape := ⟨2, ![2048, 1024]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2048x2x1024 : Shape := ⟨3, ![2048, 2, 1024]⟩
abbrev S4096x1024 : Shape := ⟨2, ![4096, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32x16, .i32⟩
  | .hbm, ⟨2, _⟩ => ⟨S16, .i32⟩
  | .hbm, ⟨3, _⟩ => ⟨S2048x1024, .f32⟩
  | .hbm, ⟨4, _⟩ => ⟨S4096, .i32⟩
  | .hbm, ⟨5, _⟩ => ⟨S1x4096, .i32⟩
  | .hbm, ⟨6, _⟩ => ⟨S4096x1, .i32⟩
  | .hbm, ⟨7, _⟩ => ⟨S4096x4096, .i32⟩
  | .hbm, ⟨8, _⟩ => ⟨S4096x4096, .i32⟩
  | .hbm, ⟨9, _⟩ => ⟨S4096x4096, .i1⟩
  | .hbm, ⟨10, _⟩ => ⟨S1x4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S4096x4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S2048x2x1024, .f32⟩
  | .hbm, ⟨30, _⟩ => ⟨S4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Expert.lean ====
abbrev S6144x1024 : Shape := ⟨2, ![6144, 1024]⟩
abbrev S8x1024x1024 : Shape := ⟨3, ![8, 1024, 1024]⟩
abbrev S24 : Shape := ⟨1, ![24]⟩
abbrev S256x1024 : Shape := ⟨2, ![256, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 5
  | .vmem => 10
  | .smem => 1
  | _ => 0

abbrev bufTy : (tb : Table) → Fin (tcTables nBuf tb) → BufTy
  | .hbm, ⟨0, _⟩ => ⟨S6144x1024, .f32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S6144x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S256x1024, .f32⟩
  | .local _ .vmem, ⟨9, _⟩ => ⟨S256x1024, .f32⟩
  | .local _ .smem, ⟨0, _⟩ => ⟨S24, .i32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertReferenceIdeal.lean ====
abbrev S6144x1024 : Shape := ⟨2, ![6144, 1024]⟩
abbrev S8x1024x1024 : Shape := ⟨3, ![8, 1024, 1024]⟩
abbrev S24 : Shape := ⟨1, ![24]⟩
abbrev S24x256x1024 : Shape := ⟨3, ![24, 256, 1024]⟩
abbrev S_ : Shape := ⟨0, ![]⟩
abbrev S24x1 : Shape := ⟨2, ![24, 1]⟩
abbrev S24x1024x1024 : Shape := ⟨3, ![24, 1024, 1024]⟩

abbrev nBuf : Space → Nat
  | .hbm => 47
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S24, .i32⟩
  | .hbm, ⟨5, _⟩ => ⟨S24x256x1024, .f32⟩
  | .hbm, ⟨6, _⟩ => ⟨S_, .i32⟩
  | .hbm, ⟨7, _⟩ => ⟨S24, .i32⟩
  | .hbm, ⟨8, _⟩ => ⟨S24, .i1⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S24, .i32⟩
  | .hbm, ⟨13, _⟩ => ⟨S24x1, .i32⟩
  | .hbm, ⟨14, _⟩ => ⟨S24x1024x1024, .f32⟩
  | .hbm, ⟨15, _⟩ => ⟨S24x256x1024, .f32⟩
  | .hbm, ⟨16, _⟩ => ⟨S_, .i32⟩
  | .hbm, ⟨17, _⟩ => ⟨S24, .i32⟩
  | .hbm, ⟨18, _⟩ => ⟨S24, .i1⟩
  | .hbm, ⟨19, _⟩ => ⟨S_, .i32⟩
  | .hbm, ⟨20, _⟩ => ⟨S24, .i32⟩
  | .hbm, ⟨21, _⟩ => ⟨S24, .i32⟩
  | .hbm, ⟨22, _⟩ => ⟨S24, .i32⟩
  | .hbm, ⟨23, _⟩ => ⟨S24x1, .i32⟩
  | .hbm, ⟨24, _⟩ => ⟨S24x1024x1024, .f32⟩
  | .hbm, ⟨25, _⟩ => ⟨S24x256x1024, .f32⟩
  | .hbm, ⟨26, _⟩ => ⟨S24x256x1024, .f32⟩
  | .hbm, ⟨27, _⟩ => ⟨S24x256x1024, .f32⟩
  | .hbm, ⟨28, _⟩ => ⟨S_, .f32⟩
  | .hbm, ⟨29, _⟩ => ⟨S24x256x1024, .f32⟩
  | .hbm, ⟨30, _⟩ => ⟨S24x256x1024, .f32⟩
  | .hbm, ⟨31, _⟩ => ⟨S_, .f32⟩
  | .hbm, ⟨32, _⟩ => ⟨S24x256x1024, .f32⟩
  | .hbm, ⟨33, _⟩ => ⟨S24x256x1024, .f32⟩
  | .hbm, ⟨34, _⟩ => ⟨S24x256x1024, .f32⟩
  | .hbm, ⟨35, _⟩ => ⟨S24x256x1024, .f32⟩
  | .hbm, ⟨36, _⟩ => ⟨S_, .i32⟩
  | .hbm, ⟨37, _⟩ => ⟨S24, .i32⟩
  | .hbm, ⟨38, _⟩ => ⟨S24, .i1⟩
  | .hbm, ⟨39, _⟩ => ⟨S_, .i32⟩
  | .hbm, ⟨40, _⟩ => ⟨S24, .i32⟩
  | .hbm, ⟨41, _⟩ => ⟨S24, .i32⟩
  | .hbm, ⟨42, _⟩ => ⟨S24, .i32⟩
  | .hbm, ⟨43, _⟩ => ⟨S24x1, .i32⟩
  | .hbm, ⟨44, _⟩ => ⟨S24x1024x1024, .f32⟩
  | .hbm, ⟨45, _⟩ => ⟨S24x256x1024, .f32⟩
  | .hbm, ⟨46, _⟩ => ⟨S6144x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Router.lean ====
abbrev S2048x1024 : Shape := ⟨2, ![2048, 1024]⟩
abbrev S8x1024 : Shape := ⟨2, ![8, 1024]⟩
abbrev S_ : Shape := ⟨0, ![]⟩
abbrev S1024x128 : Shape := ⟨2, ![1024, 128]⟩
abbrev S1024x8 : Shape := ⟨2, ![1024, 8]⟩
abbrev S1 : Shape := ⟨1, ![1]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2048x2 : Shape := ⟨2, ![2048, 2]⟩
abbrev S32x128 : Shape := ⟨2, ![32, 128]⟩
abbrev S2x128 : Shape := ⟨2, ![2, 128]⟩
abbrev S2048x128 : Shape := ⟨2, ![2048, 128]⟩
abbrev S2048 : Shape := ⟨1, ![2048]⟩
abbrev S2048x1 : Shape := ⟨2, ![2048, 1]⟩
abbrev S32x64x128 : Shape := ⟨3, ![32, 64, 128]⟩
abbrev S32x64x1 : Shape := ⟨3, ![32, 64, 1]⟩
abbrev S1x1 : Shape := ⟨2, ![1, 1]⟩

abbrev nBuf : Space → Nat
  | .hbm => 20
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S_, .f32⟩
  | .hbm, ⟨3, _⟩ => ⟨S1024x128, .f32⟩
  | .hbm, ⟨4, _⟩ => ⟨S1024x8, .f32⟩
  | .hbm, ⟨5, _⟩ => ⟨S_, .i32⟩
  | .hbm, ⟨6, _⟩ => ⟨S1, .i32⟩
  | .hbm, ⟨7, _⟩ => ⟨S1024x128, .f32⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .f32⟩
  | .hbm, ⟨16, _⟩ => ⟨S2048x2, .i32⟩
  | .hbm, ⟨17, _⟩ => ⟨S2048x2, .f32⟩
  | .hbm, ⟨18, _⟩ => ⟨S32x128, .i32⟩
  | .hbm, ⟨19, _⟩ => ⟨S2x128, .i32⟩
  | .local _ .vmem, ⟨0, _⟩ => ⟨S2048x1024, .f32⟩
  | .local _ .vmem, ⟨1, _⟩ => ⟨S1024x128, .f32⟩
  | .local _ .vmem, ⟨2, _⟩ => ⟨S128x128, .f32⟩
  | .local _ .vmem, ⟨3, _⟩ => ⟨S2048x2, .i32⟩
  | .local _ .vmem, ⟨4, _⟩ => ⟨S2048x2, .f32⟩
  | .local _ .vmem, ⟨5, _⟩ => ⟨S32x128, .i32⟩
  | .local _ .vmem, ⟨6, _⟩ => ⟨S2x128, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RouterIdeal.lean ====
variable {F : FTy → Type} [FloatOps F] [Named F]
def κ : String → Option EReal := fun
  | "mask" => some ⊥
  | _ => none
-- ==== RouterReferenceIdeal.lean ====
abbrev S2048x1024 : Shape := ⟨2, ![2048, 1024]⟩
abbrev S8x1024 : Shape := ⟨2, ![8, 1024]⟩
abbrev S1024x8 : Shape := ⟨2, ![1024, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S128 : Shape := ⟨1, ![128]⟩
abbrev S32x128x1 : Shape := ⟨3, ![32, 128, 1]⟩
abbrev S1x1x128 : Shape := ⟨3, ![1, 1, 128]⟩
abbrev S32x128x128 : Shape := ⟨3, ![32, 128, 128]⟩
abbrev S32x128 : Shape := ⟨2, ![32, 128]⟩
abbrev S128x1 : Shape := ⟨2, ![128, 1]⟩
abbrev S1x128 : Shape := ⟨2, ![1, 128]⟩
abbrev S128x128 : Shape := ⟨2, ![128, 128]⟩
abbrev S8 : Shape := ⟨1, ![8]⟩
abbrev S8x1 : Shape := ⟨2, ![8, 1]⟩
abbrev S8x128 : Shape := ⟨2, ![8, 128]⟩
abbrev S2x128 : Shape := ⟨2, ![2, 128]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024, .f32⟩
  | .hbm, ⟨2, _⟩ => ⟨S1024x8, .f32⟩
  | .hbm, ⟨3, _⟩ => ⟨S2048x8, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x8, .f32⟩
  | .hbm, ⟨11, _⟩ => ⟨S2048x8, .f32⟩
  | .hbm, ⟨12, _⟩ => ⟨S2048x8, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x8, .f32⟩
  | .hbm, ⟨17, _⟩ => ⟨S2048x8, .f32⟩
  | .hbm, ⟨18, _⟩ => ⟨S2048x2, .f32⟩
  | .hbm, ⟨19, _⟩ => ⟨S2048x2, .i32⟩
  | .hbm, ⟨20, _⟩ => ⟨S128, .i32⟩
  | .hbm, ⟨21, _⟩ => ⟨S32x128x1, .i32⟩
  | .hbm, ⟨22, _⟩ => ⟨S1x1x128, .i32⟩
  | .hbm, ⟨23, _⟩ => ⟨S32x128x128, .i32⟩
  | .hbm, ⟨24, _⟩ => ⟨S32x128x128, .i32⟩
  | .hbm, ⟨25, _⟩ => ⟨S32x128x128, .i1⟩
  | .hbm, ⟨26, _⟩ => ⟨S32x128x128, .i32⟩
  | .hbm, ⟨27, _⟩ => ⟨S_, .i32⟩
  | .hbm, ⟨28, _⟩ => ⟨S32x128, .i32⟩
  | .hbm, ⟨29, _⟩ => ⟨S_, .i32⟩
  | .hbm, ⟨30, _⟩ => ⟨S128, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S1x128, .i32⟩
  | .hbm, ⟨39, _⟩ => ⟨S128x128, .i32⟩
  | .hbm, ⟨40, _⟩ => ⟨S128x128, .i32⟩
  | .hbm, ⟨41, _⟩ => ⟨S128x128, .i1⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S_, .i32⟩
  | .hbm, ⟨47, _⟩ => ⟨S_, .i32⟩
  | .hbm, ⟨48, _⟩ => ⟨S128x128, .i32⟩
  | .hbm, ⟨49, _⟩ => ⟨S128x128, .i32⟩
  | .hbm, ⟨50, _⟩ => ⟨S128x128, .i32⟩
  | .hbm, ⟨51, _⟩ => ⟨S_, .i32⟩
  | .hbm, ⟨52, _⟩ => ⟨S128, .i32⟩
  | .hbm, ⟨53, _⟩ => ⟨S8, .i32⟩
  | .hbm, ⟨54, _⟩ => ⟨S8x1, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S1x128, .i32⟩
  | .hbm, ⟨59, _⟩ => ⟨S8x128, .i32⟩
  | .hbm, ⟨60, _⟩ => ⟨S8x128, .i32⟩
  | .hbm, ⟨61, _⟩ => ⟨S8x128, .i1⟩
  | .hbm, ⟨62, _⟩ => ⟨S8x128, .i32⟩
  | .hbm, ⟨63, _⟩ => ⟨S_, .i32⟩
  | .hbm, ⟨64, _⟩ => ⟨S128, .i32⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S1x128, .i32⟩
  | .hbm, ⟨69, _⟩ => ⟨S1x128, .i32⟩
  | .hbm, ⟨70, _⟩ => ⟨S2x128, .i32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Proof.Combine.lean ====
/-
  The combine kernel's tile body, written as what it is: four stages of one text. A stage copies 32 slot numbers and 32
  gating scores in, gathers the 32 rows that the slot numbers name (eight windows of 128 columns, one after another),
  forms 16 output rows, each a sum of two scaled gathered rows, and copies those out. `body_eq` says that the printed
  body is these four stages one after another.
-/
module

public import proofs.«01_k».proof.Proof.Gen.KernelIdeal

@[expose] public section

noncomputable section

namespace Cert.Proof.Combine

open Cert.KernelIdeal Cert.KernelIdeal.Gen
open Idealize.ShloMosaic Idealize.SL.Sem

variable {F : FTy → Type} [FloatOps F]

/-- The eight windows of a gathered row. -/
abbrev winLoop : Scf.Loop 32 := ⟨0#32, Scalar.addi 0#32 8#32, 1#32⟩
/-- The 64 vectors of an output row. -/
abbrev rowLoop : Scf.Loop 32 := ⟨0#32, Scalar.addi 0#32 64#32, 1#32⟩

theorem winLoop_ok : winLoop.OK := by decide
theorem rowLoop_ok : rowLoop.OK := by decide

/-- The offset of window `t`. -/
def winOff (t : Fin winLoop.trips) : Fin 2 → Nat := ![0, (Scalar.muli (Scf.iv 0#32 1#32 t) 128#32).toNat]
/-- The offset of vector `t` of row `r`. -/
def vecOff (r : Nat) (t : Fin rowLoop.trips) : Fin 2 → Nat := ![r, (Scalar.indexCast (Scalar.muli (Scf.iv 0#32 1#32 t) 16#32) : Index).toNat]

theorem winLoop_trips : winLoop.trips = 8 := by decide +kernel
theorem rowLoop_trips : rowLoop.trips = 64 := by decide +kernel

theorem winCol : ∀ t : Fin winLoop.trips, (Scalar.muli (Scf.iv 0#32 1#32 t) 128#32).toNat = 128 * t.val := by decide +kernel
theorem vecCol : ∀ t : Fin rowLoop.trips, (Scalar.indexCast (Scalar.muli (Scf.iv 0#32 1#32 t) 16#32) : Index).toNat = 16 * t.val := by decide +kernel

theorem winOff_eq (t : Fin winLoop.trips) : winOff t = ![0, 128 * t.val] := by rw [winOff, winCol]
theorem vecOff_eq (r : Nat) (t : Fin rowLoop.trips) : vecOff r t = ![r, 16 * t.val] := by rw [vecOff, vecCol]

theorem winOff_inb2 (t : Fin winLoop.trips) : ∀ a, winOff t a + S32x128.size a ≤ S32x1024.size a := by
  have h : t.val < 8 := winLoop_trips ▸ t.isLt
  rw [winOff_eq]; intro a; fin_cases a
  · show 0 + 32 ≤ 32; omega
  · show 128 * t.val + 128 ≤ 1024; omega

theorem winOff_inb1 (t : Fin winLoop.trips) : ∀ a, winOff t a + S6144x128.size a ≤ S6144x1024.size a := by
  have h : t.val < 8 := winLoop_trips ▸ t.isLt
  rw [winOff_eq]; intro a; fin_cases a
  · show 0 + 6144 ≤ 6144; omega
  · show 128 * t.val + 128 ≤ 1024; omega

theorem vecOff_inb32 {r : Nat} (hr : r < 32) (t : Fin rowLoop.trips) : ∀ a, vecOff r t a + S1x16.size a ≤ S32x1024.size a := by
  have h : t.val < 64 := rowLoop_trips ▸ t.isLt
  rw [vecOff_eq]; intro a; fin_cases a
  · show r + 1 ≤ 32; omega
  · show 16 * t.val + 16 ≤ 1024; omega

theorem vecOff_inb16 {r : Nat} (hr : r < 16) (t : Fin rowLoop.trips) : ∀ a, vecOff r t a + S1x16.size a ≤ S16x1024.size a := by
  have h : t.val < 64 := rowLoop_trips ▸ t.isLt
  rw [vecOff_eq]; intro a; fin_cases a
  · show r + 1 ≤ 16; omega
  · show 16 * t.val + 16 ≤ 1024; omega

theorem stageRow_inb (s : Fin 4) : ∀ a, (![s.val, 0] : Fin 2 → Nat) a + S1x32.size a ≤ S4x32.size a := by
  intro a; fin_cases a
  · show s.val + 1 ≤ 4; omega
  · show 0 + 32 ≤ 32; omega

theorem slices_lane {k : Nat} (hk : k < 16) : S16.Slices ![k] S1 :=
  ⟨rfl, fun a => by fin_cases a; show k + 1 ≤ 16; omega⟩

/-- Lane `k` of a 16-lane vector. -/
def lane (v : Vec F S16 .f32) {k : Nat} (hk : k < 16) : F .f32 :=
  extractAt ![0] (extractStridedSlice S1 ![k] v (slices_lane hk) : FVec F S1 .f32) inpos_S1_p0

/-- Score `k` of the 32 that a stage holds in two vectors. -/
def score (v w : Vec F S16 .f32) (k : Nat) (hk : k < 32) : F .f32 :=
  if h : k < 16 then lane v h else lane w (show k - 16 < 16 by omega)

/-- One vector of an output row: two scaled vectors, added. -/
def mix (a b : F .f32) (x y : Vec F S1x16 .f32) : Vec F S1x16 .f32 :=
  shapeCast S1x16 (addf (mulf (broadcast S16 a) (shapeCast S16 x shapeCasts_S1x16_S16)) (mulf (broadcast S16 b) (shapeCast S16 y shapeCasts_S1x16_S16)) : FVec F S16 .f32) shapeCasts_S16_S1x16

section Body

variable (i : grid0.Coords)
  (arg2 : Memref sig .scVector .hbm S6144x1024 .f32) (arg3 : Memref sig .scVector .hbm S4096 .i32) (arg4 : Memref sig .scVector .hbm S4096 .f32)
  (arg5 : Memref sig .scVector .hbm S2048x1024 .f32) (arg6 : Memref sig .scVector .vmem S4x32 .i32)
  (arg7 : Memref sig .scVector .vmem S32 .f32) (harg7 : arg7.IsWhole) (arg8 : Memref sig .scVector .vmem S32x1024 .f32)
  (arg9 : Memref sig .scVector .vmem S16x1024 .f32) (harg9 : arg9.IsWhole) (arg10 : DmaSems sig S_)

/-- What a tile of the SparseCores runs. -/
abbrev TileProg (F : FTy → Type) (i : grid0.Coords) (α : Type) :=
  Prog (TpuEff nD τ sig (Elt F) Λ₀ (.scVector ((i 0).castLE hcore0) ((i 1).castLE hsub0))) α

/-- Row `s` of the slot numbers. -/
abbrev slots (s : Fin 4) : Memref sig .scVector .vmem S32 .i32 :=
  (arg6.slice (Rect.unit (s := S4x32) ![s.val, 0] S1x32.size (stageRow_inb s)) (fun _ => rfl)).squeeze S32 squeezes_S1x32_S32

/-- Columns `128 t` to `128 t + 127` of all rows. -/
abbrev srcWin (t : Fin winLoop.trips) : Memref sig .scVector .hbm S6144x128 .f32 :=
  arg2.slice (Rect.unit (s := S6144x1024) (winOff t) S6144x128.size (winOff_inb1 t)) (fun _ => rfl)
/-- The same columns of the 32 gathered rows. -/
abbrev dstWin (t : Fin winLoop.trips) : Memref sig .scVector .vmem S32x128 .f32 :=
  arg8.slice (Rect.unit (s := S32x1024) (winOff t) S32x128.size (winOff_inb2 t)) (fun _ => rfl)

/-- Window `t` of the gather: 128 columns of the rows that the slot numbers name. -/
def window (s : Fin 4) (t : Fin winLoop.trips) (_ : BitVec 32) : TileProg F i (BitVec 32) := do
  SparseCore.enqueueIndirectGather rfl (srcWin arg2 t) (dstWin arg8 t) gathers_S6144x128_S32x128
    (slots arg6 s) rfl arg10.sem (View.wordExact_bits rfl) rfl (Or.inl rfl)
  SparseCore.waitIndirectGather arg10.sem (srcWin arg2 t) (dstWin arg8 t) (View.wordExact_bits rfl) (View.wordExact_bits rfl)
  pure 0#32

/-- Vector `t` of output row `r`, scaled by `a` and `b`. -/
def vector (a b : F .f32) (r : Nat) (hr : r < 16) (t : Fin rowLoop.trips) (_ : BitVec 32) : TileProg F i (BitVec 32) := do
  let x : Vec F S1x16 .f32 ← Prog.lift (.load arg8 (Rect.unit (s := S32x1024) (vecOff (2 * r) t) S1x16.size (vecOff_inb32 (by omega) t)).toLoadRect (View.loadsAt_vmem h_S1x16))
  let y : Vec F S1x16 .f32 ← Prog.lift (.load arg8 (Rect.unit (s := S32x1024) (vecOff (2 * r + 1) t) S1x16.size (vecOff_inb32 (by omega) t)).toLoadRect (View.loadsAt_vmem h_S1x16))
  let _ : Vec F S1x16 .f32 ← Prog.lift (.load arg9 (Rect.unit (s := S16x1024) (vecOff r t) S1x16.size (vecOff_inb16 hr t)).toLoadRect (View.loadsAt_vmem h_S1x16))
  Prog.lift (.store arg9 (Rect.unit (s := S16x1024) (vecOff r t) S1x16.size (vecOff_inb16 hr t)) (mix a b x y) Finset.univ (View.stores_vmem_bits_univ h_S1x16 rfl) (.inl rfl))
  pure 0#32

/-- The first `n` output rows of a stage whose scores are `v` and `w`. -/
def rows (v w : Vec F S16 .f32) : (n : Nat) → n ≤ 16 → TileProg F i PUnit
  | 0, _ => pure ⟨⟩
  | n + 1, h => do
    rows v w n (by omega)
    let _ : BitVec 32 ← Scf.Loop.for rowLoop rowLoop_ok 0#32 (vector i arg8 arg9 (score v w (2 * n) (by omega)) (score v w (2 * n + 1) (by omega)) n (by omega))
    pure ⟨⟩

/-- Stage `s`. -/
def stage (s : Fin 4) (semP semS semO : DmaSems sig S_) : TileProg F i PUnit := do
  Prog.lift (.enqueueDma (arg3.slice (Rect.unit (s := S4096) (k0_off1 i (BitVec.ofNat 32 (32 * s.val))) S32.size (k0_off1_inb i s)) (fun _ => rfl))
    (.here (slots arg6 s)) (.dma semP.sem) (View.wordExact_bits rfl) ((View.wordExact_bits rfl).reshape _ _) ⟨Or.inl rfl, trivial⟩)
  Prog.lift (.waitDma2 semP.sem (arg3.slice (Rect.unit (s := S4096) (k0_off1 i (BitVec.ofNat 32 (32 * s.val))) S32.size (k0_off1_inb i s)) (fun _ => rfl))
    (slots arg6 s) (View.wordExact_bits rfl) ((View.wordExact_bits rfl).reshape _ _))
  Prog.lift (.enqueueDma (arg4.slice (Rect.unit (s := S4096) (k0_off1 i (BitVec.ofNat 32 (32 * s.val))) S32.size (k0_off1_inb i s)) (fun _ => rfl))
    (.here arg7) (.dma semS.sem) (View.wordExact_bits rfl) harg7.wordExact ⟨Or.inl rfl, trivial⟩)
  Prog.lift (.waitDma2 semS.sem (arg4.slice (Rect.unit (s := S4096) (k0_off1 i (BitVec.ofNat 32 (32 * s.val))) S32.size (k0_off1_inb i s)) (fun _ => rfl))
    arg7 (View.wordExact_bits rfl) harg7.wordExact)
  let _ : BitVec 32 ← Scf.Loop.for winLoop winLoop_ok 0#32 (window i arg2 arg6 arg8 arg10 s)
  let v : Vec F S16 .f32 ← Prog.lift (.load arg7 (Rect.unit (s := S32) ![0] S16.size inb_S32_S16_0).toLoadRect (View.loadsAt_vmem h_S16))
  let w : Vec F S16 .f32 ← Prog.lift (.load arg7 (Rect.unit (s := S32) ![16] S16.size inb_S32_S16_16).toLoadRect (View.loadsAt_vmem h_S16))
  rows i arg8 arg9 v w 16 (Nat.le_refl _)
  Prog.lift (.enqueueDma arg9 (.here (arg5.slice (Rect.unit (s := S2048x1024) (k0_off52 i (BitVec.ofNat 32 (16 * s.val))) S16x1024.size (k0_off52_inb i s)) (fun _ => rfl)))
    (.dma semO.sem) harg9.wordExact (View.wordExact_bits rfl) ⟨Or.inl rfl, trivial⟩)
  Prog.lift (.waitDma2 semO.sem arg9 (arg5.slice (Rect.unit (s := S2048x1024) (k0_off52 i (BitVec.ofNat 32 (16 * s.val))) S16x1024.size (k0_off52_inb i s)) (fun _ => rfl))
    harg9.wordExact (View.wordExact_bits rfl))

end Body

set_option maxRecDepth 65536 in
set_option maxHeartbeats 4000000 in
theorem body_eq (i : grid0.Coords) (arg2 : Memref sig .scVector .hbm S6144x1024 .f32) (harg2 : arg2.IsWhole) (arg3 : Memref sig .scVector .hbm S4096 .i32) (harg3 : arg3.IsWhole) (arg4 : Memref sig .scVector .hbm S4096 .f32) (harg4 : arg4.IsWhole) (arg5 : Memref sig .scVector .hbm S2048x1024 .f32) (harg5 : arg5.IsWhole) (arg6 : Memref sig .scVector .vmem S4x32 .i32) (harg6 : arg6.IsWhole) (arg7 : Memref sig .scVector .vmem S32 .f32) (harg7 : arg7.IsWhole) (arg8 : Memref sig .scVector .vmem S32x1024 .f32) (harg8 : arg8.IsWhole) (arg9 : Memref sig .scVector .vmem S16x1024 .f32) (harg9 : arg9.IsWhole) (arg10 : DmaSems sig S_)
    (p0 s0 o0 p1 s1 o1 p2 s2 o2 p3 s3 o3 : DmaSems sig S_) :
    cc0__combine_body (F := F) i arg2 harg2 arg3 harg3 arg4 harg4 arg5 harg5 arg6 harg6 arg7 harg7 arg8 harg8 arg9 harg9 arg10 p0 s0 o0 p1 s1 o1 p2 s2 o2 p3 s3 o3
      = (do
          stage i arg2 arg3 arg4 arg5 arg6 arg7 harg7 arg8 arg9 harg9 arg10 0 p0 s0 o0
          stage i arg2 arg3 arg4 arg5 arg6 arg7 harg7 arg8 arg9 harg9 arg10 1 p1 s1 o1
          stage i arg2 arg3 arg4 arg5 arg6 arg7 harg7 arg8 arg9 harg9 arg10 2 p2 s2 o2
          stage i arg2 arg3 arg4 arg5 arg6 arg7 harg7 arg8 arg9 harg9 arg10 3 p3 s3 o3
          pure ⟨⟩) := by
  simp only [stage, rows, bind_assoc, pure_bind]
  simp only [cc0__combine_body, k0_part1, k0_part2, k0_part3, k0_part4, k0_part5, k0_part6, k0_part7, k0_part8, k0_part9, k0_part10, k0_part11, k0_part12, k0_part13, k0_part14, k0_part15, bind_assoc, pure_bind]
  rfl

end Cert.Proof.Combine

end
-- ==== Proof.Values.lean ====
/-
  What the combine kernel computes, index by index, and what one trip of each of its two loops adds to the scratch
  buffers that hold the intermediate values.
-/
module

public import proofs.«01_k».proof.Proof.Combine
public import Idealize.ShloMosaic.Lib.Writes
public import Idealize.ShloMosaic.Lib.SparseCore.Stream

@[expose] public section

noncomputable section

namespace Cert.Proof.Combine

open Cert.KernelIdeal Cert.KernelIdeal.Gen
open Idealize.ShloMosaic Idealize.SL.Sem

variable {F : FTy → Type} [FloatOps F]

/-! ## Indices -/

/-- The index `(r, c)` of the expert outputs. -/
def yIx (r : Fin 6144) (c : Fin 1024) : S6144x1024.Idx := fun | 0 => r | 1 => c
/-- The index `(r, c)` of the gathered rows. -/
def gIx (r : Fin 32) (c : Fin 1024) : S32x1024.Idx := fun | 0 => r | 1 => c
/-- The index `n` of the flattened slot numbers and scores. -/
def pIx (n : Fin 4096) : S4096.Idx := fun | 0 => n
/-- The index `n` of a stage's slot numbers and scores. -/
def wIx (n : Fin 32) : S32.Idx := fun | 0 => n

/-- The row that a slot number names. -/
def slotRow (v : BitVec 32) : Fin 6144 := ⟨v.toNat % 6144, Nat.mod_lt _ (by omega)⟩

theorem core_lt (i : grid0.Coords) : (i 0).val < 2 := (i 0).isLt
theorem sub_lt (i : grid0.Coords) : (i 1).val < 16 := (i 1).isLt

/-- The first pair of stage `s` of tile `i`. -/
def pairBase (i : grid0.Coords) (s : Fin 4) : Nat := 256 * (i 1).val + 128 * (i 0).val + 32 * s.val
/-- The first token of stage `s` of tile `i`. -/
def tokBase (i : grid0.Coords) (s : Fin 4) : Nat := 128 * (i 1).val + 64 * (i 0).val + 16 * s.val

theorem pairBase_eq (i : grid0.Coords) (s : Fin 4) : pairBase i s = 2 * tokBase i s := by unfold pairBase tokBase; omega
theorem tokBase_le (i : grid0.Coords) (s : Fin 4) : tokBase i s + 16 ≤ 2048 := by
  have := core_lt i; have := sub_lt i; unfold tokBase; omega
theorem pair_lt (i : grid0.Coords) (s : Fin 4) (k : Fin 32) : pairBase i s + k.val < 4096 := by
  have := tokBase_le i s; have := pairBase_eq i s; omega

/-- Pair `k` of stage `s` of tile `i`. -/
def pair (i : grid0.Coords) (s : Fin 4) (k : Fin 32) : Fin 4096 := ⟨pairBase i s + k.val, pair_lt i s k⟩

/-! ## The values -/

/-- Two scaled numbers, added. -/
def blend (a x b y : F .f32) : F .f32 := FloatOps.addf (FloatOps.mulf a x) (FloatOps.mulf b y)

/-- THE VALUE of the kernel: at `(t, c)` the expert outputs of token `t`'s two slots, each times its score, added. -/
def combined (y : S6144x1024.Idx → F .f32) (p : S4096.Idx → BitVec 32) (q : S4096.Idx → F .f32) (j : S2048x1024.Idx) : F .f32 :=
  have h : (j 0).val < 2048 := (j 0).isLt
  blend (q (pIx ⟨2 * (j 0).val, by omega⟩)) (y (yIx (slotRow (p (pIx ⟨2 * (j 0).val, by omega⟩))) (j 1)))
    (q (pIx ⟨2 * (j 0).val + 1, by omega⟩)) (y (yIx (slotRow (p (pIx ⟨2 * (j 0).val + 1, by omega⟩))) (j 1)))

/-- The gathered rows of a stage whose slot numbers are `w`. -/
def gathered (y : S6144x1024.Idx → F .f32) (w : S32.Idx → BitVec 32) (j : S32x1024.Idx) : F .f32 :=
  y (yIx (slotRow (w (wIx (j 0)))) (j 1))

/-- The output rows of a stage whose scores are `v`, `w` and whose gathered rows are `g`. -/
def blended (g : S32x1024.Idx → F .f32) (v w : Vec F S16 .f32) (j : S16x1024.Idx) : F .f32 :=
  have h : (j 0).val < 16 := (j 0).isLt
  blend (score v w (2 * (j 0).val) (by omega)) (g (gIx ⟨2 * (j 0).val, by omega⟩ (j 1)))
    (score v w (2 * (j 0).val + 1) (by omega)) (g (gIx ⟨2 * (j 0).val + 1, by omega⟩ (j 1)))

/-! ## One vector of an output row -/

theorem shapeCast_shapeCast {α : Type} {s t : Shape} (x : s.Idx → α) (h : s.ShapeCasts t) (h' : t.ShapeCasts s) :
    shapeCast s (shapeCast t x h) h' = x := by
  funext j
  unfold shapeCast
  congr 1
  rw [Shape.reshapeEquiv_reshapeEquiv]; exact Shape.reshapeEquiv_self _ _

theorem mix_apply (a b : F .f32) (x y : Vec F S1x16 .f32) (k : S1x16.Idx) : mix a b x y k = blend a (x k) b (y k) := by
  have hx := congrFun (shapeCast_shapeCast x shapeCasts_S1x16_S16 shapeCasts_S16_S1x16) k
  have hy := congrFun (shapeCast_shapeCast y shapeCasts_S1x16_S16 shapeCasts_S16_S1x16) k
  unfold mix blend
  rw [← hx, ← hy]
  rfl

/-- The output rows below `r` and the first `16 t` columns of row `r` hold what they are to hold. -/
def Filled (g : S32x1024.Idx → F .f32) (v w : Vec F S16 .f32) (r t : Nat) (f : S16x1024.Idx → F .f32) : Prop :=
  ∀ j : S16x1024.Idx, (j 0).val < r ∨ ((j 0).val = r ∧ (j 1).val < 16 * t) → f j = blended g v w j

/-- The gathered columns below `128 k` hold what they are to hold. -/
def Fetched (y : S6144x1024.Idx → F .f32) (w : S32.Idx → BitVec 32) (k : Nat) (g : S32x1024.Idx → F .f32) : Prop :=
  ∀ j : S32x1024.Idx, (j 1).val < 128 * k → g j = gathered y w j

theorem filled_zero_row (g : S32x1024.Idx → F .f32) (v w : Vec F S16 .f32) (f : S16x1024.Idx → F .f32) : Filled g v w 0 0 f := by
  intro j h; omega

theorem filled_next_row {g : S32x1024.Idx → F .f32} {v w : Vec F S16 .f32} {r : Nat} {f : S16x1024.Idx → F .f32}
    (h : Filled g v w r 64 f) : Filled g v w (r + 1) 0 f := by
  intro j hj
  have h1 : (j 1).val < 1024 := (j 1).isLt
  exact h j (by omega)

theorem filled_all {g : S32x1024.Idx → F .f32} {v w : Vec F S16 .f32} {f : S16x1024.Idx → F .f32} (h : Filled g v w 16 0 f) :
    f = blended g v w := funext fun j => h j (.inl (j 0).isLt)

theorem fetched_zero (y : S6144x1024.Idx → F .f32) (w : S32.Idx → BitVec 32) (g : S32x1024.Idx → F .f32) : Fetched y w 0 g := by
  intro j h; omega

theorem fetched_all {y : S6144x1024.Idx → F .f32} {w : S32.Idx → BitVec 32} {g : S32x1024.Idx → F .f32} (h : Fetched y w 8 g) :
    g = gathered y w := funext fun j => h j (j 1).isLt

local notation "yW" => (Memref.whole Cert.KernelIdeal.main_arg0_scv : Memref Cert.KernelIdeal.sig Kind.scVector Space.hbm Cert.KernelIdeal.S6144x1024 EltTy.f32)
local notation "pW" => (Memref.whole Cert.KernelIdeal.main_arg1_scv : Memref Cert.KernelIdeal.sig Kind.scVector Space.hbm Cert.KernelIdeal.S4096 EltTy.i32)
local notation "qW" => (Memref.whole Cert.KernelIdeal.main_v0_scv : Memref Cert.KernelIdeal.sig Kind.scVector Space.hbm Cert.KernelIdeal.S4096 EltTy.f32)
local notation "oW" => (Memref.whole Cert.KernelIdeal.main_v1_scv : Memref Cert.KernelIdeal.sig Kind.scVector Space.hbm Cert.KernelIdeal.S2048x1024 EltTy.f32)
local notation "wB" => (Memref.whole Cert.KernelIdeal.cc0_scratch0 : Memref Cert.KernelIdeal.sig Kind.scVector Space.vmem Cert.KernelIdeal.S4x32 EltTy.i32)
local notation "sB" => (Memref.whole Cert.KernelIdeal.cc0_scratch1 : Memref Cert.KernelIdeal.sig Kind.scVector Space.vmem Cert.KernelIdeal.S32 EltTy.f32)
local notation "gB" => (Memref.whole Cert.KernelIdeal.cc0_scratch2 : Memref Cert.KernelIdeal.sig Kind.scVector Space.vmem Cert.KernelIdeal.S32x1024 EltTy.f32)
local notation "oB" => (Memref.whole Cert.KernelIdeal.cc0_scratch3 : Memref Cert.KernelIdeal.sig Kind.scVector Space.vmem Cert.KernelIdeal.S16x1024 EltTy.f32)

/-- Vector `t` of row `r` of the gathered rows. -/
abbrev gRect {r : Nat} (hr : r < 32) (t : Fin rowLoop.trips) : Rect S32x1024 :=
  Rect.unit (s := S32x1024) (vecOff r t) S1x16.size (vecOff_inb32 hr t)
/-- Vector `t` of row `r` of the output rows. -/
abbrev oRect {r : Nat} (hr : r < 16) (t : Fin rowLoop.trips) : Rect S16x1024 :=
  Rect.unit (s := S16x1024) (vecOff r t) S1x16.size (vecOff_inb16 hr t)

theorem read_gRect (g : S32x1024.Idx → F .f32) {r : Nat} (hr : r < 32) (t : Fin rowLoop.trips) (k : S1x16.Idx) (c : Fin 1024)
    (hc : c.val = 16 * t.val + (k 1).val) : (gB).view.readAt (Elt F) (gRect hr t).toLoadRect g k = g (gIx ⟨r, hr⟩ c) := by
  rw [View.readAt_apply, View.read_apply, cast_eq]
  congr 1
  have hk : (k 0).val = 0 := by have : (k 0).val < 1 := (k 0).isLt; omega
  funext a
  refine Fin.ext ?_
  show vecOff r t a + 1 * (k a).val = _
  rw [vecOff_eq]
  match a with
  | 0 => show r + 1 * (k 0).val = r; omega
  | 1 => show 16 * t.val + 1 * (k 1).val = c.val; omega

/-- One trip of the row loop. -/
theorem filled_step {g : S32x1024.Idx → F .f32} {v w : Vec F S16 .f32} {r : Nat} (hr : r < 16) (t : Fin rowLoop.trips)
    {f : S16x1024.Idx → F .f32} (h : Filled g v w r t.val f) :
    Filled g v w r (t.val + 1)
      (((oB).access (oRect hr t)).write (Elt F) f
        (mix (score v w (2 * r) (by omega)) (score v w (2 * r + 1) (by omega))
          ((gB).view.readAt (Elt F) (gRect (r := 2 * r) (by omega) t).toLoadRect g)
          ((gB).view.readAt (Elt F) (gRect (r := 2 * r + 1) (by omega) t).toLoadRect g)) Finset.univ) := by
  intro j hj
  by_cases hin : (j 0).val = r ∧ 16 * t.val ≤ (j 1).val
  · have hlt : (j 1).val - 16 * t.val < 16 := by omega
    let k : S1x16.Idx := fun | 0 => ⟨0, Nat.one_pos⟩ | 1 => ⟨(j 1).val - 16 * t.val, hlt⟩
    have hk : ((oB).access (oRect hr t)).emb k = j := by
      funext a
      refine Fin.ext ?_
      show vecOff r t a + 1 * (k a).val = _
      rw [vecOff_eq]
      match a with
      | 0 => show r + 1 * 0 = (j 0).val; omega
      | 1 => show 16 * t.val + 1 * ((j 1).val - 16 * t.val) = (j 1).val; omega
    have hw := View.write_emb_of_mem (Val := Elt F) (v := (oB).access (oRect hr t)) f
        (mix (score v w (2 * r) (by omega)) (score v w (2 * r + 1) (by omega))
          ((gB).view.readAt (Elt F) (gRect (r := 2 * r) (by omega) t).toLoadRect g)
          ((gB).view.readAt (Elt F) (gRect (r := 2 * r + 1) (by omega) t).toLoadRect g)) (Finset.mem_univ k)
    rw [hk] at hw
    refine hw.trans ?_
    rw [cast_eq, mix_apply, read_gRect g _ t k (j 1) (by show _ = 16 * t.val + ((j 1).val - 16 * t.val); omega),
      read_gRect g _ t k (j 1) (by show _ = 16 * t.val + ((j 1).val - 16 * t.val); omega)]
    obtain ⟨rfl, -⟩ := hin
    rfl
  · refine (View.write_of_not_mem (Val := Elt F) (v := (oB).access (oRect hr t)) f _ Finset.univ ?_).trans (h j (by omega))
    intro hm
    obtain ⟨k, -, hk⟩ := Finset.mem_map.mp hm
    have h0 : (j 0).val = vecOff r t 0 + 1 * (k 0).val := by rw [← hk]; rfl
    have h1 : (j 1).val = vecOff r t 1 + 1 * (k 1).val := by rw [← hk]; rfl
    rw [vecOff_eq] at h0 h1
    have hk0 : (k 0).val < 1 := (k 0).isLt
    have e0 : (![r, 16 * t.val] : Fin 2 → Nat) 0 = r := rfl
    have e1 : (![r, 16 * t.val] : Fin 2 → Nat) 1 = 16 * t.val := rfl
    rw [e0] at h0; rw [e1] at h1
    omega

/-- One trip of the window loop: `w` are the slot numbers that the stream reads. -/
theorem fetched_step {y : S6144x1024.Idx → F .f32} {w : S32.Idx → BitVec 32} (hw : ∀ x, (w x).toNat < 6144) (t : Fin winLoop.trips)
    {g : S32x1024.Idx → F .f32} (h : Fetched y w t.val g) :
    Fetched y w (t.val + 1) ((dstWin gB t).view.write (Elt F) g
      (SparseCore.gatherPayload gathers_S6144x128_S32x128 ((srcWin yW t).view.read (Elt F) y)
        (SparseCore.rows (F := F) (si := S32) w rfl hw)) Finset.univ) := by
  intro j hj
  by_cases hin : 128 * t.val ≤ (j 1).val
  · have hlt : (j 1).val - 128 * t.val < 128 := by omega
    let k : S32x128.Idx := fun | 0 => j 0 | 1 => ⟨(j 1).val - 128 * t.val, hlt⟩
    have hk : (dstWin gB t).view.emb k = j := by
      funext a
      refine Fin.ext ?_
      show winOff t a + 1 * (k a).val = _
      rw [winOff_eq]
      match a with
      | 0 => show 0 + 1 * (j 0).val = (j 0).val; omega
      | 1 => show 128 * t.val + 1 * ((j 1).val - 128 * t.val) = (j 1).val; omega
    have hwr := View.write_emb_of_mem (Val := Elt F) (v := (dstWin gB t).view) g
        (SparseCore.gatherPayload gathers_S6144x128_S32x128 ((srcWin yW t).view.read (Elt F) y)
          (SparseCore.rows (F := F) (si := S32) w rfl hw)) (Finset.mem_univ k)
    rw [hk] at hwr
    refine hwr.trans ?_
    rw [cast_eq]
    unfold SparseCore.gatherPayload
    rw [View.read_apply, cast_eq]
    unfold gathered
    congr 1
    funext a
    refine Fin.ext ?_
    show winOff t a + 1 * (gathers_S6144x128_S32x128.idx _ k a).val = _
    rw [winOff_eq]
    match a with
    | 0 =>
      show 0 + 1 * (w (S32.rowMajor.symm _)).toNat = (w (wIx (j 0))).toNat % 6144
      have e : ∀ x : Fin S32.numel, x.val = (j 0).val → S32.rowMajor.symm x = wIx (j 0) := fun x hx =>
        (Equiv.symm_apply_eq _).mpr (Fin.ext (hx.trans (Shape.rowMajor_val_one (wIx (j 0))).symm))
      rw [e _ (by rfl), Nat.mod_eq_of_lt (hw _)]
      omega
    | 1 => show 128 * t.val + 1 * ((j 1).val - 128 * t.val) = (j 1).val; omega
  · refine (View.write_of_not_mem (Val := Elt F) (v := (dstWin gB t).view) g _ Finset.univ ?_).trans (h j (by omega))
    intro hm
    obtain ⟨k, -, hk⟩ := Finset.mem_map.mp hm
    have h1 : (j 1).val = winOff t 1 + 1 * (k 1).val := by rw [← hk]; rfl
    rw [winOff_eq] at h1
    have e1 : (![0, 128 * t.val] : Fin 2 → Nat) 1 = 128 * t.val := rfl
    rw [e1] at h1
    omega

/-! ## What a stage's copies carry -/

/-- The slot numbers of stage `s` of tile `i`. -/
def stageWords (i : grid0.Coords) (s : Fin 4) (p : S4096.Idx → BitVec 32) : S32.Idx → BitVec 32 := fun x => p (pIx (pair i s (x 0)))
/-- The scores of stage `s` of tile `i`. -/
def stageScores (i : grid0.Coords) (s : Fin 4) (q : S4096.Idx → F .f32) : S32.Idx → F .f32 := fun x => q (pIx (pair i s (x 0)))

/-- The pairs of stage `s` of tile `i`. -/
abbrev pairRect (i : grid0.Coords) (s : Fin 4) : Rect S4096 :=
  Rect.unit (s := S4096) (k0_off1 i (BitVec.ofNat 32 (32 * s.val))) S32.size (k0_off1_inb i s)
/-- The tokens of stage `s` of tile `i`. -/
abbrev tokRect (i : grid0.Coords) (s : Fin 4) : Rect S2048x1024 :=
  Rect.unit (s := S2048x1024) (k0_off52 i (BitVec.ofNat 32 (16 * s.val))) S16x1024.size (k0_off52_inb i s)

theorem pairRect_emb (i : grid0.Coords) (s : Fin 4) (x : S32.Idx) : (pairRect i s).emb x = pIx (pair i s (x 0)) := by
  funext a
  refine Fin.ext ?_
  show k0_off1 i (BitVec.ofNat 32 (32 * s.val)) a + 1 * (x a).val = _
  rw [k0_off1_eq]
  match a with
  | 0 => show 256 * (i 1).val + 128 * (i 0).val + 32 * s.val + 1 * (x 0).val = pairBase i s + (x 0).val; unfold pairBase; omega

theorem read_words (i : grid0.Coords) (s : Fin 4) (p : S4096.Idx → BitVec 32) :
    ((pW).slice (pairRect i s) (fun _ => rfl)).view.read (Elt F) p = stageWords i s p := by
  funext x
  rw [View.read_apply, cast_eq]
  exact congrArg p (pairRect_emb i s x)

theorem read_scores (i : grid0.Coords) (s : Fin 4) (q : S4096.Idx → F .f32) :
    ((qW).slice (pairRect i s) (fun _ => rfl)).view.read (Elt F) q = stageScores i s q := by
  funext x
  rw [View.read_apply, cast_eq]
  exact congrArg q (pairRect_emb i s x)

/-- The two halves of a stage's scores. -/
abbrev loVec (q : S32.Idx → F .f32) : Vec F S16 .f32 := (sB).view.readAt (Elt F) (Rect.unit (s := S32) ![0] S16.size inb_S32_S16_0).toLoadRect q
abbrev hiVec (q : S32.Idx → F .f32) : Vec F S16 .f32 := (sB).view.readAt (Elt F) (Rect.unit (s := S32) ![16] S16.size inb_S32_S16_16).toLoadRect q

theorem score_eq (q : S32.Idx → F .f32) (k : Nat) (hk : k < 32) : score (loVec q) (hiVec q) k hk = q (wIx ⟨k, hk⟩) := by
  unfold score
  split
  · unfold lane extractAt extractStridedSlice loVec
    rw [View.readAt_apply, View.read_apply, cast_eq]
    congr 1
    funext a; refine Fin.ext ?_
    match a with
    | 0 => show 0 + 1 * (k + 0) = k; omega
  · unfold lane extractAt extractStridedSlice hiVec
    rw [View.readAt_apply, View.read_apply, cast_eq]
    congr 1
    funext a; refine Fin.ext ?_
    match a with
    | 0 => show 16 + 1 * (k - 16 + 0) = k; omega

/-- What a stage leaves in its rows of the output. -/
theorem out_eq (i : grid0.Coords) (s : Fin 4) (y : S6144x1024.Idx → F .f32) (p : S4096.Idx → BitVec 32) (q : S4096.Idx → F .f32)
    (x : S16x1024.Idx) :
    blended (gathered y (stageWords i s p)) (loVec (stageScores i s q)) (hiVec (stageScores i s q)) x
      = combined y p q ((tokRect i s).emb x) := by
  have h0 : (((tokRect i s).emb x) 0).val = tokBase i s + (x 0).val := by
    show k0_off52 i (BitVec.ofNat 32 (16 * s.val)) 0 + 1 * (x 0).val = _
    rw [k0_off52_eq]
    show 128 * (i 1).val + 64 * (i 0).val + 16 * s.val + 1 * (x 0).val = _
    unfold tokBase; omega
  have h1 : ((tokRect i s).emb x) 1 = x 1 := by
    refine Fin.ext ?_
    show k0_off52 i (BitVec.ofNat 32 (16 * s.val)) 1 + 1 * (x 1).val = _
    rw [k0_off52_eq]
    show 0 + 1 * (x 1).val = _
    omega
  have hp := pairBase_eq i s
  unfold blended combined gathered stageWords
  simp only [score_eq]
  unfold stageScores
  have e0 : ∀ h h', pair i s ⟨2 * (x 0).val, h⟩ = ⟨2 * (((tokRect i s).emb x) 0).val, h'⟩ := fun h h' => Fin.ext (by
    show pairBase i s + 2 * (x 0).val = 2 * (((tokRect i s).emb x) 0).val; omega)
  have e1 : ∀ h h', pair i s ⟨2 * (x 0).val + 1, h⟩ = ⟨2 * (((tokRect i s).emb x) 0).val + 1, h'⟩ := fun h h' => Fin.ext (by
    show pairBase i s + (2 * (x 0).val + 1) = 2 * (((tokRect i s).emb x) 0).val + 1; omega)
  show blend (q (pIx (pair i s ⟨2 * (x 0).val, _⟩))) (y (yIx (slotRow (p (pIx (pair i s ⟨2 * (x 0).val, _⟩)))) (x 1)))
    (q (pIx (pair i s ⟨2 * (x 0).val + 1, _⟩))) (y (yIx (slotRow (p (pIx (pair i s ⟨2 * (x 0).val + 1, _⟩)))) (x 1))) = _
  rw [e0, e1, h1]

end Cert.Proof.Combine

end
-- ==== Proof.Tile.lean ====
/-
  One tile of the combine call. A tile holds a share of the expert outputs, of the slot numbers and of the scores, the
  64 rows of the output that are its own (as four stages of 16), and its scratch buffers; it gives back its rows of the
  output at `combined`. The two loops carry what they have written (`Filled`, `Fetched`); a stage is proved once, at a
  symbolic stage of a symbolic tile, and used four times.
-/
module

public import proofs.«01_k».proof.Proof.Values
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "yW" => (Memref.whole Cert.KernelIdeal.main_arg0_scv : Memref Cert.KernelIdeal.sig Kind.scVector Space.hbm Cert.KernelIdeal.S6144x1024 EltTy.f32)
local notation "pW" => (Memref.whole Cert.KernelIdeal.main_arg1_scv : Memref Cert.KernelIdeal.sig Kind.scVector Space.hbm Cert.KernelIdeal.S4096 EltTy.i32)
local notation "qW" => (Memref.whole Cert.KernelIdeal.main_v0_scv : Memref Cert.KernelIdeal.sig Kind.scVector Space.hbm Cert.KernelIdeal.S4096 EltTy.f32)
local notation "oW" => (Memref.whole Cert.KernelIdeal.main_v1_scv : Memref Cert.KernelIdeal.sig Kind.scVector Space.hbm Cert.KernelIdeal.S2048x1024 EltTy.f32)
local notation "wB" => (Memref.whole Cert.KernelIdeal.cc0_scratch0 : Memref Cert.KernelIdeal.sig Kind.scVector Space.vmem Cert.KernelIdeal.S4x32 EltTy.i32)
local notation "sB" => (Memref.whole Cert.KernelIdeal.cc0_scratch1 : Memref Cert.KernelIdeal.sig Kind.scVector Space.vmem Cert.KernelIdeal.S32 EltTy.f32)
local notation "gB" => (Memref.whole Cert.KernelIdeal.cc0_scratch2 : Memref Cert.KernelIdeal.sig Kind.scVector Space.vmem Cert.KernelIdeal.S32x1024 EltTy.f32)
local notation "oB" => (Memref.whole Cert.KernelIdeal.cc0_scratch3 : Memref Cert.KernelIdeal.sig Kind.scVector Space.vmem Cert.KernelIdeal.S16x1024 EltTy.f32)

section Tile

variable (d : Dev nD) (i : grid0.Coords)

abbrev cV (i : grid0.Coords) : Fin τ.nSC := (i 0).castLE hcore0
abbrev jV (i : grid0.Coords) : Fin τ.nSub := (i 1).castLE hsub0
/-- The thread of tile `i`. -/
abbrev tile : Thread nD τ := V d (cV i) (jV i)

/-- The tile's run of a piece of its program. -/
abbrev run {α : Type} (p : TileProg F i α) (Q : α → sProp 𝕄) : sProp 𝕄 :=
  wp frame (wpE (defs₀ (F := F)) 𝒱₀ (tile d i) none) Set.univ p Q

/-! ## The output rows -/

/-- The gathered rows whole, and the output rows as far as they are filled. -/
def rowInv (g : S32x1024.Idx → F .f32) (v w : Vec F S16 .f32) (r t : Nat) : sProp 𝕄 :=
  iprop(((gB).view.loc (tile d i) ↦[Finset.univ]{fullShare} g)
    ∗ ∃ f : S16x1024.Idx → F .f32, ⌜Filled g v w r t f⌝ ∗ ((oB).view.loc (tile d i) ↦[Finset.univ]{fullShare} f))

theorem wp_vector (g : S32x1024.Idx → F .f32) (v w : Vec F S16 .f32) (r : Nat) (hr : r < 16) (t : Fin rowLoop.trips) (acc : BitVec 32) :
    rowInv d i g v w r t.val
      ⊢ run d i (vector i gB oB (score v w (2 * r) (by omega)) (score v w (2 * r + 1) (by omega)) r hr t acc)
          fun _ => rowInv d i g v w r (t.val + 1) := by
  unfold rowInv vector
  simp only [Prog.lift, Prog.bind_op, Prog.bind_ret, Prog.pure_eq_ret, Prog.bind_assoc, bind, Prog.bind]
  iintro ⟨Hg, %f, %hf, Ho⟩
  iapply (wp_load 𝒱₀ (tile d i) none Set.univ (m := gB) (S := Finset.univ) (Finset.subset_univ _)) $$ Hg; iintro Hg
  iapply (wp_load 𝒱₀ (tile d i) none Set.univ (m := gB) (S := Finset.univ) (Finset.subset_univ _)) $$ Hg; iintro Hg
  iapply (wp_load 𝒱₀ (tile d i) none Set.univ (m := oB) (S := Finset.univ) (Finset.subset_univ _)) $$ Ho; iintro Ho
  iapply (wp_store 𝒱₀ (tile d i) none Set.univ (m := oB) (r := oRect hr t) (Mk := Finset.univ) (S := Finset.univ) (Finset.subset_univ _)) $$ Ho; iintro Ho
  sl_step
  isplitl [Hg]; · iexact Hg
  iexists _; isplitr
  · ipureintro; exact filled_step hr t hf
  · iexact Ho

theorem wp_rows (g : S32x1024.Idx → F .f32) (v w : Vec F S16 .f32) : ∀ (n : Nat) (h : n ≤ 16),
    rowInv d i g v w 0 0 ⊢ run d i (rows i gB oB v w n h) fun _ => rowInv d i g v w n 0
  | 0, _ => by
    unfold rows run
    iintro H
    sl_step
    iexact H
  | n + 1, h => by
    unfold rows run
    rw [wp_bind]
    refine (wp_rows g v w n (by omega)).trans (wp_mono _ _ _ fun _ => ?_)
    iintro H
    iapply (Scf.wp_for_bind frame (wpE (defs₀ (F := F)) 𝒱₀ (tile d i) none) Set.univ 0#32 (Scalar.addi 0#32 64#32) 1#32 rowLoop_ok 0#32 _
      (fun k _ => rowInv d i g v w n k) (fun k acc => wp_vector d i g v w n h k acc)) $$ H
    iintro %_ H
    rw [show Scf.trips (0#32) (Scalar.addi 0#32 64#32) 1#32 = 64 from rowLoop_trips]
    sl_step
    unfold rowInv
    icases H with ⟨Hg, %f, %hf, Ho⟩
    isplitl [Hg]; · iexact Hg
    iexists f; isplitr
    · ipureintro; exact filled_next_row hf
    · iexact Ho

/-! ## The gathered rows -/

theorem win_credit (t : Fin winLoop.trips) (h : S6144x128.Gathers 0 S32x128) :
    ∑ j, ((dstWin gB t).slice (S32x128.rowRect h.axis' j) (S32x128.stride_rowRect h.axis' j)).view.dmaCredit = (dstWin gB t).view.dmaCredit := by
  decide +revert

/-- Of a buffer held whole, a view's elements and the rest. -/
theorem pts_view {sp : Space} {s : Shape} {e : EltTy} (v : View sig (tile d i).2.kind sp s e) (q : PosShare TreeShare) (f : Buf (Elt F) (v.loc (tile d i))) :
    (v.loc (tile d i) ↦[Finset.univ]{q} f : sProp 𝕄) ⊣⊢ iprop((v.loc (tile d i) ↦[v.set]{q} f) ∗ v.loc (tile d i) ↦[Finset.univ \ v.set]{q} f) :=
  pointsTo_split_subset (Finset.subset_univ _)

/-- A view's elements written, put back among the rest. -/
theorem pts_written {sp : Space} {s : Shape} {e : EltTy} (v : View sig (tile d i).2.kind sp s e) (f : Buf (Elt F) (v.loc (tile d i))) (w : s.Idx → Elt F e) :
    iprop((v.loc (tile d i) ↦[v.set]{fullShare} v.write (Elt F) f w Finset.univ) ∗ v.loc (tile d i) ↦[Finset.univ \ v.set]{fullShare} f)
      ⊢ (v.loc (tile d i) ↦[Finset.univ]{fullShare} v.write (Elt F) f w Finset.univ : sProp 𝕄) := by
  rw [SparseCore.pointsTo_rest_write (tile d i) f w]
  exact (pts_view d i v fullShare _).2

/-- The waits a tile may make, what it owes, and which waits it has recorded. -/
abbrev owing (O : CellTallies nD τ sig (HIx 1)) (W : Waits sig (HIx 1)) : sProp 𝕄 :=
  iprop(∃ W', ⌜∀ p ∈ W', p ∈ W ∨ p.2 = none⌝ ∗ owes (tile d i) O W')

theorem owing_insert {O : CellTallies nD τ sig (HIx 1)} {W W' : Waits sig (HIx 1)} (h : ∀ p ∈ W', p ∈ W ∨ p.2 = none) (sm : SemLoc sig) :
    (owes (tile d i) O (insert (sm, (default : HIx 1)) W') : sProp 𝕄) ⊢ owing d i O W := by
  iintro H
  iexists _; isplitr
  swap; · iexact H
  ipureintro; intro p hp
  rcases Finset.mem_insert.mp hp with hp | hp
  · exact .inr (hp ▸ rfl)
  · exact h p hp

/-- The expert outputs and the slot numbers, the gathered rows as far as they are fetched, and the copies' semaphore. -/
def winInv (O : CellTallies nD τ sig (HIx 1)) (W : Waits sig (HIx 1)) (qy : PosShare TreeShare) (y : S6144x1024.Idx → F .f32)
    (fw : S4x32.Idx → BitVec 32) (s : Fin 4) (k : Nat) : sProp 𝕄 :=
  iprop(Transfers.MayWaits (tile d i) (default : HIx 1) O
    ∗ ((yW).view.loc (tile d i) ↦[Finset.univ]{qy} y) ∗ ((wB).view.loc (tile d i) ↦[Finset.univ]{fullShare} fw)
    ∗ (∃ g : S32x1024.Idx → F .f32, ⌜Fetched y ((slots wB s).view.read (Elt F) fw) k g⌝ ∗ ((gB).view.loc (tile d i) ↦[Finset.univ]{fullShare} g))
    ∗ semVal (tile d i, SemLoc.dma cc0_scratch4.sem) 0 ∗ owing d i O W)

theorem wp_window (O : CellTallies nD τ sig (HIx 1)) (W : Waits sig (HIx 1)) (qy : PosShare TreeShare) (y : S6144x1024.Idx → F .f32)
    (fw : S4x32.Idx → BitVec 32) (s : Fin 4) (hw : ∀ x, ((slots wB s).view.read (Elt F) fw x).toNat < 6144) (t : Fin winLoop.trips) (acc : BitVec 32) :
    winInv d i O W qy y fw s t.val
      ⊢ run d i (window i yW wB gB cc0_scratch4 s t acc) fun _ => winInv d i O W qy y fw s (t.val + 1) := by
  unfold window winInv run
  iintro ⟨#Hmw, Hy, Hw, ⟨%g, %hg, Hg⟩, Hsem, Howe⟩
  ihave Hy' := (pts_view d i (srcWin yW t).view qy y).1 $$ Hy
  icases Hy' with ⟨Hy, Hyr⟩
  ihave Hw' := (pts_view d i (slots wB s).view fullShare fw).1 $$ Hw
  icases Hw' with ⟨Hw, Hwr⟩
  ihave Hg' := (pts_view d i (dstWin gB t).view fullShare g).1 $$ Hg
  icases Hg' with ⟨Hg, Hgr⟩
  icases Howe with ⟨%W', %hW', HO⟩
  iapply (SparseCore.wp_indirectGatherLocal countersEmb 𝒱₀ (tile d i) none (hg := gathers_S6144x128_S32x128) (default : HIx 1)
      (dstWin gB t).view.dmaCredit (win_credit t _) (by decide) hw) $$ [Hy Hw Hg Hsem]
  · isplitl [Hy]; · iexact Hy
    isplitl [Hg]; · iexact Hg
    isplitl [Hw]; · iexact Hw
    iexact Hsem
  iintro Hfl
  simp only [SparseCore.waitIndirectGather, Prog.bind_op, Prog.bind_ret, Prog.pure_eq_ret, bind, Prog.bind]
  iapply (Transfers.wp_waitLocalO countersEmb 𝒱₀ (tile d i) none (default : HIx 1) (rfl : (dstWin gB t).view.dmaCredit = _)) $$ [Hfl HO]
  · isplitl [Hfl]; · iexact Hfl
    isplitl [HO]; · iexact HO
    iapply (Transfers.MayWaits.elim (SemLoc.dma cc0_scratch4.sem)) $$ Hmw
  iintro ⟨⟨Hg, Hy, Hw⟩, Hsem, HO⟩
  ihave Hy := (pts_view d i (srcWin yW t).view qy y).2 $$ [Hy Hyr]; · isplitl [Hy] <;> iassumption
  ihave Hw := (pts_view d i (slots wB s).view fullShare fw).2 $$ [Hw Hwr]; · isplitl [Hw] <;> iassumption
  ihave Hg := (pts_written d i (dstWin gB t).view g _) $$ [Hg Hgr]; · isplitl [Hg] <;> iassumption
  ihave HO := (owing_insert d i hW' (SemLoc.dma cc0_scratch4.sem)) $$ HO
  sl_step
  isplitr; · iexact Hmw
  isplitl [Hy]; · iexact Hy
  isplitl [Hw]; · iexact Hw
  isplitl [Hg]
  · iexists _; isplitr
    · ipureintro; exact fetched_step hw t hg
    · iexact Hg
  isplitl [Hsem]; · iexact Hsem
  iexact HO

/-! ## A stage -/

theorem lift_bind {α β : Type} (op : TpuEff nD τ sig (Elt F) Λ₀ (.scVector (cV i) (jV i)) α) (k : α → TileProg F i β) :
    (Prog.lift op >>= k) = .op op k := rfl

attribute [local irreducible] rows

/-- The output rows at the head of a program. -/
theorem wp_rows_bind (g : S32x1024.Idx → F .f32) (v w : Vec F S16 .f32) (fb : S16x1024.Idx → F .f32) {α : Type} (k : PUnit → TileProg F i α)
    (Q : α → sProp 𝕄) :
    iprop(((gB).view.loc (tile d i) ↦[Finset.univ]{fullShare} g) ∗ ((oB).view.loc (tile d i) ↦[Finset.univ]{fullShare} fb))
      ⊢ iprop((iprop(((gB).view.loc (tile d i) ↦[Finset.univ]{fullShare} g) ∗ ((oB).view.loc (tile d i) ↦[Finset.univ]{fullShare} blended g v w)) -∗ run d i (k ⟨⟩) Q)
          -∗ run d i (rows i gB oB v w 16 (Nat.le_refl _) >>= k) Q) := by
  have h := wp_rows d i g v w 16 (Nat.le_refl _)
  generalize rows i gB oB v w 16 (Nat.le_refl _) = R at h ⊢
  unfold run
  rw [wp_bind]
  iintro ⟨Hg, Ho⟩ Hk
  iapply (wp_wand frame (wpE (defs₀ (F := F)) 𝒱₀ (tile d i) none) Set.univ) $$ [Hg Ho]
  · iapply h
    unfold rowInv
    isplitl [Hg]; · iexact Hg
    iexists fb; isplitr
    · ipureintro; exact filled_zero_row _ _ _ _
    · iexact Ho
  iintro %_ H
  unfold rowInv
  icases H with ⟨Hg, %f, %hf, Ho⟩
  obtain rfl := filled_all hf
  iapply Hk
  isplitl [Hg] <;> iassumption

/-- The 16 rows of the output that stage `s` writes. -/
abbrev outPts (s : Fin 4) (f : S2048x1024.Idx → F .f32) : sProp 𝕄 :=
  ((oW).slice (tokRect i s) (fun _ => rfl)).view.loc (tile d i) ↦[((oW).slice (tokRect i s) (fun _ => rfl)).view.set]{fullShare} f

/-- What the stages share: the inputs, the scratch buffers at any contents, the gathers' semaphore, and the waits. -/
def held (O : CellTallies nD τ sig (HIx 1)) (W : Waits sig (HIx 1)) (qs : PosShare TreeShare) (y : S6144x1024.Idx → F .f32)
    (p : S4096.Idx → BitVec 32) (q : S4096.Idx → F .f32) : sProp 𝕄 :=
  iprop(Transfers.MayWaits (tile d i) (default : HIx 1) O
    ∗ ((yW).view.loc (tile d i) ↦[Finset.univ]{qs} y) ∗ ((pW).view.loc (tile d i) ↦[Finset.univ]{qs} p) ∗ ((qW).view.loc (tile d i) ↦[Finset.univ]{qs} q)
    ∗ (∃ f, (wB).view.loc (tile d i) ↦[Finset.univ]{fullShare} f) ∗ (∃ f, (sB).view.loc (tile d i) ↦[Finset.univ]{fullShare} f)
    ∗ (∃ f, (gB).view.loc (tile d i) ↦[Finset.univ]{fullShare} f) ∗ (∃ f, (oB).view.loc (tile d i) ↦[Finset.univ]{fullShare} f)
    ∗ semVal (tile d i, SemLoc.dma cc0_scratch4.sem) 0 ∗ owing d i O W)

/-- The stage's rows of the output, written with its output rows, hold the value. -/
theorem outPts_eq (s : Fin 4) (y : S6144x1024.Idx → F .f32) (p : S4096.Idx → BitVec 32) (q : S4096.Idx → F .f32) (fo : S2048x1024.Idx → F .f32)
    (w : S16x1024.Idx → F .f32) (hw : w = blended (gathered y (stageWords i s p)) (loVec (stageScores i s q)) (hiVec (stageScores i s q))) :
    (outPts d i s (((oW).slice (tokRect i s) (fun _ => rfl)).view.writes (Elt F) fo [⟨Rect.whole (tokRect i s).shape, w⟩]) : sProp 𝕄)
      = outPts d i s (combined y p q) := by
  refine pointsTo_congr fun j hj => ?_
  obtain ⟨x, -, rfl⟩ := Finset.mem_map.mp (show j ∈ Finset.univ.map ((oW).slice (tokRect i s) (fun _ => rfl)).view.emb from hj)
  have h := View.read_writes_cons_hit (Val := Elt F) ((oW).slice (tokRect i s) (fun _ => rfl)).view fo (Rect.whole (tokRect i s).shape) w [] x x
    ((Rect.whole (tokRect i s).shape).emb_eq_of_coords x x fun a => show (x a).val = 0 + 1 * (x a).val by omega)
  rw [View.read_apply, cast_eq] at h
  rw [h, hw]
  exact out_eq i s y p q x

set_option maxHeartbeats 4000000 in
theorem wp_stage (O : CellTallies nD τ sig (HIx 1)) (W : Waits sig (HIx 1)) (qs : PosShare TreeShare) (y : S6144x1024.Idx → F .f32)
    (p : S4096.Idx → BitVec 32) (q : S4096.Idx → F .f32) (hp : ∀ x, (p x).toNat < 6144) (s : Fin 4) (semP semS semO : DmaSems sig S_)
    (fo : S2048x1024.Idx → F .f32) :
    iprop(held d i O W qs y p q ∗ outPts d i s fo ∗ semVal (tile d i, SemLoc.dma semP.sem) 0 ∗ semVal (tile d i, SemLoc.dma semS.sem) 0
        ∗ semVal (tile d i, SemLoc.dma semO.sem) 0)
      ⊢ run d i (stage i yW pW qW oW wB sB (Memref.isWhole_whole _) gB oB (Memref.isWhole_whole _) cc0_scratch4 s semP semS semO)
          fun _ => iprop(held d i O W qs y p q ∗ outPts d i s (combined y p q) ∗ semVal (tile d i, SemLoc.dma semP.sem) 0
            ∗ semVal (tile d i, SemLoc.dma semS.sem) 0 ∗ semVal (tile d i, SemLoc.dma semO.sem) 0) := by
  unfold held stage run
  iintro ⟨⟨#Hmw, Hy, Hp, Hq, ⟨%fw, Hw⟩, ⟨%fs, Hs⟩, ⟨%fg, Hg⟩, ⟨%fb, Ho⟩, Hsem, %W', %hW', HO⟩, Hout, HsP, HsS, HsO⟩
  sl_exec
  -- what the two copies landed: the stage's slot numbers and scores
  have ew : (slots wB s).view.read (Elt F) (View.write (Elt F) (slots wB s).view fw (wp_stage.sl.dma0 i p s) Finset.univ) = stageWords i s p :=
    funext fun x => (View.read_write_of_mem (v := (slots wB s).view) fw (wp_stage.sl.dma0 i p s) (Finset.mem_univ x)).trans
      (congrFun (read_words i s p) x)
  have es : View.write (Elt F) (sB).view fs (wp_stage.sl.dma0_1 i q s) Finset.univ = stageScores i s q :=
    (View.write_whole_univ _ _ _).trans (read_scores i s q)
  rw [es]
  ihave HO := (owing_insert d i (W := W) (O := O) (W' := insert (SemLoc.dma (SemArray.sem semP), default) W') (fun p hp => by
    rcases Finset.mem_insert.mp hp with hp | hp
    · exact .inr (hp ▸ rfl)
    · exact hW' p hp) (SemLoc.dma (SemArray.sem semS))) $$ HO
  -- the gather, window by window
  iapply (Scf.wp_for_bind frame (wpE (defs₀ (F := F)) 𝒱₀ (tile d i) none) Set.univ 0#32 (Scalar.addi 0#32 8#32) 1#32 winLoop_ok 0#32 _
      (fun k _ => winInv d i O W qs y (View.write (Elt F) (slots wB s).view fw (wp_stage.sl.dma0 i p s) Finset.univ) s k)
      (fun k acc => wp_window d i O W qs y _ s (fun x => by rw [ew]; exact hp _) k acc)) $$ [Hy Hw Hg Hsem HO]
  · unfold winInv
    isplitr; · iexact Hmw
    isplitl [Hy]; · iexact Hy
    isplitl [Hw]; · iexact Hw
    isplitl [Hg]
    · iexists fg; isplitr
      · ipureintro; exact fetched_zero _ _ _
      · iexact Hg
    isplitl [Hsem]; · iexact Hsem
    iexact HO
  iintro %_ HI
  rw [show Scf.trips (0#32) (Scalar.addi 0#32 8#32) 1#32 = 8 from winLoop_trips]
  unfold winInv
  icases HI with ⟨-, Hy, Hw, ⟨%g, %hg, Hg⟩, Hsem, HO⟩
  rw [ew] at hg
  obtain rfl := fetched_all hg
  -- the scores
  rw [lift_bind]
  iapply (wp_load 𝒱₀ (tile d i) none Set.univ (m := sB) (S := Finset.univ) (Finset.subset_univ _)) $$ Hs; iintro Hs
  rw [lift_bind]
  iapply (wp_load 𝒱₀ (tile d i) none Set.univ (m := sB) (S := Finset.univ) (Finset.subset_univ _)) $$ Hs; iintro Hs
  -- the output rows
  iapply (wp_rows_bind d i (gathered y (stageWords i s p)) (loVec (stageScores i s q)) (hiVec (stageScores i s q)) fb) $$ [Hg Ho]
  · isplitl [Hg] <;> iassumption
  iintro ⟨Hg, Ho⟩
  icases HO with ⟨%W₁, %hW₁, HO⟩
  unfold run outPts
  sl_exec
  sl_step
  isplitl [Hy Hp Hq Hw Hs Hg Ho Hsem HO]
  · isplitr; · iexact Hmw
    isplitl [Hy]; · iexact Hy
    isplitl [Hp]; · iexact Hp
    isplitl [Hq]; · iexact Hq
    isplitl [Hw]; · iexists _; iexact Hw
    isplitl [Hs]; · iexists _; iexact Hs
    isplitl [Hg]; · iexists _; iexact Hg
    isplitl [Ho]; · iexists _; iexact Ho
    isplitl [Hsem]; · iexact Hsem
    iapply (owing_insert d i hW₁ _); iexact HO
  isplitl [Hout]
  · iapply (Entails.of_eq (outPts_eq d i s y p q fo (wp_stage.sl.dma0_2 i y p q s) (by unfold wp_stage.sl.dma0_2; exact View.read_whole cc0_scratch3 _))); iexact Hout
  isplitl [HsP]; · iexact HsP
  isplitl [HsS]; · iexact HsS
  iexact HsO

end Tile

end Cert.Proof.Combine

end
-- ==== Proof.TileBody.lean ====
/-
  A tile's whole task: its scratch buffers and semaphores out of what the launch deals it, the four stages one after
  the other, and everything handed back, the tile's 64 rows of the output at `combined`.
-/
module

public import proofs.«01_k».proof.Proof.Tile

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yW" => (Memref.whole Cert.KernelIdeal.main_arg0_scv : Memref Cert.KernelIdeal.sig Kind.scVector Space.hbm Cert.KernelIdeal.S6144x1024 EltTy.f32)
local notation "pW" => (Memref.whole Cert.KernelIdeal.main_arg1_scv : Memref Cert.KernelIdeal.sig Kind.scVector Space.hbm Cert.KernelIdeal.S4096 EltTy.i32)
local notation "qW" => (Memref.whole Cert.KernelIdeal.main_v0_scv : Memref Cert.KernelIdeal.sig Kind.scVector Space.hbm Cert.KernelIdeal.S4096 EltTy.f32)
local notation "oW" => (Memref.whole Cert.KernelIdeal.main_v1_scv : Memref Cert.KernelIdeal.sig Kind.scVector Space.hbm Cert.KernelIdeal.S2048x1024 EltTy.f32)
local notation "wB" => (Memref.whole Cert.KernelIdeal.cc0_scratch0 : Memref Cert.KernelIdeal.sig Kind.scVector Space.vmem Cert.KernelIdeal.S4x32 EltTy.i32)
local notation "sB" => (Memref.whole Cert.KernelIdeal.cc0_scratch1 : Memref Cert.KernelIdeal.sig Kind.scVector Space.vmem Cert.KernelIdeal.S32 EltTy.f32)
local notation "gB" => (Memref.whole Cert.KernelIdeal.cc0_scratch2 : Memref Cert.KernelIdeal.sig Kind.scVector Space.vmem Cert.KernelIdeal.S32x1024 EltTy.f32)
local notation "oB" => (Memref.whole Cert.KernelIdeal.cc0_scratch3 : Memref Cert.KernelIdeal.sig Kind.scVector Space.vmem Cert.KernelIdeal.S16x1024 EltTy.f32)

variable (d : Dev nD) (i : grid0.Coords)

/-! ## A family picked out of a set -/

/-- The members of a set that an injective family names, and the rest. -/
theorem bigSep_family {I J : Type} [DecidableEq I] [DecidableEq J] [Fintype J] (s : Finset I) (f : J ↪ I) (hf : ∀ j, f j ∈ s) (Φ : I → sProp 𝕄) :
    bigSep s Φ = iprop((bigSep Finset.univ fun j => Φ (f j)) ∗ bigSep (s \ Finset.univ.map f) Φ) := by
  have h : Finset.univ.map f ⊆ s := fun x hx => by
    obtain ⟨j, -, rfl⟩ := Finset.mem_map.mp hx
    exact hf j
  conv_lhs => rw [← Finset.union_sdiff_of_subset h]
  rw [BI.bigSep_union Finset.disjoint_sdiff, BI.bigSep_map]
  rfl

/-- Four resources, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- Thirteen resources, one by one. -/
theorem bigSep_thirteen (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) := by
  rw [show (Finset.univ : Finset (Fin 13)) = {0, 1, 2, 3, 4, 5, 6, 7, 8, 9, 10, 11, 12} by decide]
  iterate 12 rw [SparseCore.bigSep_insert' (by decide)]
  rw [bigSep_singleton]

/-- A tile's semaphores, by number. -/
def semOf : Fin 13 ↪ GSem nD τ sig := ⟨fun k => (tile d i, .dma k), fun a b h => by
  have := (Prod.mk.inj h).2
  exact SemLoc.dma.inj this⟩

theorem semOf_own (k : Fin 13) : semOf d i k ∈ ownCells (tile d i) :=
  mem_ownCells.mpr ⟨rfl, by show (SemLoc.dma k : SemLoc sig).isScoped .scVector = true; revert k; decide⟩

/-- A tile's scratch buffers, by number. -/
def scratchOf (k : Fin 4) : Ref sig .scVector := ⟨.vmem, k, rfl⟩

theorem scratchOf_injective : Function.Injective scratchOf := by unfold scratchOf; decide

/-- The same among the device's buffers. -/
def bufOf : Fin 4 ↪ DevRef τ sig := ⟨fun k => (tile d i).2.devRef (scratchOf k), fun _ _ h => scratchOf_injective (Proc.devRef_injective _ h)⟩

theorem bufOf_own (k : Fin 4) : bufOf d i k ∈ ownRefs (τ := τ) (sig := sig) (tile d i).2 :=
  SparseCore.Cfg.mem_ownRefs_of_owner rfl

/-- A semaphore of the tile's at zero. -/
abbrev sem0 (s : DmaSems sig S_) : sProp 𝕄 := semVal (tile d i, SemLoc.dma s.sem) 0

/-- The semaphores that a tile's task uses, and the rest of its own. -/
theorem ownSems0_eq :
    (ownSems0 (tile d i) : sProp 𝕄)
      = iprop((sem0 d i cc0_scratch4
          ∗ sem0 d i cc0_scoped0 ∗ sem0 d i cc0_scoped1 ∗ sem0 d i cc0_scoped2 ∗ sem0 d i cc0_scoped3 ∗ sem0 d i cc0_scoped4 ∗ sem0 d i cc0_scoped5
          ∗ sem0 d i cc0_scoped6 ∗ sem0 d i cc0_scoped7 ∗ sem0 d i cc0_scoped8 ∗ sem0 d i cc0_scoped9 ∗ sem0 d i cc0_scoped10 ∗ sem0 d i cc0_scoped11)
        ∗ bigSep (ownCells (tile d i) \ Finset.univ.map (semOf d i)) fun g => semVal g 0) := by
  unfold SparseCore.Cfg.ownSems0
  rw [bigSep_family _ (semOf d i) (semOf_own d i), bigSep_thirteen]
  rfl

/-- The scratch buffers of a tile's task at any contents, and the rest of its own. -/
theorem ownBufs_eq :
    (ownBufs (tile d i) : sProp 𝕄)
      = iprop(((∃ f, (wB).view.loc (tile d i) ↦[Finset.univ]{fullShare} f) ∗ (∃ f, (sB).view.loc (tile d i) ↦[Finset.univ]{fullShare} f)
          ∗ (∃ f, (gB).view.loc (tile d i) ↦[Finset.univ]{fullShare} f) ∗ (∃ f, (oB).view.loc (tile d i) ↦[Finset.univ]{fullShare} f))
        ∗ bigSep (ownRefs (τ := τ) (tile d i).2 \ Finset.univ.map (bufOf d i)) fun b => iprop(∃ f, ((d, b) : Loc nD τ sig) ↦{fullShare} f)) := by
  unfold SparseCore.Cfg.ownBufs
  rw [bigSep_family _ (bufOf d i) (bufOf_own d i), bigSep_four]
  rfl

/-! ## The task -/

/-- What a tile's task is handed and hands back: shares of the three inputs, and its rows of the output. -/
def task (qs : PosShare TreeShare) (y : S6144x1024.Idx → F .f32) (p : S4096.Idx → BitVec 32) (q : S4096.Idx → F .f32) (fo : S2048x1024.Idx → F .f32) : sProp 𝕄 :=
  iprop(((yW).view.loc (tile d i) ↦[Finset.univ]{qs} y) ∗ ((pW).view.loc (tile d i) ↦[Finset.univ]{qs} p) ∗ ((qW).view.loc (tile d i) ↦[Finset.univ]{qs} q)
    ∗ bigSep Finset.univ fun s : Fin 4 => outPts d i s fo)

/-- A stage at the head of a program. -/
theorem wp_stage_bind (O : CellTallies nD τ sig (HIx 1)) (W : Waits sig (HIx 1)) (qs : PosShare TreeShare) (y : S6144x1024.Idx → F .f32)
    (p : S4096.Idx → BitVec 32) (q : S4096.Idx → F .f32) (hp : ∀ x, (p x).toNat < 6144) (s : Fin 4) (semP semS semO : DmaSems sig S_)
    (fo : S2048x1024.Idx → F .f32) {α : Type} (k : PUnit → TileProg F i α) (Q : α → sProp 𝕄) :
    iprop(held d i O W qs y p q ∗ outPts d i s fo ∗ sem0 d i semP ∗ sem0 d i semS ∗ sem0 d i semO)
      ⊢ iprop((iprop(held d i O W qs y p q ∗ outPts d i s (combined y p q) ∗ sem0 d i semP ∗ sem0 d i semS ∗ sem0 d i semO) -∗ run d i (k ⟨⟩) Q)
          -∗ run d i (stage i yW pW qW oW wB sB (Memref.isWhole_whole _) gB oB (Memref.isWhole_whole _) cc0_scratch4 s semP semS semO >>= k) Q) := by
  have h := wp_stage (F := F) d i O W qs y p q hp s semP semS semO fo
  generalize stage (F := F) i yW pW qW oW wB sB (Memref.isWhole_whole _) gB oB (Memref.isWhole_whole _) cc0_scratch4 s semP semS semO = R at h ⊢
  unfold run
  rw [wp_bind]
  iintro H Hk
  iapply (wp_wand frame (wpE (defs₀ (F := F)) 𝒱₀ (tile d i) none) Set.univ) $$ [H]
  · iapply h; iexact H
  iintro %_ H
  iapply Hk
  iexact H

attribute [local irreducible] stage

/-- The task of a tile: it terminates, and its rows of the output hold the value. -/
theorem tile_body (hF : (K (F := F)).Facts) (O : CellTallies nD τ sig (HIx 1)) (W : Waits sig (HIx 1)) (hO : ∀ g, O g none = 0)
    (qs : PosShare TreeShare) (y : S6144x1024.Idx → F .f32) (p : S4096.Idx → BitVec 32) (q : S4096.Idx → F .f32) (hp : ∀ x, (p x).toNat < 6144)
    (fo : S2048x1024.Idx → F .f32) :
    iprop(levAts (K (F := F)).L (K (F := F)).lev ∗ emp ∗ task d i qs y p q fo
        ∗ scopedBufs (tile d i) ∗ scopedSems0 (tile d i) ∗ owes (tile d i) O W)
      ⊢ run d i (cc0__combine_body i yW (Memref.isWhole_whole _) pW (Memref.isWhole_whole _) qW (Memref.isWhole_whole _) oW (Memref.isWhole_whole _)
            wB (Memref.isWhole_whole _) sB (Memref.isWhole_whole _) gB (Memref.isWhole_whole _) oB (Memref.isWhole_whole _) cc0_scratch4
            cc0_scoped0 cc0_scoped1 cc0_scoped2 cc0_scoped3 cc0_scoped4 cc0_scoped5 cc0_scoped6 cc0_scoped7 cc0_scoped8 cc0_scoped9 cc0_scoped10 cc0_scoped11)
          fun _ => iprop(task d i qs y p q (combined y p q) ∗ scopedBufs (tile d i) ∗ scopedSems0 (tile d i) ∗ owing d i O W) := by
  rw [body_eq, (K (F := F)).scopedBufs_V hF d (cV i) (jV i), SparseCore.Cfg.scopedSems0_V (Val := Elt F) d (cV i) (jV i), ownSems0_eq, ownBufs_eq]
  unfold task
  rw [bigSep_four, bigSep_four]
  iintro ⟨#Hlv, -, ⟨Hy, Hp, Hq, Ho0, Ho1, Ho2, Ho3⟩, ⟨⟨Hw, Hs, Hg, Ho⟩, Hbufs⟩,
    ⟨⟨Hsem, Hp0, Hs0, Hd0, Hp1, Hs1, Hd1, Hp2, Hs2, Hd2, Hp3, Hs3, Hd3⟩, Hsems⟩, HO⟩
  ihave Hmw := (show levAts (K (F := F)).L (K (F := F)).lev ⊢ Transfers.MayWaits (tile d i) (default : HIx 1) O from
    (K (F := F)).mayWaits_none (thr := tile d i) hO) $$ Hlv
  ihave Hheld := (show iprop(Transfers.MayWaits (tile d i) (default : HIx 1) O
      ∗ ((yW).view.loc (tile d i) ↦[Finset.univ]{qs} y) ∗ ((pW).view.loc (tile d i) ↦[Finset.univ]{qs} p) ∗ ((qW).view.loc (tile d i) ↦[Finset.univ]{qs} q)
      ∗ (∃ f, (wB).view.loc (tile d i) ↦[Finset.univ]{fullShare} f) ∗ (∃ f, (sB).view.loc (tile d i) ↦[Finset.univ]{fullShare} f)
      ∗ (∃ f, (gB).view.loc (tile d i) ↦[Finset.univ]{fullShare} f) ∗ (∃ f, (oB).view.loc (tile d i) ↦[Finset.univ]{fullShare} f)
      ∗ sem0 d i cc0_scratch4 ∗ owing d i O W) ⊢ held d i O W qs y p q from Entails.of_eq rfl) $$ [Hmw Hy Hp Hq Hw Hs Hg Ho Hsem HO]
  · isplitl [Hmw]; · iexact Hmw
    isplitl [Hy]; · iexact Hy
    isplitl [Hp]; · iexact Hp
    isplitl [Hq]; · iexact Hq
    isplitl [Hw]; · iexact Hw
    isplitl [Hs]; · iexact Hs
    isplitl [Hg]; · iexact Hg
    isplitl [Ho]; · iexact Ho
    isplitl [Hsem]; · iexact Hsem
    iexists W; isplitr
    · ipureintro; exact fun p hp => .inl hp
    · iexact HO
  iapply (wp_stage_bind d i O W qs y p q hp 0) $$ [Hheld Ho0 Hp0 Hs0 Hd0]
  · isplitl [Hheld]; · iexact Hheld
    isplitl [Ho0]; · iexact Ho0
    isplitl [Hp0]; · iexact Hp0
    isplitl [Hs0] <;> iassumption
  iintro ⟨Hheld, Ho0, Hp0, Hs0, Hd0⟩
  iapply (wp_stage_bind d i O W qs y p q hp 1) $$ [Hheld Ho1 Hp1 Hs1 Hd1]
  · isplitl [Hheld]; · iexact Hheld
    isplitl [Ho1]; · iexact Ho1
    isplitl [Hp1]; · iexact Hp1
    isplitl [Hs1] <;> iassumption
  iintro ⟨Hheld, Ho1, Hp1, Hs1, Hd1⟩
  iapply (wp_stage_bind d i O W qs y p q hp 2) $$ [Hheld Ho2 Hp2 Hs2 Hd2]
  · isplitl [Hheld]; · iexact Hheld
    isplitl [Ho2]; · iexact Ho2
    isplitl [Hp2]; · iexact Hp2
    isplitl [Hs2] <;> iassumption
  iintro ⟨Hheld, Ho2, Hp2, Hs2, Hd2⟩
  iapply (wp_stage_bind d i O W qs y p q hp 3) $$ [Hheld Ho3 Hp3 Hs3 Hd3]
  · isplitl [Hheld]; · iexact Hheld
    isplitl [Ho3]; · iexact Ho3
    isplitl [Hp3]; · iexact Hp3
    isplitl [Hs3] <;> iassumption
  iintro ⟨Hheld, Ho3, Hp3, Hs3, Hd3⟩
  unfold run held
  icases Hheld with ⟨-, Hy, Hp, Hq, Hw, Hs, Hg, Ho, Hsem, HO⟩
  rw [Prog.pure_eq_ret, wp_ret]
  imodintro
  isplitl [Hy Hp Hq Ho0 Ho1 Ho2 Ho3]
  · isplitl [Hy]; · iexact Hy
    isplitl [Hp]; · iexact Hp
    isplitl [Hq]; · iexact Hq
    isplitl [Ho0]; · iexact Ho0
    isplitl [Ho1]; · iexact Ho1
    isplitl [Ho2] <;> iassumption
  isplitl [Hw Hs Hg Ho Hbufs]
  · isplitr [Hbufs]
    · isplitl [Hw]; · iexact Hw
      isplitl [Hs]; · iexact Hs
      isplitl [Hg] <;> iassumption
    · iexact Hbufs
  isplitr [HO]
  · isplitr [Hsems]
    · isplitl [Hsem]; · iexact Hsem
      isplitl [Hp0]; · iexact Hp0
      isplitl [Hs0]; · iexact Hs0
      isplitl [Hd0]; · iexact Hd0
      isplitl [Hp1]; · iexact Hp1
      isplitl [Hs1]; · iexact Hs1
      isplitl [Hd1]; · iexact Hd1
      isplitl [Hp2]; · iexact Hp2
      isplitl [Hs2]; · iexact Hs2
      isplitl [Hd2]; · iexact Hd2
      isplitl [Hp3]; · iexact Hp3
      isplitl [Hs3] <;> iassumption
    · iexact Hsems
  iexact HO

end Cert.Proof.Combine

end
-- ==== Proof.Launch.lean ====
/-
  The combine program's run. Before the call the inputs are divided among the 32 tiles as read shares and the output
  as its rows; each tile gives back its rows at the value, and they join to the whole output. The run is stated once,
  over any float values: every weakly fair execution terminates, the result is `combined` of the arguments, the
  arguments are unchanged and every semaphore counter is zero.
-/
module

public import proofs.«01_k».proof.Proof.TileBody
public import Idealize.ShloMosaic.Lib.StableHlo.Run
public import Idealize.ShloMosaic.Lib.ReduceAll

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "yW" => (Memref.whole Cert.KernelIdeal.main_arg0_scv : Memref Cert.KernelIdeal.sig Kind.scVector Space.hbm Cert.KernelIdeal.S6144x1024 EltTy.f32)
local notation "pW" => (Memref.whole Cert.KernelIdeal.main_arg1_scv : Memref Cert.KernelIdeal.sig Kind.scVector Space.hbm Cert.KernelIdeal.S4096 EltTy.i32)
local notation "qW" => (Memref.whole Cert.KernelIdeal.main_v0_scv : Memref Cert.KernelIdeal.sig Kind.scVector Space.hbm Cert.KernelIdeal.S4096 EltTy.f32)
local notation "oW" => (Memref.whole Cert.KernelIdeal.main_v1_scv : Memref Cert.KernelIdeal.sig Kind.scVector Space.hbm Cert.KernelIdeal.S2048x1024 EltTy.f32)
local notation "wB" => (Memref.whole Cert.KernelIdeal.cc0_scratch0 : Memref Cert.KernelIdeal.sig Kind.scVector Space.vmem Cert.KernelIdeal.S4x32 EltTy.i32)
local notation "sB" => (Memref.whole Cert.KernelIdeal.cc0_scratch1 : Memref Cert.KernelIdeal.sig Kind.scVector Space.vmem Cert.KernelIdeal.S32 EltTy.f32)
local notation "gB" => (Memref.whole Cert.KernelIdeal.cc0_scratch2 : Memref Cert.KernelIdeal.sig Kind.scVector Space.vmem Cert.KernelIdeal.S32x1024 EltTy.f32)
local notation "oB" => (Memref.whole Cert.KernelIdeal.cc0_scratch3 : Memref Cert.KernelIdeal.sig Kind.scVector Space.vmem Cert.KernelIdeal.S16x1024 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, and what each tile gets of them -/

variable (m : (ℓ : Loc nD τ sig) → Buf (Elt F) ℓ) (ρ : Dev nD → PrngReg)

abbrev yLoc (d : Dev nD) : Loc nD τ sig := (SparseCore.T d).loc main_arg0
abbrev pLoc (d : Dev nD) : Loc nD τ sig := (SparseCore.T d).loc main_arg1
abbrev sLoc (d : Dev nD) : Loc nD τ sig := (SparseCore.T d).loc main_arg2
abbrev qLoc (d : Dev nD) : Loc nD τ sig := (SparseCore.T d).loc main_v0
abbrev oLoc (d : Dev nD) : Loc nD τ sig := (SparseCore.T d).loc main_v1

/-- The scores, flattened: what the host hands the call. -/
def flat (d : Dev nD) : S4096.Idx → F .f32 := shapeCast S4096 (m (sLoc d) : S2048x2.Idx → F .f32) shapeCasts_S2048x2_S4096

/-- The tile on SparseCore `c`, subcore `j`. -/
def coords (c : Fin (grid0.bound 0)) (j : Fin (grid0.bound 1)) : grid0.Coords :=
  fun | 0 => c | 1 => j | ⟨_ + 2, h⟩ => absurd h (Nat.not_lt.2 (Nat.le_add_left _ _))

/-- The tile's read share of each input. -/
def shareOf (t : Fin 2 × Fin 16) : PosShare TreeShare := pieceOf fullShare 32 (by omega) (finProdFinEquiv t)

/-- The rows of the output that a stage of a tile writes. -/
def outSet (t : (Fin 2 × Fin 16) × Fin 4) : Finset S2048x1024.Idx :=
  ((oW).slice (tokRect (coords t.1.1 t.1.2) t.2) (fun _ => rfl)).view.set

theorem mem_outSet (t : (Fin 2 × Fin 16) × Fin 4) (x : S2048x1024.Idx) :
    x ∈ outSet t ↔ 128 * t.1.2.val + 64 * t.1.1.val + 16 * t.2.val ≤ (x 0).val ∧ (x 0).val < 128 * t.1.2.val + 64 * t.1.1.val + 16 * t.2.val + 16 := by
  have e : outSet t = (tokRect (coords t.1.1 t.1.2) t.2).set := by
    show ((View.whole (main_v1_scv : Ref sig .scVector)).slice (tokRect (coords t.1.1 t.1.2) t.2)).set = _
    rw [View.set_slice]; exact Finset.map_refl
  have h1 : (x 1).val < 1024 := (x 1).isLt
  rw [e, Rect.mem_set_unit, k0_off52_eq]
  constructor
  · intro h
    exact ⟨(h 0).1, (h 0).2⟩
  · intro h a
    match a with
    | 0 => exact ⟨h.1, h.2⟩
    | 1 => exact ⟨Nat.zero_le _, by show (x 1).val < 0 + 1024; omega⟩

theorem outSet_disjoint : ∀ t ∈ (Finset.univ : Finset ((Fin 2 × Fin 16) × Fin 4)), ∀ t' ∈ (Finset.univ : Finset ((Fin 2 × Fin 16) × Fin 4)),
    t ≠ t' → Disjoint (outSet t) (outSet t') := by
  rintro ⟨⟨c, j⟩, s⟩ - ⟨⟨c', j'⟩, s'⟩ - h
  rw [Finset.disjoint_left]
  intro x hx hx'
  rw [mem_outSet] at hx hx'
  dsimp only at hx hx'
  apply h
  have hc := c.isLt; have hc' := c'.isLt; have hs := s.isLt; have hs' := s'.isLt
  have e1 : j = j' := Fin.ext (by omega)
  have e2 : c = c' := Fin.ext (by omega)
  have e3 : s = s' := Fin.ext (by omega)
  rw [e1, e2, e3]

theorem outSet_cover : (Finset.univ : Finset ((Fin 2 × Fin 16) × Fin 4)).biUnion outSet = Finset.univ := by
  refine Finset.eq_univ_of_forall fun x => ?_
  have hx : (x 0).val < 2048 := (x 0).isLt
  refine Finset.mem_biUnion.mpr ⟨⟨⟨⟨(x 0).val / 64 % 2, by omega⟩, ⟨(x 0).val / 128, by omega⟩⟩, ⟨(x 0).val / 16 % 4, by omega⟩⟩, Finset.mem_univ _, ?_⟩
  rw [mem_outSet]
  dsimp only
  omega

/-- A tile's operands, the output at `fo`. -/
def operands (d : Dev nD) (fo : S2048x1024.Idx → F .f32) (t : Fin 2 × Fin 16) : sProp 𝕄 :=
  iprop((yLoc d ↦{shareOf t} m (yLoc d)) ∗ (pLoc d ↦{shareOf t} m (pLoc d)) ∗ (qLoc d ↦{shareOf t} (flat m d : S4096.Idx → F .f32))
    ∗ bigSep Finset.univ fun s : Fin 4 => oLoc d ↦[outSet (t, s)]{fullShare} fo)

theorem operands_task (d : Dev nD) (fo : S2048x1024.Idx → F .f32) (c : Fin 2) (j : Fin 16) :
    (operands m d fo (c, j) : sProp 𝕄) = task d (coords c j) (shareOf (c, j)) (m (yLoc d)) (m (pLoc d)) (flat m d) fo := rfl

/-- An array whole is every tile's share of it. -/
theorem shares (ℓ : Loc nD τ sig) (f : Buf (Elt F) ℓ) :
    (ℓ ↦{fullShare} f : sProp 𝕄) = bigSep Finset.univ fun t : Fin 2 × Fin 16 => ℓ ↦{shareOf t} f := by
  rw [pointsTo_piecesOf Finset.univ f (by omega : 0 < 32) fullShare, bigSep_univ_equiv (finProdFinEquiv (m := 2) (n := 16))]
  rfl

/-- The output whole is every tile's rows of it. -/
theorem rows_of_output (d : Dev nD) (f : S2048x1024.Idx → F .f32) :
    (oLoc d ↦{fullShare} f : sProp 𝕄) = bigSep Finset.univ fun t : Fin 2 × Fin 16 => bigSep Finset.univ fun s : Fin 4 => oLoc d ↦[outSet (t, s)]{fullShare} f := by
  rw [← bigSep_univ_prod (fun t : (Fin 2 × Fin 16) × Fin 4 => (oLoc d ↦[outSet t]{fullShare} f : sProp 𝕄)),
    ← pointsTo_biUnion Finset.univ (ℓ := oLoc d) outSet outSet_disjoint, outSet_cover]

/-- The arrays whole are every tile's operands. -/
theorem all_operands (d : Dev nD) (fo : S2048x1024.Idx → F .f32) :
    (iprop((yLoc d ↦{fullShare} m (yLoc d)) ∗ (pLoc d ↦{fullShare} m (pLoc d)) ∗ (qLoc d ↦{fullShare} (flat m d : S4096.Idx → F .f32)) ∗ oLoc d ↦{fullShare} fo) : sProp 𝕄)
      = bigSep Finset.univ fun c : Fin 2 => bigSep Finset.univ fun j : Fin 16 => operands m d fo (c, j) := by
  rw [shares (yLoc d), shares (pLoc d), shares (qLoc d), rows_of_output, ← bigSep_sep', ← bigSep_sep', ← bigSep_sep', bigSep_univ_prod]
  rfl

/-! ## What the call's handshakes carry -/

/-- The value of the program. -/
def result (d : Dev nD) : S2048x1024.Idx → F .f32 := combined (m (yLoc d)) (m (pLoc d)) (flat m d)

def P : (K (F := F)).Pay (nD := nD) (Val := Elt F) (Name := ℕ) (U := UU) where
  st := fun q d c => match q with | 0 => bigSep Finset.univ fun j : Fin 16 => operands m d (m (oLoc d)) (c, j)
  dn := fun q d c => match q with | 0 => bigSep Finset.univ fun j : Fin 16 => operands m d (result m d) (c, j)
  go := fun q d c j => match q with | 0 => operands m d (m (oLoc d)) (c, j)
  td := fun q d c j => match q with | 0 => operands m d (result m d) (c, j)
  x := fun _ _ => iprop(emp)

instance operands_storable (d : Dev nD) (fo : S2048x1024.Idx → F .f32) (t : Fin 2 × Fin 16) :
    BI.Storable (upEmb : UEmb _ 𝕄) (operands m d fo t) := by unfold operands; infer_instance

instance P_storable : (P (F := F) m).IsStorable where
  st q d c := match q with
    | 0 => (inferInstance : BI.Storable (upEmb : UEmb _ 𝕄) (bigSep Finset.univ fun j : Fin 16 => operands m d (m (oLoc d)) (c, j)))
  dn q d c := match q with
    | 0 => (inferInstance : BI.Storable (upEmb : UEmb _ 𝕄) (bigSep Finset.univ fun j : Fin 16 => operands m d (result m d) (c, j)))
  go q d c j := match q with | 0 => operands_storable m d (m (oLoc d)) (c, j)
  td q d c j := match q with | 0 => operands_storable m d (result m d) (c, j)

/-- Every slot number names a row of the expert outputs. -/
def PosOK : Prop := ∀ (d : Dev nD) (x : S4096.Idx), ((m (pLoc d) : S4096.Idx → BitVec 32) x).toNat < 6144

/-! ## The call's obligations -/

theorem defs₀_vector (c : Fin τ.nSC) (s : Fin τ.nSub) :
    defs₀ (F := F) (.scVector c s) 0 ()
      = SparseCore.onTile hcore0 hsub0 (fun c s => cc0__combine_body (coords c s)
          yW (Memref.isWhole_whole _) pW (Memref.isWhole_whole _) qW (Memref.isWhole_whole _) oW (Memref.isWhole_whole _)
          wB (Memref.isWhole_whole _) sB (Memref.isWhole_whole _) gB (Memref.isWhole_whole _) oB (Memref.isWhole_whole _) cc0_scratch4
          cc0_scoped0 cc0_scoped1 cc0_scoped2 cc0_scoped3 cc0_scoped4 cc0_scoped5 cc0_scoped6 cc0_scoped7 cc0_scoped8 cc0_scoped9 cc0_scoped10 cc0_scoped11) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hp : PosOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) facts O W hO (shareOf (c, i)) (m (yLoc d)) (m (pLoc d)) (flat m d) (hp d) (m (oLoc d))).trans
    (wp_mono frame _ _ fun _ => tile_post)

theorem vecSplit : (K (F := F)).VecSplit' (P m) 0 := by
  intro d c
  show (bigSep Finset.univ fun j : Fin 16 => operands m d (m (oLoc d)) (c, j)) ⊢ |={Set.univ}=> iprop(
    (bigSep Finset.univ fun j : Fin 16 => operands m d (m (oLoc d)) (c, j))
      ∗ ((bigSep Finset.univ fun j : Fin 16 => operands m d (result m d) (c, j)) -∗ bigSep Finset.univ fun j : Fin 16 => operands m d (result m d) (c, j)))
  iintro H; imodintro
  isplitl [H]; · iexact H
  iintro H; iexact H

/-! ## The launch -/

def u₀ : UU := (initOf (K (F := F)).hsCells (K (F := F)).hsToks, 1)

/-- Nothing for each of a set is nothing. -/
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The host's program -/

abbrev opFlat : HloOp τ sig (Elt F) := StableHlo.reshape main_arg2 main_v0 (rfl : (.f32 : EltTy) = .f32) shapeCasts_S2048x2_S4096

abbrev y' : DevRef τ sig := Proc.devRef .tc main_arg0
abbrev p' : DevRef τ sig := Proc.devRef .tc main_arg1
abbrev s' : DevRef τ sig := Proc.devRef .tc main_arg2
abbrev q' : DevRef τ sig := Proc.devRef .tc main_v0
abbrev o' : DevRef τ sig := Proc.devRef .tc main_v1

/-- The TensorCore's arrays. -/
abbrev arrays : Finset (DevRef τ sig) := {y', p', s', q', o'}

theorem held_arrays (d : Dev nD) (W : Valuation τ sig (Elt F)) :
    (StableHlo.held (SparseCore.T d) arrays W : sProp 𝕄)
      = iprop((yLoc d ↦{fullShare} W y') ∗ (pLoc d ↦{fullShare} W p') ∗ (sLoc d ↦{fullShare} W s') ∗ (qLoc d ↦{fullShare} W q') ∗ oLoc d ↦{fullShare} W o') := by
  unfold StableHlo.held arrays
  iterate 4 rw [SparseCore.bigSep_insert' (by decide)]
  rw [bigSep_singleton]

theorem unscopedBufs_eq (d : Dev nD) :
    (unscopedBufs d (fun b => m ((SparseCore.T d).loc b)) : sProp 𝕄) = StableHlo.held (SparseCore.T d) arrays (fun b => m (d, b)) := by
  rw [held_arrays]
  unfold unscopedBufs
  rw [show (Finset.univ.filter fun b : Ref sig .tc => ¬ b.isScoped) = {main_arg0, main_arg1, main_arg2, main_v0, main_v1} by decide]
  iterate 4 rw [SparseCore.bigSep_insert' (by decide)]
  rw [bigSep_singleton]

/-- The arrays once the scores are flattened. -/
theorem held_flat (d : Dev nD) :
    (StableHlo.held (SparseCore.T d) arrays ((opFlat (F := F)).result (fun b => m (d, b))) : sProp 𝕄)
      = iprop((yLoc d ↦{fullShare} m (yLoc d)) ∗ (pLoc d ↦{fullShare} m (pLoc d)) ∗ (sLoc d ↦{fullShare} m (sLoc d))
          ∗ (qLoc d ↦{fullShare} (flat m d : S4096.Idx → F .f32)) ∗ oLoc d ↦{fullShare} m (oLoc d)) := by
  rw [held_arrays, StableHlo.reshape_result_ne (h := (by decide : main_arg0 ≠ main_v0)), StableHlo.reshape_result_ne (h := (by decide : main_arg1 ≠ main_v0)),
    StableHlo.reshape_result_ne (h := (by decide : main_arg2 ≠ main_v0)), StableHlo.reshape_result_ne (h := (by decide : main_v1 ≠ main_v0)),
    StableHlo.reshape_result]
  rfl

/-- What the host's program leaves: the arguments as they were, and the result. -/
abbrev FIN (d : Dev nD) : sProp 𝕄 :=
  iprop((yLoc d ↦{fullShare} m (yLoc d)) ∗ (pLoc d ↦{fullShare} m (pLoc d)) ∗ (sLoc d ↦{fullShare} m (sLoc d)) ∗ oLoc d ↦{fullShare} (result m d : S2048x1024.Idx → F .f32))

theorem st_eq (d : Dev nD) : (bigSep Finset.univ fun c : Fin ((K (F := F)).nCore 0) => (P m).st 0 d c)
    = iprop((yLoc d ↦{fullShare} m (yLoc d)) ∗ (pLoc d ↦{fullShare} m (pLoc d)) ∗ (qLoc d ↦{fullShare} (flat m d : S4096.Idx → F .f32)) ∗ oLoc d ↦{fullShare} m (oLoc d)) :=
  (all_operands m d (m (oLoc d))).symm
theorem dn_eq (d : Dev nD) : (bigSep Finset.univ fun c : Fin ((K (F := F)).nCore 0) => (P m).dn 0 d c)
    = iprop((yLoc d ↦{fullShare} m (yLoc d)) ∗ (pLoc d ↦{fullShare} m (pLoc d)) ∗ (qLoc d ↦{fullShare} (flat m d : S4096.Idx → F .f32))
      ∗ oLoc d ↦{fullShare} (result m d : S2048x1024.Idx → F .f32)) :=
  (all_operands m d (result m d)).symm

/-- The host's program: the scores flattened, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hheld, Hts, -⟩, -⟩
  iapply (StableHlo.wp_hlo_within 𝒱 (SparseCore.T d) none Set.univ (op := opFlat) (S := arrays) (show ({s', q'} : Finset (DevRef τ sig)) ⊆ arrays by decide)
    (V := fun b => m (d, b))) $$ [Hb Hheld]
  · isplitl [Hb] <;> iassumption
  iintro ⟨Hb, Hheld⟩
  rw [wp_ret]; imodintro
  ihave Hh := (Entails.of_eq (held_flat (F := F) m d)) $$ Hheld
  icases Hh with ⟨Hy, Hp, Hs, Hq, Ho⟩
  iapply ((K (F := F)).wp_run (D (F := F)) 𝒱 (EH := EH) (P := P m) κ d 0) $$ [Hst Hy Hp Hs Hq Ho Hb Hts]
  isplitr; · iexact Hctx
  isplitl [Hst]; · iexact Hst
  isplitl [Hy Hp Hq Ho]
  · rw [st_eq]
    isplitl [Hy]; · iexact Hy
    isplitl [Hp]; · iexact Hp
    isplitl [Hq] <;> iassumption
  iintro ⟨Hst, Hdn⟩
  ihave Hdn' := (Entails.of_eq (dn_eq m d)) $$ Hdn
  icases Hdn' with ⟨Hy, Hp, -, Ho⟩
  imodintro
  isplitl [Hst]; · iexact Hst
  isplitr [Hb Hts]
  · isplitl [Hy]; · iexact Hy
    isplitl [Hp]; · iexact Hp
    isplitl [Hs] <;> iassumption
  isplitl [Hb] <;> iassumption

/-- What the claims read of a final state. -/
def fq (d : Dev nD) (s : Phys nD τ sig (Elt F)) : Prop :=
  s.mem.mem (oLoc d) = (result m d : S2048x1024.Idx → F .f32) ∧ s.mem.mem (yLoc d) = m (yLoc d) ∧ s.mem.mem (pLoc d) = m (pLoc d) ∧ s.mem.mem (sLoc d) = m (sLoc d)

/-- An array held whole has the contents that it is held at. -/
theorem read_whole (ℓ : Loc nD τ sig) (f : Buf (Elt F) ℓ) (s : Phys nD τ sig (Elt F)) :
    (iprop(SI s ∗ ℓ ↦{fullShare} f) : sProp 𝕄) ⊢ iprop(⌜s.mem.mem ℓ = f⌝ ∗ SI s) := by
  iintro H
  ihave H := (persistent_entails_right (SI_pointsTo_agree (st := s) (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s : Phys nD τ sig (Elt F)) : iprop(FIN m d ∗ SI s) ⊢ (⌜fq m d s⌝ : sProp 𝕄) := by
  iintro ⟨⟨Hy, Hp, Hs, Ho⟩, HSI⟩
  ihave H := (read_whole (yLoc d) _ s) $$ [HSI Hy]; · isplitl [HSI] <;> iassumption
  icases H with ⟨%hy, HSI⟩
  ihave H := (read_whole (pLoc d) _ s) $$ [HSI Hp]; · isplitl [HSI] <;> iassumption
  icases H with ⟨%hp, HSI⟩
  ihave H := (read_whole (sLoc d) _ s) $$ [HSI Hs]; · isplitl [HSI] <;> iassumption
  icases H with ⟨%hs, HSI⟩
  ihave H := (read_whole (oLoc d) _ s) $$ [HSI Ho]; · isplitl [HSI] <;> iassumption
  icases H with ⟨%ho, -⟩
  ipureintro; exact ⟨ho, hy, hp, hs⟩

/-- The run's end: on every device the result is the value and the arguments are unchanged; the counters are zero. -/
def QC : PUnit × MemSt nD τ sig (Elt F) → Prop := fun r =>
  (∀ c : Dev nD, r.2.mem (oLoc c) = (result m c : S2048x1024.Idx → F .f32) ∧ r.2.mem (yLoc c) = m (yLoc c) ∧ r.2.mem (pLoc c) = m (pLoc c) ∧ r.2.mem (sLoc c) = m (sLoc c))
    ∧ r.2.sem = fun _ => 0

theorem run_main [∀ e, Nonempty (Elt F e)] (hp : PosOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine

end
-- ==== Proof.Reference.lean ====
/-
  What the reference computes, index by index: at `(t, c)` the sum over the token's two choices of the row of the expert
  outputs that the choice's slot number names, times the choice's score. Over the extended reals that is the kernel's
  value: a product and a sum of two in the other order, and the sum's initial zero.
-/
module

public import proofs.«01_k».proof.Proof.Launch
public import proofs.«01_k».proof.Proof.Gen.ReferenceIdeal.Run
public import Idealize.ShloMosaic.Lib.Pointwise

@[expose] public section

noncomputable section

namespace Cert.Proof.Reference

open Cert.ReferenceIdeal Cert.ReferenceIdeal.Gen
open Idealize.ShloMosaic Idealize.SL.Sem
open Cert.Proof.Combine (yIx pIx slotRow combined blend)

/-! ## The slot numbers -/

/-- The slot numbers as the reference reads its rows by them: one row of two per token, a negative one counted from the end. -/
def slots (p : S4096.Idx → BitVec 32) : S2048x2.Idx → BitVec 32 :=
  select (cmpi .slt (shapeCast S2048x2 p shapeCasts_S4096_S2048x2) (broadcastInDim S2048x2 ![] bcast_S_S2048x2 (constantI S_ 32 0#32)))
    (addi (shapeCast S2048x2 p shapeCasts_S4096_S2048x2) (broadcastInDim S2048x2 ![] bcast_S_S2048x2 (constantI S_ 32 6144#32)))
    (shapeCast S2048x2 p shapeCasts_S4096_S2048x2)

/-- A slot number that names a row is not negative. -/
theorem slots_apply (p : S4096.Idx → BitVec 32) (hp : ∀ x, (p x).toNat < 6144) (t : Fin 2048) (k : Fin 2) :
    slots p (ix2 t k) = p (pIx ⟨2 * t.val + k.val, by omega⟩) := by
  unfold slots
  pointwise []
  have e : (ix1 ⟨t.val * 2 + k.val, by omega⟩ : S4096.Idx) = pIx ⟨2 * t.val + k.val, by omega⟩ := by
    funext a
    match a with | 0 => exact Fin.ext (by show t.val * 2 + k.val = 2 * t.val + k.val; omega)
  rw [e]
  have h := hp (pIx ⟨2 * t.val + k.val, by omega⟩)
  generalize p (pIx ⟨2 * t.val + k.val, by omega⟩) = v at h ⊢
  have hv : IntOp.cmpi .slt v 0#32 = 0#1 := by
    have : v.slt 0#32 = false := by
      rw [BitVec.slt_eq_decide, decide_eq_false_iff_not, BitVec.toInt_eq_toNat_cond]
      simp only [BitVec.toInt_zero]
      omega
    simp only [IntOp.cmpi, this]
    rfl
  rw [hv]
  rfl

/-! ## The gathered rows -/

abbrev rowsOf : GatherDims S6144x1024 S2048x2x1 S2048x2x1024 := gather_S6144x1024_S2048x2x1_S2048x2x1024_2_0_n_n_0_2_11024

/-- The gather at `(t, k, c)`: the row that the index `(t, k)` names, read signed and clamped, at column `c`. -/
theorem gather_apply {α : Type} (x : S6144x1024.Idx → α) (w : IVec S2048x2x1 32) (t : Fin 2048) (k : Fin 2) (c : Fin 1024) :
    Host.gather rowsOf x w (ix3 t k c) = x (yIx ⟨min (w (ix3 t k (0 : Fin 1))).toInt.toNat 6143, by omega⟩ c) := by
  unfold Host.gather
  congr 1
  funext a
  refine Fin.ext ?_
  show rowsOf.start (ix3 t k c) w a + rowsOf.batchCoord (ix3 t k c) a + rowsOf.offCoord (ix3 t k c) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 2) ∈ rowsOf.startIndexMap from List.mem_singleton.mpr rfl)]
    have hsi : rowsOf.siIdx (ix3 t k c) ⟨List.idxOf (0 : Fin 2) rowsOf.startIndexMap, List.idxOf_lt_length_iff.2 (List.mem_singleton.mpr rfl)⟩
        = ix3 t k (0 : Fin 1) := by
      funext b; refine Fin.ext ?_
      match b with
      | ⟨0, _⟩ => rfl
      | ⟨1, _⟩ => rfl
      | ⟨2, _⟩ => rfl
    rw [hsi]
    rfl
  | 1 =>
    unfold GatherDims.start
    rw [dif_neg (show (1 : Fin 2) ∉ rowsOf.startIndexMap by decide)]
    show 0 + 0 + rowsOf.offCoord (ix3 t k c) 1 = c.val
    rw [Nat.zero_add]
    unfold GatherDims.offCoord
    rw [dif_pos (show (1 : Fin 2) ∈ rowsOf.sKept by decide)]
    rfl

/-! ## The value -/

/-- The reference's result. -/
def value (y : S6144x1024.Idx → Ideal .f32) (p : S4096.Idx → BitVec 32) (s : S2048x2.Idx → Ideal .f32) : S2048x1024.Idx → Ideal .f32 :=
  Host.reduceAdd (mulf (Host.gather rowsOf y (broadcastInDim S2048x2x1 ![0, 1] bcast_S2048x2_S2048x2x1_0_1 (slots p)))
      (broadcastInDim S2048x2x1024 ![0, 1, 2] bcast_S2048x2x1_S2048x2x1024_0_1_2 (broadcastInDim S2048x2x1 ![0, 1] bcast_S2048x2_S2048x2x1_0_1 s)))
    (constant S_ .f32 0x00000000#32) reducesTo_S2048x2x1024_S2048x1024_d1 h_S_

theorem gathered_apply (y : S6144x1024.Idx → Ideal .f32) (p : S4096.Idx → BitVec 32) (hp : ∀ x, (p x).toNat < 6144) (t : Fin 2048) (k : Fin 2) (c : Fin 1024) :
    Host.gather rowsOf y (broadcastInDim S2048x2x1 ![0, 1] bcast_S2048x2_S2048x2x1_0_1 (slots p)) (ix3 t k c)
      = y (yIx (slotRow (p (pIx ⟨2 * t.val + k.val, by omega⟩))) c) := by
  rw [gather_apply]
  have e : broadcastInDim S2048x2x1 ![0, 1] bcast_S2048x2_S2048x2x1_0_1 (slots p) (ix3 t k (0 : Fin 1)) = p (pIx ⟨2 * t.val + k.val, by omega⟩) := by
    refine Eq.trans ?_ (slots_apply p hp t k)
    generalize slots p = w
    pointwise []
  congr 2
  refine Fin.ext ?_
  have h := hp (pIx ⟨2 * t.val + k.val, by omega⟩)
  show min (broadcastInDim S2048x2x1 ![0, 1] bcast_S2048x2_S2048x2x1_0_1 (slots p) (ix3 t k (0 : Fin 1))).toInt.toNat 6143
    = (p (pIx ⟨2 * t.val + k.val, by omega⟩)).toNat % 6144
  rw [e, BitVec.toInt_eq_toNat_cond]
  omega

/-- The flattened scores at pair `2t + k`. -/
theorem flat_apply (s : S2048x2.Idx → Ideal .f32) (t : Fin 2048) (k : Fin 2) :
    shapeCast Cert.KernelIdeal.S4096 s Cert.KernelIdeal.Gen.facts.shapeCasts_S2048x2_S4096 (pIx ⟨2 * t.val + k.val, by omega⟩) = s (ix2 t k) := by
  have e : (pIx ⟨2 * t.val + k.val, by omega⟩ : S4096.Idx) = ix1 ⟨2 * t.val + k.val, by omega⟩ := by
    funext a
    match a with | 0 => rfl
  rw [e]
  pointwise []

/-- The reference computes the kernel's value. -/
theorem value_eq (y : S6144x1024.Idx → Ideal .f32) (p : S4096.Idx → BitVec 32) (hp : ∀ x, (p x).toNat < 6144) (s : S2048x2.Idx → Ideal .f32) :
    value y p s = combined y p (shapeCast Cert.KernelIdeal.S4096 s Cert.KernelIdeal.Gen.facts.shapeCasts_S2048x2_S4096) := by
  funext j
  have hg := fun k => gathered_apply y p hp (j 0) k (j 1)
  unfold value
  generalize Host.gather rowsOf y (broadcastInDim S2048x2x1 ![0, 1] bcast_S2048x2_S2048x2x1_0_1 (slots p)) = g at hg ⊢
  have h0 := flat_apply s (j 0) 0
  have h1 := flat_apply s (j 0) 1
  unfold combined
  generalize shapeCast Cert.KernelIdeal.S4096 s Cert.KernelIdeal.Gen.facts.shapeCasts_S2048x2_S4096 = q at h0 h1 ⊢
  pointwise []
  rw [Fin.sum_univ_two, hg 0, hg 1, ← h0, ← h1, mul_comm, mul_comm (y _)]
  rfl

end Cert.Proof.Reference

end
-- ==== Proof.RouteBody.lean ====
/-
  The dispatch kernel's tile body, written as what it is. A tile copies the chunk counts, the experts' first slots and its
  own 128 expert numbers in, adds the counts of the chunks before its own, and goes through four stages of 32 pairs. A stage
  works out the pairs' slots and tokens (two halves of 16 lanes), copies the slots out, gathers the tokens' rows and
  scatters them to the slots (each eight windows of 128 columns, one after another). `body_eq` says that the printed body is
  this text.
-/
module

public import proofs.«01_k».proof.Proof.Gen.DispatchIdeal

@[expose] public section

noncomputable section

namespace Cert.Proof.Route

open Cert.DispatchIdeal Cert.DispatchIdeal.Gen
open Idealize.ShloMosaic Idealize.SL.Sem

variable {F : FTy → Type} [FloatOps F]

/-- The eight windows of a row. -/
abbrev winLoop : Scf.Loop 32 := ⟨0#32, Scalar.addi 0#32 8#32, 1#32⟩

theorem winLoop_ok : winLoop.OK := by decide

/-- The offset of window `t`. -/
def winOff (t : Fin winLoop.trips) : Fin 2 → Nat := ![0, (Scalar.muli (Scf.iv 0#32 1#32 t) 128#32).toNat]

theorem winLoop_trips : winLoop.trips = 8 := by decide +kernel
theorem winCol : ∀ t : Fin winLoop.trips, (Scalar.muli (Scf.iv 0#32 1#32 t) 128#32).toNat = 128 * t.val := by decide +kernel
theorem winOff_eq (t : Fin winLoop.trips) : winOff t = ![0, 128 * t.val] := by rw [winOff, winCol]

theorem winOff_inb (n : Nat) (t : Fin winLoop.trips) : ∀ a, winOff t a + (⟨2, ![n, 128]⟩ : Shape).size a ≤ (⟨2, ![n, 1024]⟩ : Shape).size a := by
  have h : t.val < 8 := winLoop_trips ▸ t.isLt
  rw [winOff_eq]; intro a; fin_cases a
  · show 0 + n ≤ n; omega
  · show 128 * t.val + 128 ≤ 1024; omega

theorem stageRow_inb (s : Fin 4) : ∀ a, (![s.val, 0] : Fin 2 → Nat) a + S1x32.size a ≤ S4x32.size a := by
  intro a; fin_cases a
  · show s.val + 1 ≤ 4; omega
  · show 0 + 32 ≤ 32; omega

theorem half_inb (s : Fin 4) (h : Fin 2) : ∀ a, (![s.val, 16 * h.val] : Fin 2 → Nat) a + S1x16.size a ≤ S4x32.size a := by
  intro a; fin_cases a
  · show s.val + 1 ≤ 4; omega
  · show 16 * h.val + 16 ≤ 32; omega

theorem vec_inb (s : Fin 4) (h : Fin 2) : ∀ a, (![32 * s.val + 16 * h.val] : Fin 1 → Nat) a + S16.size a ≤ S128.size a := by
  intro a; fin_cases a
  show 32 * s.val + 16 * h.val + 16 ≤ 128; omega

theorem count_inb {n : Nat} (h : n < 32) : ∀ a, (![n, 0] : Fin 2 → Nat) a + S1x16.size a ≤ S32x16.size a := by
  intro a; fin_cases a
  · show n + 1 ≤ 32; omega
  · show 0 + 16 ≤ 16; omega

theorem slices_lane {k : Nat} (hk : k < 16) : S16.Slices ![k] S1 :=
  ⟨rfl, fun a => by fin_cases a; show k + 1 ≤ 16; omega⟩

/-! ## The integer vectors -/

/-- Lane `k` of a 16-lane vector. -/
def lane (v : IVec S16 32) {k : Nat} (hk : k < 16) : BitVec 32 :=
  extractAt ![0] (extractStridedSlice S1 ![k] v (slices_lane hk) : IVec S1 32) inpos_S1_p0

/-- The lanes' numbers. -/
def lanes : IVec S16 32 := iota .scVector S16 32 [0] iota_S16_d0_w32_scVector

/-- Where the expert numbers `v` are `e`. -/
def isE (v : IVec S16 32) (e : Nat) : IVec S16 1 := cmpi .eq v (broadcast S16 (BitVec.ofNat 32 e))

/-- How many of the lanes up to each are for expert `e`. -/
def upTo (v : IVec S16 32) (e : Nat) : IVec S16 32 := scan .sum (select (isE v e) (broadcast S16 1#32) (broadcast S16 0#32) : IVec S16 32)

/-- The slots of the lanes whose experts are below `n`. -/
def slotsBelow (v b : IVec S16 32) : (n : Nat) → n ≤ 16 → IVec S16 32
  | 0, _ => broadcast S16 0#32
  | n + 1, h => select (isE v n) (subi (addi (broadcast S16 (lane b (show n < 16 by omega))) (upTo v n)) (broadcast S16 1#32)) (slotsBelow v b n (by omega))

/-- How many lanes are for each expert below `n`. -/
def histBelow (v : IVec S16 32) : Nat → IVec S16 32
  | 0 => broadcast S16 0#32
  | n + 1 => select (cmpi .eq lanes (broadcast S16 (BitVec.ofNat 32 n))) (broadcast S16 (lane (upTo v n) (show 15 < 16 by omega))) (histBelow v n)

/-- The tile's number. -/
def tileWord (i : grid0.Coords) : BitVec 32 := Scalar.addi (Scalar.muli (BitVec.ofNat 32 (i 1).val) 2#32) (BitVec.ofNat 32 (i 0).val)

/-- The numbers of the pairs at `k` of the tile's 128 and after. -/
def pairVec (i : grid0.Coords) (k : Nat) : IVec S16 32 :=
  addi (broadcast S16 (Scalar.addi (Scalar.muli (tileWord i) 128#32) (BitVec.ofNat 32 k))) lanes

/-- A vector's quotients by two, rounded down. -/
def halve (x : IVec S16 32) : IVec S16 32 :=
  select
    (andi
      (cmpi .ne (subi (extui 32 (cmpi .sgt x (broadcast S16 0#32)) natLt_1_32) (extui 32 (cmpi .slt x (broadcast S16 0#32)) natLt_1_32))
        (broadcast S16 (Scalar.subi (Scalar.extui (Scalar.cmpi .sgt 2#32 0#32)) (Scalar.extui (Scalar.cmpi .slt 2#32 0#32)))))
      (cmpi .ne (remsi x (broadcast S16 2#32)) (broadcast S16 0#32)))
    (subi (divsi x (broadcast S16 2#32)) (broadcast S16 1#32))
    (divsi x (broadcast S16 2#32))

/-- The first slots `b`, and the counts `r` of chunk `n` added if that chunk is before tile `w`'s. -/
def addCount (w : BitVec 32) (b : IVec S16 32) (n : Nat) (r : Vec F S1x16 .i32) : IVec S16 32 :=
  addi b (muli (shapeCast S16 r shapeCasts_S1x16_S16 : IVec S16 32) (broadcast S16 (Scalar.select (Scalar.cmpi .sgt w (BitVec.ofNat 32 n)) 1#32 0#32)))

section Body

variable (i : grid0.Coords)
  (arg2 : Memref sig .scVector .hbm S4096 .i32) (arg3 : Memref sig .scVector .hbm S32x16 .i32) (harg3 : arg3.IsWhole) (arg4 : Memref sig .scVector .hbm S16 .i32) (harg4 : arg4.IsWhole)
  (arg5 : Memref sig .scVector .hbm S2048x1024 .f32) (arg6 : Memref sig .scVector .hbm S4096 .i32) (arg7 : Memref sig .scVector .hbm S6144x1024 .f32)
  (arg8 : Memref sig .scVector .vmem S32x16 .i32) (harg8 : arg8.IsWhole) (arg9 : Memref sig .scVector .vmem S16 .i32) (harg9 : arg9.IsWhole)
  (arg10 : Memref sig .scVector .vmem S128 .i32) (harg10 : arg10.IsWhole) (arg11 : Memref sig .scVector .vmem S4x32 .i32) (arg12 : Memref sig .scVector .vmem S4x32 .i32)
  (arg13 : Memref sig .scVector .vmem S32x1024 .f32) (arg14 : DmaSems sig S_)

/-- What a tile of the SparseCores runs. -/
abbrev TileProg (F : FTy → Type) (i : grid0.Coords) (α : Type) :=
  Prog (TpuEff nD τ sig (Elt F) Λ₀ (.scVector ((i 0).castLE hcore0) ((i 1).castLE hsub0))) α

/-- Row `s` of a stage buffer. -/
abbrev rowOf (arg : Memref sig .scVector .vmem S4x32 .i32) (s : Fin 4) : Memref sig .scVector .vmem S32 .i32 :=
  (arg.slice (Rect.unit (s := S4x32) ![s.val, 0] S1x32.size (stageRow_inb s)) (fun _ => rfl)).squeeze S32 squeezes_S1x32_S32

/-- Columns `128 t` to `128 t + 127` of all tokens' rows. -/
abbrev srcWin (t : Fin winLoop.trips) : Memref sig .scVector .hbm S2048x128 .f32 :=
  arg5.slice (Rect.unit (s := S2048x1024) (winOff t) S2048x128.size (winOff_inb 2048 t)) (fun _ => rfl)
/-- The same columns of the 32 rows under way. -/
abbrev midWin (t : Fin winLoop.trips) : Memref sig .scVector .vmem S32x128 .f32 :=
  arg13.slice (Rect.unit (s := S32x1024) (winOff t) S32x128.size (winOff_inb 32 t)) (fun _ => rfl)
/-- The same columns of all slots. -/
abbrev dstWin (t : Fin winLoop.trips) : Memref sig .scVector .hbm S6144x128 .f32 :=
  arg7.slice (Rect.unit (s := S6144x1024) (winOff t) S6144x128.size (winOff_inb 6144 t)) (fun _ => rfl)

/-- Window `t` of the gather. -/
def fetch (s : Fin 4) (t : Fin winLoop.trips) (_ : BitVec 32) : TileProg F i (BitVec 32) := do
  SparseCore.enqueueIndirectGather rfl (srcWin arg5 t) (midWin arg13 t) gathers_S2048x128_S32x128
    (rowOf arg12 s) rfl arg14.sem (View.wordExact_bits rfl) rfl (Or.inl rfl)
  SparseCore.waitIndirectGather arg14.sem (srcWin arg5 t) (midWin arg13 t) (View.wordExact_bits rfl) (View.wordExact_bits rfl)
  pure 0#32

/-- Window `t` of the scatter. -/
def spread (s : Fin 4) (t : Fin winLoop.trips) (_ : BitVec 32) : TileProg F i (BitVec 32) := do
  SparseCore.enqueueIndirectScatter rfl (midWin arg13 t) (dstWin arg7 t) gathers_S6144x128_S32x128
    (rowOf arg11 s) rfl arg14.sem rfl (Or.inl rfl)
  SparseCore.waitIndirectScatter arg14.sem (midWin arg13 t) (dstWin arg7 t) (View.wordExact_bits rfl) (View.wordExact_bits rfl)
  pure 0#32

/-- The counts of the first `n` chunks, added to the first slots. -/
def sumCounts (b : IVec S16 32) : (n : Nat) → n ≤ 32 → TileProg F i (IVec S16 32)
  | 0, _ => pure b
  | n + 1, h => do
    let b' ← sumCounts b n (by omega)
    let r : Vec F S1x16 .i32 ← Prog.lift (.load arg8 (Rect.unit (s := S32x16) ![n, 0] S1x16.size (count_inb (show n < 32 by omega))).toLoadRect (View.loadsAt_vmem h_S1x16))
    pure (addCount (F := F) (tileWord i) b' n r)

/-- Half `h` of stage `s`: 16 pairs' slots and tokens, from the first slots `b`; the first slots after them. -/
def half (s : Fin 4) (h : Fin 2) (b : IVec S16 32) : TileProg F i (IVec S16 32) := do
  let v : Vec F S16 .i32 ← Prog.lift (.load arg10 (Rect.unit (s := S128) ![32 * s.val + 16 * h.val] S16.size (vec_inb s h)).toLoadRect (View.loadsAt_vmem h_S16))
  let _ : Vec F S1x16 .i32 ← Prog.lift (.load arg11 (Rect.unit (s := S4x32) ![s.val, 16 * h.val] S1x16.size (half_inb s h)).toLoadRect (View.loadsAt_vmem h_S1x16))
  Prog.lift (.store arg11 (Rect.unit (s := S4x32) ![s.val, 16 * h.val] S1x16.size (half_inb s h)) (shapeCast S1x16 (slotsBelow v b 8 (by omega)) shapeCasts_S16_S1x16 : Vec F S1x16 .i32) Finset.univ (View.stores_vmem_bits_univ h_S1x16 rfl) (.inl rfl))
  let _ : Vec F S1x16 .i32 ← Prog.lift (.load arg12 (Rect.unit (s := S4x32) ![s.val, 16 * h.val] S1x16.size (half_inb s h)).toLoadRect (View.loadsAt_vmem h_S1x16))
  Prog.lift (.store arg12 (Rect.unit (s := S4x32) ![s.val, 16 * h.val] S1x16.size (half_inb s h)) (shapeCast S1x16 (halve (pairVec i (32 * s.val + 16 * h.val))) shapeCasts_S16_S1x16 : Vec F S1x16 .i32) Finset.univ (View.stores_vmem_bits_univ h_S1x16 rfl) (.inl rfl))
  pure (addi b (histBelow v 8))

/-- Stage `s`. -/
def stage (s : Fin 4) (semP : DmaSems sig S_) (b : IVec S16 32) : TileProg F i (IVec S16 32) := do
  let b1 ← half i arg10 arg11 arg12 s 0 b
  let b2 ← half i arg10 arg11 arg12 s 1 b1
  Prog.lift (.enqueueDma (rowOf arg11 s) (.here (arg6.slice (Rect.unit (s := S4096) (k0_off2 i (BitVec.ofNat 32 (32 * s.val))) S32.size (k0_off2_inb i s)) (fun _ => rfl)))
    (.dma semP.sem) ((View.wordExact_bits rfl).reshape _ _) (View.wordExact_bits rfl) ⟨Or.inl rfl, trivial⟩)
  Prog.lift (.waitDma2 semP.sem (rowOf arg11 s) (arg6.slice (Rect.unit (s := S4096) (k0_off2 i (BitVec.ofNat 32 (32 * s.val))) S32.size (k0_off2_inb i s)) (fun _ => rfl))
    ((View.wordExact_bits rfl).reshape _ _) (View.wordExact_bits rfl))
  let _ : BitVec 32 ← Scf.Loop.for winLoop winLoop_ok 0#32 (fetch i arg5 arg12 arg13 arg14 s)
  let _ : BitVec 32 ← Scf.Loop.for winLoop winLoop_ok 0#32 (spread i arg7 arg11 arg13 arg14 s)
  pure b2

/-- What comes before the stages: the first slots of the tile's own pairs. -/
def start (r0 r1 r2 : DmaSems sig S_) : TileProg F i (IVec S16 32) := do
  Prog.lift (.enqueueDma arg3 (.here arg8) (.dma r0.sem) harg3.wordExact harg8.wordExact ⟨Or.inl rfl, trivial⟩)
  Prog.lift (.waitDma2 r0.sem arg3 arg8 harg3.wordExact harg8.wordExact)
  Prog.lift (.enqueueDma arg4 (.here arg9) (.dma r1.sem) harg4.wordExact harg9.wordExact ⟨Or.inl rfl, trivial⟩)
  Prog.lift (.waitDma2 r1.sem arg4 arg9 harg4.wordExact harg9.wordExact)
  Prog.lift (.enqueueDma (arg2.slice (Rect.unit (s := S4096) (k0_off1 i) S128.size (k0_off1_inb i)) (fun _ => rfl)) (.here arg10) (.dma r2.sem) (View.wordExact_bits rfl) harg10.wordExact ⟨Or.inl rfl, trivial⟩)
  Prog.lift (.waitDma2 r2.sem (arg2.slice (Rect.unit (s := S4096) (k0_off1 i) S128.size (k0_off1_inb i)) (fun _ => rfl)) arg10 (View.wordExact_bits rfl) harg10.wordExact)
  let b : Vec F S16 .i32 ← Prog.lift (.load arg9 (Rect.unit (s := S16) ![0] S16.size inb_S16_S16_0).toLoadRect (View.loadsAt_vmem h_S16))
  sumCounts i arg8 b 32 (Nat.le_refl _)

end Body

set_option maxRecDepth 65536 in
set_option maxHeartbeats 4000000 in
theorem body_eq (i : grid0.Coords) (arg2 : Memref sig .scVector .hbm S4096 .i32) (harg2 : arg2.IsWhole) (arg3 : Memref sig .scVector .hbm S32x16 .i32) (harg3 : arg3.IsWhole) (arg4 : Memref sig .scVector .hbm S16 .i32) (harg4 : arg4.IsWhole) (arg5 : Memref sig .scVector .hbm S2048x1024 .f32) (harg5 : arg5.IsWhole) (arg6 : Memref sig .scVector .hbm S4096 .i32) (harg6 : arg6.IsWhole) (arg7 : Memref sig .scVector .hbm S6144x1024 .f32) (harg7 : arg7.IsWhole) (arg8 : Memref sig .scVector .vmem S32x16 .i32) (harg8 : arg8.IsWhole) (arg9 : Memref sig .scVector .vmem S16 .i32) (harg9 : arg9.IsWhole) (arg10 : Memref sig .scVector .vmem S128 .i32) (harg10 : arg10.IsWhole) (arg11 : Memref sig .scVector .vmem S4x32 .i32) (harg11 : arg11.IsWhole) (arg12 : Memref sig .scVector .vmem S4x32 .i32) (harg12 : arg12.IsWhole) (arg13 : Memref sig .scVector .vmem S32x1024 .f32) (harg13 : arg13.IsWhole) (arg14 : DmaSems sig S_)
    (r0 r1 r2 p0 p1 p2 p3 : DmaSems sig S_) :
    cc0__dispatch_body (F := F) i arg2 harg2 arg3 harg3 arg4 harg4 arg5 harg5 arg6 harg6 arg7 harg7 arg8 harg8 arg9 harg9 arg10 harg10 arg11 harg11 arg12 harg12 arg13 harg13 arg14 r0 r1 r2 p0 p1 p2 p3
      = (do
          let b ← start i arg2 arg3 harg3 arg4 harg4 arg8 harg8 arg9 harg9 arg10 harg10 r0 r1 r2
          let b ← stage i arg5 arg6 arg7 arg10 arg11 arg12 arg13 arg14 0 p0 b
          let b ← stage i arg5 arg6 arg7 arg10 arg11 arg12 arg13 arg14 1 p1 b
          let b ← stage i arg5 arg6 arg7 arg10 arg11 arg12 arg13 arg14 2 p2 b
          let _ ← stage i arg5 arg6 arg7 arg10 arg11 arg12 arg13 arg14 3 p3 b
          pure ⟨⟩) := by
  simp only [start, stage, half, sumCounts, bind_assoc, pure_bind]
  simp (maxSteps := 100000000) only [cc0__dispatch_body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, bind_assoc, pure_bind]
  rfl

end Cert.Proof.Route

end
-- ==== Proof.RouteValues.lean ====
/-
  What the dispatch kernel computes: the slot of each pair, as a count of the pairs before it. The 16-lane vectors of the
  tile body read lane by lane, and what one half of a stage makes of the first slots.
-/
module

public import proofs.«01_k».proof.Proof.RouteBody
public import Idealize.ShloMosaic.Lib.Routing.Count
public import Idealize.ShloMosaic.Lib.WordCmp

@[expose] public section

noncomputable section

namespace Cert.Proof.Route

open Cert.DispatchIdeal Cert.DispatchIdeal.Gen
open Idealize.ShloMosaic Idealize.SL.Sem

/-! ## Indices -/

/-- The index `n` of the expert numbers. -/
def idIx (n : Fin 4096) : S4096.Idx := fun | 0 => n
/-- The index `(c, e)` of the chunk counts. -/
def cIx (c : Fin 32) (e : Fin 16) : S32x16.Idx := fun | 0 => c | 1 => e
/-- The index `e` of 16 lanes. -/
def lIx (e : Fin 16) : S16.Idx := fun | 0 => e
/-- The index `(t, c)` of the tokens' rows. -/
def xIx (t : Fin 2048) (c : Fin 1024) : S2048x1024.Idx := fun | 0 => t | 1 => c

/-! ## The values -/

/-- The expert number of pair `n`; past the pairs, a number no expert has. -/
def expert (ids : S4096.Idx → BitVec 32) (n : Nat) : BitVec 32 := if h : n < 4096 then ids (idIx ⟨n, h⟩) else 8#32

/-- How many of the first `k` pairs are for expert `e`. -/
def before (ids : S4096.Idx → BitVec 32) (k : Nat) (e : BitVec 32) : Nat := Nat.count (fun m => expert ids m = e) k

/-- The first slot of expert `e`. -/
def firstOf (offs : S16.Idx → BitVec 32) (e : BitVec 32) : BitVec 32 := offs (lIx ⟨e.toNat % 16, Nat.mod_lt _ (by omega)⟩)

/-- THE SLOT of pair `n`: its expert's first slot, and one more for each pair before it that has the same expert. -/
def slotWord (ids : S4096.Idx → BitVec 32) (offs : S16.Idx → BitVec 32) (n : Nat) : BitVec 32 :=
  firstOf offs (expert ids n) + BitVec.ofNat 32 (before ids n (expert ids n))

/-- What the precondition says: the experts' numbers, the chunks' counts, and room for each expert's rows before the next's. -/
structure Routed (ids : S4096.Idx → BitVec 32) (cnts : S32x16.Idx → BitVec 32) (offs : S16.Idx → BitVec 32) : Prop where
  ids_lt : ∀ n < 4096, (expert ids n).toNat < 8
  counts : ∀ (c : Fin 32) (e : Fin 16), e.val < 8 →
    cnts (cIx c e) = BitVec.ofNat 32 (Nat.count (fun m => expert ids (128 * c.val + m) = BitVec.ofNat 32 e.val) 128)
  fits : ∀ e : Fin 16, e.val < 8 → (offs (lIx e)).toNat + before ids 4096 (BitVec.ofNat 32 e.val) ≤ 6144
  apart : ∀ (e : Fin 16) (e' : Fin 16), e'.val = e.val + 1 → e'.val < 8 →
    (offs (lIx e)).toNat + before ids 4096 (BitVec.ofNat 32 e.val) ≤ (offs (lIx e')).toNat

section Slots

variable {ids : S4096.Idx → BitVec 32} {cnts : S32x16.Idx → BitVec 32} {offs : S16.Idx → BitVec 32}

theorem before_mono {k l : Nat} (h : k ≤ l) (e : BitVec 32) : before ids k e ≤ before ids l e := Nat.count_monotone _ h

theorem before_le (k : Nat) (e : BitVec 32) : before ids k e ≤ k := Nat.count_le _

theorem before_lt {n l : Nat} (h : n < l) : before ids n (expert ids n) < before ids l (expert ids n) :=
  Nat.count_strict_mono (p := fun m => expert ids m = expert ids n) rfl h

theorem ofNat_toNat (e : BitVec 32) : BitVec.ofNat 32 e.toNat = e := by simp

/-- The first slot of an expert, and the end of the expert's rows. -/
theorem first_fits (R : Routed ids cnts offs) {e : BitVec 32} (he : e.toNat < 8) : (firstOf offs e).toNat + before ids 4096 e ≤ 6144 := by
  have h := R.fits ⟨e.toNat, by omega⟩ he
  rw [ofNat_toNat] at h
  unfold firstOf
  rw [show (⟨e.toNat % 16, Nat.mod_lt _ (by omega)⟩ : Fin 16) = ⟨e.toNat, by omega⟩ from Fin.ext (Nat.mod_eq_of_lt (by omega))]
  exact h

theorem slot_toNat (R : Routed ids cnts offs) {n : Nat} (hn : n < 4096) :
    (slotWord ids offs n).toNat = (firstOf offs (expert ids n)).toNat + before ids n (expert ids n) := by
  have h := first_fits R (R.ids_lt n hn)
  have h' := before_lt (ids := ids) hn
  unfold slotWord
  rw [BitVec.toNat_add, BitVec.toNat_ofNat, Nat.mod_eq_of_lt (a := before ids n (expert ids n)) (by omega), Nat.mod_eq_of_lt (by omega)]

theorem slot_lt (R : Routed ids cnts offs) {n : Nat} (hn : n < 4096) : (slotWord ids offs n).toNat < 6144 := by
  have h := first_fits R (R.ids_lt n hn)
  have h' := before_lt (ids := ids) hn
  rw [slot_toNat R hn]; omega

/-- A later expert's first slot is past an earlier expert's rows. -/
theorem first_apart (R : Routed ids cnts offs) (a : Nat) : ∀ (k : Nat) (h : a + k + 1 < 8),
    (offs (lIx ⟨a, by omega⟩)).toNat + before ids 4096 (BitVec.ofNat 32 a) ≤ (offs (lIx ⟨a + k + 1, by omega⟩)).toNat
  | 0, h => R.apart ⟨a, by omega⟩ ⟨a + 1, by omega⟩ rfl h
  | k + 1, h => by
    have h1 := first_apart R a k (by omega)
    have h2 := R.apart ⟨a + k + 1, by omega⟩ ⟨a + k + 1 + 1, by omega⟩ rfl h
    exact h1.trans ((Nat.le_add_right _ _).trans h2)

theorem first_apart_of_lt (R : Routed ids cnts offs) {e e' : BitVec 32} (h : e.toNat < e'.toNat) (he' : e'.toNat < 8) :
    (firstOf offs e).toNat + before ids 4096 e ≤ (firstOf offs e').toNat := by
  have h1 := first_apart R e.toNat (e'.toNat - e.toNat - 1) (by omega)
  rw [ofNat_toNat] at h1
  unfold firstOf
  rw [show (⟨e.toNat % 16, Nat.mod_lt _ (by omega)⟩ : Fin 16) = ⟨e.toNat, by omega⟩ from Fin.ext (Nat.mod_eq_of_lt (by omega)),
    show (⟨e'.toNat % 16, Nat.mod_lt _ (by omega)⟩ : Fin 16) = ⟨e.toNat + (e'.toNat - e.toNat - 1) + 1, by omega⟩ from
      Fin.ext (show e'.toNat % 16 = e.toNat + (e'.toNat - e.toNat - 1) + 1 by omega)]
  exact h1

theorem slot_ne_of_lt (R : Routed ids cnts offs) {n m : Nat} (hn : n < 4096) (hm : m < 4096)
    (h : (expert ids n).toNat < (expert ids m).toNat) : (slotWord ids offs n).toNat < (slotWord ids offs m).toNat := by
  have h1 := first_apart_of_lt R h (R.ids_lt m hm)
  have h2 := before_lt (ids := ids) hn
  rw [slot_toNat R hn, slot_toNat R hm]; omega

/-- Two pairs have two slots. -/
theorem slot_inj (R : Routed ids cnts offs) {n m : Nat} (hn : n < 4096) (hm : m < 4096)
    (h : (slotWord ids offs n).toNat = (slotWord ids offs m).toNat) : n = m := by
  rcases Nat.lt_trichotomy (expert ids n).toNat (expert ids m).toNat with he | he | he
  · have := slot_ne_of_lt R hn hm he; omega
  · have he := BitVec.eq_of_toNat_eq he
    rw [slot_toNat R hn, slot_toNat R hm, he] at h
    rcases Nat.lt_trichotomy n m with hl | hl | hl
    · have := before_lt (ids := ids) hl; rw [he] at this; omega
    · exact hl
    · have := before_lt (ids := ids) hl; rw [← he] at this h; omega
  · have := slot_ne_of_lt R hm hn he; omega

end Slots

/-! ## The vectors, lane by lane -/

theorem select_eq_word {α : Type} (x y : BitVec 32) (a b : α) : Scalar.select (IntOp.cmpi .eq x y) a b = if x = y then a else b := by
  unfold Scalar.select
  unfold IntOp.cmpi
  by_cases h : x = y
  · rw [if_pos h, if_pos (by simp [h])]
  · rw [if_neg h, if_neg (by rw [beq_eq_false_iff_ne.mpr h]; show ¬BitVec.ofBool false = 1#1; decide)]

/-- The word in lane `n`. -/
def word (v : IVec S16 32) (n : Nat) : BitVec 32 := if h : n < 16 then v (lIx ⟨n, h⟩) else 0#32

theorem lane_eq (v : IVec S16 32) {k : Nat} (hk : k < 16) : lane v hk = v (lIx ⟨k, hk⟩) := by
  unfold lane extractAt extractStridedSlice
  refine congrArg v (funext fun a => Fin.ext ?_)
  match a with
  | 0 => rfl

theorem word_lt (v : IVec S16 32) {k : Nat} (hk : k < 16) : word v k = v (lIx ⟨k, hk⟩) := dif_pos hk

theorem scan_lanes : ∀ j : Fin 16, ((List.finRange 16).filter fun k => decide (0 < k.val ∧ k.val ≤ j.val)).map (fun k => k.val) = List.range' 1 j.val := by
  decide

theorem ofLane_eq (k : Fin 16) : (Shape.ofLane (d := ![16]) k) = lIx k := funext fun a => by
  match a with
  | 0 => rfl

theorem foldl_words (x : IVec S16 32) (L : List (Fin 16)) (r : BitVec 32) :
    L.foldl (fun r k => r + x (lIx k)) r = (L.map fun k => k.val).foldl (fun r n => r + word x n) r := by
  induction L generalizing r with
  | nil => rfl
  | cons k L ih =>
    rw [List.foldl_cons, List.map_cons, List.foldl_cons, ih, word_lt x k.isLt]

theorem scan_eq (x : IVec S16 32) (j : Fin 16) :
    (scan .sum x : IVec S16 32) (lIx j) = (List.range' 1 j.val).foldl (fun r n => r + word x n) (word x 0) := by
  have hf : (fun (r : BitVec 32) (k : Fin 16) => r + x (lIx k)) = fun r k => r + x (Shape.ofLane (d := ![16]) k) :=
    funext fun r => funext fun k => by rw [ofLane_eq]
  rw [← scan_lanes j, ← foldl_words, word_lt x (by omega), ← ofLane_eq ⟨0, _⟩, hf]
  rfl

/-- A running sum of zeros and ones is a count. -/
theorem foldl_count (x : IVec S16 32) (p : Nat → Prop) [DecidablePred p] (hx : ∀ n < 16, word x n = if p n then 1#32 else 0#32) :
    ∀ j, j < 16 → (List.range' 1 j).foldl (fun r n => r + word x n) (word x 0) = BitVec.ofNat 32 (Nat.count p (j + 1))
  | 0, h => by
    rw [List.range'_zero, List.foldl_nil, hx 0 h, Nat.count_succ, Nat.count_zero]
    split <;> rfl
  | j + 1, h => by
    rw [List.range'_1_concat, List.foldl_append, foldl_count x p hx j (by omega), List.foldl_cons, List.foldl_nil, Nat.add_comm 1 j,
      hx _ h, Nat.count_succ p (j + 1), BitVec.ofNat_add]
    split <;> rfl

theorem upTo_apply (v : IVec S16 32) (e : Nat) (j : Fin 16) :
    upTo v e (lIx j) = BitVec.ofNat 32 (Nat.count (fun l => word v l = BitVec.ofNat 32 e) (j.val + 1)) := by
  have h := foldl_count (select (isE v e) (broadcast S16 1#32) (broadcast S16 0#32) : IVec S16 32) (fun l => word v l = BitVec.ofNat 32 e)
    (fun n hn => by
      rw [word_lt _ hn, word_lt _ hn]
      exact select_eq_word _ _ _ _) j.val j.isLt
  rw [← h]
  exact scan_eq _ j

theorem slotsBelow_apply (v b : IVec S16 32) (j : Fin 16) : ∀ (n : Nat) (hn : n ≤ 16),
    slotsBelow v b n hn (lIx j) = if (v (lIx j)).toNat < n
      then b (lIx ⟨(v (lIx j)).toNat % 16, Nat.mod_lt _ (by omega)⟩) + BitVec.ofNat 32 (Nat.count (fun l => word v l = v (lIx j)) (j.val + 1)) - 1#32
      else 0#32
  | 0, hn => by rw [if_neg (by omega)]; rfl
  | n + 1, hn => by
    have ih := slotsBelow_apply v b j n (by omega)
    have hstep : slotsBelow v b (n + 1) hn (lIx j)
        = if v (lIx j) = BitVec.ofNat 32 n then lane b (show n < 16 by omega) + upTo v n (lIx j) - 1#32 else slotsBelow v b n (by omega) (lIx j) := by
      rw [← select_eq_word]; rfl
    rw [hstep, ih, upTo_apply, lane_eq]
    by_cases h : v (lIx j) = BitVec.ofNat 32 n
    · have hv : (v (lIx j)).toNat = n := by rw [h, BitVec.toNat_ofNat]; omega
      rw [if_pos h, if_pos (by omega), ← h, show (⟨n, by omega⟩ : Fin 16) = ⟨(v (lIx j)).toNat % 16, Nat.mod_lt _ (by omega)⟩ from
        Fin.ext (show n = (v (lIx j)).toNat % 16 by omega)]
    · have hv : (v (lIx j)).toNat ≠ n := fun hv => h (by rw [← hv, ofNat_toNat])
      rw [if_neg h]
      by_cases h2 : (v (lIx j)).toNat < n
      · rw [if_pos h2, if_pos (by omega)]
      · rw [if_neg h2, if_neg (by omega)]

theorem lanes_apply (j : Fin 16) : lanes (lIx j) = BitVec.ofNat 32 j.val := by
  show BitVec.ofNat 32 (0 * 16 + j.val) = _
  rw [Nat.zero_mul, Nat.zero_add]

theorem hist_select (v : IVec S16 32) (n : Nat) : histBelow v (n + 1)
    = select (cmpi .eq lanes (broadcast S16 (BitVec.ofNat 32 n))) (broadcast S16 (lane (upTo v n) (show 15 < 16 by omega))) (histBelow v n) := by
  rw [histBelow]

theorem select_cmpi (x : IVec S16 32) (e : BitVec 32) (a : BitVec 32) (b : IVec S16 32) (j : S16.Idx) :
    select (cmpi .eq x (broadcast S16 e)) (broadcast S16 a) b j = if x j = e then a else b j := select_eq_word _ _ _ _

theorem hist_succ (v : IVec S16 32) (n : Nat) (j : Fin 16) : histBelow v (n + 1) (lIx j)
    = if lanes (lIx j) = BitVec.ofNat 32 n then lane (upTo v n) (show 15 < 16 by omega) else histBelow v n (lIx j) := by
  rw [hist_select, select_cmpi]

theorem histBelow_apply (v : IVec S16 32) (j : Fin 16) : ∀ n ≤ 16,
    histBelow v n (lIx j) = if j.val < n then BitVec.ofNat 32 (Nat.count (fun l => word v l = BitVec.ofNat 32 j.val) 16) else 0#32
  | 0, _ => by rw [if_neg (by omega)]; rfl
  | n + 1, hn => by
    have ih := histBelow_apply v j n (by omega)
    have hstep : histBelow v (n + 1) (lIx j)
        = if lanes (lIx j) = BitVec.ofNat 32 n then lane (upTo v n) (show 15 < 16 by omega) else histBelow v n (lIx j) := by
      exact hist_succ v n j
    rw [hstep, ih, lane_eq, upTo_apply, lanes_apply]
    by_cases h : j.val = n
    · rw [if_pos (by rw [h]), if_pos (by omega), h]
    · rw [if_neg (fun e => h (by have := congrArg BitVec.toNat e; simp only [BitVec.toNat_ofNat] at this; omega))]
      by_cases h2 : j.val < n
      · rw [if_pos h2, if_pos (by omega)]
      · rw [if_neg h2, if_neg (by omega)]

/-! ## Tokens -/

theorem core_lt (i : grid0.Coords) : (i 0).val < 2 := (i 0).isLt
theorem sub_lt (i : grid0.Coords) : (i 1).val < 16 := (i 1).isLt

/-- Which of the 32 chunks is tile `i`'s. -/
def chunk (i : grid0.Coords) : Nat := 2 * (i 1).val + (i 0).val
theorem chunk_lt (i : grid0.Coords) : chunk i < 32 := by have := core_lt i; have := sub_lt i; unfold chunk; omega

theorem tileWord_eq (i : grid0.Coords) : tileWord i = BitVec.ofNat 32 (chunk i) := by
  have := core_lt i; have := sub_lt i
  refine BitVec.eq_of_toNat_eq ?_
  show (BitVec.ofNat 32 (i 1).val * 2#32 + BitVec.ofNat 32 (i 0).val).toNat = _
  simp only [BitVec.toNat_add, BitVec.toNat_mul, BitVec.toNat_ofNat, chunk]
  omega

theorem pairVec_apply (i : grid0.Coords) (k : Nat) (j : Fin 16) : pairVec i k (lIx j) = BitVec.ofNat 32 (128 * chunk i + k + j.val) := by
  show tileWord i * 128#32 + BitVec.ofNat 32 k + lanes (lIx j) = _
  rw [lanes_apply, tileWord_eq]
  refine BitVec.eq_of_toNat_eq ?_
  simp only [BitVec.toNat_add, BitVec.toNat_mul, BitVec.toNat_ofNat]
  omega

theorem halve_small : ∀ n : Fin 4096, halve (fun _ => BitVec.ofNat 32 n.val) (lIx 0) = BitVec.ofNat 32 (n.val / 2) := by decide +kernel

theorem halve_apply (x : IVec S16 32) (j : Fin 16) (n : Nat) (hn : n < 4096) (h : x (lIx j) = BitVec.ofNat 32 n) :
    halve x (lIx j) = BitVec.ofNat 32 (n / 2) := by
  rw [← halve_small ⟨n, hn⟩]
  have h1 : halve x (lIx j) = halve (fun _ => x (lIx j)) (lIx 0) := rfl
  rw [h1, h]

/-! ## The first slots as they move on -/

/-- The first slots `b` of the pairs from pair `k` on: each expert's first slot and the pairs before `k` that are for it. -/
def At (ids : S4096.Idx → BitVec 32) (offs : S16.Idx → BitVec 32) (k : Nat) (b : IVec S16 32) : Prop :=
  ∀ e : Fin 16, e.val < 8 → b (lIx e) = offs (lIx e) + BitVec.ofNat 32 (before ids k (BitVec.ofNat 32 e.val))

/-- The expert numbers of the 16 pairs from pair `k` on. -/
def IdsAt (ids : S4096.Idx → BitVec 32) (k : Nat) (v : IVec S16 32) : Prop := ∀ l < 16, word v l = expert ids (k + l)

section Half

variable {ids : S4096.Idx → BitVec 32} {cnts : S32x16.Idx → BitVec 32} {offs : S16.Idx → BitVec 32}

theorem count_ids {k : Nat} {v : IVec S16 32} (hv : IdsAt ids k v) (e : BitVec 32) (n : Nat) (hn : n ≤ 16) :
    before ids k e + Nat.count (fun l => word v l = e) n = before ids (k + n) e := by
  unfold before
  rw [Nat.count_add]
  congr 1
  refine Routing.count_congr_of_lt n fun l hl => ?_
  rw [hv l (by omega)]

theorem slots_of_at (R : Routed ids cnts offs) {k : Nat} (hk : k + 16 ≤ 4096) {v b : IVec S16 32} (hv : IdsAt ids k v) (hb : At ids offs k b) (j : Fin 16) :
    slotsBelow v b 8 (by omega) (lIx j) = slotWord ids offs (k + j.val) := by
  have hj := j.isLt
  have hvj : v (lIx j) = expert ids (k + j.val) := (word_lt v hj).symm.trans (hv _ hj)
  have h8 : (v (lIx j)).toNat < 8 := hvj ▸ R.ids_lt _ (by omega)
  rw [slotsBelow_apply, if_pos h8, hb ⟨_, _⟩ (show (v (lIx j)).toNat % 16 < 8 by omega)]
  have hc := count_ids hv (v (lIx j)) (j.val + 1) (by omega)
  have hs : before ids (k + (j.val + 1)) (v (lIx j)) = before ids (k + j.val) (v (lIx j)) + 1 := by
    unfold before
    rw [show k + (j.val + 1) = k + j.val + 1 by omega, Nat.count_succ, if_pos hvj.symm]
  rw [show (⟨(v (lIx j)).toNat % 16, Nat.mod_lt _ (by omega)⟩ : Fin 16).val = (v (lIx j)).toNat from Nat.mod_eq_of_lt (by omega), ofNat_toNat]
  unfold slotWord firstOf
  rw [← hvj, BitVec.add_assoc, ← BitVec.ofNat_add, hc, hs, BitVec.ofNat_add, ← BitVec.add_assoc]
  exact BitVec.add_sub_cancel _ _

theorem at_next {k : Nat} {v b : IVec S16 32} (hv : IdsAt ids k v) (hb : At ids offs k b) :
    At ids offs (k + 16) (addi b (histBelow v 8)) := by
  intro e he
  show b (lIx e) + histBelow v 8 (lIx e) = _
  rw [hb e he, histBelow_apply v e 8 (by omega), if_pos he, BitVec.add_assoc, ← BitVec.ofNat_add, count_ids hv _ 16 (le_refl _)]

end Half

end Cert.Proof.Route

end
-- ==== Proof.RouteRows.lean ====
/-
  The dispatch tile's buffers, index by index: what its copies carry, what half a stage leaves in the slot and token
  buffers, what a window of the gather brings in, and what a window of the scatter leaves in the slots.
-/
module

public import proofs.«01_k».proof.Proof.RouteValues
public import Idealize.ShloMosaic.Lib.Writes
public import Idealize.ShloMosaic.Lib.SparseCore.Stream
public import Idealize.ShloMosaic.Lib.SparseCore.Scatter
public import Idealize.ShloMosaic.Lib.Pipeline.Value

@[expose] public section

noncomputable section

namespace Cert.Proof.Route

open Cert.DispatchIdeal Cert.DispatchIdeal.Gen
open Idealize.ShloMosaic Idealize.SL.Sem

variable {F : FTy → Type} [FloatOps F]

local notation "idW" => (Memref.whole Cert.DispatchIdeal.main_arg0_scv : Memref Cert.DispatchIdeal.sig Kind.scVector Space.hbm Cert.DispatchIdeal.S4096 EltTy.i32)
local notation "cW" => (Memref.whole Cert.DispatchIdeal.main_arg1_scv : Memref Cert.DispatchIdeal.sig Kind.scVector Space.hbm Cert.DispatchIdeal.S32x16 EltTy.i32)
local notation "fW" => (Memref.whole Cert.DispatchIdeal.main_arg2_scv : Memref Cert.DispatchIdeal.sig Kind.scVector Space.hbm Cert.DispatchIdeal.S16 EltTy.i32)
local notation "xW" => (Memref.whole Cert.DispatchIdeal.main_arg3_scv : Memref Cert.DispatchIdeal.sig Kind.scVector Space.hbm Cert.DispatchIdeal.S2048x1024 EltTy.f32)
local notation "pW" => (Memref.whole Cert.DispatchIdeal.main_v0_0_scv : Memref Cert.DispatchIdeal.sig Kind.scVector Space.hbm Cert.DispatchIdeal.S4096 EltTy.i32)
local notation "gW" => (Memref.whole Cert.DispatchIdeal.main_v0_1_scv : Memref Cert.DispatchIdeal.sig Kind.scVector Space.hbm Cert.DispatchIdeal.S6144x1024 EltTy.f32)
local notation "cB" => (Memref.whole Cert.DispatchIdeal.cc0_scratch0 : Memref Cert.DispatchIdeal.sig Kind.scVector Space.vmem Cert.DispatchIdeal.S32x16 EltTy.i32)
local notation "fB" => (Memref.whole Cert.DispatchIdeal.cc0_scratch1 : Memref Cert.DispatchIdeal.sig Kind.scVector Space.vmem Cert.DispatchIdeal.S16 EltTy.i32)
local notation "iB" => (Memref.whole Cert.DispatchIdeal.cc0_scratch2 : Memref Cert.DispatchIdeal.sig Kind.scVector Space.vmem Cert.DispatchIdeal.S128 EltTy.i32)
local notation "pB" => (Memref.whole Cert.DispatchIdeal.cc0_scratch3 : Memref Cert.DispatchIdeal.sig Kind.scVector Space.vmem Cert.DispatchIdeal.S4x32 EltTy.i32)
local notation "tB" => (Memref.whole Cert.DispatchIdeal.cc0_scratch4 : Memref Cert.DispatchIdeal.sig Kind.scVector Space.vmem Cert.DispatchIdeal.S4x32 EltTy.i32)
local notation "rB" => (Memref.whole Cert.DispatchIdeal.cc0_scratch5 : Memref Cert.DispatchIdeal.sig Kind.scVector Space.vmem Cert.DispatchIdeal.S32x1024 EltTy.f32)

/-! ## Indices -/

/-- The index `k` of the tile's own pairs. -/
def iIx (k : Fin 128) : S128.Idx := fun | 0 => k
/-- The index `(s, k)` of the stages' buffers. -/
def rIx (s : Fin 4) (k : Fin 32) : S4x32.Idx := fun | 0 => s | 1 => k
/-- The index `k` of a stage's pairs. -/
def wIx (k : Fin 32) : S32.Idx := fun | 0 => k

/-- The first pair of stage `s` of tile `i`. -/
def base (i : grid0.Coords) (s : Fin 4) : Nat := 128 * chunk i + 32 * s.val

theorem base_le (i : grid0.Coords) (s : Fin 4) : base i s + 32 ≤ 4096 := by have := chunk_lt i; unfold base; omega

/-! ## What the copies carry -/

/-- The tile's own expert numbers. -/
def own (i : grid0.Coords) (ids : S4096.Idx → BitVec 32) : S128.Idx → BitVec 32 := fun x => expert ids (128 * chunk i + (x 0).val)

theorem read_own (i : grid0.Coords) (ids : S4096.Idx → BitVec 32) :
    ((idW).slice (Rect.unit (s := S4096) (k0_off1 i) S128.size (k0_off1_inb i)) (fun _ => rfl)).view.read (Elt F) ids = own i ids := by
  funext x
  have hx : (x 0).val < 128 := (x 0).isLt
  have hc := chunk_lt i
  rw [View.read_apply, cast_eq]
  unfold own expert
  rw [dif_pos (by omega)]
  congr 1
  funext a; refine Fin.ext ?_
  match a with
  | 0 =>
    have e0 : k0_off1 i 0 = 256 * (i 1).val + 128 * (i 0).val := congrFun (k0_off1_eq i) 0
    show k0_off1 i 0 + 1 * (x 0).val = 128 * chunk i + (x 0).val
    unfold chunk; omega

/-- Sixteen of them, loaded. -/
theorem read_vec (i : grid0.Coords) (ids : S4096.Idx → BitVec 32) (s : Fin 4) (h : Fin 2) :
    IdsAt ids (base i s + 16 * h.val) ((iB).view.readAt (Elt F) (Rect.unit (s := S128) ![32 * s.val + 16 * h.val] S16.size (vec_inb s h)).toLoadRect (own i ids)) := by
  intro l hl
  rw [word_lt _ hl, View.readAt_apply, View.read_apply, cast_eq]
  unfold own
  congr 1
  show 128 * chunk i + (32 * s.val + 16 * h.val + 1 * l) = base i s + 16 * h.val + l
  unfold base; omega

/-- The chunk counts, one row loaded, lane by lane. -/
theorem read_count (c : S32x16.Idx → BitVec 32) (n : Nat) (hn : n < 32) (e : Fin 16) :
    (shapeCast S16 ((cB).view.readAt (Elt F) (Rect.unit (s := S32x16) ![n, 0] S1x16.size (count_inb hn)).toLoadRect c : Vec F S1x16 .i32) shapeCasts_S1x16_S16 : IVec S16 32) (lIx e)
      = c (cIx ⟨n, hn⟩ e) := by
  let k : S1x16.Idx := fun | 0 => ⟨0, Nat.one_pos⟩ | 1 => e
  rw [shapeCast_apply (k := k) (hk := by
    rw [Shape.rowMajor_val_two, Shape.rowMajor_val_one]
    show 0 * 16 + e.val = e.val; omega)]
  rw [View.readAt_apply, View.read_apply, cast_eq]
  congr 1
  funext a; refine Fin.ext ?_
  match a with
  | 0 => show n + 1 * 0 = n; omega
  | 1 => show 0 + 1 * e.val = e.val; omega

/-- The first slots, loaded. -/
theorem read_first (f : S16.Idx → BitVec 32) :
    (fB).view.readAt (Elt F) (Rect.unit (s := S16) ![0] S16.size inb_S16_S16_0).toLoadRect f = f := by
  funext x
  rw [View.readAt_apply, View.read_apply, cast_eq]
  congr 1
  funext a; refine Fin.ext ?_
  match a with
  | 0 => show 0 + 1 * (x 0).val = (x 0).val; omega

/-! ## The first slots of the tile's own pairs -/

section First

variable {ids : S4096.Idx → BitVec 32} {cnts : S32x16.Idx → BitVec 32} {offs : S16.Idx → BitVec 32}

theorem gt_small : ∀ w n : Fin 32, Scalar.select (Scalar.cmpi .sgt (BitVec.ofNat 32 w.val) (BitVec.ofNat 32 n.val)) 1#32 0#32 = if n.val < w.val then 1#32 else 0#32 := by
  decide +kernel

theorem at_zero (i : grid0.Coords) : At ids offs (128 * min 0 (chunk i)) offs := by
  intro e he
  rw [Nat.zero_min, Nat.mul_zero]
  show offs (lIx e) = offs (lIx e) + BitVec.ofNat 32 0
  rw [show BitVec.ofNat 32 0 = 0#32 from rfl, BitVec.add_zero]

/-- One more chunk's counts. -/
theorem at_chunk (R : Routed ids cnts offs) (i : grid0.Coords) {b : IVec S16 32} {n : Nat} (hn : n < 32) (hb : At ids offs (128 * min n (chunk i)) b) :
    At ids offs (128 * min (n + 1) (chunk i))
      (addCount (F := F) (tileWord i) b n ((cB).view.readAt (Elt F) (Rect.unit (s := S32x16) ![n, 0] S1x16.size (count_inb hn)).toLoadRect cnts)) := by
  intro e he
  have hs : addCount (F := F) (tileWord i) b n ((cB).view.readAt (Elt F) (Rect.unit (s := S32x16) ![n, 0] S1x16.size (count_inb hn)).toLoadRect cnts) (lIx e)
      = b (lIx e) + cnts (cIx ⟨n, hn⟩ e) * Scalar.select (Scalar.cmpi .sgt (tileWord i) (BitVec.ofNat 32 n)) 1#32 0#32 := by
    rw [← read_count (F := F) cnts n hn e]; rfl
  rw [hs, hb e he, R.counts ⟨n, hn⟩ e he, tileWord_eq, gt_small ⟨chunk i, chunk_lt i⟩ ⟨n, hn⟩]
  by_cases h : n < chunk i
  · rw [if_pos h, BitVec.mul_one, BitVec.add_assoc, ← BitVec.ofNat_add, Nat.min_eq_left (by omega), Nat.min_eq_left (by omega)]
    unfold before
    rw [Nat.mul_add 128 n 1, Nat.mul_one, Nat.count_add]
  · rw [if_neg h, BitVec.mul_zero, BitVec.add_zero, Nat.min_eq_right (by omega), Nat.min_eq_right (by omega)]

end First

/-! ## The stages' buffers -/

/-- Half `h` of row `s`. -/
abbrev hRect (s : Fin 4) (h : Fin 2) : Rect S4x32 := Rect.unit (s := S4x32) ![s.val, 16 * h.val] S1x16.size (half_inb s h)

/-- The first `n` entries of row `s` are `g`. -/
def RowTo (f : S4x32.Idx → BitVec 32) (s : Fin 4) (n : Nat) (g : Nat → BitVec 32) : Prop := ∀ k : Fin 32, k.val < n → f (rIx s k) = g k.val

theorem rowTo_zero (f : S4x32.Idx → BitVec 32) (s : Fin 4) (g : Nat → BitVec 32) : RowTo f s 0 g := fun _ h => absurd h (by omega)

theorem row_cast (v : IVec S16 32) (k : S1x16.Idx) (l : Fin 16) (hl : (k 1).val = l.val) :
    (shapeCast S1x16 v shapeCasts_S16_S1x16 : Vec F S1x16 .i32) k = v (lIx l) := by
  have h0 : (k 0).val < 1 := (k 0).isLt
  refine shapeCast_apply (x := v) (h := shapeCasts_S16_S1x16) (k := lIx l) (hk := ?_)
  rw [Shape.rowMajor_val_two, Shape.rowMajor_val_one]
  show l.val = (k 0).val * 16 + (k 1).val
  omega

theorem slots_half {f : S4x32.Idx → BitVec 32} {s : Fin 4} (h : Fin 2) {g : Nat → BitVec 32} (hf : RowTo f s (16 * h.val) g) {v : IVec S16 32}
    (hv : ∀ l : Fin 16, v (lIx l) = g (16 * h.val + l.val)) :
    RowTo (((pB).access (hRect s h)).write (Elt F) f (shapeCast S1x16 v shapeCasts_S16_S1x16 : Vec F S1x16 .i32) Finset.univ) s (16 * h.val + 16) g := by
  intro k hk
  by_cases hin : 16 * h.val ≤ k.val
  · let x : S1x16.Idx := fun | 0 => ⟨0, Nat.one_pos⟩ | 1 => ⟨k.val - 16 * h.val, by show _ < 16; omega⟩
    have hx : ((pB).access (hRect s h)).emb x = rIx s k := by
      funext a
      refine Fin.ext ?_
      match a with
      | 0 => show s.val + 1 * 0 = s.val; omega
      | 1 => show 16 * h.val + 1 * (k.val - 16 * h.val) = k.val; omega
    have hw := View.write_emb_of_mem (Val := Elt F) (v := (pB).access (hRect s h)) f (shapeCast S1x16 v shapeCasts_S16_S1x16 : Vec F S1x16 .i32) (Finset.mem_univ x)
    rw [hx] at hw
    refine hw.trans ?_
    rw [cast_eq, row_cast (F := F) v x ⟨k.val - 16 * h.val, by omega⟩ rfl, hv]
    exact congrArg g (show 16 * h.val + (k.val - 16 * h.val) = k.val by omega)
  · refine (View.write_of_not_mem (Val := Elt F) (v := (pB).access (hRect s h)) f _ Finset.univ ?_).trans (hf k (by omega))
    intro hm
    obtain ⟨x, -, hx⟩ := Finset.mem_map.mp hm
    have h1 : k.val = 16 * h.val + 1 * (x 1).val := by
      have := congrArg (fun j : S4x32.Idx => (j 1).val) hx
      exact this.symm
    omega

theorem toks_half {f : S4x32.Idx → BitVec 32} {s : Fin 4} (h : Fin 2) {g : Nat → BitVec 32} (hf : RowTo f s (16 * h.val) g) {v : IVec S16 32}
    (hv : ∀ l : Fin 16, v (lIx l) = g (16 * h.val + l.val)) :
    RowTo (((tB).access (hRect s h)).write (Elt F) f (shapeCast S1x16 v shapeCasts_S16_S1x16 : Vec F S1x16 .i32) Finset.univ) s (16 * h.val + 16) g :=
  slots_half (F := F) h hf hv

/-- Row `s` of a stages' buffer, read. -/
theorem row_read (f : S4x32.Idx → BitVec 32) (s : Fin 4) (k : S32.Idx) : (rowOf pB s).view.read (Elt F) f k = f (rIx s (k 0)) := by
  rw [View.read_apply, cast_eq]
  congr 1
  let y : S1x32.Idx := fun | 0 => ⟨0, Nat.one_pos⟩ | 1 => k 0
  have hy : Shape.reshapeEquiv (s := S1x32) (s' := S32) squeezes_S1x32_S32.numel_eq k = y :=
    Shape.reshapeEquiv_eq_of_rowMajor _ (by
      rw [Shape.rowMajor_val_two, Shape.rowMajor_val_one]
      show 0 * 32 + (k 0).val = (k 0).val; omega)
  show (Rect.unit (s := S4x32) ![s.val, 0] S1x32.size (stageRow_inb s)).emb (Shape.reshapeEquiv (s := S1x32) (s' := S32) _ k) = _
  rw [hy]
  funext a; refine Fin.ext ?_
  match a with
  | 0 => show s.val + 1 * 0 = s.val; omega
  | 1 => show 0 + 1 * (k 0).val = (k 0).val; omega

theorem row_read' (f : S4x32.Idx → BitVec 32) (s : Fin 4) (k : S32.Idx) : (rowOf tB s).view.read (Elt F) f k = f (rIx s (k 0)) :=
  row_read (F := F) f s k

/-! ## The rows under way -/

/-- The token that pair `n` is of. -/
def tokenOf (n : Nat) : Fin 2048 := ⟨n / 2 % 2048, Nat.mod_lt _ (by omega)⟩

/-- The rows of the tokens of the 32 pairs from pair `n` on. -/
def gathered (x : S2048x1024.Idx → F .f32) (n : Nat) (j : S32x1024.Idx) : F .f32 := x (xIx (tokenOf (n + (j 0).val)) (j 1))

/-- The gathered columns below `128 t` hold what they are to hold. -/
def Fetched (x : S2048x1024.Idx → F .f32) (n : Nat) (t : Nat) (g : S32x1024.Idx → F .f32) : Prop :=
  ∀ j : S32x1024.Idx, (j 1).val < 128 * t → g j = gathered x n j

theorem fetched_zero (x : S2048x1024.Idx → F .f32) (n : Nat) (g : S32x1024.Idx → F .f32) : Fetched x n 0 g := by
  intro j h; omega

theorem fetched_all {x : S2048x1024.Idx → F .f32} {n : Nat} {g : S32x1024.Idx → F .f32} (h : Fetched x n 8 g) :
    g = gathered x n := funext fun j => h j (j 1).isLt

/-- The words are the tokens of the 32 pairs from pair `n` on. -/
def TokWords (w : S32.Idx → BitVec 32) (n : Nat) : Prop := ∀ k, w k = BitVec.ofNat 32 ((n + (k 0).val) / 2)

theorem tok_lt {w : S32.Idx → BitVec 32} {n : Nat} (hn : n + 32 ≤ 4096) (h : TokWords w n) (k : S32.Idx) : (w k).toNat < 2048 := by
  have hk : (k 0).val < 32 := (k 0).isLt
  rw [h k, BitVec.toNat_ofNat]; omega

theorem fetched_step {x : S2048x1024.Idx → F .f32} {n : Nat} (hn : n + 32 ≤ 4096) {w : S32.Idx → BitVec 32} (hw : TokWords w n)
    (hlt : ∀ k, (w k).toNat < 2048) (t : Fin winLoop.trips) {g : S32x1024.Idx → F .f32} (h : Fetched x n t.val g) :
    Fetched x n (t.val + 1) ((midWin rB t).view.write (Elt F) g
      (SparseCore.gatherPayload gathers_S2048x128_S32x128 ((srcWin xW t).view.read (Elt F) x)
        (SparseCore.rows (F := F) (si := S32) w rfl hlt)) Finset.univ) := by
  intro j hj
  by_cases hin : 128 * t.val ≤ (j 1).val
  · have hlt' : (j 1).val - 128 * t.val < 128 := by omega
    let k : S32x128.Idx := fun | 0 => j 0 | 1 => ⟨(j 1).val - 128 * t.val, hlt'⟩
    have hk : (midWin rB t).view.emb k = j := by
      funext a
      refine Fin.ext ?_
      show winOff t a + 1 * (k a).val = _
      rw [winOff_eq]
      match a with
      | 0 => show 0 + 1 * (j 0).val = (j 0).val; omega
      | 1 => show 128 * t.val + 1 * ((j 1).val - 128 * t.val) = (j 1).val; omega
    have hwr := View.write_emb_of_mem (Val := Elt F) (v := (midWin rB t).view) g
        (SparseCore.gatherPayload gathers_S2048x128_S32x128 ((srcWin xW t).view.read (Elt F) x)
          (SparseCore.rows (F := F) (si := S32) w rfl hlt)) (Finset.mem_univ k)
    rw [hk] at hwr
    refine hwr.trans ?_
    rw [cast_eq]
    unfold SparseCore.gatherPayload
    rw [View.read_apply, cast_eq]
    unfold gathered
    congr 1
    funext a
    refine Fin.ext ?_
    show winOff t a + 1 * (gathers_S2048x128_S32x128.idx _ k a).val = _
    rw [winOff_eq]
    have hj0 : (j 0).val < 32 := (j 0).isLt
    match a with
    | 0 =>
      show 0 + 1 * (w (S32.rowMajor.symm _)).toNat = (n + (j 0).val) / 2 % 2048
      have e : ∀ y : Fin S32.numel, y.val = (j 0).val → S32.rowMajor.symm y = wIx (j 0) := fun y hy =>
        (Equiv.symm_apply_eq _).mpr (Fin.ext (hy.trans (Shape.rowMajor_val_one (wIx (j 0))).symm))
      rw [e _ (by rfl), hw, BitVec.toNat_ofNat]
      show 0 + 1 * ((n + (j 0).val) / 2 % 2 ^ 32) = _
      omega
    | 1 => show 128 * t.val + 1 * ((j 1).val - 128 * t.val) = (j 1).val; omega
  · refine (View.write_of_not_mem (Val := Elt F) (v := (midWin rB t).view) g _ Finset.univ ?_).trans (h j (by omega))
    intro hm
    obtain ⟨k, -, hk⟩ := Finset.mem_map.mp hm
    have h1 : (j 1).val = winOff t 1 + 1 * (k 1).val := by rw [← hk]; rfl
    rw [winOff_eq] at h1
    have e1 : (![0, 128 * t.val] : Fin 2 → Nat) 1 = 128 * t.val := rfl
    rw [e1] at h1
    omega

/-! ## The slots -/

/-- The elements of the slots of the 32 pairs from pair `n` on. -/
def slotSet (ids : S4096.Idx → BitVec 32) (offs : S16.Idx → BitVec 32) (n : Nat) : Finset S6144x1024.Idx :=
  Finset.univ.filter fun j => ∃ k : Fin 32, (j 0).val = (slotWord ids offs (n + k.val)).toNat

theorem mem_slotSet (ids : S4096.Idx → BitVec 32) (offs : S16.Idx → BitVec 32) (n : Nat) (j : S6144x1024.Idx) :
    j ∈ slotSet ids offs n ↔ ∃ k : Fin 32, (j 0).val = (slotWord ids offs (n + k.val)).toNat := by
  unfold slotSet
  rw [Finset.mem_filter]
  exact and_iff_right (Finset.mem_univ j)

open Classical in
/-- THE ROWS AT THE SLOTS: in each pair's slot the row of the pair's token, elsewhere what was there. -/
def placed (ids : S4096.Idx → BitVec 32) (offs : S16.Idx → BitVec 32) (x : S2048x1024.Idx → F .f32) (f₀ : S6144x1024.Idx → F .f32) (j : S6144x1024.Idx) : F .f32 :=
  if h : ∃ n, n < 4096 ∧ (j 0).val = (slotWord ids offs n).toNat then x (xIx (tokenOf h.choose) (j 1)) else f₀ j

theorem placed_slot {ids : S4096.Idx → BitVec 32} {cnts : S32x16.Idx → BitVec 32} {offs : S16.Idx → BitVec 32} (R : Routed ids cnts offs)
    (x : S2048x1024.Idx → F .f32) (f₀ : S6144x1024.Idx → F .f32) {n : Nat} (hn : n < 4096) {j : S6144x1024.Idx} (hj : (j 0).val = (slotWord ids offs n).toNat) :
    placed ids offs x f₀ j = x (xIx (tokenOf n) (j 1)) := by
  have h : ∃ n, n < 4096 ∧ (j 0).val = (slotWord ids offs n).toNat := ⟨n, hn, hj⟩
  unfold placed
  rw [dif_pos h, slot_inj R h.choose_spec.1 hn (h.choose_spec.2.symm.trans hj)]

/-- The slots' columns below `128 t` hold what they are to hold. -/
def Spread (ids : S4096.Idx → BitVec 32) (offs : S16.Idx → BitVec 32) (x : S2048x1024.Idx → F .f32) (n : Nat) (t : Nat) (f : S6144x1024.Idx → F .f32) : Prop :=
  ∀ (k : Fin 32) (j : S6144x1024.Idx), (j 0).val = (slotWord ids offs (n + k.val)).toNat → (j 1).val < 128 * t → f j = x (xIx (tokenOf (n + k.val)) (j 1))

/-- The words are the slots of the 32 pairs from pair `n` on. -/
def SlotWords (ids : S4096.Idx → BitVec 32) (offs : S16.Idx → BitVec 32) (w : S32.Idx → BitVec 32) (n : Nat) : Prop := ∀ k, w k = slotWord ids offs (n + (k 0).val)

section Spread

variable {ids : S4096.Idx → BitVec 32} {cnts : S32x16.Idx → BitVec 32} {offs : S16.Idx → BitVec 32}

theorem slotw_lt (R : Routed ids cnts offs) {w : S32.Idx → BitVec 32} {n : Nat} (hn : n + 32 ≤ 4096) (h : SlotWords ids offs w n) (k : S32.Idx) :
    (w k).toNat < 6144 := by
  have hk : (k 0).val < 32 := (k 0).isLt
  rw [h k]; exact slot_lt R (by omega)

theorem slotw_inj (R : Routed ids cnts offs) {w : S32.Idx → BitVec 32} {n : Nat} (hn : n + 32 ≤ 4096) (h : SlotWords ids offs w n) :
    Function.Injective fun k => (w k).toNat := by
  intro k k' e
  have hk : (k 0).val < 32 := (k 0).isLt
  have hk' : (k' 0).val < 32 := (k' 0).isLt
  dsimp only at e
  rw [h k, h k'] at e
  have := slot_inj R (by omega) (by omega) e
  funext a
  match a with
  | 0 => exact Fin.ext (by omega)

/-- The window's element at `(q, c)`. -/
def gIx (q : Fin 6144) (c : Fin 128) : S6144x128.Idx := fun | 0 => q | 1 => c

/-- The slots' element that a window's is. -/
theorem dst_emb (t : Fin winLoop.trips) (x : S6144x128.Idx) :
    (((dstWin gW t).view.emb x : S6144x1024.Idx) 0).val = (x 0).val ∧ (((dstWin gW t).view.emb x : S6144x1024.Idx) 1).val = 128 * t.val + (x 1).val := by
  have h0 : winOff t 0 = 0 := congrFun (winOff_eq t) 0
  have h1 : winOff t 1 = 128 * t.val := congrFun (winOff_eq t) 1
  constructor
  · show winOff t 0 + 1 * (x 0).val = (x 0).val; omega
  · show winOff t 1 + 1 * (x 1).val = 128 * t.val + (x 1).val; omega

/-- The row that entry `k` of a list names. -/
theorem rows_val {w : S32.Idx → BitVec 32} (hlt : ∀ k, (w k).toNat < 6144) (k : Fin 32) :
    (SparseCore.rows (F := F) (si := S32) (o := 32) (z := 6144) w rfl hlt k).val = (w (wIx k)).toNat := by
  show (w (S32.rowMajor.symm _)).toNat = _
  have e : ∀ y : Fin S32.numel, y.val = k.val → S32.rowMajor.symm y = wIx k := fun y hy =>
    (Equiv.symm_apply_eq _).mpr (Fin.ext (hy.trans (Shape.rowMajor_val_one (wIx k)).symm))
  rw [e _ (by rfl)]

/-- An element of a named row of a window. -/
theorem mem_row (t : Fin winLoop.trips) (r : Fin 6144) {j : S6144x1024.Idx}
    (hj : j ∈ ((dstWin gW t).view.slice (S6144x128.rowRect gathers_S6144x128_S32x128.axis r)).set) : (j 0).val = r.val ∧ 128 * t.val ≤ (j 1).val := by
  obtain ⟨y, -, rfl⟩ := Finset.mem_map.mp hj
  let x : S6144x128.Idx := (S6144x128.rowRect gathers_S6144x128_S32x128.axis r).emb y
  have hx : (x 0).val = r.val := by
    have := Shape.rowRect_emb_axis (s := S6144x128) gathers_S6144x128_S32x128.axis r y
    exact congrArg Fin.val this
  have h := dst_emb t x
  constructor
  · exact h.1.trans hx
  · have := h.2
    show 128 * t.val ≤ (((dstWin gW t).view.emb x : S6144x1024.Idx) 1).val
    omega

/-- The element of a window of the slots, in its row. -/
theorem row_mem (t : Fin winLoop.trips) (r : Fin 6144) (c : Fin 128) :
    ((dstWin gW t).view.slice (S6144x128.rowRect gathers_S6144x128_S32x128.axis r)).emb (S6144x128.rowProj gathers_S6144x128_S32x128.axis (gIx r c))
      = (dstWin gW t).view.emb (gIx r c) :=
  congrArg (dstWin gW t).view.emb (Shape.rowRect_emb_rowProj (s := S6144x128) gathers_S6144x128_S32x128.axis (gIx r c))

/-- The thread of tile `i`. -/
abbrev tile (d : Dev nD) (i : grid0.Coords) : Thread nD τ := SparseCore.V d ((i 0).castLE hcore0) ((i 1).castLE hsub0)

variable (d : Dev nD) (i : grid0.Coords)

/-- What entry `k` of the list carries: row `k` of the window of the rows under way. -/
theorem payload_apply (t : Fin winLoop.trips) (g : S32x1024.Idx → F .f32) (k : Fin 32) (r : Fin 6144) (c : Fin 128) {j : S32x1024.Idx}
    (h0 : (j 0).val = k.val) (h1 : (j 1).val = 128 * t.val + c.val) :
    SparseCore.scatterRowPayload (F := F) (tile d i) (midWin rB t) gathers_S6144x128_S32x128 g k (S6144x128.rowProj gathers_S6144x128_S32x128.axis (gIx r c)) = g j := by
  have w0 : winOff t 0 = 0 := congrFun (winOff_eq t) 0
  have w1 : winOff t 1 = 128 * t.val := congrFun (winOff_eq t) 1
  unfold SparseCore.scatterRowPayload
  have e := View.read_cast (Val := Elt F) ((midWin rB t).slice (S32x128.rowRect gathers_S6144x128_S32x128.axis' k) (S32x128.stride_rowRect _ _)).view
    gathers_S6144x128_S32x128.rowShape_eq rfl g
  refine (congrFun e _).trans ?_
  unfold castContents
  rw [cast_eq, View.read_apply, cast_eq]
  congr 1
  funext a; refine Fin.ext ?_
  let y : (S32x128.rowShape gathers_S6144x128_S32x128.axis').Idx :=
    (Shape.idxEquiv gathers_S6144x128_S32x128.rowShape_eq).symm (S6144x128.rowProj gathers_S6144x128_S32x128.axis (gIx r c))
  let x : S32x128.Idx := (S32x128.rowRect gathers_S6144x128_S32x128.axis' k).emb y
  have x0 : (x 0).val = k.val := congrArg Fin.val (Shape.rowRect_emb_axis (s := S32x128) gathers_S6144x128_S32x128.axis' k y)
  have x1 : (x 1).val = c.val := by
    refine (Shape.rowRect_emb_of_ne (s := S32x128) gathers_S6144x128_S32x128.axis' k y (b := (1 : Fin 2)) (by decide)).trans ?_
    refine (Shape.idxEquiv_symm_apply_val gathers_S6144x128_S32x128.rowShape_eq _ (1 : Fin 2)).trans ?_
    rfl
  match a with
  | 0 => show winOff t 0 + 1 * (x 0).val = (j 0).val; omega
  | 1 => show winOff t 1 + 1 * (x 1).val = (j 1).val; omega

/-- The slots once window `t` of the rows `g` is scattered to the rows `w` names. -/
abbrev spreadBuf (w : S32.Idx → BitVec 32) (hlt : ∀ k, (w k).toNat < 6144) (t : Fin winLoop.trips) (g : S32x1024.Idx → F .f32) (f : S6144x1024.Idx → F .f32) :
    S6144x1024.Idx → F .f32 :=
  SparseCore.scatterBuf (F := F) (tile d i) (dstWin gW t).view gathers_S6144x128_S32x128.axis (SparseCore.rows (F := F) (si := S32) (o := 32) (z := 6144) w rfl hlt)
    (SparseCore.scatterRowPayload (F := F) (tile d i) (midWin rB t) gathers_S6144x128_S32x128 g) f

/-- The elements that window `t` is scattered to. -/
abbrev spreadSet (w : S32.Idx → BitVec 32) (hlt : ∀ k, (w k).toNat < 6144) (t : Fin winLoop.trips) : Finset S6144x1024.Idx :=
  SparseCore.namedRows (tile d i) (dstWin gW t).view gathers_S6144x128_S32x128.axis (SparseCore.rows (F := F) (si := S32) (o := 32) (z := 6144) w rfl hlt)

theorem mem_spreadSet {w : S32.Idx → BitVec 32} {n : Nat} (hw : SlotWords ids offs w n) (hlt : ∀ k, (w k).toNat < 6144) (t : Fin winLoop.trips)
    {j : S6144x1024.Idx} (hj : j ∈ spreadSet (F := F) d i w hlt t) : (∃ k : Fin 32, (j 0).val = (slotWord ids offs (n + k.val)).toNat) ∧ 128 * t.val ≤ (j 1).val := by
  obtain ⟨k, -, hk⟩ := Finset.mem_biUnion.mp hj
  have h := mem_row t (SparseCore.rows (F := F) (si := S32) (o := 32) (z := 6144) w rfl hlt k) hk
  rw [rows_val, hw] at h
  exact ⟨⟨k, h.1⟩, h.2⟩

theorem spreadSet_subset {w : S32.Idx → BitVec 32} {n : Nat} (hw : SlotWords ids offs w n) (hlt : ∀ k, (w k).toNat < 6144) (t : Fin winLoop.trips) :
    spreadSet (F := F) d i w hlt t ⊆ slotSet ids offs n := fun j hj =>
  (mem_slotSet ids offs n j).mpr (mem_spreadSet (F := F) d i hw hlt t hj).1

theorem spread_zero (x : S2048x1024.Idx → F .f32) (n : Nat) (f : S6144x1024.Idx → F .f32) : Spread ids offs x n 0 f := by
  intro k j _ h; omega

theorem spread_step (R : Routed ids cnts offs) {n : Nat} (hn : n + 32 ≤ 4096) {w : S32.Idx → BitVec 32} (hw : SlotWords ids offs w n)
    (hlt : ∀ k, (w k).toNat < 6144) (t : Fin winLoop.trips) (x : S2048x1024.Idx → F .f32) {f : S6144x1024.Idx → F .f32} (h : Spread ids offs x n t.val f) :
    Spread ids offs x n (t.val + 1) (spreadBuf d i w hlt t (gathered x n) f) := by
  intro k j hj0 hj1
  by_cases hin : 128 * t.val ≤ (j 1).val
  · have hc : (j 1).val - 128 * t.val < 128 := by omega
    have hr : (SparseCore.rows (F := F) (si := S32) (o := 32) (z := 6144) w rfl hlt k) = j 0 := by
      refine Fin.ext ?_
      rw [rows_val, hw]; exact hj0.symm
    have hemb : ((dstWin gW t).view.slice (S6144x128.rowRect gathers_S6144x128_S32x128.axis (SparseCore.rows (F := F) (si := S32) (o := 32) (z := 6144) w rfl hlt k))).emb
        (S6144x128.rowProj gathers_S6144x128_S32x128.axis (gIx (j 0) ⟨(j 1).val - 128 * t.val, hc⟩)) = j := by
      rw [hr]
      refine (row_mem t (j 0) _).trans ?_
      have e := dst_emb t (gIx (j 0) ⟨(j 1).val - 128 * t.val, hc⟩)
      funext a; refine Fin.ext ?_
      match a with
      | 0 => exact e.1
      | 1 => refine e.2.trans ?_; show 128 * t.val + ((j 1).val - 128 * t.val) = _; omega
    have hmem : j ∈ ((dstWin gW t).view.slice (S6144x128.rowRect gathers_S6144x128_S32x128.axis (SparseCore.rows (F := F) (si := S32) (o := 32) (z := 6144) w rfl hlt k))).set :=
      Finset.mem_map.mpr ⟨_, Finset.mem_univ _, hemb⟩
    have hinj : Function.Injective (SparseCore.rows (F := F) (si := S32) (o := 32) (z := 6144) w rfl hlt) := SparseCore.rows_injective (F := F) (slotw_inj R hn hw)
    refine (SparseCore.scatterBuf_of_mem (F := F) (tile d i) (dstWin gW t).view gathers_S6144x128_S32x128.axis _ hinj _ f hmem).trans ?_
    have hwr := View.write_emb_of_mem (Val := Elt F)
      (v := (dstWin gW t).view.slice (S6144x128.rowRect gathers_S6144x128_S32x128.axis (SparseCore.rows (F := F) (si := S32) (o := 32) (z := 6144) w rfl hlt k))) f
      (SparseCore.scatterRowPayload (F := F) (tile d i) (midWin rB t) gathers_S6144x128_S32x128 (gathered x n) k)
      (Finset.mem_univ (S6144x128.rowProj gathers_S6144x128_S32x128.axis (gIx (j 0) ⟨(j 1).val - 128 * t.val, hc⟩)))
    rw [hemb] at hwr
    refine hwr.trans ?_
    rw [cast_eq]
    let y : S32x1024.Idx := fun | 0 => k | 1 => j 1
    exact payload_apply d i t (gathered x n) k (j 0) ⟨(j 1).val - 128 * t.val, hc⟩ (j := y) rfl (by show (j 1).val = 128 * t.val + ((j 1).val - 128 * t.val); omega)
  · refine (SparseCore.scatterBuf_of_not_mem (F := F) (tile d i) (dstWin gW t).view gathers_S6144x128_S32x128.axis _ _ f ?_).trans (h k j hj0 (by omega))
    intro hm
    exact hin (mem_spreadSet (F := F) d i hw hlt t hm).2

/-- All eight windows scattered: the slots hold the value. -/
theorem spread_all (R : Routed ids cnts offs) {n : Nat} (hn : n + 32 ≤ 4096) {x : S2048x1024.Idx → F .f32} {f : S6144x1024.Idx → F .f32}
    (h : Spread ids offs x n 8 f) (f₀ : S6144x1024.Idx → F .f32) : ∀ j ∈ slotSet ids offs n, f j = placed ids offs x f₀ j := by
  intro j hj
  obtain ⟨k, hk⟩ := (mem_slotSet ids offs n j).mp hj
  have hk' := k.isLt
  rw [placed_slot R x f₀ (by omega) hk]
  exact h k j hk (j 1).isLt

end Spread

end Cert.Proof.Route

end
-- ==== Proof.RouteTile.lean ====
/-
  One tile of the dispatch call. A tile holds a share of the expert numbers, the counts, the first slots and the tokens'
  rows, the 128 entries of the slots' list that are its own (as four stages of 32), the rows of the slots of its own pairs,
  and its scratch buffers; it gives back its entries and its rows at their values. The loops carry what they have moved
  (`Fetched`, `Spread`); half a stage and a stage are proved once, at a symbolic stage of a symbolic tile.
-/
module

public import proofs.«01_k».proof.Proof.RouteRows
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Route

open Cert.DispatchIdeal Cert.DispatchIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "idW" => (Memref.whole Cert.DispatchIdeal.main_arg0_scv : Memref Cert.DispatchIdeal.sig Kind.scVector Space.hbm Cert.DispatchIdeal.S4096 EltTy.i32)
local notation "cW" => (Memref.whole Cert.DispatchIdeal.main_arg1_scv : Memref Cert.DispatchIdeal.sig Kind.scVector Space.hbm Cert.DispatchIdeal.S32x16 EltTy.i32)
local notation "fW" => (Memref.whole Cert.DispatchIdeal.main_arg2_scv : Memref Cert.DispatchIdeal.sig Kind.scVector Space.hbm Cert.DispatchIdeal.S16 EltTy.i32)
local notation "xW" => (Memref.whole Cert.DispatchIdeal.main_arg3_scv : Memref Cert.DispatchIdeal.sig Kind.scVector Space.hbm Cert.DispatchIdeal.S2048x1024 EltTy.f32)
local notation "pW" => (Memref.whole Cert.DispatchIdeal.main_v0_0_scv : Memref Cert.DispatchIdeal.sig Kind.scVector Space.hbm Cert.DispatchIdeal.S4096 EltTy.i32)
local notation "gW" => (Memref.whole Cert.DispatchIdeal.main_v0_1_scv : Memref Cert.DispatchIdeal.sig Kind.scVector Space.hbm Cert.DispatchIdeal.S6144x1024 EltTy.f32)
local notation "cB" => (Memref.whole Cert.DispatchIdeal.cc0_scratch0 : Memref Cert.DispatchIdeal.sig Kind.scVector Space.vmem Cert.DispatchIdeal.S32x16 EltTy.i32)
local notation "fB" => (Memref.whole Cert.DispatchIdeal.cc0_scratch1 : Memref Cert.DispatchIdeal.sig Kind.scVector Space.vmem Cert.DispatchIdeal.S16 EltTy.i32)
local notation "iB" => (Memref.whole Cert.DispatchIdeal.cc0_scratch2 : Memref Cert.DispatchIdeal.sig Kind.scVector Space.vmem Cert.DispatchIdeal.S128 EltTy.i32)
local notation "pB" => (Memref.whole Cert.DispatchIdeal.cc0_scratch3 : Memref Cert.DispatchIdeal.sig Kind.scVector Space.vmem Cert.DispatchIdeal.S4x32 EltTy.i32)
local notation "tB" => (Memref.whole Cert.DispatchIdeal.cc0_scratch4 : Memref Cert.DispatchIdeal.sig Kind.scVector Space.vmem Cert.DispatchIdeal.S4x32 EltTy.i32)
local notation "rB" => (Memref.whole Cert.DispatchIdeal.cc0_scratch5 : Memref Cert.DispatchIdeal.sig Kind.scVector Space.vmem Cert.DispatchIdeal.S32x1024 EltTy.f32)

section Tile

variable (d : Dev nD) (i : grid0.Coords)

/-- The tile's run of a piece of its program. -/
abbrev run {α : Type} (p : TileProg F i α) (Q : α → sProp 𝕄) : sProp 𝕄 :=
  wp frame (wpE (defs₀ (F := F)) 𝒱₀ (tile d i) none) Set.univ p Q

/-! ## Elements of a buffer, and the waits -/

/-- Of a buffer held whole, a view's elements and the rest. -/
theorem pts_view {sp : Space} {s : Shape} {e : EltTy} (v : View sig (tile d i).2.kind sp s e) (q : PosShare TreeShare) (f : Buf (Elt F) (v.loc (tile d i))) :
    (v.loc (tile d i) ↦[Finset.univ]{q} f : sProp 𝕄) ⊣⊢ iprop((v.loc (tile d i) ↦[v.set]{q} f) ∗ v.loc (tile d i) ↦[Finset.univ \ v.set]{q} f) :=
  pointsTo_split_subset (Finset.subset_univ _)

/-- A view's elements written, put back among the rest. -/
theorem pts_written {sp : Space} {s : Shape} {e : EltTy} (v : View sig (tile d i).2.kind sp s e) (f : Buf (Elt F) (v.loc (tile d i))) (w : s.Idx → Elt F e) :
    iprop((v.loc (tile d i) ↦[v.set]{fullShare} v.write (Elt F) f w Finset.univ) ∗ v.loc (tile d i) ↦[Finset.univ \ v.set]{fullShare} f)
      ⊢ (v.loc (tile d i) ↦[Finset.univ]{fullShare} v.write (Elt F) f w Finset.univ : sProp 𝕄) := by
  rw [SparseCore.pointsTo_rest_write (tile d i) f w]
  exact (pts_view d i v fullShare _).2

/-- The waits a tile may make, what it owes, and which waits it has recorded. -/
abbrev owing (O : CellTallies nD τ sig (HIx 1)) (W : Waits sig (HIx 1)) : sProp 𝕄 :=
  iprop(∃ W', ⌜∀ p ∈ W', p ∈ W ∨ p.2 = none⌝ ∗ owes (tile d i) O W')

theorem owing_insert {O : CellTallies nD τ sig (HIx 1)} {W W' : Waits sig (HIx 1)} (h : ∀ p ∈ W', p ∈ W ∨ p.2 = none) (sm : SemLoc sig) :
    (owes (tile d i) O (insert (sm, (default : HIx 1)) W') : sProp 𝕄) ⊢ owing d i O W := by
  iintro H
  iexists _; isplitr
  swap; · iexact H
  ipureintro; intro p hp
  rcases Finset.mem_insert.mp hp with hp | hp
  · exact .inr (hp ▸ rfl)
  · exact h p hp

theorem lift_bind {α β : Type} (op : TpuEff nD τ sig (Elt F) Λ₀ (.scVector ((i 0).castLE hcore0) ((i 1).castLE hsub0)) α) (k : α → TileProg F i β) :
    (Prog.lift op >>= k) = .op op k := rfl

variable {ids : S4096.Idx → BitVec 32} {cnts : S32x16.Idx → BitVec 32} {offs : S16.Idx → BitVec 32}

/-! ## The first slots -/

theorem wp_sumCounts (R : Routed ids cnts offs) (b₀ : IVec S16 32) (hb : At ids offs (128 * min 0 (chunk i)) b₀) : ∀ (n : Nat) (h : n ≤ 32),
    ((cB).view.loc (tile d i) ↦[Finset.univ]{fullShare} cnts : sProp 𝕄)
      ⊢ run (F := F) d i (sumCounts i cB b₀ n h) fun b => iprop(⌜At ids offs (128 * min n (chunk i)) b⌝ ∗ (cB).view.loc (tile d i) ↦[Finset.univ]{fullShare} cnts)
  | 0, _ => by
    unfold sumCounts run
    iintro H
    sl_step
    isplitr
    · ipureintro; exact hb
    · iexact H
  | n + 1, h => by
    unfold sumCounts run
    rw [wp_bind]
    refine (wp_sumCounts R b₀ hb n (by omega)).trans (wp_mono _ _ _ fun b => ?_)
    iintro ⟨%hb, H⟩
    rw [lift_bind]
    iapply (wp_load 𝒱₀ (tile d i) none Set.univ (m := cB) (S := Finset.univ) (Finset.subset_univ _)) $$ H; iintro H
    sl_step
    isplitr
    · ipureintro; exact at_chunk (F := F) R i (by omega) hb
    · iexact H

/-! ## Half a stage -/

/-- The slots of a stage's pairs, and their tokens. -/
abbrev slotsOf (ids : S4096.Idx → BitVec 32) (offs : S16.Idx → BitVec 32) (n : Nat) (k : Nat) : BitVec 32 := slotWord ids offs (n + k)
abbrev toksOf (n : Nat) (k : Nat) : BitVec 32 := BitVec.ofNat 32 ((n + k) / 2)

/-- The tile's own expert numbers, and the stage's slots and tokens as far as they are worked out. -/
def halfInv (ids : S4096.Idx → BitVec 32) (offs : S16.Idx → BitVec 32) (s : Fin 4) (k : Nat) : sProp 𝕄 :=
  iprop(((iB).view.loc (tile d i) ↦[Finset.univ]{fullShare} own i ids)
    ∗ (∃ f : S4x32.Idx → BitVec 32, ⌜RowTo f s k (slotsOf ids offs (base i s))⌝ ∗ ((pB).view.loc (tile d i) ↦[Finset.univ]{fullShare} f))
    ∗ ∃ f : S4x32.Idx → BitVec 32, ⌜RowTo f s k (toksOf (base i s))⌝ ∗ ((tB).view.loc (tile d i) ↦[Finset.univ]{fullShare} f))

theorem wp_half (R : Routed ids cnts offs) (s : Fin 4) (h : Fin 2) {b : IVec S16 32} (hb : At ids offs (base i s + 16 * h.val) b) :
    (halfInv d i ids offs s (16 * h.val) : sProp 𝕄)
      ⊢ run (F := F) d i (half i iB pB tB s h b) fun b' => iprop(⌜At ids offs (base i s + 16 * h.val + 16) b'⌝ ∗ halfInv d i ids offs s (16 * h.val + 16)) := by
  have hbase := base_le i s
  have hv := read_vec (F := F) i ids s h
  unfold halfInv half run
  iintro ⟨Hi, ⟨%fp, %hp, Hp⟩, %ft, %ht, Ht⟩
  simp only [lift_bind]
  iapply (wp_load 𝒱₀ (tile d i) none Set.univ (m := iB) (S := Finset.univ) (Finset.subset_univ _)) $$ Hi; iintro Hi
  iapply (wp_load 𝒱₀ (tile d i) none Set.univ (m := pB) (S := Finset.univ) (Finset.subset_univ _)) $$ Hp; iintro Hp
  iapply (wp_store 𝒱₀ (tile d i) none Set.univ (m := pB) (r := hRect s h) (Mk := Finset.univ) (S := Finset.univ) (Finset.subset_univ _)) $$ Hp; iintro Hp
  iapply (wp_load 𝒱₀ (tile d i) none Set.univ (m := tB) (S := Finset.univ) (Finset.subset_univ _)) $$ Ht; iintro Ht
  iapply (wp_store 𝒱₀ (tile d i) none Set.univ (m := tB) (r := hRect s h) (Mk := Finset.univ) (S := Finset.univ) (Finset.subset_univ _)) $$ Ht; iintro Ht
  sl_step
  isplitr
  · ipureintro; exact at_next hv hb
  isplitl [Hi]; · iexact Hi
  isplitl [Hp]
  · iexists _; isplitr
    swap; · iexact Hp
    ipureintro
    refine slots_half (F := F) h hp fun l => ?_
    rw [slots_of_at R (by omega) hv hb l, Nat.add_assoc]
  · iexists _; isplitr
    swap; · iexact Ht
    ipureintro
    refine toks_half (F := F) h ht fun l => ?_
    refine halve_apply _ l (base i s + (16 * h.val + l.val)) (by omega) ?_
    rw [pairVec_apply]
    congr 1
    unfold base; omega

/-- Half a stage at the head of a program. -/
theorem wp_half_bind (R : Routed ids cnts offs) (s : Fin 4) (h : Fin 2) {b : IVec S16 32} (hb : At ids offs (base i s + 16 * h.val) b) {α : Type}
    (k : IVec S16 32 → TileProg F i α) (Q : α → sProp 𝕄) :
    (halfInv d i ids offs s (16 * h.val) : sProp 𝕄)
      ⊢ iprop((∀ b', iprop(⌜At ids offs (base i s + 16 * h.val + 16) b'⌝ ∗ halfInv d i ids offs s (16 * h.val + 16)) -∗ run d i (k b') Q)
          -∗ run d i (half i iB pB tB s h b >>= k) Q) := by
  have e := wp_half (F := F) d i R s h hb
  generalize half (F := F) i iB pB tB s h b = P at e ⊢
  unfold run
  rw [wp_bind]
  iintro H Hk
  iapply (wp_wand frame (wpE (defs₀ (F := F)) 𝒱₀ (tile d i) none) Set.univ) $$ [H]
  · iapply e; iexact H
  iintro %b' H
  iapply Hk
  iexact H

/-! ## The rows' windows -/

theorem fetch_credit (t : Fin winLoop.trips) (h : S2048x128.Gathers 0 S32x128) :
    ∑ j, ((midWin rB t).slice (S32x128.rowRect h.axis' j) (S32x128.stride_rowRect h.axis' j)).view.dmaCredit = (midWin rB t).view.dmaCredit := by
  decide +revert

/-- The tokens' rows and the stage's tokens, the rows under way as far as they are fetched, and the copies' semaphore. -/
def fetchInv (O : CellTallies nD τ sig (HIx 1)) (W : Waits sig (HIx 1)) (qs : PosShare TreeShare) (x : S2048x1024.Idx → F .f32)
    (ft : S4x32.Idx → BitVec 32) (n : Nat) (k : Nat) : sProp 𝕄 :=
  iprop(Transfers.MayWaits (tile d i) (default : HIx 1) O
    ∗ ((xW).view.loc (tile d i) ↦[Finset.univ]{qs} x) ∗ ((tB).view.loc (tile d i) ↦[Finset.univ]{fullShare} ft)
    ∗ (∃ g : S32x1024.Idx → F .f32, ⌜Fetched x n k g⌝ ∗ ((rB).view.loc (tile d i) ↦[Finset.univ]{fullShare} g))
    ∗ semVal (tile d i, SemLoc.dma cc0_scratch6.sem) 0 ∗ owing d i O W)

theorem wp_fetch (O : CellTallies nD τ sig (HIx 1)) (W : Waits sig (HIx 1)) (qs : PosShare TreeShare) (x : S2048x1024.Idx → F .f32)
    (ft : S4x32.Idx → BitVec 32) (s : Fin 4) {n : Nat} (hn : n + 32 ≤ 4096) (hw : TokWords ((rowOf tB s).view.read (Elt F) ft) n) (t : Fin winLoop.trips) (acc : BitVec 32) :
    fetchInv d i O W qs x ft n t.val
      ⊢ run d i (fetch i xW tB rB cc0_scratch6 s t acc) fun _ => fetchInv d i O W qs x ft n (t.val + 1) := by
  unfold fetch fetchInv run
  iintro ⟨#Hmw, Hx, Hw, ⟨%g, %hg, Hg⟩, Hsem, Howe⟩
  ihave Hx' := (pts_view d i (srcWin xW t).view qs x).1 $$ Hx
  icases Hx' with ⟨Hx, Hxr⟩
  ihave Hw' := (pts_view d i (rowOf tB s).view fullShare ft).1 $$ Hw
  icases Hw' with ⟨Hw, Hwr⟩
  ihave Hg' := (pts_view d i (midWin rB t).view fullShare g).1 $$ Hg
  icases Hg' with ⟨Hg, Hgr⟩
  icases Howe with ⟨%W', %hW', HO⟩
  iapply (SparseCore.wp_indirectGatherLocal countersEmb 𝒱₀ (tile d i) none (hg := gathers_S2048x128_S32x128) (default : HIx 1)
      (midWin rB t).view.dmaCredit (fetch_credit t _) (by decide) (tok_lt hn hw)) $$ [Hx Hw Hg Hsem]
  · isplitl [Hx]; · iexact Hx
    isplitl [Hg]; · iexact Hg
    isplitl [Hw]; · iexact Hw
    iexact Hsem
  iintro Hfl
  simp only [SparseCore.waitIndirectGather, Prog.bind_op, Prog.bind_ret, Prog.pure_eq_ret, bind, Prog.bind]
  iapply (Transfers.wp_waitLocalO countersEmb 𝒱₀ (tile d i) none (default : HIx 1) (rfl : (midWin rB t).view.dmaCredit = _)) $$ [Hfl HO]
  · isplitl [Hfl]; · iexact Hfl
    isplitl [HO]; · iexact HO
    iapply (Transfers.MayWaits.elim (SemLoc.dma cc0_scratch6.sem)) $$ Hmw
  iintro ⟨⟨Hg, Hx, Hw⟩, Hsem, HO⟩
  ihave Hx := (pts_view d i (srcWin xW t).view qs x).2 $$ [Hx Hxr]; · isplitl [Hx] <;> iassumption
  ihave Hw := (pts_view d i (rowOf tB s).view fullShare ft).2 $$ [Hw Hwr]; · isplitl [Hw] <;> iassumption
  ihave Hg := (pts_written d i (midWin rB t).view g _) $$ [Hg Hgr]; · isplitl [Hg] <;> iassumption
  ihave HO := (owing_insert d i hW' (SemLoc.dma cc0_scratch6.sem)) $$ HO
  sl_step
  isplitr; · iexact Hmw
  isplitl [Hx]; · iexact Hx
  isplitl [Hw]; · iexact Hw
  isplitl [Hg]
  · iexists _; isplitr
    · ipureintro; exact fetched_step hn hw (tok_lt hn hw) t hg
    · iexact Hg
  isplitl [Hsem]; · iexact Hsem
  iexact HO

/-- The rows of the slots of 32 pairs. -/
abbrev slotPts (ids : S4096.Idx → BitVec 32) (offs : S16.Idx → BitVec 32) (n : Nat) (f : S6144x1024.Idx → F .f32) : sProp 𝕄 :=
  (gW).view.loc (tile d i) ↦[slotSet ids offs n]{fullShare} f

/-- The rows fetched and the stage's slots, the slots' rows as far as they are written, and the copies' semaphore. -/
def spreadInv (O : CellTallies nD τ sig (HIx 1)) (W : Waits sig (HIx 1)) (ids : S4096.Idx → BitVec 32) (offs : S16.Idx → BitVec 32)
    (x : S2048x1024.Idx → F .f32) (fp : S4x32.Idx → BitVec 32) (n : Nat) (k : Nat) : sProp 𝕄 :=
  iprop(Transfers.MayWaits (tile d i) (default : HIx 1) O
    ∗ ((rB).view.loc (tile d i) ↦[Finset.univ]{fullShare} gathered x n) ∗ ((pB).view.loc (tile d i) ↦[Finset.univ]{fullShare} fp)
    ∗ (∃ f : S6144x1024.Idx → F .f32, ⌜Spread ids offs x n k f⌝ ∗ slotPts d i ids offs n f)
    ∗ semVal (tile d i, SemLoc.dma cc0_scratch6.sem) 0 ∗ owing d i O W)

theorem wp_spread (R : Routed ids cnts offs) (O : CellTallies nD τ sig (HIx 1)) (W : Waits sig (HIx 1)) (x : S2048x1024.Idx → F .f32)
    (fp : S4x32.Idx → BitVec 32) (s : Fin 4) {n : Nat} (hn : n + 32 ≤ 4096) (hw : SlotWords ids offs ((rowOf pB s).view.read (Elt F) fp) n)
    (t : Fin winLoop.trips) (acc : BitVec 32) :
    spreadInv d i O W ids offs x fp n t.val
      ⊢ run d i (spread i gW pB rB cc0_scratch6 s t acc) fun _ => spreadInv d i O W ids offs x fp n (t.val + 1) := by
  have hlt := slotw_lt R hn hw
  have hsub := spreadSet_subset (F := F) d i hw hlt t
  unfold spread spreadInv run
  iintro ⟨#Hmw, Hr, Hp, ⟨%f, %hf, Hf⟩, Hsem, Howe⟩
  ihave Hr' := (pts_view d i (midWin rB t).view fullShare (gathered x n)).1 $$ Hr
  icases Hr' with ⟨Hr, Hrr⟩
  ihave Hp' := (pts_view d i (rowOf pB s).view fullShare fp).1 $$ Hp
  icases Hp' with ⟨Hp, Hpr⟩
  ihave Hf' := (SparseCore.pointsTo_namedRows_split (tile d i) (dstWin gW t).view gathers_S6144x128_S32x128.axis
    (SparseCore.rows (F := F) (si := S32) (o := 32) (z := 6144) ((rowOf pB s).view.read (Elt F) fp) rfl hlt) hsub f).1 $$ Hf
  icases Hf' with ⟨Hf, Hfr⟩
  icases Howe with ⟨%W', %hW', HO⟩
  iapply (SparseCore.wp_indirectScatterLocal countersEmb 𝒱₀ (tile d i) none (hg := gathers_S6144x128_S32x128) (default : HIx 1)
      (midWin rB t).view.dmaCredit (by decide) hlt (SparseCore.rows_injective (F := F) (slotw_inj R hn hw))
      (SparseCore.sum_scatterCredit_eq_srcCredit (tile d i) (midWin rB t) (dstWin gW t) gathers_S6144x128_S32x128 rfl _ (fun _ => rfl) (fun _ => rfl))) $$ [Hr Hp Hf Hsem]
  · isplitl [Hr]; · iexact Hr
    isplitl [Hf]; · iexact Hf
    isplitl [Hp]; · iexact Hp
    iexact Hsem
  iintro Hfl
  simp only [SparseCore.waitIndirectScatter, Prog.bind_op, Prog.bind_ret, Prog.pure_eq_ret, bind, Prog.bind]
  iapply (Transfers.wp_waitLocalO countersEmb 𝒱₀ (tile d i) none (default : HIx 1) (rfl : (midWin rB t).view.dmaCredit = _)) $$ [Hfl HO]
  · isplitl [Hfl]; · iexact Hfl
    isplitl [HO]; · iexact HO
    iapply (Transfers.MayWaits.elim (SemLoc.dma cc0_scratch6.sem)) $$ Hmw
  iintro ⟨⟨Hf, Hr, Hp⟩, Hsem, HO⟩
  ihave Hr := (pts_view d i (midWin rB t).view fullShare (gathered x n)).2 $$ [Hr Hrr]; · isplitl [Hr] <;> iassumption
  ihave Hp := (pts_view d i (rowOf pB s).view fullShare fp).2 $$ [Hp Hpr]; · isplitl [Hp] <;> iassumption
  ihave Hfr := (Entails.of_eq (SparseCore.pointsTo_rest_scatterBuf (tile d i) (dstWin gW t).view gathers_S6144x128_S32x128.axis
    (SparseCore.rows (F := F) (si := S32) (o := 32) (z := 6144) ((rowOf pB s).view.read (Elt F) fp) rfl hlt)
    (SparseCore.scatterRowPayload (F := F) (tile d i) (midWin rB t) gathers_S6144x128_S32x128 (gathered x n)) f _)) $$ Hfr
  ihave Hf := (SparseCore.pointsTo_namedRows_split (tile d i) (dstWin gW t).view gathers_S6144x128_S32x128.axis
    (SparseCore.rows (F := F) (si := S32) (o := 32) (z := 6144) ((rowOf pB s).view.read (Elt F) fp) rfl hlt) hsub
    (spreadBuf d i ((rowOf pB s).view.read (Elt F) fp) hlt t (gathered x n) f)).2 $$ [Hf Hfr]
  · isplitl [Hf]; · iexact Hf
    iexact Hfr
  ihave HO := (owing_insert d i hW' (SemLoc.dma cc0_scratch6.sem)) $$ HO
  sl_step
  isplitr; · iexact Hmw
  isplitl [Hr]; · iexact Hr
  isplitl [Hp]; · iexact Hp
  isplitl [Hf]
  · iexists _; isplitr
    · ipureintro; exact spread_step d i R hn hw hlt t x hf
    · iexact Hf
  isplitl [Hsem]; · iexact Hsem
  iexact HO

end Tile

end Cert.Proof.Route

end
-- ==== Proof.RouteStage.lean ====
/-
  A stage of the dispatch tile, and what comes before the stages: the chunk counts, the first slots and the tile's own
  expert numbers copied in, and the counts of the earlier chunks added up.
-/
module

public import proofs.«01_k».proof.Proof.RouteTile
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Route

open Cert.DispatchIdeal Cert.DispatchIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "idW" => (Memref.whole Cert.DispatchIdeal.main_arg0_scv : Memref Cert.DispatchIdeal.sig Kind.scVector Space.hbm Cert.DispatchIdeal.S4096 EltTy.i32)
local notation "cW" => (Memref.whole Cert.DispatchIdeal.main_arg1_scv : Memref Cert.DispatchIdeal.sig Kind.scVector Space.hbm Cert.DispatchIdeal.S32x16 EltTy.i32)
local notation "fW" => (Memref.whole Cert.DispatchIdeal.main_arg2_scv : Memref Cert.DispatchIdeal.sig Kind.scVector Space.hbm Cert.DispatchIdeal.S16 EltTy.i32)
local notation "xW" => (Memref.whole Cert.DispatchIdeal.main_arg3_scv : Memref Cert.DispatchIdeal.sig Kind.scVector Space.hbm Cert.DispatchIdeal.S2048x1024 EltTy.f32)
local notation "pW" => (Memref.whole Cert.DispatchIdeal.main_v0_0_scv : Memref Cert.DispatchIdeal.sig Kind.scVector Space.hbm Cert.DispatchIdeal.S4096 EltTy.i32)
local notation "gW" => (Memref.whole Cert.DispatchIdeal.main_v0_1_scv : Memref Cert.DispatchIdeal.sig Kind.scVector Space.hbm Cert.DispatchIdeal.S6144x1024 EltTy.f32)
local notation "cB" => (Memref.whole Cert.DispatchIdeal.cc0_scratch0 : Memref Cert.DispatchIdeal.sig Kind.scVector Space.vmem Cert.DispatchIdeal.S32x16 EltTy.i32)
local notation "fB" => (Memref.whole Cert.DispatchIdeal.cc0_scratch1 : Memref Cert.DispatchIdeal.sig Kind.scVector Space.vmem Cert.DispatchIdeal.S16 EltTy.i32)
local notation "iB" => (Memref.whole Cert.DispatchIdeal.cc0_scratch2 : Memref Cert.DispatchIdeal.sig Kind.scVector Space.vmem Cert.DispatchIdeal.S128 EltTy.i32)
local notation "pB" => (Memref.whole Cert.DispatchIdeal.cc0_scratch3 : Memref Cert.DispatchIdeal.sig Kind.scVector Space.vmem Cert.DispatchIdeal.S4x32 EltTy.i32)
local notation "tB" => (Memref.whole Cert.DispatchIdeal.cc0_scratch4 : Memref Cert.DispatchIdeal.sig Kind.scVector Space.vmem Cert.DispatchIdeal.S4x32 EltTy.i32)
local notation "rB" => (Memref.whole Cert.DispatchIdeal.cc0_scratch5 : Memref Cert.DispatchIdeal.sig Kind.scVector Space.vmem Cert.DispatchIdeal.S32x1024 EltTy.f32)

section Stage

variable (d : Dev nD) (i : grid0.Coords)
variable {ids : S4096.Idx → BitVec 32} {cnts : S32x16.Idx → BitVec 32} {offs : S16.Idx → BitVec 32}

/-! ## The slots' list -/

/-- The list of the pairs' slots. -/
def posOf (ids : S4096.Idx → BitVec 32) (offs : S16.Idx → BitVec 32) : S4096.Idx → BitVec 32 := fun j => slotWord ids offs (j 0).val

/-- The 32 entries of the list that stage `s` writes. -/
abbrev posRect (s : Fin 4) : Rect S4096 := Rect.unit (s := S4096) (k0_off2 i (BitVec.ofNat 32 (32 * s.val))) S32.size (k0_off2_inb i s)

abbrev posPts (s : Fin 4) (f : S4096.Idx → BitVec 32) : sProp 𝕄 :=
  ((pW).slice (posRect i s) (fun _ => rfl)).view.loc (tile d i) ↦[((pW).slice (posRect i s) (fun _ => rfl)).view.set]{fullShare} f

theorem pos_at (s : Fin 4) (x : S32.Idx) : posOf ids offs (((pW).slice (posRect i s) (fun _ => rfl)).view.emb x) = slotWord ids offs (base i s + (x 0).val) := by
  have e0 : k0_off2 i (BitVec.ofNat 32 (32 * s.val)) 0 = 256 * (i 1).val + 128 * (i 0).val + 32 * s.val := congrFun (k0_off2_eq i s) 0
  unfold posOf
  congr 1
  show k0_off2 i (BitVec.ofNat 32 (32 * s.val)) 0 + 1 * (x 0).val = _
  unfold base chunk; omega

/-- The stage's entries, written with the stage's slots, hold the value. -/
theorem posPts_eq (s : Fin 4) (fo : S4096.Idx → BitVec 32) (w : S32.Idx → BitVec 32) (hw : SlotWords ids offs w (base i s)) :
    (posPts d i s (((pW).slice (posRect i s) (fun _ => rfl)).view.writes (Elt F) fo [⟨Rect.whole (posRect i s).shape, w⟩]) : sProp 𝕄)
      = posPts (F := F) d i s (posOf ids offs) := by
  refine pointsTo_congr fun j hj => ?_
  obtain ⟨x, -, rfl⟩ := Finset.mem_map.mp (show j ∈ Finset.univ.map ((pW).slice (posRect i s) (fun _ => rfl)).view.emb from hj)
  have h := View.read_writes_cons_hit (Val := Elt F) ((pW).slice (posRect i s) (fun _ => rfl)).view fo (Rect.whole (posRect i s).shape) w [] x x
    ((Rect.whole (posRect i s).shape).emb_eq_of_coords x x fun a => show (x a).val = 0 + 1 * (x a).val by omega)
  rw [View.read_apply, cast_eq] at h
  rw [h, hw]
  exact (pos_at i s x).symm

/-! ## A stage -/

/-- What the stages share: the tokens' rows, the tile's expert numbers, the scratch buffers, the copies' semaphore, and the waits. -/
def held (O : CellTallies nD τ sig (HIx 1)) (W : Waits sig (HIx 1)) (qs : PosShare TreeShare) (ids : S4096.Idx → BitVec 32) (x : S2048x1024.Idx → F .f32) : sProp 𝕄 :=
  iprop(Transfers.MayWaits (tile d i) (default : HIx 1) O
    ∗ ((xW).view.loc (tile d i) ↦[Finset.univ]{qs} x) ∗ ((iB).view.loc (tile d i) ↦[Finset.univ]{fullShare} own i ids)
    ∗ (∃ f, (pB).view.loc (tile d i) ↦[Finset.univ]{fullShare} f) ∗ (∃ f, (tB).view.loc (tile d i) ↦[Finset.univ]{fullShare} f)
    ∗ (∃ f, (rB).view.loc (tile d i) ↦[Finset.univ]{fullShare} f)
    ∗ semVal (tile d i, SemLoc.dma cc0_scratch6.sem) 0 ∗ owing d i O W)

attribute [local irreducible] half sumCounts

set_option maxHeartbeats 4000000 in
theorem wp_stage (R : Routed ids cnts offs) (O : CellTallies nD τ sig (HIx 1)) (W : Waits sig (HIx 1)) (qs : PosShare TreeShare) (x : S2048x1024.Idx → F .f32)
    (s : Fin 4) (semP : DmaSems sig S_) {b : IVec S16 32} (hb : At ids offs (base i s) b) (fo : S4096.Idx → BitVec 32) (f₀ : S6144x1024.Idx → F .f32) :
    iprop(held d i O W qs ids x ∗ posPts (F := F) d i s fo ∗ slotPts d i ids offs (base i s) f₀ ∗ semVal (tile d i, SemLoc.dma semP.sem) 0)
      ⊢ run d i (stage i xW pW gW iB pB tB rB cc0_scratch6 s semP b)
          fun b' => iprop(⌜At ids offs (base i s + 32) b'⌝ ∗ held d i O W qs ids x ∗ posPts (F := F) d i s (posOf ids offs)
            ∗ slotPts d i ids offs (base i s) (placed ids offs x f₀) ∗ semVal (tile d i, SemLoc.dma semP.sem) 0) := by
  have hn := base_le i s
  unfold held stage run
  iintro ⟨⟨#Hmw, Hx, Hi, ⟨%fp, Hp⟩, ⟨%ft, Ht⟩, ⟨%fr, Hr⟩, Hsem, %W', %hW', HO⟩, Hpos, Hslot, HsP⟩
  ihave Hh := (show iprop(((iB).view.loc (tile d i) ↦[Finset.univ]{fullShare} own i ids) ∗ ((pB).view.loc (tile d i) ↦[Finset.univ]{fullShare} fp)
      ∗ ((tB).view.loc (tile d i) ↦[Finset.univ]{fullShare} ft)) ⊢ (halfInv d i ids offs s (16 * (0 : Fin 2).val) : sProp 𝕄) from by
    unfold halfInv
    iintro ⟨Hi, Hp, Ht⟩
    isplitl [Hi]; · iexact Hi
    isplitl [Hp]
    · iexists fp; isplitr
      · ipureintro; exact rowTo_zero _ _ _
      · iexact Hp
    · iexists ft; isplitr
      · ipureintro; exact rowTo_zero _ _ _
      · iexact Ht) $$ [Hi Hp Ht]
  · isplitl [Hi]; · iexact Hi
    isplitl [Hp] <;> iassumption
  iapply (wp_half_bind d i R s 0 (b := b) hb) $$ Hh
  iintro %b1 ⟨%hb1, Hh⟩
  iapply (wp_half_bind d i R s 1 (b := b1) hb1) $$ Hh
  iintro %b2 ⟨%hb2, Hh⟩
  unfold halfInv
  icases Hh with ⟨Hi, ⟨%fp', %hp, Hp⟩, %ft', %ht, Ht⟩
  unfold run
  have hwp : SlotWords ids offs ((rowOf pB s).view.read (Elt F) fp') (base i s) := fun k => (row_read (F := F) fp' s k).trans (hp (k 0) (k 0).isLt)
  have hwt : TokWords ((rowOf tB s).view.read (Elt F) ft') (base i s) := fun k => (row_read' (F := F) ft' s k).trans (ht (k 0) (k 0).isLt)
  sl_exec
  ihave HO := (owing_insert d i (W := W) (O := O) (W' := W') hW' (SemLoc.dma (SemArray.sem semP))) $$ HO
  -- the tokens' rows, window by window
  iapply (Scf.wp_for_bind frame (wpE (defs₀ (F := F)) 𝒱₀ (tile d i) none) Set.univ 0#32 (Scalar.addi 0#32 8#32) 1#32 winLoop_ok 0#32 _
      (fun k _ => fetchInv d i O W qs x ft' (base i s) k)
      (fun k acc => wp_fetch d i O W qs x ft' s hn hwt k acc)) $$ [Hx Ht Hr Hsem HO]
  · unfold fetchInv
    isplitr; · iexact Hmw
    isplitl [Hx]; · iexact Hx
    isplitl [Ht]; · iexact Ht
    isplitl [Hr]
    · iexists fr; isplitr
      · ipureintro; exact fetched_zero _ _ _
      · iexact Hr
    isplitl [Hsem]; · iexact Hsem
    iexact HO
  iintro %_ HI
  rw [show Scf.trips (0#32) (Scalar.addi 0#32 8#32) 1#32 = 8 from winLoop_trips]
  unfold fetchInv
  icases HI with ⟨-, Hx, Ht, ⟨%g, %hg, Hr⟩, Hsem, HO⟩
  obtain rfl := fetched_all hg
  -- the slots' rows, window by window
  iapply (Scf.wp_for_bind frame (wpE (defs₀ (F := F)) 𝒱₀ (tile d i) none) Set.univ 0#32 (Scalar.addi 0#32 8#32) 1#32 winLoop_ok 0#32 _
      (fun k _ => spreadInv d i O W ids offs x fp' (base i s) k)
      (fun k acc => wp_spread d i R O W x fp' s hn hwp k acc)) $$ [Hp Hr Hslot Hsem HO]
  · unfold spreadInv
    isplitr; · iexact Hmw
    isplitl [Hr]; · iexact Hr
    isplitl [Hp]; · iexact Hp
    isplitl [Hslot]
    · iexists f₀; isplitr
      · ipureintro; exact spread_zero _ _ _
      · iexact Hslot
    isplitl [Hsem]; · iexact Hsem
    iexact HO
  iintro %_ HI
  rw [show Scf.trips (0#32) (Scalar.addi 0#32 8#32) 1#32 = 8 from winLoop_trips]
  unfold spreadInv
  icases HI with ⟨-, Hr, Hp, ⟨%f, %hf, Hslot⟩, Hsem, HO⟩
  sl_step
  isplitr
  · ipureintro; exact hb2
  isplitl [Hx Hi Hp Ht Hr Hsem HO]
  · isplitr; · iexact Hmw
    isplitl [Hx]; · iexact Hx
    isplitl [Hi]; · iexact Hi
    isplitl [Hp]; · iexists _; iexact Hp
    isplitl [Ht]; · iexists _; iexact Ht
    isplitl [Hr]; · iexists _; iexact Hr
    isplitl [Hsem]; · iexact Hsem
    iexact HO
  isplitl [Hpos]
  · iapply (Entails.of_eq (posPts_eq (F := F) d i s _ (wp_stage.sl.dma0 (F := F) s fp') (by unfold wp_stage.sl.dma0; exact hwp))); iexact Hpos
  isplitl [Hslot]
  · iapply (Entails.of_eq (pointsTo_congr (spread_all R hn hf f₀))); iexact Hslot
  iexact HsP

/-! ## Before the stages -/

set_option maxHeartbeats 4000000 in
theorem wp_start (R : Routed ids cnts offs) (O : CellTallies nD τ sig (HIx 1)) (W : Waits sig (HIx 1)) (qs : PosShare TreeShare) (r0 r1 r2 : DmaSems sig S_) :
    iprop(Transfers.MayWaits (tile d i) (default : HIx 1) O
        ∗ ((idW).view.loc (tile d i) ↦[Finset.univ]{qs} ids) ∗ ((cW).view.loc (tile d i) ↦[Finset.univ]{qs} cnts) ∗ ((fW).view.loc (tile d i) ↦[Finset.univ]{qs} offs)
        ∗ (∃ f, (cB).view.loc (tile d i) ↦[Finset.univ]{fullShare} f) ∗ (∃ f, (fB).view.loc (tile d i) ↦[Finset.univ]{fullShare} f)
        ∗ (∃ f, (iB).view.loc (tile d i) ↦[Finset.univ]{fullShare} f)
        ∗ semVal (tile d i, SemLoc.dma r0.sem) 0 ∗ semVal (tile d i, SemLoc.dma r1.sem) 0 ∗ semVal (tile d i, SemLoc.dma r2.sem) 0 ∗ owing d i O W)
      ⊢ run (F := F) d i (start i idW cW (Memref.isWhole_whole _) fW (Memref.isWhole_whole _) cB (Memref.isWhole_whole _) fB (Memref.isWhole_whole _) iB (Memref.isWhole_whole _) r0 r1 r2)
          fun b => iprop(⌜At ids offs (base i 0) b⌝
            ∗ ((idW).view.loc (tile d i) ↦[Finset.univ]{qs} ids) ∗ ((cW).view.loc (tile d i) ↦[Finset.univ]{qs} cnts) ∗ ((fW).view.loc (tile d i) ↦[Finset.univ]{qs} offs)
            ∗ (∃ f, (cB).view.loc (tile d i) ↦[Finset.univ]{fullShare} f) ∗ (∃ f, (fB).view.loc (tile d i) ↦[Finset.univ]{fullShare} f)
            ∗ ((iB).view.loc (tile d i) ↦[Finset.univ]{fullShare} own i ids)
            ∗ semVal (tile d i, SemLoc.dma r0.sem) 0 ∗ semVal (tile d i, SemLoc.dma r1.sem) 0 ∗ semVal (tile d i, SemLoc.dma r2.sem) 0 ∗ owing d i O W) := by
  have hs := fun b hb => wp_sumCounts (F := F) d i R b hb 32 (Nat.le_refl _)
  unfold start
  generalize sumCounts (F := F) i cB = P at hs ⊢
  unfold run at hs ⊢
  iintro ⟨#Hmw, Hid, Hc, Hf, ⟨%gc, HcB⟩, ⟨%gf, HfB⟩, ⟨%gi, HiB⟩, Hr0, Hr1, Hr2, %W', %hW', HO⟩
  sl_exec
  have ec : View.write (Elt F) (cB).view gc wp_start.sl.dma0 Finset.univ = cnts := (View.write_whole_univ _ _ _).trans (View.read_whole main_arg1_scv _)
  have ef : View.write (Elt F) (fB).view gf wp_start.sl.dma0_1 Finset.univ = offs := (View.write_whole_univ _ _ _).trans (View.read_whole main_arg2_scv _)
  have ei : View.write (Elt F) (iB).view gi (wp_start.sl.dma0_2 i) Finset.univ = own i ids := (View.write_whole_univ _ _ _).trans (read_own i ids)
  rw [ec, ei]
  rw [ef, read_first (F := F) offs]
  ihave HO := (owing_insert d i (W := W) (O := O) (W' := insert (SemLoc.dma (SemArray.sem r1), default) (insert (SemLoc.dma (SemArray.sem r0), default) W')) (fun p hp => by
    rcases Finset.mem_insert.mp hp with hp | hp
    · exact .inr (hp ▸ rfl)
    · rcases Finset.mem_insert.mp hp with hp | hp
      · exact .inr (hp ▸ rfl)
      · exact hW' p hp) (SemLoc.dma (SemArray.sem r2))) $$ HO
  iapply (wp_wand frame (wpE (defs₀ (F := F)) 𝒱₀ (tile d i) none) Set.univ) $$ [HcB]
  · iapply (hs _ (at_zero i)); iexact HcB
  iintro %b ⟨%hb', HcB⟩
  isplitr
  · ipureintro
    have h := chunk_lt i
    rw [Nat.min_eq_right (by omega)] at hb'
    exact hb'
  isplitl [Hid]; · iexact Hid
  isplitl [Hc]; · iexact Hc
  isplitl [Hf]; · iexact Hf
  isplitl [HcB]; · iexists _; iexact HcB
  isplitl [HfB]; · iexists _; iexact HfB
  isplitl [HiB]; · iexact HiB
  isplitl [Hr0]; · iexact Hr0
  isplitl [Hr1]; · iexact Hr1
  isplitl [Hr2]; · iexact Hr2
  iexact HO

end Stage

end Cert.Proof.Route

end
-- ==== Proof.RouteTask.lean ====
/-
  A dispatch tile's whole task: its scratch buffers and semaphores out of what the launch deals it, the four stages one
  after the other, and everything handed back, the tile's entries of the slots' list and the rows of its pairs' slots at
  their values.
-/
module

public import proofs.«01_k».proof.Proof.RouteStage
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Route

open Cert.DispatchIdeal Cert.DispatchIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "idW" => (Memref.whole Cert.DispatchIdeal.main_arg0_scv : Memref Cert.DispatchIdeal.sig Kind.scVector Space.hbm Cert.DispatchIdeal.S4096 EltTy.i32)
local notation "cW" => (Memref.whole Cert.DispatchIdeal.main_arg1_scv : Memref Cert.DispatchIdeal.sig Kind.scVector Space.hbm Cert.DispatchIdeal.S32x16 EltTy.i32)
local notation "fW" => (Memref.whole Cert.DispatchIdeal.main_arg2_scv : Memref Cert.DispatchIdeal.sig Kind.scVector Space.hbm Cert.DispatchIdeal.S16 EltTy.i32)
local notation "xW" => (Memref.whole Cert.DispatchIdeal.main_arg3_scv : Memref Cert.DispatchIdeal.sig Kind.scVector Space.hbm Cert.DispatchIdeal.S2048x1024 EltTy.f32)
local notation "pW" => (Memref.whole Cert.DispatchIdeal.main_v0_0_scv : Memref Cert.DispatchIdeal.sig Kind.scVector Space.hbm Cert.DispatchIdeal.S4096 EltTy.i32)
local notation "gW" => (Memref.whole Cert.DispatchIdeal.main_v0_1_scv : Memref Cert.DispatchIdeal.sig Kind.scVector Space.hbm Cert.DispatchIdeal.S6144x1024 EltTy.f32)
local notation "cB" => (Memref.whole Cert.DispatchIdeal.cc0_scratch0 : Memref Cert.DispatchIdeal.sig Kind.scVector Space.vmem Cert.DispatchIdeal.S32x16 EltTy.i32)
local notation "fB" => (Memref.whole Cert.DispatchIdeal.cc0_scratch1 : Memref Cert.DispatchIdeal.sig Kind.scVector Space.vmem Cert.DispatchIdeal.S16 EltTy.i32)
local notation "iB" => (Memref.whole Cert.DispatchIdeal.cc0_scratch2 : Memref Cert.DispatchIdeal.sig Kind.scVector Space.vmem Cert.DispatchIdeal.S128 EltTy.i32)
local notation "pB" => (Memref.whole Cert.DispatchIdeal.cc0_scratch3 : Memref Cert.DispatchIdeal.sig Kind.scVector Space.vmem Cert.DispatchIdeal.S4x32 EltTy.i32)
local notation "tB" => (Memref.whole Cert.DispatchIdeal.cc0_scratch4 : Memref Cert.DispatchIdeal.sig Kind.scVector Space.vmem Cert.DispatchIdeal.S4x32 EltTy.i32)
local notation "rB" => (Memref.whole Cert.DispatchIdeal.cc0_scratch5 : Memref Cert.DispatchIdeal.sig Kind.scVector Space.vmem Cert.DispatchIdeal.S32x1024 EltTy.f32)

variable (d : Dev nD) (i : grid0.Coords)
variable {ids : S4096.Idx → BitVec 32} {cnts : S32x16.Idx → BitVec 32} {offs : S16.Idx → BitVec 32}

/-! ## A family picked out of a set -/

/-- The members of a set that an injective family names, and the rest. -/
theorem bigSep_family {I J : Type} [DecidableEq I] [DecidableEq J] [Fintype J] (s : Finset I) (f : J ↪ I) (hf : ∀ j, f j ∈ s) (Φ : I → sProp 𝕄) :
    bigSep s Φ = iprop((bigSep Finset.univ fun j => Φ (f j)) ∗ bigSep (s \ Finset.univ.map f) Φ) := by
  have h : Finset.univ.map f ⊆ s := fun x hx => by
    obtain ⟨j, -, rfl⟩ := Finset.mem_map.mp hx
    exact hf j
  conv_lhs => rw [← Finset.union_sdiff_of_subset h]
  rw [BI.bigSep_union Finset.disjoint_sdiff, BI.bigSep_map]
  rfl

/-- Four resources, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- Six resources, one by one. -/
theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} by decide]
  iterate 5 rw [SparseCore.bigSep_insert' (by decide)]
  rw [bigSep_singleton]

/-- Eight resources, one by one. -/
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

/-- A tile's semaphores, by number. -/
def semOf : Fin 8 ↪ GSem nD τ sig := ⟨fun k => (tile d i, .dma k), fun a b h => by
  have := (Prod.mk.inj h).2
  exact SemLoc.dma.inj this⟩

theorem semOf_own (k : Fin 8) : semOf d i k ∈ ownCells (tile d i) :=
  mem_ownCells.mpr ⟨rfl, by show (SemLoc.dma k : SemLoc sig).isScoped .scVector = true; revert k; decide⟩

/-- A tile's scratch buffers, by number. -/
def scratchOf (k : Fin 6) : Ref sig .scVector := ⟨.vmem, k, rfl⟩

theorem scratchOf_injective : Function.Injective scratchOf := by unfold scratchOf; decide

/-- The same among the device's buffers. -/
def bufOf : Fin 6 ↪ DevRef τ sig := ⟨fun k => (tile d i).2.devRef (scratchOf k), fun _ _ h => scratchOf_injective (Proc.devRef_injective _ h)⟩

theorem bufOf_own (k : Fin 6) : bufOf d i k ∈ ownRefs (τ := τ) (sig := sig) (tile d i).2 :=
  SparseCore.Cfg.mem_ownRefs_of_owner rfl

/-- A semaphore of the tile's at zero. -/
abbrev sem0 (s : DmaSems sig S_) : sProp 𝕄 := semVal (tile d i, SemLoc.dma s.sem) 0

/-- The semaphores that a tile's task uses, and the rest of its own. -/
theorem ownSems0_eq :
    (ownSems0 (tile d i) : sProp 𝕄)
      = iprop((sem0 d i cc0_scratch6
          ∗ sem0 d i cc0_scoped0 ∗ sem0 d i cc0_scoped1 ∗ sem0 d i cc0_scoped2 ∗ sem0 d i cc0_scoped3 ∗ sem0 d i cc0_scoped4 ∗ sem0 d i cc0_scoped5
          ∗ sem0 d i cc0_scoped6)
        ∗ bigSep (ownCells (tile d i) \ Finset.univ.map (semOf d i)) fun g => semVal g 0) := by
  unfold SparseCore.Cfg.ownSems0
  rw [bigSep_family _ (semOf d i) (semOf_own d i), bigSep_eight]
  rfl

/-- The scratch buffers of a tile's task at any contents, and the rest of its own. -/
theorem ownBufs_eq :
    (ownBufs (tile d i) : sProp 𝕄)
      = iprop(((∃ f, (cB).view.loc (tile d i) ↦[Finset.univ]{fullShare} f) ∗ (∃ f, (fB).view.loc (tile d i) ↦[Finset.univ]{fullShare} f)
          ∗ (∃ f, (iB).view.loc (tile d i) ↦[Finset.univ]{fullShare} f) ∗ (∃ f, (pB).view.loc (tile d i) ↦[Finset.univ]{fullShare} f)
          ∗ (∃ f, (tB).view.loc (tile d i) ↦[Finset.univ]{fullShare} f) ∗ (∃ f, (rB).view.loc (tile d i) ↦[Finset.univ]{fullShare} f))
        ∗ bigSep (ownRefs (τ := τ) (tile d i).2 \ Finset.univ.map (bufOf d i)) fun b => iprop(∃ f, ((d, b) : Loc nD τ sig) ↦{fullShare} f)) := by
  unfold SparseCore.Cfg.ownBufs
  rw [bigSep_family _ (bufOf d i) (bufOf_own d i), bigSep_six]
  rfl

/-! ## The task -/

/-- What a tile's task is handed and hands back: shares of the four inputs, its entries of the slots' list, and the rows of its pairs' slots. -/
def task (qs : PosShare TreeShare) (ids : S4096.Idx → BitVec 32) (cnts : S32x16.Idx → BitVec 32) (offs : S16.Idx → BitVec 32) (x : S2048x1024.Idx → F .f32)
    (fp : S4096.Idx → BitVec 32) (fg : S6144x1024.Idx → F .f32) : sProp 𝕄 :=
  iprop(((idW).view.loc (tile d i) ↦[Finset.univ]{qs} ids) ∗ ((cW).view.loc (tile d i) ↦[Finset.univ]{qs} cnts) ∗ ((fW).view.loc (tile d i) ↦[Finset.univ]{qs} offs)
    ∗ ((xW).view.loc (tile d i) ↦[Finset.univ]{qs} x)
    ∗ (bigSep Finset.univ fun s : Fin 4 => posPts (F := F) d i s fp) ∗ bigSep Finset.univ fun s : Fin 4 => slotPts d i ids offs (base i s) fg)

/-- A stage at the head of a program. -/
theorem wp_stage_bind (R : Routed ids cnts offs) (O : CellTallies nD τ sig (HIx 1)) (W : Waits sig (HIx 1)) (qs : PosShare TreeShare) (x : S2048x1024.Idx → F .f32)
    (s : Fin 4) (semP : DmaSems sig S_) {b : IVec S16 32} (hb : At ids offs (base i s) b) (fo : S4096.Idx → BitVec 32) (f₀ : S6144x1024.Idx → F .f32)
    {α : Type} (k : IVec S16 32 → TileProg F i α) (Q : α → sProp 𝕄) :
    iprop(held d i O W qs ids x ∗ posPts (F := F) d i s fo ∗ slotPts d i ids offs (base i s) f₀ ∗ sem0 d i semP)
      ⊢ iprop((∀ b', iprop(⌜At ids offs (base i s + 32) b'⌝ ∗ held d i O W qs ids x ∗ posPts (F := F) d i s (posOf ids offs)
            ∗ slotPts d i ids offs (base i s) (placed ids offs x f₀) ∗ sem0 d i semP) -∗ run d i (k b') Q)
          -∗ run d i (stage i xW pW gW iB pB tB rB cc0_scratch6 s semP b >>= k) Q) := by
  have h := wp_stage (F := F) d i R O W qs x s semP hb fo f₀
  generalize stage (F := F) i xW pW gW iB pB tB rB cc0_scratch6 s semP b = P at h ⊢
  unfold run
  rw [wp_bind]
  iintro H Hk
  iapply (wp_wand frame (wpE (defs₀ (F := F)) 𝒱₀ (tile d i) none) Set.univ) $$ [H]
  · iapply h; iexact H
  iintro %b' H
  iapply Hk
  iexact H

/-- What comes before the stages, at the head of a program. -/
theorem wp_start_bind (R : Routed ids cnts offs) (O : CellTallies nD τ sig (HIx 1)) (W : Waits sig (HIx 1)) (qs : PosShare TreeShare) (r0 r1 r2 : DmaSems sig S_)
    {α : Type} (k : IVec S16 32 → TileProg F i α) (Q : α → sProp 𝕄) :
    iprop(Transfers.MayWaits (tile d i) (default : HIx 1) O
        ∗ ((idW).view.loc (tile d i) ↦[Finset.univ]{qs} ids) ∗ ((cW).view.loc (tile d i) ↦[Finset.univ]{qs} cnts) ∗ ((fW).view.loc (tile d i) ↦[Finset.univ]{qs} offs)
        ∗ (∃ f, (cB).view.loc (tile d i) ↦[Finset.univ]{fullShare} f) ∗ (∃ f, (fB).view.loc (tile d i) ↦[Finset.univ]{fullShare} f)
        ∗ (∃ f, (iB).view.loc (tile d i) ↦[Finset.univ]{fullShare} f)
        ∗ sem0 d i r0 ∗ sem0 d i r1 ∗ sem0 d i r2 ∗ owing d i O W)
      ⊢ iprop((∀ b, iprop(⌜At ids offs (base i 0) b⌝
            ∗ ((idW).view.loc (tile d i) ↦[Finset.univ]{qs} ids) ∗ ((cW).view.loc (tile d i) ↦[Finset.univ]{qs} cnts) ∗ ((fW).view.loc (tile d i) ↦[Finset.univ]{qs} offs)
            ∗ (∃ f, (cB).view.loc (tile d i) ↦[Finset.univ]{fullShare} f) ∗ (∃ f, (fB).view.loc (tile d i) ↦[Finset.univ]{fullShare} f)
            ∗ ((iB).view.loc (tile d i) ↦[Finset.univ]{fullShare} own i ids)
            ∗ sem0 d i r0 ∗ sem0 d i r1 ∗ sem0 d i r2 ∗ owing d i O W) -∗ run d i (k b) Q)
          -∗ run d i (start i idW cW (Memref.isWhole_whole _) fW (Memref.isWhole_whole _) cB (Memref.isWhole_whole _) fB (Memref.isWhole_whole _) iB (Memref.isWhole_whole _) r0 r1 r2 >>= k) Q) := by
  have h := wp_start (F := F) d i R O W qs r0 r1 r2
  generalize start (F := F) i idW cW (Memref.isWhole_whole _) fW (Memref.isWhole_whole _) cB (Memref.isWhole_whole _) fB (Memref.isWhole_whole _) iB (Memref.isWhole_whole _) r0 r1 r2 = P at h ⊢
  unfold run
  rw [wp_bind]
  iintro H Hk
  iapply (wp_wand frame (wpE (defs₀ (F := F)) 𝒱₀ (tile d i) none) Set.univ) $$ [H]
  · iapply h; iexact H
  iintro %b' H
  iapply Hk
  iexact H

attribute [local irreducible] stage start

/-- The task of a tile: it terminates, and its entries and its rows hold the values. -/
theorem tile_body (hF : (K (F := F)).Facts) (R : Routed ids cnts offs) (O : CellTallies nD τ sig (HIx 1)) (W : Waits sig (HIx 1)) (hO : ∀ g, O g none = 0)
    (qs : PosShare TreeShare) (x : S2048x1024.Idx → F .f32) (fp : S4096.Idx → BitVec 32) (f₀ : S6144x1024.Idx → F .f32) :
    iprop(levAts (K (F := F)).L (K (F := F)).lev ∗ emp ∗ task d i qs ids cnts offs x fp f₀
        ∗ scopedBufs (tile d i) ∗ scopedSems0 (tile d i) ∗ owes (tile d i) O W)
      ⊢ run d i (cc0__dispatch_body i idW (Memref.isWhole_whole _) cW (Memref.isWhole_whole _) fW (Memref.isWhole_whole _) xW (Memref.isWhole_whole _) pW (Memref.isWhole_whole _)
            gW (Memref.isWhole_whole _) cB (Memref.isWhole_whole _) fB (Memref.isWhole_whole _) iB (Memref.isWhole_whole _) pB (Memref.isWhole_whole _) tB (Memref.isWhole_whole _)
            rB (Memref.isWhole_whole _) cc0_scratch6
            cc0_scoped0 cc0_scoped1 cc0_scoped2 cc0_scoped3 cc0_scoped4 cc0_scoped5 cc0_scoped6)
          fun _ => iprop(task d i qs ids cnts offs x (posOf ids offs) (placed ids offs x f₀) ∗ scopedBufs (tile d i) ∗ scopedSems0 (tile d i) ∗ owing d i O W) := by
  rw [body_eq, (K (F := F)).scopedBufs_V hF d ((i 0).castLE hcore0) ((i 1).castLE hsub0), SparseCore.Cfg.scopedSems0_V (Val := Elt F) d ((i 0).castLE hcore0) ((i 1).castLE hsub0),
    ownSems0_eq, ownBufs_eq]
  unfold task
  rw [bigSep_four, bigSep_four, bigSep_four, bigSep_four]
  iintro ⟨#Hlv, -, ⟨Hid, Hc, Hf, Hx, ⟨Hp0, Hp1, Hp2, Hp3⟩, Hg0, Hg1, Hg2, Hg3⟩, ⟨⟨HcB, HfB, HiB, HpB, HtB, HrB⟩, Hbufs⟩,
    ⟨⟨Hsem, Hr0, Hr1, Hr2, Hs0, Hs1, Hs2, Hs3⟩, Hsems⟩, HO⟩
  ihave #Hmw := (show levAts (K (F := F)).L (K (F := F)).lev ⊢ Transfers.MayWaits (tile d i) (default : HIx 1) O from
    (K (F := F)).mayWaits_none (thr := tile d i) hO) $$ Hlv
  iapply (wp_start_bind d i R O W qs cc0_scoped0 cc0_scoped1 cc0_scoped2) $$ [Hid Hc Hf HcB HfB HiB Hr0 Hr1 Hr2 HO]
  · isplitr; · iexact Hmw
    isplitl [Hid]; · iexact Hid
    isplitl [Hc]; · iexact Hc
    isplitl [Hf]; · iexact Hf
    isplitl [HcB]; · iexact HcB
    isplitl [HfB]; · iexact HfB
    isplitl [HiB]; · iexact HiB
    isplitl [Hr0]; · iexact Hr0
    isplitl [Hr1]; · iexact Hr1
    isplitl [Hr2]; · iexact Hr2
    iexists W; isplitr
    · ipureintro; exact fun p hp => .inl hp
    · iexact HO
  iintro %b0 ⟨%hb0, Hid, Hc, Hf, HcB, HfB, HiB, Hr0, Hr1, Hr2, HO⟩
  ihave Hheld := (show iprop(Transfers.MayWaits (tile d i) (default : HIx 1) O
      ∗ ((xW).view.loc (tile d i) ↦[Finset.univ]{qs} x) ∗ ((iB).view.loc (tile d i) ↦[Finset.univ]{fullShare} own i ids)
      ∗ (∃ f, (pB).view.loc (tile d i) ↦[Finset.univ]{fullShare} f) ∗ (∃ f, (tB).view.loc (tile d i) ↦[Finset.univ]{fullShare} f)
      ∗ (∃ f, (rB).view.loc (tile d i) ↦[Finset.univ]{fullShare} f) ∗ sem0 d i cc0_scratch6 ∗ owing d i O W) ⊢ held d i O W qs ids x from Entails.of_eq rfl)
    $$ [Hx HiB HpB HtB HrB Hsem HO]
  · isplitr; · iexact Hmw
    isplitl [Hx]; · iexact Hx
    isplitl [HiB]; · iexact HiB
    isplitl [HpB]; · iexact HpB
    isplitl [HtB]; · iexact HtB
    isplitl [HrB]; · iexact HrB
    isplitl [Hsem] <;> iassumption
  iapply (wp_stage_bind d i R O W qs x 0 cc0_scoped3 hb0 fp f₀) $$ [Hheld Hp0 Hg0 Hs0]
  · isplitl [Hheld]; · iexact Hheld
    isplitl [Hp0]; · iexact Hp0
    isplitl [Hg0] <;> iassumption
  iintro %b1 ⟨%hb1, Hheld, Hp0, Hg0, Hs0⟩
  iapply (wp_stage_bind d i R O W qs x 1 cc0_scoped4 hb1 fp f₀) $$ [Hheld Hp1 Hg1 Hs1]
  · isplitl [Hheld]; · iexact Hheld
    isplitl [Hp1]; · iexact Hp1
    isplitl [Hg1] <;> iassumption
  iintro %b2 ⟨%hb2, Hheld, Hp1, Hg1, Hs1⟩
  iapply (wp_stage_bind d i R O W qs x 2 cc0_scoped5 hb2 fp f₀) $$ [Hheld Hp2 Hg2 Hs2]
  · isplitl [Hheld]; · iexact Hheld
    isplitl [Hp2]; · iexact Hp2
    isplitl [Hg2] <;> iassumption
  iintro %b3 ⟨%hb3, Hheld, Hp2, Hg2, Hs2⟩
  iapply (wp_stage_bind d i R O W qs x 3 cc0_scoped6 hb3 fp f₀) $$ [Hheld Hp3 Hg3 Hs3]
  · isplitl [Hheld]; · iexact Hheld
    isplitl [Hp3]; · iexact Hp3
    isplitl [Hg3] <;> iassumption
  iintro %b4 ⟨%hb4, Hheld, Hp3, Hg3, Hs3⟩
  unfold run held
  icases Hheld with ⟨-, Hx, HiB, HpB, HtB, HrB, Hsem, HO⟩
  rw [Prog.pure_eq_ret, wp_ret]
  imodintro
  isplitl [Hid Hc Hf Hx Hp0 Hp1 Hp2 Hp3 Hg0 Hg1 Hg2 Hg3]
  · isplitl [Hid]; · iexact Hid
    isplitl [Hc]; · iexact Hc
    isplitl [Hf]; · iexact Hf
    isplitl [Hx]; · iexact Hx
    isplitl [Hp0 Hp1 Hp2 Hp3]
    · isplitl [Hp0]; · iexact Hp0
      isplitl [Hp1]; · iexact Hp1
      isplitl [Hp2] <;> iassumption
    · isplitl [Hg0]; · iexact Hg0
      isplitl [Hg1]; · iexact Hg1
      isplitl [Hg2] <;> iassumption
  isplitl [HcB HfB HiB HpB HtB HrB Hbufs]
  · isplitr [Hbufs]
    · isplitl [HcB]; · iexact HcB
      isplitl [HfB]; · iexact HfB
      isplitl [HiB]; · iexists _; iexact HiB
      isplitl [HpB]; · iexact HpB
      isplitl [HtB] <;> iassumption
    · iexact Hbufs
  isplitr [HO]
  · isplitr [Hsems]
    · isplitl [Hsem]; · iexact Hsem
      isplitl [Hr0]; · iexact Hr0
      isplitl [Hr1]; · iexact Hr1
      isplitl [Hr2]; · iexact Hr2
      isplitl [Hs0]; · iexact Hs0
      isplitl [Hs1]; · iexact Hs1
      isplitl [Hs2] <;> iassumption
    · iexact Hsems
  iexact HO

end Cert.Proof.Route

end
-- ==== Proof.RouteLaunch.lean ====
/-
  The dispatch program's run. Before the call the inputs are divided among the 32 tiles as read shares, the slots' list as
  its entries, and the slots' rows as the slots of each tile's pairs, with the rows of no pair's slot kept back; each tile
  gives back its entries and its slots at their values. Then the host's own operations, which read the rows at the listed
  slots. The run is stated once, over any float values: every weakly fair execution terminates, the buffers are as the
  host's operations leave them, and every semaphore counter is zero.
-/
module

public import proofs.«01_k».proof.Proof.RouteTask
public import Idealize.ShloMosaic.Lib.StableHlo.Run
public import Idealize.ShloMosaic.Lib.Pipeline.Frame
public import Idealize.ShloMosaic.Lib.SparseCore.Quiescent
public import Idealize.ShloMosaic.Lib.SparseCore.Ops
public import Idealize.ShloMosaic.Lib.Pipeline.Kit
public import Idealize.ShloMosaic.Lib.Tactic

@[expose] public section

noncomputable section

namespace Cert.Proof.Route

open Cert.DispatchIdeal Cert.DispatchIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "idW" => (Memref.whole Cert.DispatchIdeal.main_arg0_scv : Memref Cert.DispatchIdeal.sig Kind.scVector Space.hbm Cert.DispatchIdeal.S4096 EltTy.i32)
local notation "cW" => (Memref.whole Cert.DispatchIdeal.main_arg1_scv : Memref Cert.DispatchIdeal.sig Kind.scVector Space.hbm Cert.DispatchIdeal.S32x16 EltTy.i32)
local notation "fW" => (Memref.whole Cert.DispatchIdeal.main_arg2_scv : Memref Cert.DispatchIdeal.sig Kind.scVector Space.hbm Cert.DispatchIdeal.S16 EltTy.i32)
local notation "xW" => (Memref.whole Cert.DispatchIdeal.main_arg3_scv : Memref Cert.DispatchIdeal.sig Kind.scVector Space.hbm Cert.DispatchIdeal.S2048x1024 EltTy.f32)
local notation "pW" => (Memref.whole Cert.DispatchIdeal.main_v0_0_scv : Memref Cert.DispatchIdeal.sig Kind.scVector Space.hbm Cert.DispatchIdeal.S4096 EltTy.i32)
local notation "gW" => (Memref.whole Cert.DispatchIdeal.main_v0_1_scv : Memref Cert.DispatchIdeal.sig Kind.scVector Space.hbm Cert.DispatchIdeal.S6144x1024 EltTy.f32)
local notation "cB" => (Memref.whole Cert.DispatchIdeal.cc0_scratch0 : Memref Cert.DispatchIdeal.sig Kind.scVector Space.vmem Cert.DispatchIdeal.S32x16 EltTy.i32)
local notation "fB" => (Memref.whole Cert.DispatchIdeal.cc0_scratch1 : Memref Cert.DispatchIdeal.sig Kind.scVector Space.vmem Cert.DispatchIdeal.S16 EltTy.i32)
local notation "iB" => (Memref.whole Cert.DispatchIdeal.cc0_scratch2 : Memref Cert.DispatchIdeal.sig Kind.scVector Space.vmem Cert.DispatchIdeal.S128 EltTy.i32)
local notation "pB" => (Memref.whole Cert.DispatchIdeal.cc0_scratch3 : Memref Cert.DispatchIdeal.sig Kind.scVector Space.vmem Cert.DispatchIdeal.S4x32 EltTy.i32)
local notation "tB" => (Memref.whole Cert.DispatchIdeal.cc0_scratch4 : Memref Cert.DispatchIdeal.sig Kind.scVector Space.vmem Cert.DispatchIdeal.S4x32 EltTy.i32)
local notation "rB" => (Memref.whole Cert.DispatchIdeal.cc0_scratch5 : Memref Cert.DispatchIdeal.sig Kind.scVector Space.vmem Cert.DispatchIdeal.S32x1024 EltTy.f32)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays, and what each tile gets of them -/

variable (m : (ℓ : Loc nD τ sig) → Buf (Elt F) ℓ) (ρ : Dev nD → PrngReg)

abbrev idLoc (d : Dev nD) : Loc nD τ sig := (SparseCore.T d).loc main_arg0
abbrev cLoc (d : Dev nD) : Loc nD τ sig := (SparseCore.T d).loc main_arg1
abbrev fLoc (d : Dev nD) : Loc nD τ sig := (SparseCore.T d).loc main_arg2
abbrev xLoc (d : Dev nD) : Loc nD τ sig := (SparseCore.T d).loc main_arg3
abbrev pLoc (d : Dev nD) : Loc nD τ sig := (SparseCore.T d).loc main_v0_0
abbrev gLoc (d : Dev nD) : Loc nD τ sig := (SparseCore.T d).loc main_v0_1

/-- What the precondition says of every device's arguments. -/
def AllRouted : Prop := ∀ d : Dev nD, Routed (m (idLoc d)) (m (cLoc d)) (m (fLoc d))

/-- The tile on SparseCore `c`, subcore `j`. -/
def coords (c : Fin (grid0.bound 0)) (j : Fin (grid0.bound 1)) : grid0.Coords :=
  fun | 0 => c | 1 => j | ⟨_ + 2, h⟩ => absurd h (Nat.not_lt.2 (Nat.le_add_left _ _))

/-- A tile and one of its stages. -/
abbrev TS : Type := (Fin 2 × Fin 16) × Fin 4

abbrev baseOf (t : TS) : Nat := base (coords t.1.1 t.1.2) t.2

theorem baseOf_eq (t : TS) : baseOf t = 256 * t.1.2.val + 128 * t.1.1.val + 32 * t.2.val := by
  show 128 * (2 * t.1.2.val + t.1.1.val) + 32 * t.2.val = _
  omega

theorem baseOf_inj {t t' : TS} {a b : Nat} (ha : a < 32) (hb : b < 32) (h : baseOf t + a = baseOf t' + b) : t = t' := by
  obtain ⟨⟨c, j⟩, s⟩ := t
  obtain ⟨⟨c', j'⟩, s'⟩ := t'
  rw [baseOf_eq, baseOf_eq] at h
  dsimp only at h
  have hc := c.isLt; have hc' := c'.isLt; have hs := s.isLt; have hs' := s'.isLt
  have e1 : j = j' := Fin.ext (by omega)
  have e2 : c = c' := Fin.ext (by omega)
  have e3 : s = s' := Fin.ext (by omega)
  rw [e1, e2, e3]

theorem baseOf_exists {n : Nat} (hn : n < 4096) : ∃ (t : TS) (k : Fin 32), n = baseOf t + k.val :=
  ⟨⟨⟨⟨n / 128 % 2, by omega⟩, ⟨n / 256, by omega⟩⟩, ⟨n / 32 % 4, by omega⟩⟩, ⟨n % 32, by omega⟩, by rw [baseOf_eq]; dsimp only; omega⟩

theorem baseOf_le (t : TS) : baseOf t + 32 ≤ 4096 := base_le _ _

/-- The tile's read share of each input. -/
def shareOf (t : Fin 2 × Fin 16) : PosShare TreeShare := pieceOf fullShare 32 (by omega) (finProdFinEquiv t)

/-- The entries of the slots' list that a stage of a tile writes. -/
def posSet (t : TS) : Finset S4096.Idx :=
  ((pW).slice (posRect (coords t.1.1 t.1.2) t.2) (fun _ => rfl)).view.set

theorem mem_posSet (t : TS) (x : S4096.Idx) : x ∈ posSet t ↔ baseOf t ≤ (x 0).val ∧ (x 0).val < baseOf t + 32 := by
  have e : posSet t = (posRect (coords t.1.1 t.1.2) t.2).set := by
    show ((View.whole (main_v0_0_scv : Ref sig .scVector)).slice (posRect (coords t.1.1 t.1.2) t.2)).set = _
    rw [View.set_slice]; exact Finset.map_refl
  have e0 : k0_off2 (coords t.1.1 t.1.2) (BitVec.ofNat 32 (32 * t.2.val)) 0 = 256 * t.1.2.val + 128 * t.1.1.val + 32 * t.2.val :=
    congrFun (k0_off2_eq (coords t.1.1 t.1.2) t.2) 0
  rw [e, Rect.mem_set_unit, baseOf_eq]
  constructor
  · intro h
    have h0 := h 0
    rw [e0] at h0
    exact ⟨h0.1, h0.2⟩
  · intro h a
    match a with
    | 0 => rw [e0]; exact ⟨h.1, h.2⟩

theorem posSet_disjoint : ∀ t ∈ (Finset.univ : Finset TS), ∀ t' ∈ (Finset.univ : Finset TS), t ≠ t' → Disjoint (posSet t) (posSet t') := by
  intro t _ t' _ h
  rw [Finset.disjoint_left]
  intro x hx hx'
  rw [mem_posSet] at hx hx'
  exact h (baseOf_inj (a := (x 0).val - baseOf t) (b := (x 0).val - baseOf t') (by omega) (by omega) (by omega))

theorem posSet_cover : (Finset.univ : Finset TS).biUnion posSet = Finset.univ := by
  refine Finset.eq_univ_of_forall fun x => ?_
  obtain ⟨t, k, h⟩ := baseOf_exists (n := (x 0).val) (x 0).isLt
  have hk := k.isLt
  exact Finset.mem_biUnion.mpr ⟨t, Finset.mem_univ _, (mem_posSet t x).mpr (by omega)⟩

section Slots

variable {ids : S4096.Idx → BitVec 32} {cnts : S32x16.Idx → BitVec 32} {offs : S16.Idx → BitVec 32}

theorem slotSet_disjoint (R : Routed ids cnts offs) : ∀ t ∈ (Finset.univ : Finset TS), ∀ t' ∈ (Finset.univ : Finset TS),
    t ≠ t' → Disjoint (slotSet ids offs (baseOf t)) (slotSet ids offs (baseOf t')) := by
  intro t _ t' _ h
  rw [Finset.disjoint_left]
  intro x hx hx'
  obtain ⟨k, hk⟩ := (mem_slotSet ids offs _ x).mp hx
  obtain ⟨k', hk'⟩ := (mem_slotSet ids offs _ x).mp hx'
  have h1 := baseOf_le t; have h2 := baseOf_le t'
  have h3 := k.isLt; have h4 := k'.isLt
  exact h (baseOf_inj h3 h4 (slot_inj R (by omega) (by omega) (hk.symm.trans hk')))

/-- The elements of no pair's slot. -/
def restSet (ids : S4096.Idx → BitVec 32) (offs : S16.Idx → BitVec 32) : Finset S6144x1024.Idx :=
  Finset.univ \ (Finset.univ : Finset TS).biUnion fun t => slotSet ids offs (baseOf t)

theorem placed_rest (x : S2048x1024.Idx → F .f32) (f₀ : S6144x1024.Idx → F .f32) {j : S6144x1024.Idx} (hj : j ∈ restSet ids offs) : placed ids offs x f₀ j = f₀ j := by
  unfold placed
  refine dif_neg ?_
  rintro ⟨n, hn, h⟩
  obtain ⟨t, k, hk⟩ := baseOf_exists hn
  refine (Finset.mem_sdiff.mp hj).2 (Finset.mem_biUnion.mpr ⟨t, Finset.mem_univ _, (mem_slotSet ids offs _ j).mpr ⟨k, ?_⟩⟩)
  rw [h, hk]

end Slots

/-- A tile's operands, the list at `fp` and the slots at `fg`. -/
def operands (d : Dev nD) (fp : S4096.Idx → BitVec 32) (fg : S6144x1024.Idx → F .f32) (t : Fin 2 × Fin 16) : sProp 𝕄 :=
  iprop((idLoc d ↦{shareOf t} m (idLoc d)) ∗ (cLoc d ↦{shareOf t} m (cLoc d)) ∗ (fLoc d ↦{shareOf t} m (fLoc d)) ∗ (xLoc d ↦{shareOf t} m (xLoc d))
    ∗ (bigSep Finset.univ fun s : Fin 4 => pLoc d ↦[posSet (t, s)]{fullShare} fp)
    ∗ bigSep Finset.univ fun s : Fin 4 => gLoc d ↦[slotSet (m (idLoc d)) (m (fLoc d)) (baseOf (t, s))]{fullShare} fg)

theorem operands_task (d : Dev nD) (fp : S4096.Idx → BitVec 32) (fg : S6144x1024.Idx → F .f32) (c : Fin 2) (j : Fin 16) :
    (operands m d fp fg (c, j) : sProp 𝕄) = task d (coords c j) (shareOf (c, j)) (m (idLoc d)) (m (cLoc d)) (m (fLoc d)) (m (xLoc d)) fp fg := rfl

/-- What holds each way is the same. -/
theorem both {A B : sProp 𝕄} (h : A ⊢ B) (h' : B ⊢ A) : A = B := BI.equiv_iff.mp ⟨h, h'⟩

/-- An array whole is every tile's share of it. -/
theorem shares (ℓ : Loc nD τ sig) (f : Buf (Elt F) ℓ) :
    (ℓ ↦{fullShare} f : sProp 𝕄) = bigSep Finset.univ fun t : Fin 2 × Fin 16 => ℓ ↦{shareOf t} f := by
  rw [pointsTo_piecesOf Finset.univ f (by omega : 0 < 32) fullShare, bigSep_univ_equiv (finProdFinEquiv (m := 2) (n := 16))]
  rfl

/-- The list whole is every tile's entries of it. -/
theorem entries_of_list (d : Dev nD) (f : S4096.Idx → BitVec 32) :
    (pLoc d ↦{fullShare} f : sProp 𝕄) = bigSep Finset.univ fun t : Fin 2 × Fin 16 => bigSep Finset.univ fun s : Fin 4 => pLoc d ↦[posSet (t, s)]{fullShare} f := by
  rw [← bigSep_univ_prod (fun t : TS => (pLoc d ↦[posSet t]{fullShare} f : sProp 𝕄)),
    ← pointsTo_biUnion Finset.univ (ℓ := pLoc d) posSet posSet_disjoint, posSet_cover]

/-- The elements of no pair's slot, at what is there. -/
def rest (d : Dev nD) : sProp 𝕄 := gLoc d ↦[restSet (m (idLoc d)) (m (fLoc d))]{fullShare} m (gLoc d)

/-- The slots whole are every tile's slots and the elements of none. -/
theorem slots_of_rows (hR : AllRouted m) (d : Dev nD) (f : S6144x1024.Idx → F .f32) (hf : ∀ j ∈ restSet (m (idLoc d)) (m (fLoc d)), f j = (m (gLoc d) : S6144x1024.Idx → F .f32) j) :
    (gLoc d ↦{fullShare} f : sProp 𝕄)
      = iprop((bigSep Finset.univ fun t : Fin 2 × Fin 16 => bigSep Finset.univ fun s : Fin 4 =>
          gLoc d ↦[slotSet (m (idLoc d)) (m (fLoc d)) (baseOf (t, s))]{fullShare} f) ∗ rest m d) := by
  have e : rest m d = (gLoc d ↦[restSet (m (idLoc d)) (m (fLoc d))]{fullShare} f : sProp 𝕄) := (pointsTo_congr hf).symm
  rw [e, ← bigSep_univ_prod (fun t : TS => (gLoc d ↦[slotSet (m (idLoc d)) (m (fLoc d)) (baseOf t)]{fullShare} f : sProp 𝕄)),
    ← pointsTo_biUnion Finset.univ (ℓ := gLoc d) (fun t : TS => slotSet (m (idLoc d)) (m (fLoc d)) (baseOf t)) (slotSet_disjoint (hR d))]
  have h := pointsTo_split_subset (nD := nD) (τ := τ) (sig := sig) (Ix := HIx 1) (Val := Elt F) (Name := ℕ) (U := UU) (Lvl := ℕ) (ℓ := gLoc d) (q := fullShare) (f := f)
    (Finset.subset_univ ((Finset.univ : Finset TS).biUnion fun t => slotSet (m (idLoc d)) (m (fLoc d)) (baseOf t)))
  exact both h.1 h.2

/-- The arrays whole, but for the elements of no pair's slot, are every tile's operands. -/
theorem all_operands (hR : AllRouted m) (d : Dev nD) (fp : S4096.Idx → BitVec 32) (fg : S6144x1024.Idx → F .f32)
    (hf : ∀ j ∈ restSet (m (idLoc d)) (m (fLoc d)), fg j = (m (gLoc d) : S6144x1024.Idx → F .f32) j) :
    (iprop((idLoc d ↦{fullShare} m (idLoc d)) ∗ (cLoc d ↦{fullShare} m (cLoc d)) ∗ (fLoc d ↦{fullShare} m (fLoc d)) ∗ (xLoc d ↦{fullShare} m (xLoc d))
        ∗ (pLoc d ↦{fullShare} fp) ∗ gLoc d ↦{fullShare} fg) : sProp 𝕄)
      = iprop((bigSep Finset.univ fun c : Fin 2 => bigSep Finset.univ fun j : Fin 16 => operands m d fp fg (c, j)) ∗ rest m d) := by
  rw [slots_of_rows m hR d fg hf, shares (idLoc d), shares (cLoc d), shares (fLoc d), shares (xLoc d), entries_of_list,
    ← bigSep_univ_prod (fun t : Fin 2 × Fin 16 => operands m d fp fg t)]
  unfold operands
  rw [bigSep_sep', bigSep_sep', bigSep_sep', bigSep_sep', bigSep_sep']
  refine both ?_ ?_
  · iintro ⟨H1, H2, H3, H4, H5, H6, H7⟩
    isplitr [H7]
    · isplitl [H1]; · iexact H1
      isplitl [H2]; · iexact H2
      isplitl [H3]; · iexact H3
      isplitl [H4]; · iexact H4
      isplitl [H5]; · iexact H5
      iexact H6
    · iexact H7
  · iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7

/-! ## What the call's handshakes carry -/

/-- The call's two results. -/
def listOf (d : Dev nD) : S4096.Idx → BitVec 32 := posOf (m (idLoc d)) (m (fLoc d))
def slotsAt (d : Dev nD) : S6144x1024.Idx → F .f32 := placed (m (idLoc d)) (m (fLoc d)) (m (xLoc d)) (m (gLoc d))

def P : (K (F := F)).Pay (nD := nD) (Val := Elt F) (Name := ℕ) (U := UU) where
  st := fun q d c => match q with | 0 => bigSep Finset.univ fun j : Fin 16 => operands m d (m (pLoc d)) (m (gLoc d)) (c, j)
  dn := fun q d c => match q with | 0 => bigSep Finset.univ fun j : Fin 16 => operands m d (listOf m d) (slotsAt m d) (c, j)
  go := fun q d c j => match q with | 0 => operands m d (m (pLoc d)) (m (gLoc d)) (c, j)
  td := fun q d c j => match q with | 0 => operands m d (listOf m d) (slotsAt m d) (c, j)
  x := fun _ _ => iprop(emp)

instance operands_storable (d : Dev nD) (fp : S4096.Idx → BitVec 32) (fg : S6144x1024.Idx → F .f32) (t : Fin 2 × Fin 16) :
    BI.Storable (upEmb : UEmb _ 𝕄) (operands m d fp fg t) := by unfold operands; infer_instance

instance P_storable : (P (F := F) m).IsStorable where
  st q d c := match q with
    | 0 => (inferInstance : BI.Storable (upEmb : UEmb _ 𝕄) (bigSep Finset.univ fun j : Fin 16 => operands m d (m (pLoc d)) (m (gLoc d)) (c, j)))
  dn q d c := match q with
    | 0 => (inferInstance : BI.Storable (upEmb : UEmb _ 𝕄) (bigSep Finset.univ fun j : Fin 16 => operands m d (listOf m d) (slotsAt m d) (c, j)))
  go q d c j := match q with | 0 => operands_storable m d (m (pLoc d)) (m (gLoc d)) (c, j)
  td q d c j := match q with | 0 => operands_storable m d (listOf m d) (slotsAt m d) (c, j)

/-! ## The call's obligations -/

theorem defs₀_vector (c : Fin τ.nSC) (s : Fin τ.nSub) :
    defs₀ (F := F) (.scVector c s) 0 ()
      = SparseCore.onTile hcore0 hsub0 (fun c s => cc0__dispatch_body (coords c s)
          idW (Memref.isWhole_whole _) cW (Memref.isWhole_whole _) fW (Memref.isWhole_whole _) xW (Memref.isWhole_whole _) pW (Memref.isWhole_whole _)
          gW (Memref.isWhole_whole _) cB (Memref.isWhole_whole _) fB (Memref.isWhole_whole _) iB (Memref.isWhole_whole _) pB (Memref.isWhole_whole _)
          tB (Memref.isWhole_whole _) rB (Memref.isWhole_whole _) cc0_scratch6
          cc0_scoped0 cc0_scoped1 cc0_scoped2 cc0_scoped3 cc0_scoped4 cc0_scoped5 cc0_scoped6) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hR : AllRouted m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) facts (hR d) O W hO (shareOf (c, i)) (m (xLoc d)) (m (pLoc d)) (m (gLoc d))).trans
    (wp_mono frame _ _ fun _ => tile_post)

theorem vecSplit : (K (F := F)).VecSplit' (P m) 0 := by
  intro d c
  show (bigSep Finset.univ fun j : Fin 16 => operands m d (m (pLoc d)) (m (gLoc d)) (c, j)) ⊢ |={Set.univ}=> iprop(
    (bigSep Finset.univ fun j : Fin 16 => operands m d (m (pLoc d)) (m (gLoc d)) (c, j))
      ∗ ((bigSep Finset.univ fun j : Fin 16 => operands m d (listOf m d) (slotsAt m d) (c, j)) -∗ bigSep Finset.univ fun j : Fin 16 => operands m d (listOf m d) (slotsAt m d) (c, j)))
  iintro H; imodintro
  isplitl [H]; · iexact H
  iintro H; iexact H

/-! ## The launch -/

def u₀ : UU := (initOf (K (F := F)).hsCells (K (F := F)).hsToks, 1)

/-- Nothing for each of a set is nothing. -/
theorem nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The host's program -/

/-- The host's operations after the call. -/
abbrev ops : List (HloOp τ sig (Elt F)) :=
  [ StableHlo.nullary main_c (constantI S_ 32 0#32),
    StableHlo.unary main_c main_v1 (broadcastInDim S4096 ![] bcast_S_S4096 : (⟨S_, .i32⟩ : BufTy).Contents (Elt F) → (⟨S4096, .i32⟩ : BufTy).Contents (Elt F)),
    StableHlo.binary main_v0_0 main_v1 main_v2 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 6144#32),
    StableHlo.unary main_c_0 main_v3 (broadcastInDim S4096 ![] bcast_S_S4096 : (⟨S_, .i32⟩ : BufTy).Contents (Elt F) → (⟨S4096, .i32⟩ : BufTy).Contents (Elt F)),
    StableHlo.binary main_v0_0 main_v3 main_v4 (addi : (⟨S4096, .i32⟩ : BufTy).Contents (Elt F) → (⟨S4096, .i32⟩ : BufTy).Contents (Elt F) → (⟨S4096, .i32⟩ : BufTy).Contents (Elt F)),
    StableHlo.ternary main_v2 main_v4 main_v0_0 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v5 main_v6 (broadcastInDim S4096x1 ![0] bcast_S4096_S4096x1_0 : (⟨S4096, .i32⟩ : BufTy).Contents (Elt F) → (⟨S4096x1, .i32⟩ : BufTy).Contents (Elt F)),
    StableHlo.binary main_v0_1 main_v6 main_v7 ((fun x i => Host.gather gather_S6144x1024_S4096x1_S4096x1024_1_0_n_n_0_1_11024 x i) : (⟨S6144x1024, .f32⟩ : BufTy).Contents (Elt F) → (⟨S4096x1, .i32⟩ : BufTy).Contents (Elt F) → (⟨S4096x1024, .f32⟩ : BufTy).Contents (Elt F)) ]

theorem main_eq (d : Dev nD) : main (F := F) d = (K (F := F)).run d 0 >>= fun _ => StableHlo.seq ops := rfl

theorem ops_sub : ∀ op ∈ (ops : List (HloOp τ sig (Elt F))), op.bufs ⊆ Pipeline.ucRefs τ sig := fun op h => Pipeline.sub_ucRefs op
  (List.forall_iff_forall_mem.mp (show (ops : List (HloOp τ sig (Elt F))).Forall fun op => op.bufs ⊆ StableHlo.tcRefs τ sig from
    ⟨StableHlo.nullary_bufs_sub .., StableHlo.unary_bufs_sub .., StableHlo.binary_bufs_sub .., StableHlo.nullary_bufs_sub .., StableHlo.unary_bufs_sub ..,
      StableHlo.binary_bufs_sub .., StableHlo.ternary_bufs_sub .., StableHlo.unary_bufs_sub .., StableHlo.binary_bufs_sub ..⟩) op h)

theorem ops_fresh : ∀ op ∈ (ops : List (HloOp τ sig (Elt F))), op.fresh = ∅ :=
  List.forall_iff_forall_mem.mp (show (ops : List (HloOp τ sig (Elt F))).Forall fun op => op.fresh = ∅ from ⟨rfl, rfl, rfl, rfl, rfl, rfl, rfl, rfl, rfl⟩)

abbrev id' : DevRef τ sig := Proc.devRef .tc main_arg0
abbrev c' : DevRef τ sig := Proc.devRef .tc main_arg1
abbrev f' : DevRef τ sig := Proc.devRef .tc main_arg2
abbrev x' : DevRef τ sig := Proc.devRef .tc main_arg3
abbrev p' : DevRef τ sig := Proc.devRef .tc main_v0_0
abbrev g' : DevRef τ sig := Proc.devRef .tc main_v0_1

/-- The call's arrays. -/
abbrev arrays : Finset (DevRef τ sig) := {id', c', f', x', p', g'}

theorem arrays_sub : arrays ⊆ Pipeline.ucRefs τ sig := by
  intro b hb
  rw [Pipeline.ucRefs, Finset.mem_filter]
  simp only [arrays, Finset.mem_insert, Finset.mem_singleton] at hb
  rcases hb with rfl | rfl | rfl | rfl | rfl | rfl <;> exact ⟨StableHlo.devRef_mem_tcRefs _, by decide⟩

theorem rows_mem : Proc.devRef .tc main_v7 ∈ Pipeline.ucRefs τ sig := by
  rw [Pipeline.ucRefs, Finset.mem_filter]
  exact ⟨StableHlo.devRef_mem_tcRefs _, by decide⟩

theorem held_arrays (d : Dev nD) (W : Valuation τ sig (Elt F)) :
    (StableHlo.held (SparseCore.T d) arrays W : sProp 𝕄)
      = iprop((idLoc d ↦{fullShare} W id') ∗ (cLoc d ↦{fullShare} W c') ∗ (fLoc d ↦{fullShare} W f') ∗ (xLoc d ↦{fullShare} W x') ∗ (pLoc d ↦{fullShare} W p')
          ∗ gLoc d ↦{fullShare} W g') := by
  unfold StableHlo.held arrays
  iterate 5 rw [SparseCore.bigSep_insert' (by decide)]
  rw [bigSep_singleton]

/-- The device's buffers at the launch, and once the call is done. -/
abbrev V₀ (d : Dev nD) : Valuation τ sig (Elt F) := fun b => m (d, b)
def V₁ (d : Dev nD) : Valuation τ sig (Elt F) :=
  Function.update (Function.update (V₀ m d) p' (listOf m d)) g' (slotsAt m d)

theorem V₁_g (d : Dev nD) : V₁ m d g' = slotsAt m d := Function.update_self ..
theorem V₁_p (d : Dev nD) : V₁ m d p' = listOf m d := (Function.update_of_ne (by decide) ..).trans (Function.update_self ..)
theorem V₁_ne (d : Dev nD) {b : DevRef τ sig} (hp : b ≠ p') (hg : b ≠ g') : V₁ m d b = m (d, b) :=
  (Function.update_of_ne hg ..).trans (Function.update_of_ne hp ..)

theorem held_call (d : Dev nD) : (StableHlo.held (SparseCore.T d) arrays (V₁ m d) : sProp 𝕄)
    = iprop((idLoc d ↦{fullShare} m (idLoc d)) ∗ (cLoc d ↦{fullShare} m (cLoc d)) ∗ (fLoc d ↦{fullShare} m (fLoc d)) ∗ (xLoc d ↦{fullShare} m (xLoc d))
        ∗ (pLoc d ↦{fullShare} (listOf m d : S4096.Idx → BitVec 32)) ∗ gLoc d ↦{fullShare} (slotsAt m d : S6144x1024.Idx → F .f32)) := by
  rw [held_arrays, V₁_g, V₁_p, V₁_ne m d (b := id') (by decide) (by decide), V₁_ne m d (b := c') (by decide) (by decide), V₁_ne m d (b := f') (by decide) (by decide),
    V₁_ne m d (b := x') (by decide) (by decide)]

theorem held_others (d : Dev nD) : (StableHlo.held (SparseCore.T d) (Pipeline.ucRefs τ sig \ arrays) (V₁ m d) : sProp 𝕄)
    = StableHlo.held (SparseCore.T d) (Pipeline.ucRefs τ sig \ arrays) (V₀ m d) :=
  StableHlo.held_congr _ fun b hb => by
    have h := (Finset.mem_sdiff.mp hb).2
    exact V₁_ne m d (fun e => h (by rw [e]; decide)) (fun e => h (by rw [e]; decide))

/-- What the host's program leaves: the device's buffers as its operations leave them. -/
abbrev FIN (d : Dev nD) : sProp 𝕄 := StableHlo.held (SparseCore.T d) (Pipeline.ucRefs τ sig) (StableHlo.after ops (V₁ m d))

theorem st_eq (hR : AllRouted m) (d : Dev nD) :
    (StableHlo.held (SparseCore.T d) arrays (V₀ m d) : sProp 𝕄) = iprop((bigSep Finset.univ fun c : Fin ((K (F := F)).nCore 0) => (P m).st 0 d c) ∗ rest m d) :=
  (held_arrays d (V₀ m d)).trans (all_operands m hR d (m (pLoc d)) (m (gLoc d)) fun _ _ => rfl)
theorem dn_eq (hR : AllRouted m) (d : Dev nD) :
    iprop((bigSep Finset.univ fun c : Fin ((K (F := F)).nCore 0) => (P m).dn 0 d c) ∗ rest m d) = (StableHlo.held (SparseCore.T d) arrays (V₁ m d) : sProp 𝕄) :=
  ((held_call m d).trans (all_operands m hR d (listOf m d) (slotsAt m d) fun _ hj => placed_rest _ _ hj)).symm

/-- The host's program: the call, then the host's operations. -/
theorem hmain (hR : AllRouted m) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (SparseCore.T d) (Pipeline.ucRefs τ sig) (V₀ m d) from
      Pipeline.unscopedBufs_held d (V₀ m d),
    StableHlo.held_sub_split (SparseCore.T d) arrays_sub (V₀ m d), st_eq m hR d, main_eq, wp_bind]
  iintro ⟨#Hctx, Hst, ⟨Hb, ⟨⟨Hin, Hrest⟩, Hoth⟩, Hts, -⟩, -⟩
  iapply ((K (F := F)).wp_run (D (F := F)) 𝒱 (EH := EH) (P := P m) κ d 0) $$ [Hst Hin Hrest Hoth Hb Hts]
  isplitr; · iexact Hctx
  isplitl [Hst]; · iexact Hst
  isplitl [Hin]; · iexact Hin
  iintro ⟨Hst, Hdn⟩
  ihave Hh := (Entails.of_eq (dn_eq (F := F) m hR d)) $$ [Hdn Hrest]
  · isplitl [Hdn] <;> iassumption
  ihave Hoth := (Entails.of_eq (held_others (F := F) m d).symm) $$ Hoth
  ihave Hall := (Entails.of_eq (StableHlo.held_sub_split (SparseCore.T d) arrays_sub (V₁ m d)).symm) $$ [Hh Hoth]
  · isplitl [Hh] <;> iassumption
  have hseq := StableHlo.wp_seq (defs := (K (F := F)).defs (D (F := F))) 𝒱 none Set.univ d (Pipeline.ucRefs τ sig) (fun _ => pure (⟨⟩ : PUnit))
    (K := fun _ => iprop((K (F := F)).tcSt EH d 1 ∗ FIN m d ∗ boundary (SparseCore.T d) ∗ (K (F := F)).tcSems0 d)) ops ops_sub ops_fresh (V₁ m d)
  rw [bind_pure] at hseq
  iapply hseq $$ [Hb Hall]
  · isplitl [Hb] <;> iassumption
  iintro ⟨Hb, Hall⟩
  rw [wp_pure]
  imodintro
  isplitl [Hst]; · iexact Hst
  isplitl [Hall]; · iexact Hall
  isplitl [Hb] <;> iassumption

/-- What the claims read of a final state. -/
def fq (d : Dev nD) (s : Phys nD τ sig (Elt F)) : Prop := ∀ b ∈ Pipeline.ucRefs τ sig, s.mem.mem (d, b) = StableHlo.after ops (V₁ m d) b

theorem hfin (d : Dev nD) (s : Phys nD τ sig (Elt F)) : iprop(FIN m d ∗ SI s) ⊢ (⌜fq m d s⌝ : sProp 𝕄) := by
  refine (pointsTo_read_all (Pipeline.ucRefs τ sig) (fun b => ((d, b) : Loc nD τ sig)) (StableHlo.after ops (V₁ m d)) s).trans ?_
  iintro ⟨%h, -⟩
  ipureintro; exact h

/-- The run's end: on every device the buffers are as the host's operations leave them; the counters are zero. -/
def QC : PUnit × MemSt nD τ sig (Elt F) → Prop := fun r =>
  (∀ d : Dev nD, ∀ b ∈ Pipeline.ucRefs τ sig, r.2.mem (d, b) = StableHlo.after ops (V₁ m d) b) ∧ r.2.sem = fun _ => 0

theorem run_main [∀ e, Nonempty (Elt F e)] (hR : AllRouted m) :
    θ_run (Cert.DispatchIdeal.defs (F := F)) (Cert.DispatchIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hR)
    (fun q _ => match q with | 0 => SparseCore.Cfg.VecSplit.of_plain (vecSplit m))
    m ρ main (fun _ => iprop(emp)) (FIN m) (u₀ (F := F)) (sep_elim_left.trans (hu₀ m)) (hmain m ρ hR) (fq m) (hfin m) (QC m) (fun _ h hz => ⟨h, hz⟩)

end Cert.Proof.Route

end
-- ==== Proof.RouteReference.lean ====
/-
  What the dispatch call and its reference compute, index by index. The call's list has pair `n`'s slot at `n`: the expert's
  first slot and the number of earlier pairs of the same expert. The reference counts those pairs by comparing every two.
  The rows at the listed slots are the tokens' rows, each twice over.
-/
module

public import proofs.«01_k».proof.Proof.RouteLaunch
public import proofs.«01_k».proof.Proof.Gen.DispatchReferenceIdeal.Run
public import Idealize.ShloMosaic.Lib.StableHlo.Predicate
public import Idealize.ShloMosaic.Lib.Routing.Count
public import Idealize.ShloMosaic.Lib.Routing.Ops
public import Idealize.ShloMosaic.Lib.Pointwise

@[expose] public section

noncomputable section

namespace Cert.Proof.Route

open Cert.DispatchIdeal Cert.DispatchIdeal.Gen
open Idealize.ShloMosaic Idealize.ShloMosaic.StableHlo
open Idealize.ShloMosaic.StableHlo.Predicate

variable {F : FTy → Type} [FloatOps F]

/-! ## What the host's operations leave -/

/-- The slots as the rows are read by them: a negative one is counted from the end. -/
def readAt (p : S4096.Idx → BitVec 32) : S4096.Idx → BitVec 32 :=
  select (cmpi .slt p (broadcastInDim S4096 ![] bcast_S_S4096 (constantI S_ 32 0#32))) (addi p (broadcastInDim S4096 ![] bcast_S_S4096 (constantI S_ 32 6144#32))) p

/-- The rows at the listed slots. -/
def listedRows (p : S4096.Idx → BitVec 32) (g : S6144x1024.Idx → F .f32) : S4096x1024.Idx → F .f32 :=
  Host.gather gather_S6144x1024_S4096x1_S4096x1024_1_0_n_n_0_1_11024 g (broadcastInDim S4096x1 ![0] bcast_S4096_S4096x1_0 (readAt p))

theorem end_ids (V : Valuation τ sig (Elt F)) : after ops V id' = V id' := by after_results <;> rfl
theorem end_cnts (V : Valuation τ sig (Elt F)) : after ops V c' = V c' := by after_results <;> rfl
theorem end_offs (V : Valuation τ sig (Elt F)) : after ops V f' = V f' := by after_results <;> rfl
theorem end_x (V : Valuation τ sig (Elt F)) : after ops V x' = V x' := by after_results <;> rfl
theorem end_list (V : Valuation τ sig (Elt F)) : after ops V p' = V p' := by after_results <;> rfl
theorem end_rows (V : Valuation τ sig (Elt F)) : after ops V (Proc.devRef .tc main_v7) = listedRows (V p') (V g') := by after_results <;> rfl

/-! ## The rows at the listed slots -/

/-- Each pair's row: its token's. -/
def pairRows (x : S2048x1024.Idx → F .f32) : S4096x1024.Idx → F .f32 := fun j => x (xIx (tokenOf (j 0).val) (j 1))

section Values

variable {ids : S4096.Idx → BitVec 32} {cnts : S32x16.Idx → BitVec 32} {offs : S16.Idx → BitVec 32}

theorem bcast_zero (j : S4096.Idx) (w : BitVec 32) : broadcastInDim S4096 ![] bcast_S_S4096 (constantI S_ 32 w) j = w := rfl

/-- A word below a positive one of the same sign is read as it is. -/
theorem select_small (v w : BitVec 32) (h : v.toNat < 2 ^ 31) : Scalar.select (IntOp.cmpi .slt v 0#32) (IntOp.addi v w) v = v := by
  have hv : ¬ IntOp.cmpi .slt v 0#32 = 1#1 := by
    rw [slt_iff_toNat h (by decide)]
    exact Nat.not_lt_zero _
  exact if_neg hv

theorem readAt_apply (p : S4096.Idx → BitVec 32) (j : S4096.Idx) (h : (p j).toNat < 6144) : readAt p j = p j :=
  select_small (p j) 6144#32 (by omega)

/-- The rows at a list of slots, where the list names a row. -/
theorem listedRows_apply (p : S4096.Idx → BitVec 32) (g : S6144x1024.Idx → F .f32) (n : Fin 4096) (c : Fin 1024) (r : Fin 6144)
    (hr : p (ix1 n) = BitVec.ofNat 32 r.val) : listedRows p g (ix2 n c) = g (ix2 r c) := by
  have hlt := r.isLt
  have hread : readAt p (ix1 n) = BitVec.ofNat 32 r.val :=
    (readAt_apply p (ix1 n) (by rw [hr, BitVec.toNat_ofNat]; omega)).trans hr
  unfold listedRows
  generalize readAt p = w at hread ⊢
  have hb : broadcastInDim S4096x1 ![0] bcast_S4096_S4096x1_0 w (ix2 n (0 : Fin 1)) = BitVec.ofNat 32 r.val := by
    refine Eq.trans ?_ hread
    pointwise []
  exact Routing.gather_row gather_S6144x1024_S4096x1_S4096x1024_1_0_n_n_0_1_11024 rfl rfl rfl rfl rfl g _ n c r hb (by omega)

theorem listedRows_eq (R : Routed ids cnts offs) (x : S2048x1024.Idx → F .f32) (f₀ : S6144x1024.Idx → F .f32) :
    listedRows (posOf ids offs) (placed ids offs x f₀) = pairRows x := by
  funext j
  obtain ⟨n, c, rfl⟩ : ∃ (n : Fin 4096) (c : Fin 1024), j = ix2 n c := ⟨j 0, j 1, funext fun a => match a with | 0 => rfl | 1 => rfl⟩
  have hs := slot_lt R n.isLt
  have hr : posOf ids offs (ix1 n) = BitVec.ofNat 32 (slotWord ids offs n.val).toNat := (ofNat_toNat (slotWord ids offs n.val)).symm
  rw [listedRows_apply _ _ n c ⟨(slotWord ids offs n.val).toNat, hs⟩ hr]
  rw [placed_slot R x f₀ (n := n.val) n.isLt (j := ix2 ⟨(slotWord ids offs n.val).toNat, hs⟩ c) rfl]
  rfl

end Values

end Cert.Proof.Route

namespace Cert.Proof.RouteReference

open Cert.DispatchReferenceIdeal Cert.DispatchReferenceIdeal.Gen
open Idealize.ShloMosaic Idealize.ShloMosaic.StableHlo
open Idealize.ShloMosaic.StableHlo.Predicate
open Cert.Proof.Route (Routed idIx cIx lIx xIx expert before before_le firstOf slotWord posOf tokenOf pairRows select_small)

variable {F : FTy → Type} [FloatOps F]

section Values

variable {ids : S4096.Idx → BitVec 32} {cnts : S32x16.Idx → BitVec 32} {offs : S16.Idx → BitVec 32}

/-! ## The reference's values -/

/-- The reference's list. -/
def refList (ids : S4096.Idx → BitVec 32) (offs : S16.Idx → BitVec 32) : S4096.Idx → BitVec 32 :=
  addi (Host.gather gather_S16_S4096x1_S4096_n_0_n_n_0_1_1 offs
      (broadcastInDim S4096x1 ![0] bcast_S4096_S4096x1_0
        (select (cmpi .slt ids (broadcastInDim S4096 ![] bcast_S_S4096 (constantI S_ 32 0#32)))
          (addi ids (broadcastInDim S4096 ![] bcast_S_S4096 (constantI S_ 32 16#32))) ids)))
    (Host.reduce IntOp.addi (extui 32 (andi
        (cmpi .eq (broadcastInDim S4096x4096 ![0, 1] bcast_S1x4096_S4096x4096_0_1 (broadcastInDim S1x4096 ![1] bcast_S4096_S1x4096_1 ids))
          (broadcastInDim S4096x4096 ![0, 1] bcast_S4096x1_S4096x4096_0_1 (broadcastInDim S4096x1 ![0] bcast_S4096_S4096x1_0 ids)))
        (cmpi .slt (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0)))))
        natLt_1_32)
      (constantI S_ 32 0#32) reducesTo_S4096x4096_S4096_d1 h_S_)

theorem expert_lt {n : Nat} (hn : n < 4096) : expert ids n = ids (idIx ⟨n, hn⟩) := dif_pos hn

theorem idx_eq (n : Fin 4096) : (Shape.Idx.ofFin n : S4096.Idx) = idIx n := funext fun a => match a with | 0 => rfl

theorem first_idx (e : Fin 16) : (Shape.Idx.ofFin e : S16.Idx) = lIx e := funext fun a => match a with | 0 => rfl

/-- The pairs before `n` of `n`'s expert, counted over all pairs. -/
theorem count_before (n : Fin 4096) :
    (Finset.univ.filter fun q : Fin 4096 => ids (idIx q) = ids (idIx n) ∧ q.val < n.val).card = before ids n.val (expert ids n.val) := by
  have e : (Finset.univ.filter fun q : Fin 4096 => ids (idIx q) = ids (idIx n) ∧ q.val < n.val)
      = Finset.univ.filter fun q : Fin 4096 => expert ids q.val = expert ids n.val ∧ q.val < n.val :=
    Finset.filter_congr fun q _ => by rw [expert_lt q.isLt, expert_lt n.isLt]
  rw [e, Routing.card_filter_fin 4096 fun q => expert ids q = expert ids n.val ∧ q < n.val]
  unfold before
  rw [Nat.count_eq_card_filter_range, Nat.count_eq_card_filter_range]
  congr 1
  ext q
  have := n.isLt
  simp only [Finset.mem_filter, Finset.mem_range]
  constructor
  · rintro ⟨-, h, h'⟩; exact ⟨h', h⟩
  · rintro ⟨h, h'⟩; exact ⟨by omega, h', h⟩

theorem refList_eq (R : Routed ids cnts offs) : refList ids offs = posOf ids offs := by
  funext j
  obtain ⟨n, rfl⟩ : ∃ n : Fin 4096, j = idIx n := ⟨j 0, funext fun a => match a with | 0 => rfl⟩
  have hx : expert ids n.val = ids (idIx n) := expert_lt n.isLt
  have he : (ids (idIx n)).toNat < 8 := by rw [← hx]; exact R.ids_lt n.val n.isLt
  have hn := n.isLt
  have hfirst : ∀ idx : IVec ⟨2, ![4096, 1]⟩ 32, idx (ixP n) = ids (idIx n) →
      Host.gather gather_S16_S4096x1_S4096_n_0_n_n_0_1_1 offs idx (idIx n) = firstOf offs (expert ids n.val) := by
    intro idx hidx
    rw [← idx_eq, gather_take gather_S16_S4096x1_S4096_n_0_n_n_0_1_1 rfl rfl rfl rfl offs idx n (by decide), hx, first_idx]
    unfold firstOf
    refine congrArg (fun e => offs (lIx e)) (Fin.ext ?_)
    show min (idx (ixP n)).toInt.toNat 15 = (ids (idIx n)).toNat % 16
    rw [hidx, toInt_eq_toNat_of_lt (by omega)]
    omega
  have hcount : ∀ mask : IVec ⟨2, ![4096, 4096]⟩ 1, (∀ q : Fin 4096, mask (ij n q) = 1#1 ↔ ids (idIx q) = ids (idIx n) ∧ q.val < n.val) →
      Host.reduce IntOp.addi (extui 32 mask natLt_1_32) (constantI S_ 32 0#32) reducesTo_S4096x4096_S4096_d1 h_S_ (idIx n)
        = BitVec.ofNat 32 (before ids n.val (expert ids n.val)) := by
    intro mask hmask
    refine BitVec.eq_of_toNat_eq ?_
    have hb := before_le (ids := ids) n.val (expert ids n.val)
    rw [toNat_reduce_count_cols (by decide) mask, BitVec.toNat_ofNat, Nat.mod_eq_of_lt (by omega), ← count_before]
    exact congrArg Finset.card (Finset.filter_congr fun q _ => hmask q)
  show IntOp.addi _ _ = IntOp.addi (firstOf offs (expert ids n.val)) (BitVec.ofNat 32 (before ids n.val (expert ids n.val)))
  refine congrArg₂ IntOp.addi (hfirst _ ?_) (hcount _ ?_)
  · rw [bcast_col1, idx_eq]
    exact select_small (ids (idIx n)) 16#32 (by omega)
  · intro q
    have hq := q.isLt
    refine IntOp.andi_eq_one.trans (and_congr ?_ ?_)
    · refine cmpi_eq_iff.trans ?_
      rw [bcast_cols, bcast_rows, idx_eq, idx_eq]
    · show IntOp.cmpi .slt _ _ = 1#1 ↔ _
      rw [bcast_cols, bcast_rows, Predicate.iota_apply, Predicate.iota_apply]
      rw [slt_iff_toNat (by rw [BitVec.toNat_ofNat]; omega) (by rw [BitVec.toNat_ofNat]; omega), BitVec.toNat_ofNat, BitVec.toNat_ofNat,
        Nat.mod_eq_of_lt (by omega), Nat.mod_eq_of_lt (by omega)]

/-- The reference's rows. -/
def refRows (x : S2048x1024.Idx → F .f32) : S4096x1024.Idx → F .f32 :=
  shapeCast S4096x1024 (broadcastInDim S2048x2x1024 ![0, 2] bcast_S2048x1024_S2048x2x1024_0_2 x)
    shapeCasts_S2048x2x1024_S4096x1024

theorem refRows_eq (x : S2048x1024.Idx → F .f32) : refRows x = pairRows x := by
  funext j
  obtain ⟨n, c, rfl⟩ : ∃ (n : Fin 4096) (c : Fin 1024), j = ix2 n c := ⟨j 0, j 1, funext fun a => match a with | 0 => rfl | 1 => rfl⟩
  have hn := n.isLt
  unfold refRows
  pointwise []
  refine congrArg x (funext fun a => ?_)
  match a with
  | 0 =>
    refine Fin.ext ?_
    show _ = n.val / 2 % 2048
    show n.val / 2 = _
    omega
  | 1 => rfl

end Values

end Cert.Proof.RouteReference

end
-- ==== Proof.RoutePre.lean ====
/-
  The dispatch call's precondition, read: the experts' numbers are below 8, each chunk's counts are the counts of its pairs,
  and the experts' rows fit one after another among the slots.
-/
module

public import proofs.«01_k».proof.Proof.RouteValues
public import proofs.«01_k».proof.Proof.Gen.Pre_routed
public import Idealize.ShloMosaic.Lib.StableHlo.Predicate
public import Idealize.ShloMosaic.Lib.Routing.Count
public import Idealize.ShloMosaic.Lib.ReduceAll
public import Idealize.ShloMosaic.Lib.Pointwise
public import Idealize.ShloMosaic.Lib.Pipeline.Value

@[expose] public section

noncomputable section

namespace Cert.Proof.RoutePre

open Cert.Pre_routed Cert.Pre_routed.Gen
open Idealize.ShloMosaic Idealize.ShloMosaic.StableHlo
open Idealize.ShloMosaic.StableHlo.Predicate
open Cert.Proof.Route (Routed idIx cIx lIx expert before before_le)

variable {F : FTy → Type} [FloatOps F]

/-- Which pairs are which expert's: at `(n, e)` whether pair `n` is expert `e`'s. -/
def hits (ids : S4096.Idx → BitVec 32) : IVec S4096x8 1 :=
  cmpi .eq (broadcastInDim S4096x8 ![0, 1] bcast_S4096x1_S4096x8_0_1 (broadcastInDim S4096x1 ![0] bcast_S4096_S4096x1_0 ids))
    (broadcastInDim S4096x8 ![0, 1] bcast_S1x8_S4096x8_0_1 (broadcastInDim S1x8 ![1] bcast_S8_S1x8_1 (iotaInDim S8 32 0)))

/-- How many pairs each expert has. -/
def totals (ids : S4096.Idx → BitVec 32) : IVec S8 32 :=
  Host.reduce IntOp.addi (extui 32 (hits ids) natLt_1_32) (constantI S_ 32 0#32) reducesTo_S4096x8_S8_d0 h_S_

/-- How many pairs of each chunk each expert has. -/
def chunkCounts (ids : S4096.Idx → BitVec 32) : IVec S32x8 32 :=
  Host.reduce IntOp.addi (shapeCast S32x128x8 (extui 32 (hits ids) natLt_1_32) shapeCasts_S4096x8_S32x128x8) (constantI S_ 32 0#32) reducesTo_S32x128x8_S32x8_d1 h_S_

variable {ids : S4096.Idx → BitVec 32} {cnts : S32x16.Idx → BitVec 32} {offs : S16.Idx → BitVec 32}

theorem idx_eq (n : Fin 4096) : (Shape.Idx.ofFin n : S4096.Idx) = idIx n := funext fun a => match a with | 0 => rfl

theorem hits_apply (n : Fin 4096) (e : Fin 8) : hits ids (ij n e) = 1#1 ↔ expert ids n.val = BitVec.ofNat 32 e.val := by
  refine cmpi_eq_iff.trans ?_
  rw [bcast_cols, bcast_rows, idx_eq, Predicate.iota_apply]
  unfold expert
  rw [dif_pos n.isLt]

theorem totals_apply (e : Fin 8) : (totals ids (ix1 e)).toNat = before ids 4096 (BitVec.ofNat 32 e.val) := by
  unfold totals
  rw [toNat_reduce_count_rows (by decide) (hits ids)]
  unfold before
  rw [← Routing.card_filter_fin 4096 fun m => expert ids m = BitVec.ofNat 32 e.val]
  exact congrArg Finset.card (Finset.filter_congr fun q _ => hits_apply q e)

theorem chunkCounts_apply (c : Fin 32) (e : Fin 8) :
    (chunkCounts ids (ix2 c e)).toNat = Nat.count (fun m => expert ids (128 * c.val + m) = BitVec.ofNat 32 e.val) 128 := by
  classical
  unfold chunkCounts
  have hcast : ∀ (c : Fin 32) (k : Fin 128) (e : Fin 8), shapeCast S32x128x8 (extui 32 (hits ids) natLt_1_32) shapeCasts_S4096x8_S32x128x8 (ix3 c k e)
      = extui 32 (hits ids) natLt_1_32 (ij ⟨128 * c.val + k.val, by omega⟩ e) := by
    intro c k e
    generalize extui 32 (hits ids) natLt_1_32 = w
    pointwise []
    refine congrArg w (funext fun a => ?_)
    match a with
    | 0 =>
      refine Fin.ext ?_
      show c.val * 128 + k.val = 128 * c.val + k.val
      omega
    | 1 => rfl
  generalize shapeCast S32x128x8 (extui 32 (hits ids) natLt_1_32) shapeCasts_S4096x8_S32x128x8 = w at hcast ⊢
  have hval : ∀ k : Fin 128, (w (ix3 c k e)).toNat = if expert ids (128 * c.val + k.val) = BitVec.ofNat 32 e.val then 1 else 0 := by
    intro k
    rw [hcast]
    refine (toNat_setWidth_bit _).trans ?_
    exact if_congr (hits_apply _ e) rfl rfl
  rw [Host.reduce_eq_fold]
  have hdrop : ∀ i : S32x128x8.Idx, reducesTo_S32x128x8_S32x8_d1.drop i = (ix2 c e : S32x8.Idx) ↔ i 0 = c ∧ i 2 = e := by
    intro i
    have h0 : (reducesTo_S32x128x8_S32x8_d1.drop i 0 : Nat) = i 0 := Shape.ReducesTo.drop_apply_val reducesTo_S32x128x8_S32x8_d1 i 0
    have h1 : (reducesTo_S32x128x8_S32x8_d1.drop i 1 : Nat) = i 2 := Shape.ReducesTo.drop_apply_val reducesTo_S32x128x8_S32x8_d1 i 1
    constructor
    · intro h
      rw [h] at h0 h1
      exact ⟨Fin.ext h0.symm, Fin.ext h1.symm⟩
    · rintro ⟨a, b⟩
      funext q
      match q with
      | 0 => exact Fin.ext (h0.trans (congrArg Fin.val a))
      | 1 => exact Fin.ext (h1.trans (congrArg Fin.val b))
  have hback : ∀ i : S32x128x8.Idx, i 0 = c → i 2 = e → ix3 c (i 1) e = i := by
    intro i a b
    funext q
    match q with
    | 0 => exact a.symm
    | 1 => rfl
    | 2 => exact b.symm
  have hsum : ∑ i ∈ Finset.univ.filter (fun i : S32x128x8.Idx => reducesTo_S32x128x8_S32x8_d1.drop i = (ix2 c e : S32x8.Idx)), (w i).toNat
      = Nat.count (fun m => expert ids (128 * c.val + m) = BitVec.ofNat 32 e.val) 128 := by
    rw [← Routing.card_filter_fin 128 fun m => expert ids (128 * c.val + m) = BitVec.ofNat 32 e.val, Finset.card_filter]
    refine Finset.sum_bij' (fun i _ => i 1) (fun k _ => ix3 c k e) (fun _ _ => Finset.mem_univ _)
      (fun k _ => Finset.mem_filter.2 ⟨Finset.mem_univ _, (hdrop _).2 ⟨rfl, rfl⟩⟩)
      (fun i hi => hback i ((hdrop i).1 (Finset.mem_filter.1 hi).2).1 ((hdrop i).1 (Finset.mem_filter.1 hi).2).2) (fun _ _ => rfl) ?_
    intro i hi
    have h := (hdrop i).1 (Finset.mem_filter.1 hi).2
    refine Eq.trans ?_ (hval (i 1))
    exact congrArg (fun x => (w x).toNat) (hback i h.1 h.2).symm
  show (Finset.fold IntOp.addi 0#32 w (Finset.univ.filter fun i : S32x128x8.Idx => reducesTo_S32x128x8_S32x8_d1.drop i = (ix2 c e : S32x8.Idx))).toNat = _
  rw [toNat_fold_addi _ _ (by rw [hsum]; exact lt_of_le_of_lt (Nat.count_le _) (by decide)), hsum]

theorem expert_small (v : BitVec 32) (h : IntOp.andi (IntOp.cmpi .sge v 0#32) (IntOp.cmpi .slt v 8#32) = 1#1) : v.toNat < 8 := by
  obtain ⟨h0, h1⟩ := IntOp.andi_eq_one.mp h
  rw [IntOp.cmpi_sge, BitVec.toInt_zero, BitVec.toInt_eq_toNat_cond] at h0
  rw [IntOp.cmpi_slt, BitVec.toInt_eq_toNat_cond, show (8#32).toInt = 8 from by decide] at h1
  split at h0 <;> omega

/-- A first slot that is at most `6144` less a count leaves room for the count. -/
theorem room (v t : BitVec 32) (ht : t.toNat ≤ 4096) (h : IntOp.andi (IntOp.cmpi .sge v 0#32) (IntOp.cmpi .sle v (IntOp.subi 6144#32 t)) = 1#1) : v.toNat + t.toNat ≤ 6144 := by
  obtain ⟨h0, h1⟩ := IntOp.andi_eq_one.mp h
  rw [IntOp.cmpi_sge, BitVec.toInt_zero, BitVec.toInt_eq_toNat_cond] at h0
  have hs : (IntOp.subi 6144#32 t).toNat = 6144 - t.toNat := by
    show (6144#32 - t).toNat = _
    rw [BitVec.toNat_sub_of_le (by show t.toNat ≤ 6144; omega)]
    rfl
  have hv : v.toNat < 2 ^ 31 := by split at h0 <;> omega
  rw [sle_iff_toNat hv (by rw [hs]; omega), hs] at h1
  omega

/-- Of the precondition, what the proof reads. -/
theorem routed_of_pre (x : FVec F S2048x1024 .f32) (h : Cert.Pre_routed.fn ids cnts offs x = fun _ => 1#1) : Routed ids cnts offs := by
  haveI : Subsingleton Cert.Pre_routed.S_.Idx := ⟨fun a b => funext fun k => k.elim0⟩
  have e := congrFun h (Shape.Idx.first h_S_)
  dsimp only [Cert.Pre_routed.fn, Cert.Pre_routed.fn_part1] at e
  obtain ⟨e1, eApart⟩ := IntOp.andi_eq_one.mp e
  obtain ⟨e2, eFits⟩ := IntOp.andi_eq_one.mp e1
  obtain ⟨eIds, eCounts⟩ := IntOp.andi_eq_one.mp e2
  have hIds := fun j => Host.reduce_andi_all _ _ _ _ _ eIds j
  have hCounts := fun j => Host.reduce_andi_all _ _ _ _ _ eCounts j
  have hFits := fun j => Host.reduce_andi_all _ _ _ _ _ eFits j
  have hApart := fun j => Host.reduce_andi_all _ _ _ _ _ eApart j
  clear e e1 e2 eIds eCounts eFits eApart h
  have tot_le : ∀ e : Fin 8, (totals ids (ix1 e)).toNat ≤ 4096 := fun e => by rw [totals_apply]; exact before_le _ _
  have fits : ∀ e : Fin 8, (offs (lIx ⟨e.val, by omega⟩)).toNat + (totals ids (ix1 e)).toNat ≤ 6144 := fun e =>
    room _ _ (tot_le e) (by
      have h := hFits (ix1 e)
      have ho : extractStridedSlice S8 ![0] offs slices_S16_S8_0 (ix1 e) = offs (lIx ⟨e.val, by omega⟩) :=
        extractStridedSlice_apply _ _ _ _ _ (fun a => match a with | 0 => by simp [lIx])
      rw [← ho]
      exact h)
  refine ⟨?_, ?_, ?_, ?_⟩
  · intro n hn
    unfold expert
    rw [dif_pos hn]
    exact expert_small _ (hIds (idIx ⟨n, hn⟩))
  · intro c e he
    have h := cmpi_eq_iff.mp (hCounts (ix2 c ⟨e.val, he⟩))
    have hs : extractStridedSlice S32x8 ![0, 0] cnts slices_S32x16_S32x8_0_0 (ix2 c (⟨e.val, he⟩ : Fin 8)) = cnts (cIx c e) :=
      extractStridedSlice_apply _ _ _ _ _ (fun a => match a with | 0 => by simp [cIx, ix2] | 1 => by simp [cIx, ix2])
    rw [← hs]
    refine h.trans (BitVec.eq_of_toNat_eq ?_)
    have hc := chunkCounts_apply (ids := ids) c ⟨e.val, he⟩
    have hl : Nat.count (fun m => expert ids (128 * c.val + m) = BitVec.ofNat 32 e.val) 128 ≤ 128 := Nat.count_le _
    rw [BitVec.toNat_ofNat, Nat.mod_eq_of_lt (by omega)]
    exact hc
  · intro e he
    have h := fits ⟨e.val, he⟩
    rw [totals_apply] at h
    exact h
  · intro e e' hee he'
    have h := hApart (ix1 ⟨e.val, by omega⟩)
    have h1 : (offs (lIx e)).toNat + (totals ids (ix1 ⟨e.val, by omega⟩)).toNat ≤ 6144 := fits ⟨e.val, by omega⟩
    have h2 : (offs (lIx e')).toNat + (totals ids (ix1 ⟨e'.val, he'⟩)).toNat ≤ 6144 := fits ⟨e'.val, he'⟩
    have hf : ∀ (k : Fin 7), extractStridedSlice S7 ![0] (extractStridedSlice S8 ![0] offs slices_S16_S8_0) slices_S8_S7_0 (ix1 k) = offs (lIx ⟨k.val, by omega⟩) := fun k =>
      (extractStridedSlice_apply _ _ _ _ (ix1 ⟨k.val, by omega⟩) (fun a => match a with | 0 => by simp)).trans
        (extractStridedSlice_apply _ _ _ _ _ (fun a => match a with | 0 => by simp [lIx]))
    have ht : ∀ (k : Fin 7), extractStridedSlice S7 ![0] (totals ids) slices_S8_S7_0 (ix1 k) = totals ids (ix1 ⟨k.val, by omega⟩) := fun k =>
      extractStridedSlice_apply _ _ _ _ _ (fun a => match a with | 0 => by simp)
    have hn : ∀ (k : Fin 7), extractStridedSlice S7 ![1] (extractStridedSlice S8 ![0] offs slices_S16_S8_0) slices_S8_S7_1 (ix1 k) = offs (lIx ⟨k.val + 1, by omega⟩) := fun k =>
      (extractStridedSlice_apply _ _ _ _ (ix1 ⟨k.val + 1, by omega⟩) (fun a => match a with | 0 => by simp; omega)).trans
        (extractStridedSlice_apply _ _ _ _ _ (fun a => match a with | 0 => by simp [lIx]))
    have he7 : e.val < 7 := by omega
    have ee : lIx e' = lIx ⟨e.val + 1, by omega⟩ := congrArg lIx (Fin.ext hee)
    have h' : IntOp.cmpi .sle (IntOp.addi (offs (lIx e)) (totals ids (ix1 ⟨e.val, by omega⟩))) (offs (lIx e')) = 1#1 := by
      refine Eq.trans (congrArg₂ (IntOp.cmpi .sle) (congrArg₂ IntOp.addi (hf ⟨e.val, he7⟩) (ht ⟨e.val, he7⟩)) ((hn ⟨e.val, he7⟩).trans (congrArg offs ee.symm))).symm ?_
      exact h
    have hs : (IntOp.addi (offs (lIx e)) (totals ids (ix1 ⟨e.val, by omega⟩))).toNat = (offs (lIx e)).toNat + (totals ids (ix1 ⟨e.val, by omega⟩)).toNat := by
      show (_ + _ : BitVec 32).toNat = _
      rw [BitVec.toNat_add, Nat.mod_eq_of_lt (by omega)]
    rw [sle_iff_toNat (by rw [hs]; omega) (by omega), hs, totals_apply] at h'
    exact h'

end Cert.Proof.RoutePre

end
-- ==== Proof.ExpertBlocks.lean ====
/-
  The expert call, tile by tile: under expert numbers below eight, the windows' side condition, what each window's block is
  at a tile, and the call's result array.

  At tile `t` the input windows hold rows `256 t … 256 t + 255` of the gathered rows and the three weight matrices of the
  expert that the tile's number names; the body stores one value over them (`k0_pay1`, the printed body's), and the tiles'
  blocks cover the result.
-/
module

public import proofs.«01_k».proof.Proof.Gen.ExpertIdeal.Frame
public import Idealize.ShloMosaic.Lib.Pipeline.ValueKit
public import Idealize.ShloMosaic.Lib.Pipeline.Covers

@[expose] public section

noncomputable section

namespace Cert.Proof.Expert

open Cert.ExpertIdeal Cert.ExpertIdeal.Gen
open Idealize.ShloMosaic Idealize.ShloMosaic.TcCoe Idealize.SL.Sem
open Idealize.ShloMosaic.Pipeline (Dat)

variable {F : FTy → Type} [FloatOps F]

/-! ## What the body stores -/

theorem hz2 : (![0, 0] : Fin 2 → Nat) = fun _ => 0 := by funext a; fin_cases a <;> rfl
theorem hz3 : (![0, 0, 0] : Fin 3 → Nat) = fun _ => 0 := by funext a; fin_cases a <;> rfl

/-- The body's one store covers the result's block, and its loads read whole blocks. -/
theorem out_eq (c : Dev nD) (i : grid0.Coords) (arg2 : Memref sig .tc .vmem S256x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S256x1024 .f32) (harg6 : arg6.IsWhole)
    (x0 : Vec F S256x1024 .f32) (x1 : Vec F S1x1024x1024 .f32) (x2 : Vec F S1x1024x1024 .f32) (x3 : Vec F S1x1024x1024 .f32) (xt0 : TbBuf0 (F := F) c tbM0_0) :
    out0_A_4 c i arg2 harg2 arg3 harg3 arg4 harg4 arg5 harg5 arg6 harg6 x0 x1 x2 x3 xt0 = k0_pay1 x0 x1 x2 x3 := by
  unfold out0_A_4
  rw [View.read_writes_eq_canon _ _ _ (cover0_A_4 c i arg2 harg2 arg3 harg3 arg4 harg4 arg5 harg5 arg6 harg6 x0 x1 x2 x3 xt0)]
  unfold kernelRun0_A
  dsimp only
  rw [View.canon_unit_zero hz2]
  simp only [View.readAt_eq_ld, harg2.read_unread, harg3.read_unread, harg4.read_unread, harg5.read_unread,
    View.ld_unit_zero (S := S256x1024) hz2, View.ld_unit_zero (S := S1x1024x1024) hz3]

/-! ## The index maps -/

/-- The tile's expert number, read off the table at the tile. -/
theorem table_at (pf : pre0.Contents (Elt F)) (i : grid0.Coords) :
    (pf.at 0 (Rect.unit (s := S24) ![(Scalar.indexCast (BitVec.ofNat 32 (i 0).val) : Index).toNat] S1.size (facts.k0_off1_inb i)) facts.numel1_S1 : BitVec 32)
      = (pf 0 : S24.Idx → BitVec 32) (ix1 (i 0)) := by
  have hi : (i 0).val < 24 := (i 0).isLt
  show (pf 0 : S24.Idx → BitVec 32) ((Rect.unit (s := S24) ![(Scalar.indexCast (BitVec.ofNat 32 (i 0).val) : Index).toNat] S1.size (facts.k0_off1_inb i)).emb (Shape.Idx.first (s := S1) (by decide))) = _
  congr 1
  funext (a : Fin 1)
  refine Fin.ext ?_
  obtain rfl : a = 0 := Subsingleton.elim _ _
  rw [Rect.emb_apply]
  show k0_off1 i 0 + 1 * 0 = (i 0).val
  rw [k0_off1_eq]
  rfl

theorem transform_1_eq (pf : pre0.Contents (Elt F)) (i : grid0.Coords) :
    cc0_transform_1 facts.k0_off1_inb facts.numel1_S1 pf i = ![((pf 0 : S24.Idx → BitVec 32) (ix1 (i 0))).toNat, 0, 0] := by
  unfold cc0_transform_1
  dsimp only
  rw [table_at]
  rfl

theorem ok_of_lt (m : (ℓ : Loc nD τ sig) → Buf (Elt F) ℓ)
    (h : ∀ x : S24.Idx, ((m (((0 : Dev nD) : Thread nD τ).loc main_arg4) : S24.Idx → BitVec 32) x).toNat < 8) : Ok m := by
  have key : ∀ i : grid0.Coords, ∃ h : (∀ a, (cc0_transform_1 facts.k0_off1_inb facts.numel1_S1 (tbl m) i a + 1) * S1x1024x1024.size a ≤ S8x1024x1024.size a),
      EltTy.bits .f32 = 32 ∨ (Rect.block (s := S8x1024x1024) S1x1024x1024.size (cc0_transform_1 facts.k0_off1_inb facts.numel1_S1 (tbl m) i) h).WholeWords (EltTy.packing .f32) := by
    intro i
    refine ⟨?_, .inl rfl⟩
    rw [transform_1_eq]
    intro a
    have hx := h (ix1 (i 0))
    match a with
    | (0 : Fin 3) => show (((m (((0 : Dev nD) : Thread nD τ).loc main_arg4) : S24.Idx → BitVec 32) (ix1 (i 0))).toNat + 1) * 1 ≤ 8; omega
    | (1 : Fin 3) => show (0 + 1) * 1024 ≤ 1024; omega
    | (2 : Fin 3) => show (0 + 1) * 1024 ≤ 1024; omega
  exact ⟨key, key, key⟩

/-! ## The blocks -/

variable (m : (ℓ : Loc nD τ sig) → Buf (Elt F) ℓ)

/-- The gathered rows, the weights, the tiles' expert numbers, as the call finds them. -/
abbrev rows (c : Dev nD) : S6144x1024.Idx → F .f32 := m ((c.tc : Thread nD τ).loc main_arg0)
abbrev gateW (c : Dev nD) : S8x1024x1024.Idx → F .f32 := m ((c.tc : Thread nD τ).loc main_arg1)
abbrev upW (c : Dev nD) : S8x1024x1024.Idx → F .f32 := m ((c.tc : Thread nD τ).loc main_arg2)
abbrev downW (c : Dev nD) : S8x1024x1024.Idx → F .f32 := m ((c.tc : Thread nD τ).loc main_arg3)
abbrev nums (c : Dev nD) : S24.Idx → BitVec 32 := m ((c.tc : Thread nD τ).loc main_arg4)

/-- Tile `t` of the gathered rows. -/
def tileOf (x : S6144x1024.Idx → F .f32) (t : Fin 24) : S256x1024.Idx → F .f32 :=
  fun y => x (ix2 ⟨256 * t.val + (y 0).val, by have := (y 0).isLt; have : S256x1024.size 0 = 256 := rfl; omega⟩ (y 1))

/-- Expert `e`'s matrix. -/
def matOf (w : S8x1024x1024.Idx → F .f32) (e : Fin 8) : S1x1024x1024.Idx → F .f32 :=
  fun y => w (ix3 e (y 1) (y 2))

/-- The expert tile `t` is computed by. -/
def expertAt (g : S24.Idx → BitVec 32) (t : Fin 24) : Fin 8 := ⟨(g (ix1 t)).toNat % 8, Nat.mod_lt _ (by decide)⟩

/-- The call's result array: tile by tile, the body's value over the tile's rows and its expert's matrices. -/
def mlp (x : S6144x1024.Idx → F .f32) (w1 w2 wc : S8x1024x1024.Idx → F .f32) (g : S24.Idx → BitVec 32) : S6144x1024.Idx → F .f32 :=
  fun j =>
    have h0 : (j 0).val < 6144 := (j 0).isLt
    let t : Fin 24 := ⟨(j 0).val / 256, by omega⟩
    let e := expertAt g t
    k0_pay1 (tileOf x t) (matOf w1 e) (matOf w2 e) (matOf wc e) (ix2 ⟨(j 0).val % 256, Nat.mod_lt _ (by decide)⟩ (j 1))

/-- The result at row `y 0` of tile `t`. -/
theorem mlp_at (x : S6144x1024.Idx → F .f32) (w1 w2 wc : S8x1024x1024.Idx → F .f32) (g : S24.Idx → BitVec 32) (t : Fin 24) (y : S256x1024.Idx) :
    mlp x w1 w2 wc g (ix2 ⟨256 * t.val + (y 0).val, by have : (y 0).val < 256 := (y 0).isLt; omega⟩ (y 1))
      = k0_pay1 (tileOf x t) (matOf w1 (expertAt g t)) (matOf w2 (expertAt g t)) (matOf wc (expertAt g t)) y := by
  have hy : (y 0).val < 256 := (y 0).isLt
  have e : ∀ (t' : Fin 24) (q : S256x1024.Idx), t' = t → q = y →
      k0_pay1 (tileOf x t') (matOf w1 (expertAt g t')) (matOf w2 (expertAt g t')) (matOf wc (expertAt g t')) q
        = k0_pay1 (tileOf x t) (matOf w1 (expertAt g t)) (matOf w2 (expertAt g t)) (matOf wc (expertAt g t)) y := by
    rintro _ _ rfl rfl; rfl
  refine e _ _ (Fin.ext ?_) (funext fun (a : Fin 2) => ?_)
  · show (256 * t.val + (y 0).val) / 256 = t.val
    omega
  · match a with
    | (0 : Fin 2) => exact Fin.ext (by show (256 * t.val + (y 0).val) % 256 = (y 0).val; omega)
    | (1 : Fin 2) => rfl

theorem coords_val (t : Fin grid0.N) : (grid0.coords t 0).val = t.val := (by decide +kernel : ∀ t : Fin grid0.N, (grid0.coords t 0).val = t.val) t

theorem iblk_0 (hO : Ok m) (c : Dev nD) (t : Fin (cfgM m hO).N) (t' : Fin 24) (ht : t'.val = t.val) :
    (iblk m hO c 0 t : S256x1024.Idx → F .f32) = tileOf (rows m c) t' := by
  funext (y : S256x1024.Idx)
  unfold iblk tileOf
  refine (View.read_apply _ _).trans ?_
  show rows m c ((((cfgM m hO).win 0).rect t).emb y) = _
  congr 1
  funext (a : Fin 2)
  refine Fin.ext ?_
  refine (Pipeline.Window.rect_emb_val ((cfgM m hO).win 0) t y a).trans ?_
  have hc := coords_val t
  have h24 : t.val < 24 := t.isLt
  have hi : (BitVec.ofNat 32 (grid0.coords t 0).val).toNat = t'.val := by rw [BitVec.toNat_ofNat, hc, ht]; omega
  match a with
  | (0 : Fin 2) =>
    show (BitVec.ofNat 32 (grid0.coords t 0).val).toNat * 256 + (y 0).val = 256 * t'.val + (y 0).val
    rw [hi]; omega
  | (1 : Fin 2) => show 0 * 1024 + (y 1).val = (y 1).val; omega

/-- Where a weight window's block lies: one matrix, the tile's expert's, whole. -/
theorem mat_coord (g : S24.Idx → BitVec 32) (pf : pre0.Contents (Elt F)) (hg : (pf 0 : S24.Idx → BitVec 32) = g) (hlt : ∀ x, (g x).toNat < 8)
    (t : Fin grid0.N) (t' : Fin 24) (ht : t'.val = t.val) (y : S1x1024x1024.Idx) (a : Fin 3) :
    cc0_transform_1 facts.k0_off1_inb facts.numel1_S1 pf (grid0.coords t) a * S1x1024x1024.size a + (y a).val
      = (ix3 (expertAt g t') (y 1) (y 2) a).val := by
  have hc : (grid0.coords t 0) = t' := Fin.ext ((coords_val t).trans ht.symm)
  rw [transform_1_eq, hg, hc]
  have hy : (y 0).val < 1 := (y 0).isLt
  have hx := hlt (ix1 t')
  match a with
  | (0 : Fin 3) =>
    show (g (ix1 t')).toNat * 1 + (y 0).val = (g (ix1 t')).toNat % 8
    omega
  | (1 : Fin 3) => show 0 * 1024 + (y 1).val = (y 1).val; omega
  | (2 : Fin 3) => show 0 * 1024 + (y 2).val = (y 2).val; omega

/-- A weight window's block is the matrix of the tile's expert. -/
theorem iblk_1 (hO : Ok m) (c : Dev nD) (hlt : ∀ x, (nums m c x).toNat < 8) (t : Fin (cfgM m hO).N) (t' : Fin 24) (ht : t'.val = t.val) :
    (iblk m hO c 1 t : S1x1024x1024.Idx → F .f32) = matOf (gateW m c) (expertAt (nums m c) t') := by
  obtain rfl : c = 0 := Subsingleton.elim _ _
  funext (y : S1x1024x1024.Idx)
  unfold iblk matOf
  refine (View.read_apply _ _).trans ?_
  show gateW m 0 ((((cfgM m hO).win 1).rect t).emb y) = _
  congr 1
  funext (a : Fin 3)
  exact Fin.ext ((Pipeline.Window.rect_emb_val ((cfgM m hO).win 1) t y a).trans (mat_coord (nums m 0) (tbl m) rfl hlt t t' ht y a))

theorem iblk_2 (hO : Ok m) (c : Dev nD) (hlt : ∀ x, (nums m c x).toNat < 8) (t : Fin (cfgM m hO).N) (t' : Fin 24) (ht : t'.val = t.val) :
    (iblk m hO c 2 t : S1x1024x1024.Idx → F .f32) = matOf (upW m c) (expertAt (nums m c) t') := by
  obtain rfl : c = 0 := Subsingleton.elim _ _
  funext (y : S1x1024x1024.Idx)
  unfold iblk matOf
  refine (View.read_apply _ _).trans ?_
  show upW m 0 ((((cfgM m hO).win 2).rect t).emb y) = _
  congr 1
  funext (a : Fin 3)
  exact Fin.ext ((Pipeline.Window.rect_emb_val ((cfgM m hO).win 2) t y a).trans (mat_coord (nums m 0) (tbl m) rfl hlt t t' ht y a))

theorem iblk_3 (hO : Ok m) (c : Dev nD) (hlt : ∀ x, (nums m c x).toNat < 8) (t : Fin (cfgM m hO).N) (t' : Fin 24) (ht : t'.val = t.val) :
    (iblk m hO c 3 t : S1x1024x1024.Idx → F .f32) = matOf (downW m c) (expertAt (nums m c) t') := by
  obtain rfl : c = 0 := Subsingleton.elim _ _
  funext (y : S1x1024x1024.Idx)
  unfold iblk matOf
  refine (View.read_apply _ _).trans ?_
  show downW m 0 ((((cfgM m hO).win 3).rect t).emb y) = _
  congr 1
  funext (a : Fin 3)
  exact Fin.ext ((Pipeline.Window.rect_emb_val ((cfgM m hO).win 3) t y a).trans (mat_coord (nums m 0) (tbl m) rfl hlt t t' ht y a))

/-! ## The result -/

theorem covers_4 (hO : Ok m) : ((cfgM m hO).win 4).Covers := by
  refine Pipeline.Window.covers_of_indexMap_surj _ rfl (fun (a : Fin 2) => ?_) fun β => ?_
  · match a with
    | (0 : Fin 2) => exact (by decide : 0 < 256)
    | (1 : Fin 2) => exact (by decide : 0 < 1024)
  have h0 : ((cfgM m hO).win 4).nblk (0 : Fin 2) = 24 := by
    show (6144 + 256 - 1) / 256 = 24; rfl
  have h1 : ((cfgM m hO).win 4).nblk (1 : Fin 2) = 1 := by
    show (1024 + 1024 - 1) / 1024 = 1; rfl
  have hb : (β (0 : Fin 2)).val < 24 := lt_of_lt_of_eq (β (0 : Fin 2)).isLt h0
  have hb1 : (β (1 : Fin 2)).val < 1 := lt_of_lt_of_eq (β (1 : Fin 2)).isLt h1
  refine ⟨fun (a : Fin 1) => match a with | 0 => (⟨(β (0 : Fin 2)).val, hb⟩ : Fin 24), fun (a : Fin 2) => ?_⟩
  match a with
  | (0 : Fin 2) =>
    show (BitVec.ofNat 32 (β (0 : Fin 2)).val).toNat = (β (0 : Fin 2)).val
    rw [BitVec.toNat_ofNat]; omega
  | (1 : Fin 2) => show 0 = (β (1 : Fin 2)).val; omega

/-- After the run the result array is `mlp` of the arguments. -/
theorem arrAt_eq (hO : Ok m) (c : Dev nD) (hlt : ∀ x, (nums m c x).toNat < 8) :
    (dats m hO 0 c).arrAt 4 (cfgM m hO).N = mlp (rows m c) (gateW m c) (upW m c) (downW m c) (nums m c) := by
  refine (dats m hO 0 c).arrAt_eq_of_covers 4 _ (covers_4 m hO) fun t _ (y : S256x1024.Idx) => ?_
  have ht : t.val < 24 := t.isLt
  have hy : (y 0).val < 256 := (y 0).isLt
  refine (congrFun (after0_4 m hO c t) y).trans ?_
  unfold outsAt0
  refine (congrFun (out_eq _ _ _ _ _ _ _ _ _ _ _ _ _ _ _ _ _) y).trans ?_
  have e0 := iblk_0 m hO c t ⟨t.val, ht⟩ rfl
  have e1 := iblk_1 m hO c hlt t ⟨t.val, ht⟩ rfl
  have e2 := iblk_2 m hO c hlt t ⟨t.val, ht⟩ rfl
  have e3 := iblk_3 m hO c hlt t ⟨t.val, ht⟩ rfl
  generalize iblk m hO c 0 t = b0 at e0 ⊢
  generalize iblk m hO c 1 t = b1 at e1 ⊢
  generalize iblk m hO c 2 t = b2 at e2 ⊢
  generalize iblk m hO c 3 t = b3 at e3 ⊢
  change S256x1024.Idx → F .f32 at b0
  change S1x1024x1024.Idx → F .f32 at b1 b2 b3
  subst e0 e1 e2 e3
  have hz : (((cfgM m hO).win 4).blk t).view.emb y = (ix2 ⟨256 * t.val + (y 0).val, by omega⟩ (y 1) : S6144x1024.Idx) := by
    funext (a : Fin 2)
    refine Fin.ext ((Pipeline.Window.rect_emb_val ((cfgM m hO).win 4) t y a).trans ?_)
    have hi : (BitVec.ofNat 32 (grid0.coords t 0).val).toNat = t.val := by rw [BitVec.toNat_ofNat, coords_val t]; omega
    match a with
    | (0 : Fin 2) =>
      show (BitVec.ofNat 32 (grid0.coords t 0).val).toNat * 256 + (y 0).val = 256 * t.val + (y 0).val
      rw [hi]; omega
    | (1 : Fin 2) => show 0 * 1024 + (y 1).val = (y 1).val; omega
  rw [hz]
  exact (mlp_at _ _ _ _ _ ⟨t.val, ht⟩ y).symm

/-! ## The run -/

/-- Under expert numbers below eight: every weakly fair execution of the call terminates, with the result at `mlp` of the
    arguments, the arguments unchanged and every counter zero. -/
theorem run_main (ρ : Dev nD → PrngReg) (hlt : ∀ c x, (nums m c x).toNat < 8) :
    θ_run (defs (F := F)) (onTc (τ := τ) (main (F := F))) ⟨m, fun _ => 0, ρ⟩ fun r =>
      (∀ c : Dev nD,
        r.2.mem ((c.tc : Thread nD τ).loc main_v0) = mlp (rows m c) (gateW m c) (upW m c) (downW m c) (nums m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  have hO : Ok m := ok_of_lt m (hlt 0)
  (θ_run defs _ _).mono (fun _ h => ⟨fun c => ⟨(h.2.1.out_eq c 4).trans (arrAt_eq m hO c (hlt c)), h.1 c⟩, h.2.2⟩)
    (θ_run_and (unchanged m ρ hO) (run_main_quiescent m ρ hO))

end Cert.Proof.Expert

end
-- ==== Proof.ExpertReference.lean ====
/-
  What the expert call's reference computes, index by index, and that over the extended reals it is the call's value.
-/
module

public import proofs.«01_k».proof.Proof.ExpertBlocks
public import proofs.«01_k».proof.Proof.Gen.ExpertReferenceIdeal.Run
public import Idealize.ShloMosaic.Lib.Pointwise

@[expose] public section

noncomputable section

namespace Cert.Proof.ExpertReference

open Cert.ExpertReferenceIdeal Cert.ExpertReferenceIdeal.Gen
open Idealize.ShloMosaic Idealize.SL.Sem
open Cert.Proof.Expert (tileOf matOf expertAt mlp)

/-! ## The kernel's value at an index -/

/-- A tile's value at `(q, d)`: over the hidden units, the gate's product times its logistic times the up product, against the
    down matrix. -/
theorem pay_at (x : Cert.ExpertIdeal.S256x1024.Idx → Ideal .f32) (w1 w2 wc : Cert.ExpertIdeal.S1x1024x1024.Idx → Ideal .f32) (q : Fin 256) (d : Fin 1024) :
    Cert.ExpertIdeal.Gen.k0_pay1 x w1 w2 wc (ix2 q d)
      = ∑ h : Fin 1024, ((∑ k : Fin 1024, x (ix2 q k) * w1 (ix3 0 h k)) * Ideal.logistic (∑ k : Fin 1024, x (ix2 q k) * w1 (ix3 0 h k))
          * ∑ k : Fin 1024, x (ix2 q k) * w2 (ix3 0 h k)) * wc (ix3 0 d h) := by
  unfold Cert.ExpertIdeal.Gen.k0_pay1
  pointwise []

/-! ## The tiles' matrices, gathered -/

/-- The tiles' expert numbers as the reference reads the matrices by them: a negative one counted from the end. -/
def starts (g : S24.Idx → BitVec 32) : S24.Idx → BitVec 32 :=
  select (cmpi .slt g (broadcastInDim S24 ![] bcast_S_S24 (constantI S_ 32 0#32))) (addi g (broadcastInDim S24 ![] bcast_S_S24 (constantI S_ 32 8#32))) g

/-- An expert number below eight is not negative. -/
theorem starts_apply (g : S24.Idx → BitVec 32) (hlt : ∀ x, (g x).toNat < 8) (t : Fin 24) : starts g (ix1 t) = g (ix1 t) := by
  unfold starts
  pointwise []
  have h := hlt (ix1 t)
  generalize g (ix1 t) = v at h ⊢
  have hv : IntOp.cmpi .slt v 0#32 = 0#1 := by
    have : v.slt 0#32 = false := by
      simp only [BitVec.slt, BitVec.toInt_eq_toNat_cond, BitVec.toNat_ofNat, decide_eq_false_iff_not]
      omega
    simp only [IntOp.cmpi, this]
    rfl
  rw [hv]
  rfl

abbrev matsOf : GatherDims S8x1024x1024 S24x1 S24x1024x1024 := gather_S8x1024x1024_S24x1_S24x1024x1024_12_0_n_n_0_1_110241024

/-- The gather at `(t, h, k)`: the matrix that the index `t` names, read signed and clamped, at `(h, k)`. -/
theorem gather_apply {α : Type} (x : S8x1024x1024.Idx → α) (w : IVec S24x1 32) (t : Fin 24) (h k : Fin 1024) :
    Host.gather matsOf x w (ix3 t h k) = x (ix3 ⟨min (w (ix2 t (0 : Fin 1))).toInt.toNat 7, by omega⟩ h k) := by
  unfold Host.gather
  congr 1
  funext a
  refine Fin.ext ?_
  show matsOf.start (ix3 t h k) w a + matsOf.batchCoord (ix3 t h k) a + matsOf.offCoord (ix3 t h k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    unfold GatherDims.start
    rw [dif_pos (show (0 : Fin 3) ∈ matsOf.startIndexMap from List.mem_singleton.mpr rfl)]
    have hsi : matsOf.siIdx (ix3 t h k) ⟨List.idxOf (0 : Fin 3) matsOf.startIndexMap, List.idxOf_lt_length_iff.2 (List.mem_singleton.mpr rfl)⟩
        = ix2 t (0 : Fin 1) := by
      funext b; refine Fin.ext ?_
      match b with
      | ⟨0, _⟩ => rfl
      | ⟨1, _⟩ => rfl
    rw [hsi]
    rfl
  | 1 =>
    unfold GatherDims.start
    rw [dif_neg (show (1 : Fin 3) ∉ matsOf.startIndexMap by decide)]
    show 0 + 0 + matsOf.offCoord (ix3 t h k) 1 = h.val
    rw [Nat.zero_add]
    unfold GatherDims.offCoord
    rw [dif_pos (show (1 : Fin 3) ∈ matsOf.sKept by decide)]
    rfl
  | 2 =>
    unfold GatherDims.start
    rw [dif_neg (show (2 : Fin 3) ∉ matsOf.startIndexMap by decide)]
    show 0 + 0 + matsOf.offCoord (ix3 t h k) 2 = k.val
    rw [Nat.zero_add]
    unfold GatherDims.offCoord
    rw [dif_pos (show (2 : Fin 3) ∈ matsOf.sKept by decide)]
    rfl

/-- The matrices, tile by tile. -/
def mats (w : S8x1024x1024.Idx → Ideal .f32) (g : S24.Idx → BitVec 32) : S24x1024x1024.Idx → Ideal .f32 :=
  Host.gather matsOf w (broadcastInDim S24x1 ![0] bcast_S24_S24x1_0 (starts g))

theorem mats_apply (w : S8x1024x1024.Idx → Ideal .f32) (g : S24.Idx → BitVec 32) (hlt : ∀ x, (g x).toNat < 8) (t : Fin 24) (h k : Fin 1024) :
    mats w g (ix3 t h k) = matOf w (expertAt g t) (ix3 0 h k) := by
  unfold mats
  rw [gather_apply]
  have e : broadcastInDim S24x1 ![0] bcast_S24_S24x1_0 (starts g) (ix2 t (0 : Fin 1)) = g (ix1 t) := by
    refine Eq.trans ?_ (starts_apply g hlt t)
    generalize starts g = w
    pointwise []
  have hx := hlt (ix1 t)
  unfold matOf
  congr 2
  refine Fin.ext ?_
  show min (broadcastInDim S24x1 ![0] bcast_S24_S24x1_0 (starts g) (ix2 t (0 : Fin 1))).toInt.toNat 7 = (g (ix1 t)).toNat % 8
  rw [e, BitVec.toInt_eq_toNat_cond]
  omega

/-! ## The value -/

abbrev dots : DotDims S24x256x1024 S24x1024x1024 S24x256x1024 := dot_S24x256x1024_S24x1024x1024_S24x256x1024_2_2_1_1_0_0

/-- The reference's products over the tiles `x`, the tiles' matrices given. -/
def products (x : S24x256x1024.Idx → Ideal .f32) (w1 w2 wc : S24x1024x1024.Idx → Ideal .f32) : S24x256x1024.Idx → Ideal .f32 :=
  Host.dotGeneral dots none
    (mulf (mulf (Host.dotGeneral dots none x w1)
      (Host.divf (broadcastInDim S24x256x1024 ![] bcast_S_S24x256x1024 (constant S_ .f32 0x3F800000#32))
        (addf (broadcastInDim S24x256x1024 ![] bcast_S_S24x256x1024 (constant S_ .f32 0x3F800000#32)) (Host.exp (Host.negf (Host.dotGeneral dots none x w1))))))
      (Host.dotGeneral dots none x w2)) wc

theorem products_at (x : S24x256x1024.Idx → Ideal .f32) (w1 w2 wc : S24x1024x1024.Idx → Ideal .f32) (t : Fin 24) (q : Fin 256) (d : Fin 1024) :
    products x w1 w2 wc (ix3 t q d)
      = ∑ h : Fin 1024, ((∑ k : Fin 1024, x (ix3 t q k) * w1 (ix3 t h k)) * Ideal.logistic (∑ k : Fin 1024, x (ix3 t q k) * w1 (ix3 t h k))
          * ∑ k : Fin 1024, x (ix3 t q k) * w2 (ix3 t h k)) * wc (ix3 t d h) := by
  unfold products
  pointwise []
  rfl

/-- The reference's result. -/
def value (x : S6144x1024.Idx → Ideal .f32) (w1 w2 wc : S8x1024x1024.Idx → Ideal .f32) (g : S24.Idx → BitVec 32) : S6144x1024.Idx → Ideal .f32 :=
  shapeCast S6144x1024 (products (shapeCast S24x256x1024 x shapeCasts_S6144x1024_S24x256x1024) (mats w1 g) (mats w2 g) (mats wc g)) shapeCasts_S24x256x1024_S6144x1024

theorem tiles_apply (x : S6144x1024.Idx → Ideal .f32) (t : Fin 24) (q : Fin 256) (k : Fin 1024) :
    shapeCast S24x256x1024 x shapeCasts_S6144x1024_S24x256x1024 (ix3 t q k) = tileOf x t (ix2 q k) := by
  have e : tileOf x t (ix2 q k) = x (ix2 ⟨256 * t.val + q.val, by omega⟩ k) := rfl
  rw [e]
  pointwise []
  congr 2
  exact Fin.ext (by show t.val * 256 + q.val = 256 * t.val + q.val; omega)

theorem value_at (x : S6144x1024.Idx → Ideal .f32) (w1 w2 wc : S8x1024x1024.Idx → Ideal .f32) (g : S24.Idx → BitVec 32) (hlt : ∀ y, (g y).toNat < 8)
    (r : Fin 6144) (d : Fin 1024) : value x w1 w2 wc g (ix2 r d) = mlp x w1 w2 wc g (ix2 r d) := by
  have hv : value x w1 w2 wc g (ix2 r d)
      = products (shapeCast S24x256x1024 x shapeCasts_S6144x1024_S24x256x1024) (mats w1 g) (mats w2 g) (mats wc g)
          (ix3 ⟨r.val / 256, by omega⟩ ⟨r.val % 256, Nat.mod_lt _ (by decide)⟩ d) := by
    unfold value
    generalize products (shapeCast S24x256x1024 x shapeCasts_S6144x1024_S24x256x1024) (mats w1 g) (mats w2 g) (mats wc g) = p
    pointwise []
  rw [hv, products_at]
  refine Eq.trans ?_ (pay_at _ _ _ _ _ _).symm
  simp only [tiles_apply, mats_apply _ g hlt]
  rfl

/-- The reference computes the kernel's value. -/
theorem value_eq (x : S6144x1024.Idx → Ideal .f32) (w1 w2 wc : S8x1024x1024.Idx → Ideal .f32) (g : S24.Idx → BitVec 32) (hlt : ∀ y, (g y).toNat < 8) :
    value x w1 w2 wc g = mlp x w1 w2 wc g := by
  funext j
  have e : j = (ix2 (j 0 : Fin 6144) (j 1 : Fin 1024) : S6144x1024.Idx) := by
    funext (a : Fin 2)
    match a with
    | (0 : Fin 2) => rfl
    | (1 : Fin 2) => rfl
  rw [e]
  exact value_at x w1 w2 wc g hlt (j 0) (j 1)

end Cert.Proof.ExpertReference

end
-- ==== Proof.RouterBlocks.lean ====
/-
  The router's run: what its windows hold, and that its result arrays are the body's values over the arguments.
-/
module

public import proofs.«01_k».proof.Proof.Gen.RouterIdeal.Value
public import Idealize.ShloMosaic.Lib.Pipeline.ValueKit
public import Idealize.ShloMosaic.Lib.Pipeline.Covers
public import Idealize.ShloMosaic.Lib.Pointwise
public import Idealize.ShloMosaic.Lib.Routing.OpsOne

@[expose] public section

noncomputable section

namespace Cert.Proof.Router

open Cert.RouterIdeal Cert.RouterIdeal.Gen
open Idealize.ShloMosaic Idealize.ShloMosaic.TcCoe Idealize.SL.Sem
open Idealize.ShloMosaic.Pipeline (Dat)

variable {F : FTy → Type} [FloatOps F] [Named F]

/-! ## The experts' weights, padded -/

/-- Where the padding writes: the corner. -/
abbrev corner : S1.Idx → BitVec 32 := broadcastInDim S1 ![] bcast_S_S1 (constantI S_ 32 0#32)

/-- The experts' weights as the kernel takes them: one column each, in the first eight of 128 columns. -/
def padded (g : S8x1024.Idx → F .f32) : S1024x128.Idx → F .f32 :=
  Host.scatter scatter_S1024x128_S1_S1024x8_01_n_1_0 (fun _ b => b)
    (broadcastInDim S1024x128 ![] bcast_S_S1024x128 (constant S_ .f32 0x00000000#32) : S1024x128.Idx → F .f32) corner
    (transpose S1024x8 [1, 0] g transposes_S8x1024_S1024x8_1_0)

abbrev padDims : ScatterDims S1024x128 S1 S1024x8 := scatter_S1024x128_S1_S1024x8_01_n_1_0

theorem lands (a : Fin 1024) (b : Fin 8) (k : Fin 1024) (j : Fin 128) :
    padDims.resultIdx? (ix2 a b) corner = some (ix2 k j) ↔ a = k ∧ b.val = j.val := by
  have hw0 : padDims.window (ix2 a b) 0 = a.val := by
    unfold ScatterDims.window
    rw [dif_pos (show (0 : Fin 2) ∈ padDims.sKept by decide)]
    rfl
  have hw1 : padDims.window (ix2 a b) 1 = b.val := by
    unfold ScatterDims.window
    rw [dif_pos (show (1 : Fin 2) ∈ padDims.sKept by decide)]
    rfl
  have hs0 : padDims.start (ix2 a b) corner 0 = 0 := by
    unfold ScatterDims.start
    rw [dif_neg (show (0 : Fin 2) ∉ padDims.scatterDimsToOperandDims by decide)]
  have hs1 : padDims.start (ix2 a b) corner 1 = 0 := by
    unfold ScatterDims.start
    rw [dif_pos (show (1 : Fin 2) ∈ padDims.scatterDimsToOperandDims by decide)]
    rfl
  rw [Fin.ext_iff]
  refine (Routing.resultIdx?_ix2 padDims _ _ _ _).trans ?_
  rw [hs0, hs1, hw0, hw1]
  omega

/-- Expert `j`'s column. -/
theorem padded_at (g : S8x1024.Idx → F .f32) (k : Fin 1024) (j : Fin 8) : padded g (ix2 k (j.castLE (by decide))) = g (ix2 j k) := by
  unfold padded
  refine Routing.scatter_set_hit _ _ _ _ _ _ (fun q hq => ?_) (ix2 k j) ((lands k j k _).mpr ⟨rfl, rfl⟩)
  have hq' : padDims.resultIdx? (ix2 (q 0) (q 1)) corner = some (ix2 k (j.castLE (by decide) : Fin 128)) :=
    (congrArg (fun t => padDims.resultIdx? t corner) (eq_ix2 q).symm).trans hq
  obtain ⟨h0, h1⟩ := (lands (q 0) (q 1) k _).mp hq'
  have e : q = ix2 k j := (eq_ix2 q).trans (by rw [h0, show (q 1 : Fin 8) = j from Fin.ext h1])
  subst e
  pointwise []

/-! ## The windows -/

variable (m : (ℓ : Loc nD τ sig) → Buf (Elt F) ℓ)

/-- The tokens and the experts' weights, as the call finds them. -/
abbrev tokens (c : Dev nD) : S2048x1024.Idx → F .f32 := m ((c.tc : Thread nD τ).loc main_arg0)
abbrev weights (c : Dev nD) : S8x1024.Idx → F .f32 := m ((c.tc : Thread nD τ).loc main_arg1)

/-- What the host operations before the call leave for the experts' weights. -/
theorem host_padded (W : Valuation τ sig (Elt F)) : StableHlo.after hostOps0 W (main_v3 : DevRef τ sig) = padded (W (main_arg1 : DevRef τ sig)) := by
  after_results <;> rfl

theorem V_padded (c : Dev nD) : (V m c main_v3 : S1024x128.Idx → F .f32) = padded (weights m c) := host_padded fun b => m (c, b)

theorem iblk_0 (c : Dev nD) (t : Fin cfg0.N) : (iblk m c 0 t : S2048x1024.Idx → F .f32) = tokens m c := by
  have hV : (V m c main_arg0 : S2048x1024.Idx → F .f32) = tokens m c := V_main_arg0 m c
  rw [← hV]
  funext (y : S2048x1024.Idx)
  unfold iblk
  refine (View.read_apply _ _).trans ?_
  show V m c main_arg0 (((cfg0.win 0).rect t).emb y) = V m c main_arg0 y
  congr 1
  funext (a : Fin 2)
  refine Fin.ext ((Pipeline.Window.rect_emb_val (cfg0.win 0) t y a).trans ?_)
  match a with
  | (0 : Fin 2) => show 0 * 2048 + (y 0).val = (y 0).val; omega
  | (1 : Fin 2) => show 0 * 1024 + (y 1).val = (y 1).val; omega

theorem iblk_1 (c : Dev nD) (t : Fin cfg0.N) : (iblk m c 1 t : S1024x128.Idx → F .f32) = padded (weights m c) := by
  rw [← V_padded m c]
  funext (y : S1024x128.Idx)
  unfold iblk
  refine (View.read_apply _ _).trans ?_
  show V m c main_v3 (((cfg0.win 1).rect t).emb y) = V m c main_v3 y
  congr 1
  funext (a : Fin 2)
  refine Fin.ext ((Pipeline.Window.rect_emb_val (cfg0.win 1) t y a).trans ?_)
  match a with
  | (0 : Fin 2) => show 0 * 1024 + (y 0).val = (y 0).val; omega
  | (1 : Fin 2) => show 0 * 128 + (y 1).val = (y 1).val; omega

/-- Which number is smaller than which: the host's triangle of ones. -/
def triangle : S128x128.Idx → F .f32 :=
  uitofp .f32 (cmpi .slt (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

theorem host_triangle (W : Valuation τ sig (Elt F)) : StableHlo.after hostOps0 W (main_v11 : DevRef τ sig) = (triangle : S128x128.Idx → F .f32) := by
  after_results <;> rfl

theorem V_triangle (c : Dev nD) : (V m c main_v11 : S128x128.Idx → F .f32) = triangle := host_triangle fun b => m (c, b)

theorem iblk_2 (c : Dev nD) (t : Fin cfg0.N) : (iblk m c 2 t : S128x128.Idx → F .f32) = triangle := by
  rw [← V_triangle m c]
  funext (y : S128x128.Idx)
  unfold iblk
  refine (View.read_apply _ _).trans ?_
  show V m c main_v11 (((cfg0.win 2).rect t).emb y) = V m c main_v11 y
  congr 1
  funext (a : Fin 2)
  refine Fin.ext ((Pipeline.Window.rect_emb_val (cfg0.win 2) t y a).trans ?_)
  match a with
  | (0 : Fin 2) => show 0 * 128 + (y 0).val = (y 0).val; omega
  | (1 : Fin 2) => show 0 * 128 + (y 1).val = (y 1).val; omega

/-! ## What the body stores -/

theorem origin : (![0, 0] : Fin 2 → Nat) = fun _ => 0 := by funext a; fin_cases a <;> rfl

theorem out3_eq (x0 : S2048x1024.Idx → F .f32) (x1 : S1024x128.Idx → F .f32) (x2 : S128x128.Idx → F .f32) :
    out0_3 (F := F) x0 x1 x2 = k0_pay11 (F := F) x0 x1 := by
  unfold_out out0_3
  rw [View.canon_unit_zero origin]
  simp only [View.ld_unit_zero (S := S2048x1024) origin, View.ld_unit_zero (S := S1024x128) origin]

theorem out4_eq (x0 : S2048x1024.Idx → F .f32) (x1 : S1024x128.Idx → F .f32) (x2 : S128x128.Idx → F .f32) :
    out0_4 (F := F) x0 x1 x2 = k0_pay12 (k0_pay9 (F := F) x0 x1) (k0_pay10 (F := F) x0 x1) := by
  unfold_out out0_4
  rw [View.canon_unit_zero origin]
  simp only [View.ld_unit_zero (S := S2048x1024) origin, View.ld_unit_zero (S := S1024x128) origin]

theorem out5_eq (x0 : S2048x1024.Idx → F .f32) (x1 : S1024x128.Idx → F .f32) (x2 : S128x128.Idx → F .f32) :
    out0_5 (F := F) x0 x1 x2 = k0_pay13 (k0_pay4 (F := F) x0 x1) (k0_pay7 (F := F) x0 x1) := by
  unfold_out out0_5
  rw [View.canon_unit_zero origin]
  simp only [View.ld_unit_zero (S := S2048x1024) origin, View.ld_unit_zero (S := S1024x128) origin]

/-- A step of the tiles' table, given an expert's first slot: with it the tile size, their quotient and the slot's sign. -/
abbrev given {α : Type} (f : BitVec 32 → BitVec 32 → BitVec 32 → BitVec 32 → BitVec 32 → α) (v : BitVec 32) : α :=
  f v 256#32 (Scalar.divsi v 256#32) (Scalar.subi (Scalar.extui (Scalar.cmpi .sgt v 0#32)) (Scalar.extui (Scalar.cmpi .slt v 0#32))) 0#32

/-- The lanes' numbers. -/
abbrev numbers : S1x128.Idx → BitVec 32 := iota .tc S1x128 32 [1] iota_S1x128_d1_w32

/-- The word of a single-entry vector. -/
abbrev word (v : S1x1.Idx → BitVec 32) : BitVec 32 := extractAt ![0, 0] v inpos_S1x1_p0_0

/-- The first slots and the tiles' experts, from the first slots. -/
def table (S : S1x128.Idx → BitVec 32) : S2x128.Idx → BitVec 32 :=
  given (k0_pay1 S numbers (given (k0_pay21 S numbers (given (k0_pay19 S numbers
    (given (k0_pay17 S numbers k0_pay15) (word (extractStridedSlice S1x1 ![0, 0] S slices_S1x128_o0_0_S1x1))))
    (word (k0_pay18 S)))) (word (k0_pay20 S)))) (word (k0_pay22 S))

theorem out6_eq (x0 : S2048x1024.Idx → F .f32) (x1 : S1024x128.Idx → F .f32) (x2 : S128x128.Idx → F .f32) :
    out0_6 (F := F) x0 x1 x2 = table (k0_pay14 (k0_pay4 (F := F) x0 x1) (k0_pay7 (F := F) x0 x1) x2) := by
  unfold_out out0_6
  rw [View.canon_unit_zero origin]
  simp only [View.ld_unit_zero (S := S2048x1024) origin, View.ld_unit_zero (S := S1024x128) origin, View.ld_unit_zero (S := S128x128) origin]
  rfl

/-! ## The results -/

theorem arrAt_3 (c : Dev nD) : (dats m 0 c).arrAt 3 cfg0.N = k0_pay11 (F := F) (tokens m c) (padded (weights m c)) := by
  refine (dats m 0 c).arrAt_eq_of_covers 3 _ ?_ fun t _ (y : S2048x2.Idx) => ?_
  · refine Pipeline.Window.covers_of_indexMap_surj _ rfl (fun (a : Fin 2) => ?_) fun β => ?_
    · match a with
      | (0 : Fin 2) => exact (by decide : 0 < 2048)
      | (1 : Fin 2) => exact (by decide : 0 < 2)
    have h0 : (cfg0.win 3).nblk (0 : Fin 2) = 1 := by show (2048 + 2048 - 1) / 2048 = 1; rfl
    have h1 : (cfg0.win 3).nblk (1 : Fin 2) = 1 := by show (2 + 2 - 1) / 2 = 1; rfl
    have hb0 : (β (0 : Fin 2)).val < 1 := lt_of_lt_of_eq (β (0 : Fin 2)).isLt h0
    have hb1 : (β (1 : Fin 2)).val < 1 := lt_of_lt_of_eq (β (1 : Fin 2)).isLt h1
    refine ⟨fun a => a.elim0, fun (a : Fin 2) => ?_⟩
    match a with
    | (0 : Fin 2) => show 0 = (β (0 : Fin 2)).val; omega
    | (1 : Fin 2) => show 0 = (β (1 : Fin 2)).val; omega
  · refine (congrFun (after0_3 m c t) y).trans ?_
    refine (congrFun (out3_eq _ _ _) y).trans ?_
    refine (congrFun (congrArg₂ (k0_pay11 (F := F)) (iblk_0 m c t) (iblk_1 m c t)) y).trans ?_
    refine congrArg (k0_pay11 (F := F) (tokens m c) (padded (weights m c))) ?_
    funext (a : Fin 2)
    refine Fin.ext (Eq.symm ((Pipeline.Window.rect_emb_val (cfg0.win 3) t y a).trans ?_))
    match a with
    | (0 : Fin 2) => show 0 * 2048 + (y 0).val = (y 0).val; omega
    | (1 : Fin 2) => show 0 * 2 + (y 1).val = (y 1).val; omega

theorem arrAt_4 (c : Dev nD) : (dats m 0 c).arrAt 4 cfg0.N = k0_pay12 (k0_pay9 (F := F) (tokens m c) (padded (weights m c))) (k0_pay10 (F := F) (tokens m c) (padded (weights m c))) := by
  refine (dats m 0 c).arrAt_eq_of_covers 4 _ ?_ fun t _ (y : S2048x2.Idx) => ?_
  · refine Pipeline.Window.covers_of_indexMap_surj _ rfl (fun (a : Fin 2) => ?_) fun β => ?_
    · match a with
      | (0 : Fin 2) => exact (by decide : 0 < 2048)
      | (1 : Fin 2) => exact (by decide : 0 < 2)
    have h0 : (cfg0.win 4).nblk (0 : Fin 2) = 1 := by show (2048 + 2048 - 1) / 2048 = 1; rfl
    have h1 : (cfg0.win 4).nblk (1 : Fin 2) = 1 := by show (2 + 2 - 1) / 2 = 1; rfl
    have hb0 : (β (0 : Fin 2)).val < 1 := lt_of_lt_of_eq (β (0 : Fin 2)).isLt h0
    have hb1 : (β (1 : Fin 2)).val < 1 := lt_of_lt_of_eq (β (1 : Fin 2)).isLt h1
    refine ⟨fun a => a.elim0, fun (a : Fin 2) => ?_⟩
    match a with
    | (0 : Fin 2) => show 0 = (β (0 : Fin 2)).val; omega
    | (1 : Fin 2) => show 0 = (β (1 : Fin 2)).val; omega
  · refine (congrFun (after0_4 m c t) y).trans ?_
    refine (congrFun (out4_eq _ _ _) y).trans ?_
    refine (congrFun (congrArg₂ (fun a b => k0_pay12 (k0_pay9 (F := F) a b) (k0_pay10 (F := F) a b)) (iblk_0 m c t) (iblk_1 m c t)) y).trans ?_
    refine congrArg (k0_pay12 (k0_pay9 (F := F) (tokens m c) (padded (weights m c))) (k0_pay10 (F := F) (tokens m c) (padded (weights m c)))) ?_
    funext (a : Fin 2)
    refine Fin.ext (Eq.symm ((Pipeline.Window.rect_emb_val (cfg0.win 4) t y a).trans ?_))
    match a with
    | (0 : Fin 2) => show 0 * 2048 + (y 0).val = (y 0).val; omega
    | (1 : Fin 2) => show 0 * 2 + (y 1).val = (y 1).val; omega

theorem arrAt_5 (c : Dev nD) : (dats m 0 c).arrAt 5 cfg0.N = k0_pay13 (k0_pay4 (F := F) (tokens m c) (padded (weights m c))) (k0_pay7 (F := F) (tokens m c) (padded (weights m c))) := by
  refine (dats m 0 c).arrAt_eq_of_covers 5 _ ?_ fun t _ (y : S32x128.Idx) => ?_
  · refine Pipeline.Window.covers_of_indexMap_surj _ rfl (fun (a : Fin 2) => ?_) fun β => ?_
    · match a with
      | (0 : Fin 2) => exact (by decide : 0 < 32)
      | (1 : Fin 2) => exact (by decide : 0 < 128)
    have h0 : (cfg0.win 5).nblk (0 : Fin 2) = 1 := by show (32 + 32 - 1) / 32 = 1; rfl
    have h1 : (cfg0.win 5).nblk (1 : Fin 2) = 1 := by show (128 + 128 - 1) / 128 = 1; rfl
    have hb0 : (β (0 : Fin 2)).val < 1 := lt_of_lt_of_eq (β (0 : Fin 2)).isLt h0
    have hb1 : (β (1 : Fin 2)).val < 1 := lt_of_lt_of_eq (β (1 : Fin 2)).isLt h1
    refine ⟨fun a => a.elim0, fun (a : Fin 2) => ?_⟩
    match a with
    | (0 : Fin 2) => show 0 = (β (0 : Fin 2)).val; omega
    | (1 : Fin 2) => show 0 = (β (1 : Fin 2)).val; omega
  · refine (congrFun (after0_5 m c t) y).trans ?_
    refine (congrFun (out5_eq _ _ _) y).trans ?_
    refine (congrFun (congrArg₂ (fun a b => k0_pay13 (k0_pay4 (F := F) a b) (k0_pay7 (F := F) a b)) (iblk_0 m c t) (iblk_1 m c t)) y).trans ?_
    refine congrArg (k0_pay13 (k0_pay4 (F := F) (tokens m c) (padded (weights m c))) (k0_pay7 (F := F) (tokens m c) (padded (weights m c)))) ?_
    funext (a : Fin 2)
    refine Fin.ext (Eq.symm ((Pipeline.Window.rect_emb_val (cfg0.win 5) t y a).trans ?_))
    match a with
    | (0 : Fin 2) => show 0 * 32 + (y 0).val = (y 0).val; omega
    | (1 : Fin 2) => show 0 * 128 + (y 1).val = (y 1).val; omega

theorem arrAt_6 (c : Dev nD) : (dats m 0 c).arrAt 6 cfg0.N
    = table (k0_pay14 (k0_pay4 (F := F) (tokens m c) (padded (weights m c))) (k0_pay7 (F := F) (tokens m c) (padded (weights m c))) (triangle : S128x128.Idx → F .f32)) := by
  refine (dats m 0 c).arrAt_eq_of_covers 6 _ ?_ fun t _ (y : S2x128.Idx) => ?_
  · refine Pipeline.Window.covers_of_indexMap_surj _ rfl (fun (a : Fin 2) => ?_) fun β => ?_
    · match a with
      | (0 : Fin 2) => exact (by decide : 0 < 2)
      | (1 : Fin 2) => exact (by decide : 0 < 128)
    have h0 : (cfg0.win 6).nblk (0 : Fin 2) = 1 := by show (2 + 2 - 1) / 2 = 1; rfl
    have h1 : (cfg0.win 6).nblk (1 : Fin 2) = 1 := by show (128 + 128 - 1) / 128 = 1; rfl
    have hb0 : (β (0 : Fin 2)).val < 1 := lt_of_lt_of_eq (β (0 : Fin 2)).isLt h0
    have hb1 : (β (1 : Fin 2)).val < 1 := lt_of_lt_of_eq (β (1 : Fin 2)).isLt h1
    refine ⟨fun a => a.elim0, fun (a : Fin 2) => ?_⟩
    match a with
    | (0 : Fin 2) => show 0 = (β (0 : Fin 2)).val; omega
    | (1 : Fin 2) => show 0 = (β (1 : Fin 2)).val; omega
  · refine (congrFun (after0_6 m c t) y).trans ?_
    refine (congrFun (out6_eq _ _ _) y).trans ?_
    refine (congrFun (congrArg₂ (fun a b => table (k0_pay14 (k0_pay4 (F := F) a b) (k0_pay7 (F := F) a b) (iblk m c 2 t))) (iblk_0 m c t) (iblk_1 m c t)) y).trans ?_
    refine (congrFun (congrArg (fun b => table (k0_pay14 (k0_pay4 (F := F) (tokens m c) (padded (weights m c))) (k0_pay7 (F := F) (tokens m c) (padded (weights m c))) b)) (iblk_2 m c t)) y).trans ?_
    refine congrArg (table (k0_pay14 (k0_pay4 (F := F) (tokens m c) (padded (weights m c))) (k0_pay7 (F := F) (tokens m c) (padded (weights m c))) (triangle : S128x128.Idx → F .f32))) ?_
    funext (a : Fin 2)
    refine Fin.ext (Eq.symm ((Pipeline.Window.rect_emb_val (cfg0.win 6) t y a).trans ?_))
    match a with
    | (0 : Fin 2) => show 0 * 2 + (y 0).val = (y 0).val; omega
    | (1 : Fin 2) => show 0 * 128 + (y 1).val = (y 1).val; omega

end Cert.Proof.Router

end
-- ==== Proof.RouterRow.lean ====
/-
  One token's routing as mathematics: the two greatest of eight logits, the earlier of equal ones first. `Best l k` and
  `Second l k k'` say which experts these are; a stable sort puts them first (`best_sortedFrom`, `second_sortedFrom`); and
  the softmax keeps the logits' order (`prob_lt_iff`).
-/
module

public import Idealize.ShloMosaic.Lib.SortFacts
public import Idealize.ShloMosaic.PureOps.Ideal.Laws

@[expose] public section

noncomputable section

namespace Cert.Proof.Router

open Idealize.ShloMosaic

/-! ## The two greatest -/

/-- `k` is the first place of the greatest of `l`. -/
def Best (l : Fin 8 → ℝ) (k : Fin 8) : Prop := ∀ j, l j ≤ l k ∧ (j < k → l j < l k)

/-- `k'` is the first place of the greatest of `l` with place `k` left out. -/
def Second (l : Fin 8 → ℝ) (k k' : Fin 8) : Prop := k' ≠ k ∧ ∀ j, j ≠ k → l j ≤ l k' ∧ (j < k' → l j < l k')

/-! ## The stable sort -/

/-- A stable sort of increasing positions does not see how the comparison treats a position against an earlier one, beyond
    what it says of the later one against the earlier one. -/
theorem stableSort_congr {n : Nat} (B R : Fin n → Fin n → Bool) (h : ∀ a b, a < b → B b a = R b a) :
    ∀ l : List (Fin n), l.Pairwise (· < ·) → stableSort B l = stableSort R l
  | [], _ => rfl
  | a :: l, hl => by
    rw [List.pairwise_cons] at hl
    have ins : ∀ l' : List (Fin n), (∀ b ∈ l', a < b) → insertBefore B a l' = insertBefore R a l' := by
      intro l'
      induction l' with
      | nil => intro _; rfl
      | cons b l' ih =>
        intro hb
        unfold insertBefore
        rw [h a b (hb b List.mem_cons_self), ih fun c hc => hb c (List.mem_cons_of_mem _ hc)]
    unfold stableSort
    rw [stableSort_congr B R h l hl.2]
    exact ins _ fun b hb => hl.1 b ((perm_stableSort R l).mem_iff.mp hb)

/-- Greater first, and of equal ones the earlier. -/
def ahead (l : Fin 8 → ℝ) (a b : Fin 8) : Bool := decide (l b < l a ∨ (l a = l b ∧ a < b))

theorem sortedFrom_eq_ahead (l : Fin 8 → ℝ) (B : Fin 8 → Fin 8 → Bool) (hB : ∀ a b, B a b = decide (l b < l a)) (i : Fin 8) :
    sortedFrom B i = sortedFrom (ahead l) i := by
  have e : sortPositions 8 B = sortPositions 8 (ahead l) := by
    refine stableSort_congr B (ahead l) (fun a b hab => ?_) _ (List.pairwise_lt_finRange 8)
    rw [hB]
    unfold ahead
    have : ¬ (l b = l a ∧ b < a) := fun h => absurd h.2 (not_lt.mpr hab.le)
    simp only [this, or_false]
  have g : ∀ (L L' : List (Fin 8)) (h : 8 = L.length) (h' : 8 = L'.length), L = L' → L.get (i.cast h) = L'.get (i.cast h') := by
    rintro L _ h h' rfl
    rfl
  exact g _ _ _ _ e

theorem ahead_order (l : Fin 8 → ℝ) (B : Fin 8 → Fin 8 → Bool) (hB : ∀ a b, B a b = decide (l b < l a)) (i j : Fin 8) (hij : i < j) :
    l (sortedFrom B j) ≤ l (sortedFrom B i) ∧ (sortedFrom B j < sortedFrom B i → l (sortedFrom B j) < l (sortedFrom B i)) := by
  rw [sortedFrom_eq_ahead l B hB, sortedFrom_eq_ahead l B hB]
  have h := sortedFrom_noInversion (ahead l) (ahead l) (fun a b h => ?_) (fun _ _ h => h) (fun a b c h h' => ?_) i j hij
  · unfold ahead at h
    simp only [decide_eq_false_iff_not, not_or, not_and, not_lt] at h
    refine ⟨h.1, fun hlt => lt_of_le_of_ne h.1 fun e => ?_⟩
    exact absurd (h.2 e) (not_le.mpr hlt)
  · unfold ahead at h ⊢
    simp only [decide_eq_true_eq, decide_eq_false_iff_not, not_or, not_and, not_lt] at h ⊢
    rcases h with h | ⟨h, h'⟩
    · exact ⟨h.le, fun e => absurd e (ne_of_lt h)⟩
    · exact ⟨h.ge, fun _ => h'.le⟩
  · unfold ahead at h h' ⊢
    simp only [decide_eq_false_iff_not, not_or, not_and, not_lt] at h h' ⊢
    refine ⟨h.1.trans h'.1, fun e => ?_⟩
    have e1 : l a = l b := le_antisymm h.1 (e ▸ h'.1)
    exact (h'.2 (e1.symm.trans e)).trans (h.2 e1)

theorem best_sortedFrom (l : Fin 8 → ℝ) (B : Fin 8 → Fin 8 → Bool) (hB : ∀ a b, B a b = decide (l b < l a)) : Best l (sortedFrom B 0) := by
  intro j
  obtain ⟨i, rfl⟩ := sortedFrom_surjective B j
  rcases eq_or_ne i 0 with rfl | hi
  · exact ⟨le_rfl, fun h => absurd h (lt_irrefl _)⟩
  · exact ahead_order l B hB 0 i (Fin.pos_iff_ne_zero.mpr hi)

theorem second_sortedFrom (l : Fin 8 → ℝ) (B : Fin 8 → Fin 8 → Bool) (hB : ∀ a b, B a b = decide (l b < l a)) :
    Second l (sortedFrom B 0) (sortedFrom B 1) := by
  refine ⟨fun e => absurd (sortedFrom_injective B e) (by decide), fun j hj => ?_⟩
  obtain ⟨i, rfl⟩ := sortedFrom_surjective B j
  have hi : i ≠ 0 := fun e => hj (congrArg _ e)
  rcases eq_or_ne i 1 with rfl | hi'
  · exact ⟨le_rfl, fun h => absurd h (lt_irrefl _)⟩
  · exact ahead_order l B hB 1 i (by omega)

/-! ## The softmax -/

/-- The sum of the exponentials of the logits against `M`. -/
def total (l : Fin 8 → ℝ) (M : ℝ) : ℝ := ∑ j, Real.exp (l j - M)

theorem total_pos (l : Fin 8 → ℝ) (M : ℝ) : 0 < total l M :=
  Finset.sum_pos (fun j _ => Real.exp_pos _) ⟨0, Finset.mem_univ _⟩

theorem coe_sum {n : Nat} (f : Fin n → ℝ) : (∑ j, ((f j : ℝ) : EReal)) = ((∑ j, f j : ℝ) : EReal) := by
  induction n with
  | zero => simp
  | succ n ih => rw [Fin.sum_univ_succ, Fin.sum_univ_succ, ih, EReal.coe_add]

/-- The probability of `j`. -/
theorem prob_eq (l : Fin 8 → ℝ) (M : ℝ) (j : Fin 8) :
    Ideal.div (Ideal.exp ((l j : EReal) - (M : EReal))) (total l M : EReal) = ((Real.exp (l j - M) * (1 / total l M) : ℝ) : EReal) := by
  rw [← EReal.coe_sub, Ideal.exp_coe, Ideal.div_coe (total_pos l M).ne', EReal.coe_mul]

/-- The softmax keeps the logits' order. -/
theorem prob_lt_iff (l : Fin 8 → ℝ) (M : ℝ) (j k : Fin 8) :
    Ideal.div (Ideal.exp ((l j : EReal) - (M : EReal))) (total l M : EReal) < Ideal.div (Ideal.exp ((l k : EReal) - (M : EReal))) (total l M : EReal)
      ↔ l j < l k := by
  rw [prob_eq, prob_eq, EReal.coe_lt_coe_iff, mul_lt_mul_iff_left₀ (one_div_pos.mpr (total_pos l M)), Real.exp_lt_exp]
  exact sub_lt_sub_iff_right M

/-! ## The kernel's row: the logits in the first eight of 128 lanes, −∞ in the others -/

/-- The masked row. -/
def lanes (l : Fin 8 → ℝ) (j : Fin 128) : EReal := if h : j.val < 8 then ((l ⟨j.val, h⟩ : ℝ) : EReal) else ⊥

/-- The masked row with lane `k` masked too. -/
def lanesBut (l : Fin 8 → ℝ) (k : Fin 8) (j : Fin 128) : EReal := if j.val = k.val then ⊥ else lanes l j

theorem fold_max_eq {n : Nat} (f : Fin n → EReal) (v : EReal) (hle : ∀ j, f j ≤ v) (k : Fin n) (hk : f k = v) :
    (Finset.univ : Finset (Fin n)).fold max ⊥ f = v :=
  le_antisymm (Finset.fold_max_le v |>.mpr ⟨bot_le, fun j _ => hle j⟩) (Finset.le_fold_max v |>.mpr (.inr ⟨k, Finset.mem_univ _, hk.ge⟩))

theorem lanes_cast (l : Fin 8 → ℝ) (k : Fin 8) : lanes l (k.castLE (by decide)) = ((l k : ℝ) : EReal) := dif_pos k.isLt

theorem lanes_le (l : Fin 8 → ℝ) (k : Fin 8) (h : Best l k) (j : Fin 128) : lanes l j ≤ ((l k : ℝ) : EReal) := by
  unfold lanes
  split
  · exact EReal.coe_le_coe_iff.mpr (h _).1
  · exact bot_le

/-- The row's maximum is the best logit. -/
theorem max_lanes (l : Fin 8 → ℝ) (k : Fin 8) (h : Best l k) :
    (Finset.univ : Finset (Fin 128)).fold max ⊥ (lanes l) = ((l k : ℝ) : EReal) :=
  fold_max_eq _ _ (lanes_le l k h) (k.castLE (by decide)) (lanes_cast l k)

/-- The remaining row's maximum is the second logit. -/
theorem max_lanesBut (l : Fin 8 → ℝ) (k k' : Fin 8) (h : Second l k k') :
    (Finset.univ : Finset (Fin 128)).fold max ⊥ (lanesBut l k) = ((l k' : ℝ) : EReal) := by
  refine fold_max_eq _ _ (fun j => ?_) (k'.castLE (by decide)) ?_
  · unfold lanesBut
    split
    · exact bot_le
    · rename_i hj
      unfold lanes
      split
      · exact EReal.coe_le_coe_iff.mpr (h.2 _ fun e => hj (congrArg Fin.val e)).1
      · exact bot_le
  · unfold lanesBut
    rw [if_neg fun e : (k'.castLE (by decide) : Fin 128).val = k.val => h.1 (Fin.ext e), lanes_cast]

/-- The reference's maximum. -/
theorem max_row (l : Fin 8 → ℝ) (k : Fin 8) (h : Best l k) :
    (Finset.univ : Finset (Fin 8)).fold max ⊥ (fun j => ((l j : ℝ) : EReal)) = ((l k : ℝ) : EReal) :=
  fold_max_eq _ _ (fun j => EReal.coe_le_coe_iff.mpr (h j).1) k rfl

/-- The least lane at which `f` is `v`, as the kernel takes it. -/
theorem first_lane (f : Fin 128 → EReal) (v : EReal) (k : Fin 128) (hk : f k = v) (hlt : ∀ j, j < k → f j ≠ v) (w : BitVec 32) (hw : w = 2147483647#32) :
    (Finset.univ : Finset (Fin 128)).fold IntOp.minsi w (fun j => if f j = v then BitVec.ofNat 32 j.val else 128#32) = BitVec.ofNat 32 k.val := by
  subst hw
  have tm : ∀ a b : BitVec 32, (IntOp.minsi a b).toInt = min a.toInt b.toInt := by
    intro a b
    unfold IntOp.minsi
    rw [BitVec.slt]
    simp only [decide_eq_true_eq]
    split <;> omega
  have key : ∀ s : Finset (Fin 128), ((s.fold IntOp.minsi 2147483647#32 (fun j => if f j = v then BitVec.ofNat 32 j.val else 128#32)).toInt)
      = s.fold min 2147483647 (fun j => if f j = v then (j.val : Int) else 128) := by
    intro s
    induction s using Finset.induction_on with
    | empty => rfl
    | insert a s ha ih =>
      rw [Finset.fold_insert ha, Finset.fold_insert ha]
      have ha' := a.isLt
      have e : (if f a = v then BitVec.ofNat 32 a.val else 128#32).toInt = if f a = v then (a.val : Int) else 128 := by
        split
        · rw [BitVec.toInt_eq_toNat_cond, BitVec.toNat_ofNat]; omega
        · rfl
      rw [tm, e, ih]
  apply BitVec.eq_of_toInt_eq
  rw [key]
  have hk' := k.isLt
  have e : (BitVec.ofNat 32 k.val).toInt = (k.val : Int) := by rw [BitVec.toInt_eq_toNat_cond, BitVec.toNat_ofNat]; omega
  rw [e]
  refine le_antisymm (Finset.fold_min_le _ |>.mpr (.inr ⟨k, Finset.mem_univ _, ?_⟩)) (Finset.le_fold_min _ |>.mpr ⟨by omega, fun j _ => ?_⟩)
  · rw [if_pos hk]
  · split
    · rename_i hj
      by_contra hc
      exact hlt j (by rw [Fin.lt_def]; omega) hj
    · omega

/-- The exponentials' sum over the lanes is the total over the experts. -/
theorem sum_lanes (l : Fin 8 → ℝ) (M : ℝ) : (∑ j : Fin 128, Ideal.exp (lanes l j - (M : EReal))) = ((total l M : ℝ) : EReal) := by
  have e : (∑ j : Fin (8 + 120), Ideal.exp (lanes l j - (M : EReal)))
      = (∑ j : Fin 8, Ideal.exp (lanes l (Fin.castAdd 120 j) - (M : EReal))) + ∑ j : Fin 120, Ideal.exp (lanes l (Fin.natAdd 8 j) - (M : EReal)) :=
    Fin.sum_univ_add _
  refine Eq.trans e ?_
  have h2 : (∑ j : Fin 120, Ideal.exp (lanes l (Fin.natAdd 8 j) - (M : EReal))) = 0 := by
    refine Finset.sum_eq_zero fun j _ => ?_
    have : lanes l (Fin.natAdd 8 j) = ⊥ := dif_neg (by simp)
    rw [this, EReal.bot_sub, Ideal.exp_bot]
  rw [h2, add_zero]
  unfold total
  rw [← coe_sum]
  refine Finset.sum_congr rfl fun j _ => ?_
  have : lanes l (Fin.castAdd 120 j) = ((l j : ℝ) : EReal) := dif_pos j.isLt
  rw [this, ← EReal.coe_sub, Ideal.exp_coe]

end Cert.Proof.Router

end
-- ==== Proof.RouterValue.lean ====
/-
  What the router's body computes at a token: over eight finite logits, the first and the second expert and their
  probabilities.
-/
module

public import proofs.«01_k».proof.Proof.RouterRow
public import proofs.«01_k».proof.Proof.Gen.RouterIdeal.Value
public import Idealize.ShloMosaic.Lib.Pointwise
public import Idealize.ShloMosaic.Lib.Routing.OpsSet

@[expose] public section

noncomputable section

namespace Cert.Proof.Router

open Cert.RouterIdeal Cert.RouterIdeal.Gen
open Idealize.ShloMosaic Idealize.SL.Sem

theorem mask_eq : Named.named (F := Ideal) κ "mask" (φ := .f32) 0xF149F2CA#32 = (⊥ : EReal) := by
  show (κ "mask").getD _ = _
  rfl

theorem negInf_eq : Ideal.ofBits .f32 0xFF800000#32 = (⊥ : EReal) := by
  simp [Ideal.ofBits, Ideal.ieee]

theorem lane_toInt (j : Fin 128) : (BitVec.ofNat 32 j.val).toInt = (j.val : Int) := by
  rw [BitVec.toInt_eq_toNat_cond, BitVec.toNat_ofNat]; omega

theorem lane_inj (j k : Fin 128) : BitVec.ofNat 32 j.val = BitVec.ofNat 32 k.val ↔ j.val = k.val :=
  ⟨fun e => by have h := congrArg BitVec.toNat e; rw [BitVec.toNat_ofNat, BitVec.toNat_ofNat] at h; omega, fun e => by rw [e]⟩

theorem experts_le : 8 ≤ 128 := by decide

section row

variable (x : S2048x1024.Idx → Ideal .f32) (w : S1024x128.Idx → Ideal .f32) (r : Fin 2048) (l : Fin 8 → ℝ)
  (hl : ∀ j : Fin 8, (∑ k : Fin 1024, x (ix2 r k) * w (ix2 k (j.castLE experts_le))) = ((l j : ℝ) : EReal))
include hl

/-- The masked logits. -/
theorem pay2_at (j : Fin 128) : k0_pay2 (F := Ideal) x w (ix2 r j) = lanes l j := by
  unfold k0_pay2
  pointwise []
  unfold lanes
  rw [mask_eq]
  have hj := lane_toInt j
  by_cases h : j.val < 8
  · rw [dif_pos h, ← hl ⟨j.val, h⟩]
    have e : IntOp.cmpi .slt (BitVec.ofNat 32 j.val) 8#32 = 1#1 := by
      have : (BitVec.ofNat 32 j.val).slt 8#32 = true := by rw [BitVec.slt, hj, decide_eq_true_eq]; show (j.val : Int) < 8; omega
      simp only [IntOp.cmpi, this]; rfl
    rw [e]
    rfl
  · rw [dif_neg h]
    have e : IntOp.cmpi .slt (BitVec.ofNat 32 j.val) 8#32 = 0#1 := by
      have : (BitVec.ofNat 32 j.val).slt 8#32 = false := by rw [BitVec.slt, hj, decide_eq_false_iff_not]; show ¬ (j.val : Int) < 8; omega
      simp only [IntOp.cmpi, this]; rfl
    rw [e]
    rfl

variable (k k' : Fin 8) (hk : Best l k)
include hk

/-- The greatest logit. -/
theorem pay3_at : k0_pay3 (F := Ideal) x w (ix2 r (0 : Fin 1)) = ((l k : ℝ) : EReal) := by
  have h := pay2_at x w r l hl
  unfold k0_pay3
  generalize k0_pay2 (F := Ideal) x w = L at h ⊢
  pointwise []
  rw [negInf_eq]
  have e : (fun j : Fin 128 => L (ix2 r j)) = lanes l := funext h
  exact (congrArg (fun f => Finset.fold max (⊥ : EReal) f (Finset.univ : Finset (Fin 128))) e).trans (max_lanes l k hk)

/-- The first expert. -/
theorem pay4_at : k0_pay4 (F := Ideal) x w (ix2 r (0 : Fin 1)) = BitVec.ofNat 32 k.val := by
  have h := pay2_at x w r l hl
  have h3 := pay3_at x w r l hl k hk
  unfold k0_pay4
  generalize k0_pay2 (F := Ideal) x w = L at h ⊢
  generalize k0_pay3 (F := Ideal) x w = M at h3 ⊢
  pointwise []
  refine first_lane (fun j => L (ix2 r j)) (M (ix2 r (0 : Fin 1))) (k.castLE (by decide)) ?_ (fun j hj => ?_) _ rfl
  · exact (h _).trans ((lanes_cast l k).trans h3.symm)
  · have hj' : j.val < k.val := hj
    have hk8 := k.isLt
    show L (ix2 r j) ≠ M (ix2 r (0 : Fin 1))
    rw [h, h3]
    unfold lanes
    rw [dif_pos (by omega)]
    exact fun e => absurd (EReal.coe_eq_coe_iff.mp e) (ne_of_lt ((hk ⟨j.val, by omega⟩).2 hj'))

/-- The logits with the first expert masked. -/
theorem pay5_at (j : Fin 128) : k0_pay5 (F := Ideal) x w (ix2 r j) = lanesBut l k j := by
  have h := pay2_at x w r l hl
  have h4 := pay4_at x w r l hl k hk
  unfold k0_pay5
  generalize k0_pay2 (F := Ideal) x w = L at h ⊢
  generalize k0_pay4 (F := Ideal) x w = M at h4 ⊢
  pointwise []
  rw [mask_eq, h, h4]
  unfold lanesBut
  have hi := lane_inj j (k.castLE (by decide))
  by_cases e : j.val = k.val
  · rw [if_pos e, e]
    have : IntOp.cmpi .eq (BitVec.ofNat 32 k.val) (BitVec.ofNat 32 k.val) = 1#1 := by simp [IntOp.cmpi]
    rw [this]
    rfl
  · rw [if_neg e]
    have : IntOp.cmpi .eq (BitVec.ofNat 32 j.val) (BitVec.ofNat 32 k.val) = 0#1 := by
      have : (BitVec.ofNat 32 j.val == BitVec.ofNat 32 k.val) = false := beq_eq_false_iff_ne.mpr fun e' => e (hi.mp e')
      simp only [IntOp.cmpi, this]; rfl
    rw [this]
    rfl

/-- The exponentials' sum. -/
theorem pay8_at : k0_pay8 (F := Ideal) x w (ix2 r (0 : Fin 1)) = ((total l (l k) : ℝ) : EReal) := by
  have h := pay2_at x w r l hl
  have h3 := pay3_at x w r l hl k hk
  unfold k0_pay8
  generalize k0_pay2 (F := Ideal) x w = L at h ⊢
  generalize k0_pay3 (F := Ideal) x w = M at h3 ⊢
  pointwise []
  rw [h3, ← sum_lanes]
  exact Finset.sum_congr rfl fun j _ => by rw [h]

/-- The first expert's probability. -/
theorem pay9_at : k0_pay9 (F := Ideal) x w (ix2 r (0 : Fin 1)) = Ideal.div (Ideal.exp (((l k : ℝ) : EReal) - ((l k : ℝ) : EReal))) ((total l (l k) : ℝ) : EReal) := by
  have h8 := pay8_at x w r l hl k hk
  unfold k0_pay9
  generalize k0_pay8 (F := Ideal) x w = L at h8 ⊢
  pointwise []
  rw [h8, ← EReal.coe_sub, sub_self, Ideal.exp_coe, Real.exp_zero]
  rfl

variable (hk' : Second l k k')
include hk'

/-- The second logit. -/
theorem pay6_at : k0_pay6 (F := Ideal) x w (ix2 r (0 : Fin 1)) = ((l k' : ℝ) : EReal) := by
  have h := pay5_at x w r l hl k hk
  unfold k0_pay6
  generalize k0_pay5 (F := Ideal) x w = L at h ⊢
  pointwise []
  rw [negInf_eq]
  have e : (fun j : Fin 128 => L (ix2 r j)) = lanesBut l k := funext h
  exact (congrArg (fun f => Finset.fold max (⊥ : EReal) f (Finset.univ : Finset (Fin 128))) e).trans (max_lanesBut l k k' hk')

/-- The second expert. -/
theorem pay7_at : k0_pay7 (F := Ideal) x w (ix2 r (0 : Fin 1)) = BitVec.ofNat 32 k'.val := by
  have h := pay5_at x w r l hl k hk
  have h6 := pay6_at x w r l hl k k' hk hk'
  unfold k0_pay7
  generalize k0_pay5 (F := Ideal) x w = L at h ⊢
  generalize k0_pay6 (F := Ideal) x w = M at h6 ⊢
  pointwise []
  refine first_lane (fun j => L (ix2 r j)) (M (ix2 r (0 : Fin 1))) (k'.castLE (by decide)) ?_ (fun j hj => ?_) _ rfl
  · refine (h _).trans (Eq.trans ?_ h6.symm)
    unfold lanesBut
    rw [if_neg fun e : (k'.castLE (by decide) : Fin 128).val = k.val => hk'.1 (Fin.ext e), lanes_cast]
  · have hj' : j.val < k'.val := hj
    have hk8 := k'.isLt
    show L (ix2 r j) ≠ M (ix2 r (0 : Fin 1))
    rw [h, h6]
    unfold lanesBut lanes
    split
    · exact fun e => absurd e.symm (EReal.coe_ne_bot _)
    · rename_i hne
      rw [dif_pos (by omega)]
      exact fun e => absurd (EReal.coe_eq_coe_iff.mp e) (ne_of_lt ((hk'.2 ⟨j.val, by omega⟩ fun e => hne (congrArg Fin.val e)).2 hj'))

/-- The second expert's probability. -/
theorem pay10_at : k0_pay10 (F := Ideal) x w (ix2 r (0 : Fin 1)) = Ideal.div (Ideal.exp (((l k' : ℝ) : EReal) - ((l k : ℝ) : EReal))) ((total l (l k) : ℝ) : EReal) := by
  have h8 := pay8_at x w r l hl k hk
  have h3 := pay3_at x w r l hl k hk
  have h6 := pay6_at x w r l hl k k' hk hk'
  unfold k0_pay10
  generalize k0_pay8 (F := Ideal) x w = L at h8 ⊢
  generalize k0_pay3 (F := Ideal) x w = M at h3 ⊢
  generalize k0_pay6 (F := Ideal) x w = N at h6 ⊢
  pointwise []
  rw [h8, h3, h6]

end row

end Cert.Proof.Router

end
-- ==== Proof.RouterReference.lean ====
/-
  What the router's reference computes at a token: the softmax of the logits and its two greatest entries.
-/
module

public import proofs.«01_k».proof.Proof.RouterRow
public import proofs.«01_k».proof.Proof.Gen.RouterReferenceIdeal.Run
public import Idealize.ShloMosaic.Lib.Pointwise

@[expose] public section

noncomputable section

namespace Cert.Proof.RouterReference

open Cert.RouterReferenceIdeal Cert.RouterReferenceIdeal.Gen
open Idealize.ShloMosaic Idealize.SL.Sem
open Cert.Proof.Router (Best Second total best_sortedFrom second_sortedFrom max_row prob_lt_iff coe_sum)

/-! ## The reference's steps -/

/-- The tokens against the experts. -/
def logits (x : S2048x1024.Idx → Ideal .f32) (w : S8x1024.Idx → Ideal .f32) : S2048x8.Idx → Ideal .f32 :=
  Host.dotGeneral dot_S2048x1024_S1024x8_S2048x8_1_0_0_1_n_n none x (transpose S1024x8 [1, 0] w transposes_S8x1024_S1024x8_1_0)

/-- The exponentials against the row's maximum. -/
def powers (L : S2048x8.Idx → Ideal .f32) : S2048x8.Idx → Ideal .f32 :=
  Host.exp (subf L (broadcastInDim S2048x8 ![0, 1] bcast_S2048x1_S2048x8_0_1 (broadcastInDim S2048x1 ![0] bcast_S2048_S2048x1_0
    (maximumf (broadcastInDim S2048 ![] bcast_S_S2048 (constant S_ .f32 0xFF800000#32))
      (Host.reduce FloatOps.maximumf L (constant S_ .f32 0xFF800000#32) reducesTo_S2048x8_S2048_d1 h_S_)))))

/-- The exponentials over their row's sum. -/
def normed (E : S2048x8.Idx → Ideal .f32) : S2048x8.Idx → Ideal .f32 :=
  Host.divf E (broadcastInDim S2048x8 ![0, 1] bcast_S2048x1_S2048x8_0_1 (broadcastInDim S2048x1 ![0] bcast_S2048_S2048x1_0
    (Host.reduceAdd E (constant S_ .f32 0x00000000#32) reducesTo_S2048x8_S2048_d1 h_S_)))

/-- The probabilities. -/
def probs (x : S2048x1024.Idx → Ideal .f32) (w : S8x1024.Idx → Ideal .f32) : S2048x8.Idx → Ideal .f32 := normed (powers (logits x w))

/-- The two greatest of each row, with their places. -/
def top (P : S2048x8.Idx → Ideal .f32) : (S2048x2.Idx → Ideal .f32) × (S2048x2.Idx → BitVec 32) :=
  Host.topK S2048x2 1 (FloatOps.cmpfTotal .gt) P sliceFits_S2048x8_S2048x2

/-- How often each chunk of 64 tokens chose each expert. -/
def counts (ids : S2048x2.Idx → BitVec 32) : S32x128.Idx → BitVec 32 :=
  Host.reduce IntOp.addi (extui 32 (cmpi .eq (broadcastInDim S32x128x128 ![0, 1, 2] bcast_S32x128x1_S32x128x128_0_1_2 (shapeCast _ ids shapeCasts_S2048x2_S32x128x1))
    (broadcastInDim S32x128x128 ![0, 1, 2] bcast_S1x1x128_S32x128x128_0_1_2 (broadcastInDim S1x1x128 ![2] bcast_S128_S1x1x128_2 (iotaInDim S128 32 0)))) natLt_1_32)
    (constantI S_ 32 0#32) reducesTo_S32x128x128_S32x128_d1 h_S_

/-- How many tiles each expert takes. -/
def needs (C : S32x128.Idx → BitVec 32) : S128.Idx → BitVec 32 :=
  Host.divsi (addi (Host.reduce IntOp.addi C (constantI S_ 32 0#32) reducesTo_S32x128_S128_d0 h_S_) (broadcastInDim S128 ![] bcast_S_S128 (constantI S_ 32 255#32)))
    (broadcastInDim S128 ![] bcast_S_S128 (constantI S_ 32 256#32))

/-- Each expert's first slot. -/
def firsts (T : S128.Idx → BitVec 32) : S128.Idx → BitVec 32 :=
  Host.reduce IntOp.addi (select (cmpi .slt (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0))))
    (broadcastInDim S128x128 ![0, 1] bcast_S128x1_S128x128_0_1 (muli (broadcastInDim S128x1 ![0] bcast_S128_S128x1_0 T) (broadcastInDim S128x1 ![] bcast_S_S128x1 (constantI S_ 32 256#32))))
    (broadcastInDim S128x128 ![] bcast_S_S128x128 (id (constantI S_ 32 0#32)))) (constantI S_ 32 0#32) reducesTo_S128x128_S128_d0 h_S_

/-- Each tile's expert. -/
def owners (S : S128.Idx → BitVec 32) : S128.Idx → BitVec 32 :=
  subi (Host.reduce IntOp.addi (extui 32 (cmpi .sle (broadcastInDim S8x128 ![0, 1] bcast_S8x1_S8x128_0_1 (broadcastInDim S8x1 ![0] bcast_S8_S8x1_0 (extractStridedSlice S8 ![0] S slices_S128_S8_0)))
      (broadcastInDim S8x128 ![0, 1] bcast_S1x128_S8x128_0_1 (broadcastInDim S1x128 ![1] bcast_S128_S1x128_1 (muli (iotaInDim S128 32 0) (broadcastInDim S128 ![] bcast_S_S128 (constantI S_ 32 256#32)))))) natLt_1_32)
    (constantI S_ 32 0#32) reducesTo_S8x128_S128_d0 h_S_) (broadcastInDim S128 ![] bcast_S_S128 (constantI S_ 32 1#32))

/-- Both, one row each. -/
def rows (S : S128.Idx → BitVec 32) : S2x128.Idx → BitVec 32 :=
  concatenate S2x128 0 [⟨S1x128, broadcastInDim S1x128 ![1] bcast_S128_S1x128_1 S⟩, ⟨S1x128, broadcastInDim S1x128 ![1] bcast_S128_S1x128_1 (owners S)⟩]
    concatenates_S1x128_S1x128_S2x128_d0

/-! ## At a token -/

theorem negInf_eq : Ideal.ofBits .f32 0xFF800000#32 = (⊥ : EReal) := by
  simp [Ideal.ofBits, Ideal.ieee]

theorem logits_at (x : S2048x1024.Idx → Ideal .f32) (w : S8x1024.Idx → Ideal .f32) (r : Fin 2048) (j : Fin 8) :
    logits x w (ix2 r j) = ∑ k : Fin 1024, x (ix2 r k) * w (ix2 j k) := by
  unfold logits
  pointwise []

theorem powers_at (L : S2048x8.Idx → Ideal .f32) (r : Fin 2048) (l : Fin 8 → ℝ) (hl : ∀ j, L (ix2 r j) = ((l j : ℝ) : EReal))
    (k : Fin 8) (hk : Best l k) (j : Fin 8) : powers L (ix2 r j) = Ideal.exp (((l j : ℝ) : EReal) - ((l k : ℝ) : EReal)) := by
  unfold powers
  pointwise []
  have e : (fun j : Fin 8 => L (ix2 r j)) = fun j => ((l j : ℝ) : EReal) := funext hl
  have e' : Finset.fold max (⊥ : EReal) (fun j : Fin 8 => L (ix2 r j)) Finset.univ = ((l k : ℝ) : EReal) :=
    (congrArg (fun f => Finset.fold max (⊥ : EReal) f (Finset.univ : Finset (Fin 8))) e).trans (max_row l k hk)
  rw [negInf_eq, e', hl, max_eq_right bot_le]

theorem normed_at (E : S2048x8.Idx → Ideal .f32) (r : Fin 2048) (l : Fin 8 → ℝ) (M : ℝ)
    (hE : ∀ j, E (ix2 r j) = Ideal.exp (((l j : ℝ) : EReal) - ((M : ℝ) : EReal))) (j : Fin 8) :
    normed E (ix2 r j) = Ideal.div (Ideal.exp (((l j : ℝ) : EReal) - ((M : ℝ) : EReal))) ((total l M : ℝ) : EReal) := by
  unfold normed
  pointwise []
  rw [hE]
  congr 1
  unfold total
  rw [← coe_sum]
  exact Finset.sum_congr rfl fun j _ => by rw [hE, ← EReal.coe_sub, Ideal.exp_coe]

/-- The probabilities at a token of finite logits. -/
theorem probs_at (x : S2048x1024.Idx → Ideal .f32) (w : S8x1024.Idx → Ideal .f32) (r : Fin 2048) (l : Fin 8 → ℝ)
    (hl : ∀ j : Fin 8, (∑ k : Fin 1024, x (ix2 r k) * w (ix2 j k)) = ((l j : ℝ) : EReal)) (k : Fin 8) (hk : Best l k) (j : Fin 8) :
    probs x w (ix2 r j) = Ideal.div (Ideal.exp (((l j : ℝ) : EReal) - ((l k : ℝ) : EReal))) ((total l (l k) : ℝ) : EReal) :=
  normed_at _ r l (l k) (powers_at _ r l (fun j => (logits_at x w r j).trans (hl j)) k hk) j

/-- The place that the sort brings to `q`. -/
def place (P : S2048x8.Idx → Ideal .f32) (r : Fin 2048) (q : Fin 2) : Fin 8 :=
  sortedFrom (fun a b => decide (P (ix2 r b) < P (ix2 r a))) (q.castLE (by decide))

theorem along_eq (r : Fin 2048) (p a : Fin 8) : (ix2 r p : S2048x8.Idx).along (1 : Fin 2) a = ix2 r a := by
  funext (b : Fin 2)
  match b with
  | (0 : Fin 2) => rfl
  | (1 : Fin 2) => rfl

theorem before_eq (P : S2048x8.Idx → Ideal .f32) (r : Fin 2048) (p : Fin 8) :
    (fun a b : Fin 8 => FloatOps.cmpfTotal (F := Ideal) (φ := .f32) CmpDirection.gt (P ((ix2 r p : S2048x8.Idx).along (1 : Fin 2) a)) (P ((ix2 r p : S2048x8.Idx).along (1 : Fin 2) b)) == 1#1)
      = fun a b => decide (P (ix2 r b) < P (ix2 r a)) := by
  funext a b
  rw [along_eq, along_eq]
  show (BitVec.ofBool (decide (P (ix2 r b) < P (ix2 r a))) == 1#1) = _
  cases decide (P (ix2 r b) < P (ix2 r a)) <;> rfl

theorem top_fst_at (P : S2048x8.Idx → Ideal .f32) (r : Fin 2048) (q : Fin 2) : (top P).1 (ix2 r q) = P (ix2 r (place P r q)) := by
  unfold top Host.topK Host.sort2
  pointwise []
  refine (congrArg P (along_eq r _ _)).trans ?_
  exact congrArg (fun B => P (ix2 r (sortedFrom B (q.castLE (by decide))))) (before_eq P r _)

theorem top_snd_at (P : S2048x8.Idx → Ideal .f32) (r : Fin 2048) (q : Fin 2) : (top P).2 (ix2 r q) = BitVec.ofNat 32 (place P r q).val := by
  unfold top Host.topK Host.sort2
  pointwise []
  exact congrArg (fun B => BitVec.ofNat 32 (sortedFrom B (q.castLE (by decide) : Fin 8)).val) (before_eq P r _)

end Cert.Proof.RouterReference

end
-- ==== Proof.RouterCompare.lean ====
/-
  The router's results are its reference's, over finite tokens and weights: the experts, their probabilities, the chunks'
  counts.
-/
module

public import proofs.«01_k».proof.Proof.RouterValue
public import proofs.«01_k».proof.Proof.RouterBlocks
public import proofs.«01_k».proof.Proof.RouterReference
public import Mathlib.Data.BitVec

@[expose] public section

noncomputable section

namespace Cert.Proof.Router

open Cert.RouterIdeal Cert.RouterIdeal.Gen
open Idealize.ShloMosaic Idealize.SL.Sem
open Cert.Proof.RouterReference (probs top counts place probs_at top_fst_at top_snd_at)

/-- Every entry is a real number. -/
def Finite {s : Shape} (x : s.Idx → Ideal .f32) : Prop := ∀ i, ((EReal.toReal (x i) : ℝ) : EReal) = x i

/-- The logit of expert `j` at token `r`. -/
def logit (x : S2048x1024.Idx → Ideal .f32) (g : S8x1024.Idx → Ideal .f32) (r : Fin 2048) (j : Fin 8) : ℝ :=
  ∑ k : Fin 1024, EReal.toReal (x (ix2 r k)) * EReal.toReal (g (ix2 j k))

section token

variable (x : S2048x1024.Idx → Ideal .f32) (g : S8x1024.Idx → Ideal .f32) (hx : Finite x) (hg : Finite g) (r : Fin 2048)
include hx hg

theorem logit_eq (j : Fin 8) : (∑ k : Fin 1024, x (ix2 r k) * g (ix2 j k)) = ((logit x g r j : ℝ) : EReal) := by
  unfold logit
  rw [← coe_sum]
  refine Finset.sum_congr rfl fun k _ => ?_
  rw [EReal.coe_mul, hx, hg]

theorem logit_padded (j : Fin 8) :
    (∑ k : Fin 1024, x (ix2 r k) * padded g (ix2 k (j.castLE experts_le))) = ((logit x g r j : ℝ) : EReal) :=
  (Finset.sum_congr rfl fun k _ => by rw [padded_at]).trans (logit_eq x g hx hg r j)

omit hx hg in
/-- The first and the second expert of a token. -/
def chosen (x : S2048x1024.Idx → Ideal .f32) (g : S8x1024.Idx → Ideal .f32) (r : Fin 2048) (q : Fin 2) : Fin 8 :=
  sortedFrom (fun a b => decide (logit x g r b < logit x g r a)) (q.castLE (by decide))

omit hx hg in
theorem best : Best (logit x g r) (chosen x g r 0) := best_sortedFrom _ _ fun _ _ => rfl

omit hx hg in
theorem second : Second (logit x g r) (chosen x g r 0) (chosen x g r 1) := second_sortedFrom _ _ fun _ _ => rfl

theorem probs_token (j : Fin 8) : probs x g (ix2 r j)
    = Ideal.div (Ideal.exp (((logit x g r j : ℝ) : EReal) - ((logit x g r (chosen x g r 0) : ℝ) : EReal))) ((total (logit x g r) (logit x g r (chosen x g r 0)) : ℝ) : EReal) :=
  probs_at x g r (logit x g r) (logit_eq x g hx hg r) (chosen x g r 0) (best x g r) j

/-- The reference's sort brings the token's experts first. -/
theorem place_eq (q : Fin 2) : place (probs x g) r q = chosen x g r q := by
  unfold place chosen
  refine congrArg (fun B => sortedFrom B (q.castLE (by decide))) (funext fun a => funext fun b => ?_)
  refine decide_eq_decide.mpr ?_
  rw [probs_token x g hx hg r a, probs_token x g hx hg r b]
  exact prob_lt_iff _ _ _ _

end token

section arrays

variable (x : S2048x1024.Idx → Ideal .f32) (g : S8x1024.Idx → Ideal .f32) (hx : Finite x) (hg : Finite g)
include hx hg

/-- The experts. -/
theorem ids_eq : k0_pay11 (F := Ideal) x (padded g) = (top (probs x g)).2 := by
  funext y
  obtain ⟨r, q, rfl⟩ : ∃ (r : Fin 2048) (q : Fin 2), y = ix2 r q := ⟨y 0, y 1, eq_ix2 y⟩
  refine Eq.trans ?_ (top_snd_at _ r q).symm
  rw [place_eq x g hx hg r q]
  have h4 := pay4_at x (padded g) r _ (logit_padded x g hx hg r) _ (best x g r)
  have h7 := pay7_at x (padded g) r _ (logit_padded x g hx hg r) _ _ (best x g r) (second x g r)
  unfold k0_pay11
  generalize k0_pay4 (F := Ideal) x (padded g) = a at h4 ⊢
  generalize k0_pay7 (F := Ideal) x (padded g) = b at h7 ⊢
  match q with
  | 0 => refine Eq.trans ?_ h4; pointwise []
  | 1 => refine Eq.trans ?_ h7; pointwise []

/-- Their probabilities. -/
theorem scores_eq : k0_pay12 (k0_pay9 (F := Ideal) x (padded g)) (k0_pay10 (F := Ideal) x (padded g)) = (top (probs x g)).1 := by
  funext y
  obtain ⟨r, q, rfl⟩ : ∃ (r : Fin 2048) (q : Fin 2), y = ix2 r q := ⟨y 0, y 1, eq_ix2 y⟩
  refine Eq.trans ?_ (top_fst_at _ r q).symm
  rw [place_eq x g hx hg r q, probs_token x g hx hg r]
  have h9 := pay9_at x (padded g) r _ (logit_padded x g hx hg r) _ (best x g r)
  have h10 := pay10_at x (padded g) r _ (logit_padded x g hx hg r) _ _ (best x g r) (second x g r)
  unfold k0_pay12
  generalize k0_pay9 (F := Ideal) x (padded g) = a at h9 ⊢
  generalize k0_pay10 (F := Ideal) x (padded g) = b at h10 ⊢
  match q with
  | 0 => refine Eq.trans ?_ h9; pointwise []
  | 1 => refine Eq.trans ?_ h10; pointwise []

end arrays

/-! ## The chunks' counts -/

theorem fold_addi {n : Nat} (s : Finset (Fin n)) (f : Fin n → BitVec 32) : s.fold IntOp.addi 0#32 f = ∑ i ∈ s, f i := by
  induction s using Finset.induction_on with
  | empty => rfl
  | insert a s ha ih => rw [Finset.fold_insert ha, Finset.sum_insert ha, ih]; rfl

/-- A sum over a chunk's 128 pairs, token by token. -/
theorem sum_pairs (f : Fin 64 → Fin 2 → BitVec 32) :
    (∑ i : Fin 128, f ⟨i.val / 2, by omega⟩ ⟨i.val % 2, Nat.mod_lt _ (by decide)⟩) = ∑ t : Fin 64, (f t 0 + f t 1) := by
  have e : (∑ i : Fin (64 * 2), f ⟨i.val / 2, by omega⟩ ⟨i.val % 2, Nat.mod_lt _ (by decide)⟩) = ∑ p : Fin 64 × Fin 2, f p.1 p.2 :=
    Fintype.sum_equiv finProdFinEquiv.symm _ _ fun i => rfl
  refine Eq.trans e ?_
  rw [Fintype.sum_prod_type]
  exact Finset.sum_congr rfl fun t _ => Fin.sum_univ_two _

theorem eq_comm_word (a b : BitVec 32) : IntOp.cmpi .eq a b = IntOp.cmpi .eq b a := by
  simp only [IntOp.cmpi]
  exact congrArg BitVec.ofBool BEq.comm

/-- The counts over the two columns are the counts over the pairs. -/
theorem counts_eq (a b : S2048x1.Idx → BitVec 32) (ids : S2048x2.Idx → BitVec 32) (ha : ∀ r : Fin 2048, a (ix2 r (0 : Fin 1)) = ids (ix2 r (0 : Fin 2)))
    (hb : ∀ r : Fin 2048, b (ix2 r (0 : Fin 1)) = ids (ix2 r (1 : Fin 2))) : k0_pay13 a b = counts ids := by
  funext y
  obtain ⟨c, e, rfl⟩ : ∃ (c : Fin 32) (e : Fin 128), y = ix2 c e := ⟨y 0, y 1, eq_ix2 y⟩
  have hL : k0_pay13 a b (ix2 c e) = ∑ t : Fin 64, (BitVec.setWidth 32 (IntOp.cmpi .eq (ids (ix2 ⟨c.val * 64 + t.val, by omega⟩ (0 : Fin 2))) (BitVec.ofNat 32 e.val))
      + BitVec.setWidth 32 (IntOp.cmpi .eq (ids (ix2 ⟨c.val * 64 + t.val, by omega⟩ (1 : Fin 2))) (BitVec.ofNat 32 e.val))) := by
    unfold k0_pay13
    pointwise []
    refine (fold_addi _ _).trans (Finset.sum_congr rfl fun t _ => ?_)
    rw [ha, hb, eq_comm_word (BitVec.ofNat 32 e.val), eq_comm_word (BitVec.ofNat 32 e.val)]
    rfl
  have hR : counts ids (ix2 c e) = ∑ i : Fin 128, BitVec.setWidth 32 (IntOp.cmpi .eq (ids (ix2 ⟨c.val * 64 + i.val / 2, by omega⟩ ⟨i.val % 2, Nat.mod_lt _ (by decide)⟩)) (BitVec.ofNat 32 e.val)) := by
    unfold counts
    pointwise []
    exact fold_addi _ _
  rw [hL, hR]
  exact (sum_pairs fun t q => BitVec.setWidth 32 (IntOp.cmpi .eq (ids (ix2 ⟨c.val * 64 + t.val, by omega⟩ q)) (BitVec.ofNat 32 e.val))).symm

/-- The router's counts. -/
theorem cnts_eq (x : S2048x1024.Idx → Ideal .f32) (g : S8x1024.Idx → Ideal .f32) (hx : Finite x) (hg : Finite g) :
    k0_pay13 (k0_pay4 (F := Ideal) x (padded g)) (k0_pay7 (F := Ideal) x (padded g)) = counts (top (probs x g)).2 :=
  counts_eq _ _ _
    (fun r => (pay4_at x (padded g) r _ (logit_padded x g hx hg r) _ (best x g r)).trans (by rw [top_snd_at, place_eq x g hx hg r]))
    (fun r => (pay7_at x (padded g) r _ (logit_padded x g hx hg r) _ _ (best x g r) (second x g r)).trans (by rw [top_snd_at, place_eq x g hx hg r]))

end Cert.Proof.Router

end
-- ==== Proof.RouterTable.lean ====
/-
  The router's last result, the experts' first slots and the tiles' experts: the kernel's, which it computes in floats, and
  its reference's, which counts in integers, are the same numbers.
-/
module

public import proofs.«01_k».proof.Proof.RouterBlocks
public import proofs.«01_k».proof.Proof.RouterCompare

@[expose] public section

noncomputable section

namespace Cert.Proof.Router

open Cert.RouterIdeal Cert.RouterIdeal.Gen
open Idealize.ShloMosaic Idealize.SL.Sem
open Cert.Proof.RouterReference (probs top counts needs firsts owners rows)

/-! ## Words and numbers -/

theorem sum_ofNat {n : Nat} (s : Finset (Fin n)) (f : Fin n → ℕ) : (∑ i ∈ s, BitVec.ofNat 32 (f i)) = BitVec.ofNat 32 (∑ i ∈ s, f i) := by
  induction s using Finset.induction_on with
  | empty => rfl
  | insert a s ha ih => rw [Finset.sum_insert ha, Finset.sum_insert ha, ih, BitVec.ofNat_add]

theorem ofNat_toInt (n : ℕ) (h : n < 2 ^ 31) : (BitVec.ofNat 32 n).toInt = (n : Int) := by
  rw [BitVec.toInt_eq_toNat_cond, BitVec.toNat_ofNat]; omega

theorem ofNat_msb (n : ℕ) (h : n < 2 ^ 31) : (BitVec.ofNat 32 n).msb = false := by
  rw [BitVec.msb_eq_false_iff_two_mul_lt, BitVec.toNat_ofNat]; omega

theorem divsi_256 (u : ArithUnit) (n : ℕ) (h : n < 2 ^ 31) : IntOp.divsi u (BitVec.ofNat 32 n) 256#32 = BitVec.ofNat 32 (n / 256) := by
  rw [IntOp.divsi, if_neg, BitVec.sdiv_eq, ofNat_msb n h, show (256#32).msb = false by decide]
  · dsimp only
    apply BitVec.eq_of_toNat_eq
    rw [BitVec.udiv_eq, BitVec.toNat_udiv, BitVec.toNat_ofNat, show (256#32).toNat = 256 from rfl, Nat.mod_eq_of_lt (show n < 2 ^ 32 by omega),
      BitVec.toNat_ofNat, Nat.mod_eq_of_lt (show n / 256 < 2 ^ 32 by omega)]
  · rintro (e | ⟨-, e⟩)
    · exact absurd e (by decide)
    · exact absurd e (by decide)

theorem remsi_256 (u : ArithUnit) (q : ℕ) (h : 256 * q < 2 ^ 31) : IntOp.remsi u (BitVec.ofNat 32 (256 * q)) 256#32 = 0#32 := by
  rw [IntOp.remsi, if_neg, BitVec.srem_eq, ofNat_msb _ h, show (256#32).msb = false by decide]
  · dsimp only
    apply BitVec.eq_of_toNat_eq
    rw [BitVec.toNat_umod, BitVec.toNat_ofNat, show (256#32).toNat = 256 from rfl, Nat.mod_eq_of_lt (show 256 * q < 2 ^ 32 by omega),
      Nat.mul_mod_right]
    rfl
  · rintro (e | ⟨-, e⟩)
    · exact absurd e (by decide)
    · exact absurd e (by decide)

/-- A first slot's tile, as the kernel divides. -/
theorem tile_of (v : BitVec 32) (q : ℕ) (hv : v = BitVec.ofNat 32 (256 * q)) (h : 256 * q < 2 ^ 31) (X : BitVec 1) (A : BitVec 32) :
    Scalar.select (Scalar.andi X (Scalar.cmpi .ne (Scalar.remsi v 256#32) 0#32)) A (Scalar.divsi v 256#32) = BitVec.ofNat 32 q := by
  subst hv
  have e : Scalar.cmpi .ne (Scalar.remsi (BitVec.ofNat 32 (256 * q)) 256#32) 0#32 = 0#1 := by
    rw [Scalar.remsi, remsi_256 _ q h]; rfl
  have e2 : Scalar.andi X 0#1 = 0#1 := by
    rw [Scalar.andi, IntOp.andi]; exact BitVec.and_zero
  rw [e, e2, Scalar.divsi, divsi_256 _ _ h, Nat.mul_div_cancel_left _ (by decide)]
  rfl

/-- Whether a tile begins at or after tile `q`, as a number. -/
def begun (q : ℕ) (j : Fin 128) : BitVec 32 := BitVec.setWidth 32 (IntOp.cmpi .sge (BitVec.ofNat 32 j.val) (BitVec.ofNat 32 q))

/-- The same from the slots. -/
theorem begun_slots (q : ℕ) (h : 256 * q < 2 ^ 31) (j : Fin 128) :
    BitVec.setWidth 32 (IntOp.cmpi .sle (BitVec.ofNat 32 (256 * q)) (IntOp.muli (BitVec.ofNat 32 j.val) 256#32)) = begun q j := by
  have hm : IntOp.muli (BitVec.ofNat 32 j.val) 256#32 = BitVec.ofNat 32 (j.val * 256) := by
    rw [IntOp.muli, ← BitVec.ofNat_mul]
  rw [hm, begun]
  refine congrArg (BitVec.setWidth 32) ?_
  simp only [IntOp.cmpi]
  refine congrArg BitVec.ofBool ?_
  rw [BitVec.sle, BitVec.sle, ofNat_toInt _ h, ofNat_toInt _ (by omega), ofNat_toInt _ (by omega), ofNat_toInt _ (by omega)]
  refine decide_eq_decide.mpr ?_
  omega

/-! ## The table -/

section table

variable (S : S1x128.Idx → BitVec 32) (q : Fin 128 → ℕ) (hS : ∀ e, S (ix2 (0 : Fin 1) e) = BitVec.ofNat 32 (256 * q e)) (hq : ∀ e, 256 * q e < 2 ^ 31)
include hS hq

theorem table_slots (j : Fin 128) : table S (ix2 (0 : Fin 2) j) = BitVec.ofNat 32 (256 * q j) := by
  refine Eq.trans ?_ (hS j)
  unfold table
  generalize given (k0_pay21 S numbers _) _ = A
  generalize word (k0_pay22 S) = v
  unfold given k0_pay1
  pointwise []

theorem pay17_at (A : S1x128.Idx → BitVec 32) (v : BitVec 32) (p : ℕ) (hv : v = BitVec.ofNat 32 (256 * p)) (hp : 256 * p < 2 ^ 31) (j : Fin 128) :
    given (k0_pay17 S numbers A) v (ix2 (0 : Fin 1) j) = A (ix2 (0 : Fin 1) j) + begun p j + begun (q 1) j := by
  unfold given k0_pay17
  pointwise []
  rw [tile_of v p hv hp, tile_of _ _ (hS 1) (hq 1)]
  rfl

theorem pay19_at (A : S1x128.Idx → BitVec 32) (v : BitVec 32) (p : ℕ) (hv : v = BitVec.ofNat 32 (256 * p)) (hp : 256 * p < 2 ^ 31) (j : Fin 128) :
    given (k0_pay19 S numbers A) v (ix2 (0 : Fin 1) j) = A (ix2 (0 : Fin 1) j) + begun p j + begun (q 3) j := by
  unfold given k0_pay19
  pointwise []
  rw [tile_of v p hv hp, tile_of _ _ (hS 3) (hq 3)]
  rfl

theorem pay21_at (A : S1x128.Idx → BitVec 32) (v : BitVec 32) (p : ℕ) (hv : v = BitVec.ofNat 32 (256 * p)) (hp : 256 * p < 2 ^ 31) (j : Fin 128) :
    given (k0_pay21 S numbers A) v (ix2 (0 : Fin 1) j) = A (ix2 (0 : Fin 1) j) + begun p j + begun (q 5) j := by
  unfold given k0_pay21
  pointwise []
  rw [tile_of v p hv hp, tile_of _ _ (hS 5) (hq 5)]
  rfl

theorem pay1_at (A : S1x128.Idx → BitVec 32) (v : BitVec 32) (p : ℕ) (hv : v = BitVec.ofNat 32 (256 * p)) (hp : 256 * p < 2 ^ 31) (j : Fin 128) :
    given (k0_pay1 S numbers A) v (ix2 (1 : Fin 2) j) = A (ix2 (0 : Fin 1) j) + begun p j + begun (q 7) j := by
  unfold given k0_pay1
  pointwise []
  rw [tile_of v p hv hp, tile_of _ _ (hS 7) (hq 7)]
  rfl

theorem word_0 : word (extractStridedSlice S1x1 ![0, 0] S slices_S1x128_o0_0_S1x1) = BitVec.ofNat 32 (256 * q 0) := by
  refine Eq.trans ?_ (hS 0)
  unfold word
  pointwise []

theorem word_2 : word (k0_pay18 S) = BitVec.ofNat 32 (256 * q 2) := by
  refine Eq.trans ?_ (hS 2)
  unfold word k0_pay18
  pointwise []

theorem word_4 : word (k0_pay20 S) = BitVec.ofNat 32 (256 * q 4) := by
  refine Eq.trans ?_ (hS 4)
  unfold word k0_pay20
  pointwise []

theorem word_6 : word (k0_pay22 S) = BitVec.ofNat 32 (256 * q 6) := by
  refine Eq.trans ?_ (hS 6)
  unfold word k0_pay22
  pointwise []

/-- A tile's expert is the last whose first tile is not after it. -/
theorem table_experts (j : Fin 128) : table S (ix2 (1 : Fin 2) j) = (∑ e : Fin 8, begun (q (e.castLE (by decide))) j) - 1#32 := by
  unfold table
  rw [pay1_at S q hS hq _ _ _ (word_6 S q hS hq) (hq 6), pay21_at S q hS hq _ _ _ (word_4 S q hS hq) (hq 4),
    pay19_at S q hS hq _ _ _ (word_2 S q hS hq) (hq 2), pay17_at S q hS hq _ _ _ (word_0 S q hS hq) (hq 0)]
  have e : k0_pay15 (ix2 (0 : Fin 1) j) = 0#32 - 1#32 := rfl
  rw [e, Fin.sum_univ_eight]
  show _ = begun (q 0) j + begun (q 1) j + begun (q 2) j + begun (q 3) j + begun (q 4) j + begun (q 5) j + begun (q 6) j + begun (q 7) j - 1#32
  rw [BitVec.zero_sub]
  ring

/-- The reference's rows. -/
theorem rows_eq (R : Cert.RouterReferenceIdeal.S128.Idx → BitVec 32) (hR : ∀ e : Fin 128, R (ix1 e) = BitVec.ofNat 32 (256 * q e)) : table S = rows R := by
  funext y
  obtain ⟨a, j, rfl⟩ : ∃ (a : Fin 2) (j : Fin 128), y = ix2 a j := ⟨y 0, y 1, eq_ix2 y⟩
  match a with
  | 0 =>
    rw [table_slots S q hS hq, ← hR]
    unfold rows
    pointwise []
  | 1 =>
    rw [table_experts S q hS hq]
    unfold rows owners
    pointwise []
    rw [fold_addi]
    refine congrArg (· - 1#32) (Finset.sum_congr rfl fun e _ => ?_)
    rw [← begun_slots _ (hq _), ← hR]
    rfl

end table

/-! ## The slots -/

theorem ofNat_bit (b : BitVec 1) : BitVec.setWidth 32 b = BitVec.ofNat 32 b.toNat := by
  apply BitVec.eq_of_toNat_eq
  rw [BitVec.toNat_setWidth, BitVec.toNat_ofNat]

/-- How often a chunk chose an expert. -/
def chosenIn (ids : S2048x2.Idx → BitVec 32) (c : Fin 32) (e : Fin 128) : ℕ :=
  ∑ i : Fin 128, (IntOp.cmpi .eq (ids (ix2 ⟨c.val * 64 + i.val / 2, by omega⟩ ⟨i.val % 2, Nat.mod_lt _ (by decide)⟩)) (BitVec.ofNat 32 e.val)).toNat

theorem counts_at (ids : S2048x2.Idx → BitVec 32) (c : Fin 32) (e : Fin 128) : counts ids (ix2 c e) = BitVec.ofNat 32 (chosenIn ids c e) := by
  rw [chosenIn, ← sum_ofNat]
  unfold counts
  pointwise []
  rw [fold_addi]
  exact Finset.sum_congr rfl fun i _ => ofNat_bit _

theorem chosenIn_le (ids : S2048x2.Idx → BitVec 32) (c : Fin 32) (e : Fin 128) : chosenIn ids c e ≤ 128 := by
  refine (Finset.sum_le_card_nsmul _ _ 1 fun i _ => ?_).trans (by simp)
  have := (IntOp.cmpi .eq (ids (ix2 ⟨c.val * 64 + i.val / 2, by omega⟩ ⟨i.val % 2, Nat.mod_lt _ (by decide)⟩)) (BitVec.ofNat 32 e.val)).isLt
  omega

section slots

variable (C : S32x128.Idx → BitVec 32) (n : Fin 32 → Fin 128 → ℕ) (hC : ∀ c e, C (ix2 c e) = BitVec.ofNat 32 (n c e)) (hn : ∀ c e, n c e ≤ 128)

/-- The tiles an expert takes. -/
def tiles (n : Fin 32 → Fin 128 → ℕ) (e : Fin 128) : ℕ := ((∑ c, n c e) + 255) / 256

/-- The tiles of the experts before it. -/
def before (n : Fin 32 → Fin 128 → ℕ) (j : Fin 128) : ℕ := ∑ e : Fin 128, if e < j then tiles n e else 0

include hn in
theorem total_le (e : Fin 128) : (∑ c, n c e) ≤ 4096 := by
  refine (Finset.sum_le_card_nsmul _ _ 128 fun c _ => hn c e).trans ?_
  simp

include hn in
theorem tiles_le (e : Fin 128) : tiles n e ≤ 16 := by
  have := total_le n hn e
  unfold tiles
  omega

include hn in
theorem before_le (j : Fin 128) : before n j ≤ 2048 := by
  refine (Finset.sum_le_card_nsmul _ _ 16 fun e _ => ?_).trans (by simp)
  have := tiles_le n hn e
  split <;> omega

theorem slt_at (e j : Fin 128) : IntOp.cmpi .slt (BitVec.ofNat 32 e.val) (BitVec.ofNat 32 j.val) = BitVec.ofBool (decide (e < j)) := by
  simp only [IntOp.cmpi]
  refine congrArg BitVec.ofBool ?_
  rw [BitVec.slt, ofNat_toInt _ (by omega), ofNat_toInt _ (by omega)]
  refine decide_eq_decide.mpr ?_
  rw [Fin.lt_def]
  omega

include hC hn in
theorem needs_at (e : Fin 128) : needs C (ix1 e) = BitVec.ofNat 32 (tiles n e) := by
  have ht := total_le n hn e
  unfold needs
  pointwise []
  rw [fold_addi]
  have h : IntOp.addi (∑ c : Fin 32, C (ix2 c e)) 255#32 = BitVec.ofNat 32 ((∑ c, n c e) + 255) := by
    rw [BitVec.ofNat_add, ← sum_ofNat]
    exact congrArg (· + 255#32) (Finset.sum_congr rfl fun c _ => hC c e)
  rw [h, divsi_256 _ _ (by omega)]
  rfl

include hC hn in
theorem firsts_at (j : Fin 128) : firsts (needs C) (ix1 j) = BitVec.ofNat 32 (256 * before n j) := by
  have hT := needs_at C n hC hn
  generalize needs C = T at hT
  rw [before, Finset.mul_sum, ← sum_ofNat]
  unfold firsts
  pointwise []
  rw [fold_addi]
  refine Finset.sum_congr rfl fun e _ => ?_
  rw [slt_at, hT]
  by_cases h : e < j
  · rw [if_pos h, decide_eq_true h, Nat.mul_comm, BitVec.ofNat_mul]
    rfl
  · rw [if_neg h, decide_eq_false h]
    rfl

theorem triangle_at (e j : Fin 128) : (triangle : S128x128.Idx → Ideal .f32) (ix2 e j) = (((if e < j then 1 else 0 : ℝ)) : EReal) := by
  unfold triangle
  pointwise []
  rw [slt_at]
  by_cases h : e < j
  · rw [if_pos h, decide_eq_true h]
    show (((1 : ℕ) : ℝ) : EReal) = _
    norm_num
  · rw [if_neg h, decide_eq_false h]
    show (((0 : ℕ) : ℝ) : EReal) = _
    norm_num

/-- The slots, summed in floats. -/
theorem pay14_at (a b : S2048x1.Idx → BitVec 32) (hab : k0_pay13 a b = C) (hC : ∀ c e, C (ix2 c e) = BitVec.ofNat 32 (n c e)) (hn : ∀ c e, n c e ≤ 128) (j : Fin 128) :
    k0_pay14 (F := Ideal) a b (triangle : S128x128.Idx → Ideal .f32) (ix2 (0 : Fin 1) j) = BitVec.ofNat 32 (256 * before n j) := by
  have h255 : Ideal.ofBits .f32 1132396544#32 = ((255 : ℝ) : EReal) := by
    simp [Ideal.ofBits, Ideal.ieee, -EReal.coe_mul]; norm_num
  have h256 : Ideal.ofBits .f32 1132462080#32 = ((256 : ℝ) : EReal) := by
    simp [Ideal.ofBits, Ideal.ieee, -EReal.coe_mul]; norm_num
  unfold k0_pay14
  rw [hab]
  have htri := triangle_at
  generalize (triangle : S128x128.Idx → Ideal .f32) = t at htri
  pointwise []
  have hx : ∀ x : Fin 128, Ideal.liftRound Int.floor (Ideal.div (FloatOps.sitofp (F := Ideal) .f32 (Finset.fold IntOp.addi 0#32 (fun c => C (ix2 c x)) Finset.univ) + Ideal.ofBits .f32 1132396544#32)
      (Ideal.ofBits .f32 1132462080#32)) * Ideal.ofBits .f32 1132462080#32 * t (ix2 x j) = (((256 * if x < j then tiles n x else 0 : ℕ) : ℝ) : EReal) := by
    intro x
    have ht := total_le n hn x
    have hs : Finset.fold IntOp.addi 0#32 (fun c => C (ix2 c x)) Finset.univ = BitVec.ofNat 32 (∑ c, n c x) := by
      rw [fold_addi, ← sum_ofNat]
      exact Finset.sum_congr rfl fun c _ => hC c x
    have hf : (FloatOps.sitofp (F := Ideal) .f32 (BitVec.ofNat 32 (∑ c, n c x)) : EReal) = (((∑ c, n c x : ℕ) : ℝ) : EReal) := by
      show (((BitVec.ofNat 32 (∑ c, n c x)).toInt : ℝ) : EReal) = _
      rw [ofNat_toInt _ (by omega), Int.cast_natCast]
    have hfl : ⌊(((∑ c, n c x : ℕ) : ℝ) + 255) * (1 / 256)⌋ = (tiles n x : ℤ) := by
      unfold tiles
      generalize (∑ c, n c x) = m
      rw [Int.floor_eq_iff]
      have h1 : (m + 255) / 256 * 256 ≤ m + 255 := Nat.div_mul_le_self _ _
      have h2 : m + 255 < ((m + 255) / 256 + 1) * 256 := by omega
      generalize (m + 255) / 256 = d at h1 h2
      have h1' : (d : ℝ) * 256 ≤ m + 255 := by exact_mod_cast h1
      have h2' : (m : ℝ) + 255 < (d + 1) * 256 := by exact_mod_cast h2
      constructor
      · push_cast
        linarith
      · push_cast
        linarith
    rw [hs, hf, h255, h256, htri, ← EReal.coe_add, Ideal.div_coe (by norm_num), ← EReal.coe_mul, Ideal.liftRound_coe, hfl, ← EReal.coe_mul, ← EReal.coe_mul]
    refine congrArg _ ?_
    by_cases h : x < j
    · rw [if_pos h, if_pos h]
      push_cast
      ring
    · rw [if_neg h, if_neg h]
      push_cast
      ring
  have hb := before_le n hn j
  rw [Finset.sum_congr rfl fun x _ => hx x]
  rw [coe_sum, ← Nat.cast_sum, ← Finset.mul_sum]
  change Ideal.fptosi 32 (((256 * before n j : ℕ) : ℝ) : EReal) = _
  generalize before n j = d at hb ⊢
  rw [Ideal.fptosi, Ideal.toIntClamped_coe, if_pos (by positivity), Int.floor_natCast]
  rw [min_eq_right (by norm_num; omega), max_eq_right (by norm_num; omega)]
  exact BitVec.ofInt_natCast 32 (256 * d)

end slots

/-- The router's last result. -/
theorem aux_eq (x : S2048x1024.Idx → Ideal .f32) (g : S8x1024.Idx → Ideal .f32) (hx : Finite x) (hg : Finite g) :
    table (k0_pay14 (F := Ideal) (k0_pay4 (F := Ideal) x (padded g)) (k0_pay7 (F := Ideal) x (padded g)) (triangle : S128x128.Idx → Ideal .f32))
      = rows (firsts (needs (counts (top (probs x g)).2))) := by
  have hC := counts_at (top (probs x g)).2
  have hn := chosenIn_le (top (probs x g)).2
  have hab := cnts_eq x g hx hg
  generalize chosenIn (top (probs x g)).2 = n at hC hn
  generalize counts (top (probs x g)).2 = C at hC hab ⊢
  exact rows_eq _ (before n) (pay14_at C n _ _ hab hC hn) (fun e => by have := before_le n hn e; omega) _ (firsts_at C n hC hn)

end Cert.Proof.Router

end
-- ==== Proof.lean ====
/-
  The proof of `Cert.Claim`: for the combine call, the dispatch call, the expert call and the router call, the kernel's frame
  as printed and at its idealization, the reference's frame (without and with the precondition), that the idealization is the
  program's own text (the router's up to its named mask), and that kernel and reference compute the same values over the extended reals.

  The combine's run, with its value, is `Combine.run_main` (Proof/Launch.lean), at any float values; its reference's value
  is `Reference.value_eq` (Proof/Reference.lean). The dispatch's run is `Route.run_main` (Proof/RouteLaunch.lean), its
  precondition is read by `RoutePre.routed_of_pre` (Proof/RoutePre.lean), and its values and its reference's are in
  Proof/RouteReference.lean. The expert call's run is `Expert.run_main` (Proof/ExpertBlocks.lean), its reference's value
  `ExpertReference.value_eq` (Proof/ExpertReference.lean). The router's results are in Proof/RouterBlocks.lean, what they hold
  in Proof/RouterValue.lean (a token's two greatest logits: Proof/RouterRow.lean), what its reference's hold in
  Proof/RouterReference.lean, and that these are equal in Proof/RouterCompare.lean (the last result:
  Proof/RouterTable.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_pos_in_rows
public import proofs.«01_k».proof.Proof.Gen.Dispatch
public import proofs.«01_k».proof.Proof.Gen.DispatchIdeal
public import proofs.«01_k».proof.Proof.Gen.DispatchReferenceIdeal
public import proofs.«01_k».proof.Proof.Gen.DispatchReferenceIdeal.Run
public import proofs.«01_k».proof.Proof.Gen.Expert.Frame
public import proofs.«01_k».proof.Proof.Gen.ExpertIdeal.Frame
public import proofs.«01_k».proof.Proof.Gen.ExpertReferenceIdeal.Run
public import proofs.«01_k».proof.Proof.Gen.Router.Frame
public import proofs.«01_k».proof.Proof.Gen.RouterIdeal.Value
public import proofs.«01_k».proof.Proof.Gen.RouterReferenceIdeal.Run
public import proofs.«01_k».proof.Proof.Gen.Pre_routed
public import proofs.«01_k».proof.Proof.Gen.Pre_experts_in_range
public import proofs.«01_k».proof.Proof.Launch
public import proofs.«01_k».proof.Proof.Reference
public import proofs.«01_k».proof.Proof.RouteLaunch
public import proofs.«01_k».proof.Proof.RouteReference
public import proofs.«01_k».proof.Proof.RoutePre
public import proofs.«01_k».proof.Proof.ExpertBlocks
public import proofs.«01_k».proof.Proof.ExpertReference
public import proofs.«01_k».proof.Proof.Gen.Pre_finite
public import proofs.«01_k».proof.Proof.RouterTable
public import Idealize.ShloMosaic.Adequacy
public import Idealize.ShloMosaic.Init
public import Idealize.ShloMosaic.Lib.ReduceAll

@[expose] public section

noncomputable section

namespace Cert.Proof

open Idealize.ShloMosaic Idealize.SL.Sem

/-! ## The precondition, read -/

theorem word_lt (v : BitVec 32) (h : IntOp.andi (IntOp.cmpi .sge v 0#32) (IntOp.cmpi .slt v 6144#32) = 1#1) : v.toNat < 6144 := by
  obtain ⟨h0, h1⟩ := IntOp.andi_eq_one.mp h
  rw [IntOp.cmpi_sge, BitVec.toInt_zero, BitVec.toInt_eq_toNat_cond] at h0
  rw [IntOp.cmpi_slt, BitVec.toInt_eq_toNat_cond, show (6144#32).toInt = 6144 from by decide] at h1
  split at h0 <;> omega

/-- Under the precondition every slot number names a row. -/
theorem pos_lt {F : FTy → Type} [FloatOps F] [Cert.Pre_pos_in_rows.Facts] (y : FVec F Cert.Pre_pos_in_rows.S6144x1024 .f32) (p : IVec Cert.Pre_pos_in_rows.S4096 32)
    (s : FVec F Cert.Pre_pos_in_rows.S2048x2 .f32) (h : Cert.Pre_pos_in_rows.fn y p s = fun _ => 1#1) (x : Cert.Pre_pos_in_rows.S4096.Idx) : (p x).toNat < 6144 := by
  haveI : Subsingleton Cert.Pre_pos_in_rows.S_.Idx := ⟨fun a b => funext fun k => k.elim0⟩
  refine word_lt (p x) ?_
  have e := congrFun h (Shape.Idx.first Cert.Pre_pos_in_rows.Facts.h_S_)
  dsimp only [Cert.Pre_pos_in_rows.fn] at e
  exact Host.reduce_andi_all _ _ _ _ _ e x

/-! ## The frames -/

/-- The kernel as printed. -/
theorem frame_kernel : Cert.quiescent_Kernel := fun m ρ h =>
  (θ_run Cert.KernelIdeal.defs _ _).mono (fun _ h => ⟨fun c => (h.1 c).2, h.2⟩)
    (Combine.run_main (F := Bits) m ρ fun d x => pos_lt _ _ _ (h d) x)

/-- The idealization. -/
theorem frame_ideal : Cert.quiescent_KernelIdeal := fun m ρ h =>
  (θ_run Cert.KernelIdeal.defs _ _).mono (fun _ h => ⟨fun c => (h.1 c).2, h.2⟩)
    (Combine.run_main (F := Ideal) m ρ fun d x => pos_lt _ _ _ (h d) x)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Kernel and reference, from equal arguments, end with equal results. -/
theorem algebraic : Cert.algebraic_KernelIdeal_ReferenceIdeal := fun m ρ m' ρ' h ha => by
  have hp : Combine.PosOK (F := Ideal) m := fun d x => pos_lt _ _ _ (h d) x
  refine ⟨fun c => Combine.result (F := Ideal) m c, ?_, ?_⟩
  · exact (θ_run Cert.KernelIdeal.defs _ _).mono (fun _ h => h.1) (Combine.run_main (F := Ideal) m ρ hp)
  · refine (θ_run Cert.ReferenceIdeal.defs _ _).mono (fun _ h c => ⟨(h c).1.trans ?_, (h c).2⟩) (Cert.ReferenceIdeal.Value.run (F := Ideal) m' ρ')
    rw [(ha c).1, (ha c).2.1, (ha c).2.2]
    exact Reference.value_eq _ _ (hp c) _

/-! ## The dispatch call -/

/-- The dispatch's run: the slots' list, the rows at the listed slots, the arguments unchanged, the counters zero. -/
theorem dispatch_run {F : FTy → Type} [FloatOps F] [∀ e, Nonempty (Elt F e)]
    (m : (ℓ : Loc Cert.DispatchIdeal.nD Cert.DispatchIdeal.τ Cert.DispatchIdeal.sig) → Buf (Elt F) ℓ) (ρ : Dev Cert.DispatchIdeal.nD → PrngReg) (hR : Route.AllRouted m) :
    θ_run (Cert.DispatchIdeal.defs (F := F)) (Cert.DispatchIdeal.threads (F := F)) ⟨m, fun _ => 0, ρ⟩ fun r =>
      (∀ c : Dev Cert.DispatchIdeal.nD,
        r.2.mem (Route.pLoc c) = (Route.posOf (m (Route.idLoc c)) (m (Route.fLoc c)) : Cert.DispatchIdeal.S4096.Idx → BitVec 32)
        ∧ r.2.mem ((c.tc : Thread Cert.DispatchIdeal.nD Cert.DispatchIdeal.τ).loc Cert.DispatchIdeal.main_v7) = (Route.pairRows (m (Route.xLoc c)) : Cert.DispatchIdeal.S4096x1024.Idx → F .f32)
        ∧ r.2.mem (Route.idLoc c) = m (Route.idLoc c) ∧ r.2.mem (Route.cLoc c) = m (Route.cLoc c)
        ∧ r.2.mem (Route.fLoc c) = m (Route.fLoc c) ∧ r.2.mem (Route.xLoc c) = m (Route.xLoc c))
      ∧ r.2.sem = fun _ => 0 :=
  (θ_run Cert.DispatchIdeal.defs _ _).mono (fun _ h => ⟨fun c =>
      ⟨(h.1 c Route.p' (Route.arrays_sub (by decide))).trans ((Route.end_list _).trans (Route.V₁_p m c)),
        (h.1 c (Proc.devRef .tc Cert.DispatchIdeal.main_v7) Route.rows_mem).trans ((Route.end_rows _).trans (by
          rw [Route.V₁_p, Route.V₁_g]; exact Route.listedRows_eq (hR c) _ _)),
        (h.1 c Route.id' (Route.arrays_sub (by decide))).trans ((Route.end_ids _).trans (Route.V₁_ne m c (by decide) (by decide))),
        (h.1 c Route.c' (Route.arrays_sub (by decide))).trans ((Route.end_cnts _).trans (Route.V₁_ne m c (by decide) (by decide))),
        (h.1 c Route.f' (Route.arrays_sub (by decide))).trans ((Route.end_offs _).trans (Route.V₁_ne m c (by decide) (by decide))),
        (h.1 c Route.x' (Route.arrays_sub (by decide))).trans ((Route.end_x _).trans (Route.V₁_ne m c (by decide) (by decide)))⟩, h.2⟩)
    (Route.run_main m ρ hR)

/-- The dispatch as printed. -/
theorem frame_dispatch : Cert.quiescent_Dispatch := fun m ρ h =>
  (θ_run Cert.DispatchIdeal.defs _ _).mono (fun _ h => ⟨fun c => (h.1 c).2.2, h.2⟩)
    (dispatch_run (F := Bits) m ρ fun d => RoutePre.routed_of_pre _ (h d))

/-- The dispatch's idealization. -/
theorem frame_dispatch_ideal : Cert.quiescent_DispatchIdeal := fun m ρ h =>
  (θ_run Cert.DispatchIdeal.defs _ _).mono (fun _ h => ⟨fun c => (h.1 c).2.2, h.2⟩)
    (dispatch_run (F := Ideal) m ρ fun d => RoutePre.routed_of_pre _ (h d))

/-- The dispatch's reference, which declares no semaphore. -/
theorem frame_dispatch_reference : Cert.quiescent_DispatchReferenceIdeal := fun m ρ _ =>
  (θ_run Cert.DispatchReferenceIdeal.defs _ _).mono (fun r h => ⟨fun c => (h c).2.2, sem_eq_zero_of_no_sems (by decide) r.2⟩)
    (Cert.DispatchReferenceIdeal.Value.run (F := Ideal) m ρ)

/-- The dispatch and its reference, from equal arguments, end with equal results. -/
theorem dispatch_algebraic : Cert.algebraic_DispatchIdeal_DispatchReferenceIdeal := fun m ρ m' ρ' h ha => by
  have hR : Route.AllRouted (F := Ideal) m := fun d => RoutePre.routed_of_pre _ (h d)
  refine ⟨fun c => Route.posOf (m (Route.idLoc c)) (m (Route.fLoc c)), fun c => Route.pairRows (F := Ideal) (m (Route.xLoc c)), ?_, ?_⟩
  · exact (θ_run Cert.DispatchIdeal.defs _ _).mono (fun _ h => h.1) (dispatch_run (F := Ideal) m ρ hR)
  · refine (θ_run Cert.DispatchReferenceIdeal.defs _ _).mono (fun _ h c => ⟨(h c).1.trans ?_, (h c).2.1.trans ?_, (h c).2.2⟩) (Cert.DispatchReferenceIdeal.Value.run (F := Ideal) m' ρ')
    · rw [(ha c).1, (ha c).2.2.1]
      exact RouteReference.refList_eq (hR c)
    · rw [(ha c).2.2.2]
      exact RouteReference.refRows_eq (F := Ideal) _

/-! ## The expert call -/

theorem num_lt (v : BitVec 32) (h : IntOp.andi (IntOp.cmpi .sge v 0#32) (IntOp.cmpi .slt v 8#32) = 1#1) : v.toNat < 8 := by
  obtain ⟨h0, h1⟩ := IntOp.andi_eq_one.mp h
  rw [IntOp.cmpi_sge, BitVec.toInt_zero, BitVec.toInt_eq_toNat_cond] at h0
  rw [IntOp.cmpi_slt, BitVec.toInt_eq_toNat_cond, show (8#32).toInt = 8 from by decide] at h1
  split at h0 <;> omega

/-- Under the precondition every tile's number names an expert. -/
theorem expert_lt {F : FTy → Type} [FloatOps F] [Cert.Pre_experts_in_range.Facts] (x : FVec F Cert.Pre_experts_in_range.S6144x1024 .f32)
    (w1 w2 wc : FVec F Cert.Pre_experts_in_range.S8x1024x1024 .f32) (g : IVec Cert.Pre_experts_in_range.S24 32)
    (h : Cert.Pre_experts_in_range.fn x w1 w2 wc g = fun _ => 1#1) (y : Cert.Pre_experts_in_range.S24.Idx) : (g y).toNat < 8 := by
  haveI : Subsingleton Cert.Pre_experts_in_range.S_.Idx := ⟨fun a b => funext fun k => k.elim0⟩
  refine num_lt (g y) ?_
  have e := congrFun h (Shape.Idx.first Cert.Pre_experts_in_range.Facts.h_S_)
  dsimp only [Cert.Pre_experts_in_range.fn] at e
  exact Host.reduce_andi_all _ _ _ _ _ e y

/-- The expert call as printed. -/
theorem frame_expert : Cert.quiescent_Expert := fun m ρ h =>
  Cert.Expert.Gen.frame (F := Bits) m ρ (Expert.ok_of_lt (F := Bits) m fun y => expert_lt _ _ _ _ _ (h 0) y)

/-- The expert call's idealization. -/
theorem frame_expert_ideal : Cert.quiescent_ExpertIdeal := fun m ρ h =>
  (θ_run Cert.ExpertIdeal.defs _ _).mono (fun _ h => ⟨fun c => (h.1 c).2, h.2⟩)
    (Expert.run_main (F := Ideal) m ρ fun d y => expert_lt _ _ _ _ _ (h d) y)

/-- The expert call's reference, which declares no semaphore. -/
theorem frame_expert_reference : Cert.quiescent_ExpertReferenceIdeal := fun m ρ _ =>
  (θ_run Cert.ExpertReferenceIdeal.defs _ _).mono (fun r h => ⟨fun c => (h c).2, sem_eq_zero_of_no_sems (by decide) r.2⟩)
    (Cert.ExpertReferenceIdeal.Value.run (F := Ideal) m ρ)

/-- The expert call and its reference, from equal arguments, end with equal results. -/
theorem expert_algebraic : Cert.algebraic_ExpertIdeal_ExpertReferenceIdeal := fun m ρ m' ρ' h ha => by
  have hlt : ∀ c y, (Expert.nums (F := Ideal) m c y).toNat < 8 := fun d y => expert_lt _ _ _ _ _ (h d) y
  refine ⟨fun c => Expert.mlp (F := Ideal) (Expert.rows m c) (Expert.gateW m c) (Expert.upW m c) (Expert.downW m c) (Expert.nums m c), ?_, ?_⟩
  · exact (θ_run Cert.ExpertIdeal.defs _ _).mono (fun _ h => h.1) (Expert.run_main (F := Ideal) m ρ hlt)
  · refine (θ_run Cert.ExpertReferenceIdeal.defs _ _).mono (fun _ h c => ⟨(h c).1.trans ?_, (h c).2⟩) (Cert.ExpertReferenceIdeal.Value.run (F := Ideal) m' ρ')
    rw [(ha c).1, (ha c).2.1, (ha c).2.2.1, (ha c).2.2.2.1, (ha c).2.2.2.2]
    exact ExpertReference.value_eq _ _ _ _ _ (hlt c)

/-! ## The router -/

theorem real_of_lt (a : Ideal .f32) (h : Ideal.cmp .olt (max a (-a)) (Ideal.ofBits .f32 0x7F800000#32) = 1#1) : ((EReal.toReal a : ℝ) : EReal) = a := by
  have top : Ideal.ofBits .f32 0x7F800000#32 = (⊤ : EReal) := by simp [Ideal.ofBits, Ideal.ieee]
  rw [top] at h
  have hlt : max a (-a) < (⊤ : EReal) := by
    by_contra hn
    rw [Ideal.cmp, decide_eq_false hn] at h
    exact absurd h (by decide)
  obtain ⟨h1, h2⟩ := max_lt_iff.mp hlt
  exact EReal.coe_toReal h1.ne fun e => h2.ne (by rw [e]; rfl)

/-- Under the precondition every entry of the tokens and of the weights is a real number. -/
theorem finite_of_pre [Cert.Pre_finite.Facts] (x : FVec Ideal Cert.Pre_finite.S2048x1024 .f32) (g : FVec Ideal Cert.Pre_finite.S8x1024 .f32)
    (h : Cert.Pre_finite.fn x g = fun _ => 1#1) : Router.Finite x ∧ Router.Finite g := by
  haveI : Subsingleton Cert.Pre_finite.S_.Idx := ⟨fun a b => funext fun k => k.elim0⟩
  have e := congrFun h (Shape.Idx.first Cert.Pre_finite.Facts.h_S_)
  dsimp only [Cert.Pre_finite.fn] at e
  obtain ⟨e1, e2⟩ := IntOp.andi_eq_one.mp e
  exact ⟨fun i => real_of_lt _ (Host.reduce_andi_all _ _ _ _ _ e1 i), fun i => real_of_lt _ (Host.reduce_andi_all _ _ _ _ _ e2 i)⟩

/-- The router as printed. -/
theorem frame_router : Cert.quiescent_Router := fun m ρ _ => Cert.Router.Gen.frame (F := Bits) m ρ

/-- The router's idealization. -/
theorem frame_router_ideal : Cert.quiescent_RouterIdeal := fun m ρ _ => Cert.RouterIdeal.Gen.frame (F := Ideal) m ρ

/-- The router's reference, which declares no semaphore. -/
theorem frame_router_reference : Cert.quiescent_RouterReferenceIdeal := fun m ρ _ =>
  (θ_run Cert.RouterReferenceIdeal.defs _ _).mono (fun r h => ⟨fun c => ⟨(h c).2.2.2.2.1, (h c).2.2.2.2.2⟩, sem_eq_zero_of_no_sems (by decide) r.2⟩)
    (Cert.RouterReferenceIdeal.Value.run (F := Ideal) m ρ)

/-- The mask stands for the least extended real. -/
theorem router_preserves : Cert.preserves_Router_RouterIdeal :=
  IdealRules.named_const.statement Cert.RouterIdeal.κ "mask" .f32 0xF149F2CA#32 (⊥ : EReal) rfl

/-- The reference's last result, from its own arguments. -/
theorem reference_rows (m : (ℓ : Loc Cert.RouterReferenceIdeal.nD Cert.RouterReferenceIdeal.τ Cert.RouterReferenceIdeal.sig) → Buf (Elt Ideal) ℓ)
    (c : Dev Cert.RouterReferenceIdeal.nD) : Cert.RouterReferenceIdeal.Value.res_out3 (F := Ideal) m c
      = RouterReference.rows (RouterReference.firsts (RouterReference.needs (RouterReference.counts (RouterReference.top (RouterReference.probs
          (m ((c.tc : Thread Cert.RouterReferenceIdeal.nD Cert.RouterReferenceIdeal.τ).loc Cert.RouterReferenceIdeal.main_arg0))
          (m ((c.tc : Thread Cert.RouterReferenceIdeal.nD Cert.RouterReferenceIdeal.τ).loc Cert.RouterReferenceIdeal.main_arg1)))).2))) := by
  unfold Cert.RouterReferenceIdeal.Value.res_out3 Cert.RouterReferenceIdeal.Value.res_main_v50
  rfl

/-- The router and its reference, from equal finite arguments, end with equal results. -/
theorem router_algebraic : Cert.algebraic_RouterIdeal_RouterReferenceIdeal_pre_finite := fun m ρ m' ρ' h ha => by
  have hf := fun c => finite_of_pre _ _ (h c)
  refine ⟨fun c => (RouterReference.top (RouterReference.probs (Router.tokens m c) (Router.weights m c))).2,
    fun c => (RouterReference.top (RouterReference.probs (Router.tokens m c) (Router.weights m c))).1,
    fun c => RouterReference.counts (RouterReference.top (RouterReference.probs (Router.tokens m c) (Router.weights m c))).2,
    fun c => RouterReference.rows (RouterReference.firsts (RouterReference.needs (RouterReference.counts (RouterReference.top (RouterReference.probs (Router.tokens m c) (Router.weights m c))).2))), ?_, ?_⟩
  · refine (θ_run Cert.RouterIdeal.defs _ _).mono (fun r h c => ?_) (Cert.RouterIdeal.Value.run_blocks (F := Ideal) m ρ)
    obtain ⟨h0, h1, h2, h3, h4, h5⟩ := h c
    exact ⟨h0.trans ((Router.arrAt_3 m c).trans (Router.ids_eq _ _ (hf c).1 (hf c).2)),
      h1.trans ((Router.arrAt_4 m c).trans (Router.scores_eq _ _ (hf c).1 (hf c).2)),
      h2.trans ((Router.arrAt_5 m c).trans (Router.cnts_eq _ _ (hf c).1 (hf c).2)),
      h3.trans ((Router.arrAt_6 m c).trans (Router.aux_eq _ _ (hf c).1 (hf c).2)), h4, h5⟩
  · refine (θ_run Cert.RouterReferenceIdeal.defs _ _).mono (fun r h c => ?_) (Cert.RouterReferenceIdeal.Value.run (F := Ideal) m' ρ')
    obtain ⟨h0, h1, h2, h3, h4, h5⟩ := h c
    have h3 := h3.trans (reference_rows m' c)
    rw [(ha c).1, (ha c).2] at h0 h1 h2 h3
    exact ⟨h0, h1, h2, h3, h4, h5⟩

theorem claim : Cert.Claim :=
  ⟨Cert.Kernel.Gen.facts, Cert.KernelIdeal.Gen.facts, Cert.ReferenceIdeal.Gen.facts, Cert.Dispatch.Gen.facts, Cert.DispatchIdeal.Gen.facts,
    Cert.DispatchReferenceIdeal.Gen.facts, Cert.Expert.Gen.facts, Cert.ExpertIdeal.Gen.facts, Cert.ExpertReferenceIdeal.Gen.facts,
    Cert.Router.Gen.facts, Cert.RouterIdeal.Gen.facts, Cert.RouterReferenceIdeal.Gen.facts,
    Cert.Pre_pos_in_rows.Gen.facts, Cert.Pre_routed.Gen.facts, Cert.Pre_experts_in_range.Gen.facts, Cert.Pre_finite.Gen.facts,
    frame_kernel, frame_ideal, frame_reference, fun m ρ _ => frame_reference m ρ trivial,
    frame_dispatch, frame_dispatch_ideal, frame_dispatch_reference, fun m ρ _ => frame_dispatch_reference m ρ trivial,
    frame_expert, frame_expert_ideal, frame_expert_reference, fun m ρ _ => frame_expert_reference m ρ trivial,
    frame_router, frame_router_ideal, fun m ρ _ => frame_router_ideal m ρ trivial, frame_router_reference, fun m ρ _ => frame_router_reference m ρ trivial,
    trivial, algebraic, trivial, dispatch_algebraic, trivial, expert_algebraic, router_preserves, router_algebraic⟩

end Cert.Proof

end
